-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_named2 : Cert.Pre_named2.Facts] (m : (ℓ : Loc Cert.Kernel2.nD Cert.Kernel2.τ Cert.Kernel2.sig) → Buf (Elt Bits) ℓ) : Prop :=
  ∀ c : Dev Cert.Kernel2.nD,
    (Cert.Pre_named2.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3))) = (fun _ => 1#1)

def Pre_Kernel2Ideal [hPre_named2 : Cert.Pre_named2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_named2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_named2 [hPre_named2 : Cert.Pre_named2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_named2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 [hPre_named3 : Cert.Pre_named3.Facts] (m : (ℓ : Loc Cert.Kernel3.nD Cert.Kernel3.τ Cert.Kernel3.sig) → Buf (Elt Bits) ℓ) : Prop :=
  ∀ c : Dev Cert.Kernel3.nD,
    (Cert.Pre_named3.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7)) (m ((c.tc : Thread Cert.Kernel3.nD Cert.Kernel3.τ).loc Cert.Kernel3.main_arg8)) (m ((c.tc : Thread Cert.Kernel3.nD Cert.Kernel3.τ).loc Cert.Kernel3.main_arg9)) (m ((c.tc : Thread Cert.Kernel3.nD Cert.Kernel3.τ).loc Cert.Kernel3.main_arg10))) = (fun _ => 1#1)

def Pre_Kernel3Ideal [hPre_named3 : Cert.Pre_named3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_named3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_named3 [hPre_named3 : Cert.Pre_named3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_named3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] [hPre_named2 : Cert.Pre_named2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] [hPre_named2 : Cert.Pre_named2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_named2 [hReference2Ideal : Cert.Reference2Ideal.Facts] [hPre_named2 : Cert.Pre_named2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_named2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_named3 : Cert.Pre_named3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] [hPre_named3 : Cert.Pre_named3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Reference3Ideal_pre_named3 [hReference3Ideal : Cert.Reference3Ideal.Facts] [hPre_named3 : Cert.Pre_named3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_named3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v65) = v3 c
          ∧ r.2.mem ((c.tc : Thread Cert.ReferenceIdeal.nD Cert.ReferenceIdeal.τ).loc Cert.ReferenceIdeal.main_v134) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] [hPre_named2 : Cert.Pre_named2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v104) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_named3 : Cert.Pre_named3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v136) = v0 c
          ∧ r.2.mem ((c.tc : Thread Cert.Reference3Ideal.nD Cert.Reference3Ideal.τ).loc Cert.Reference3Ideal.main_v138) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v8_0)) (v1 : (c : Dev Cert.Kernel6Ideal.nD) → Buf (Elt Ideal) ((c.tc : Thread Cert.Kernel6Ideal.nD Cert.Kernel6Ideal.τ).loc Cert.Kernel6Ideal.main_v8_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v8_0) = v0 c
          ∧ r.2.mem ((c.tc : Thread Cert.Kernel6Ideal.nD Cert.Kernel6Ideal.τ).loc Cert.Kernel6Ideal.main_v8_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_named2 : Cert.Pre_named2.Facts) (hPre_named3 : Cert.Pre_named3.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_named2 := hPre_named2)
    ∧ quiescent_Kernel2Ideal (hKernel2Ideal := hKernel2Ideal) (hPre_named2 := hPre_named2)
    ∧ quiescent_Reference2Ideal (hReference2Ideal := hReference2Ideal)
    ∧ quiescent_Reference2Ideal_pre_named2 (hReference2Ideal := hReference2Ideal) (hPre_named2 := hPre_named2)
    ∧ quiescent_Kernel3 (hKernel3 := hKernel3) (hPre_named3 := hPre_named3)
    ∧ quiescent_Kernel3Ideal (hKernel3Ideal := hKernel3Ideal) (hPre_named3 := hPre_named3)
    ∧ quiescent_Reference3Ideal (hReference3Ideal := hReference3Ideal)
    ∧ quiescent_Reference3Ideal_pre_named3 (hReference3Ideal := hReference3Ideal) (hPre_named3 := hPre_named3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_named2 := hPre_named2)
    ∧ preserves_Kernel3_Kernel3Ideal
    ∧ algebraic_Kernel3Ideal_Reference3Ideal (hKernel3Ideal := hKernel3Ideal) (hReference3Ideal := hReference3Ideal) (hPre_named3 := hPre_named3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_named2.lean ====
abbrev S42 : Shape := ⟨1, ![42]⟩
abbrev S1 : Shape := ⟨1, ![1]⟩
abbrev S43008x7168 : Shape := ⟨2, ![43008, 7168]⟩
abbrev S8x7168x2048 : Shape := ⟨3, ![8, 7168, 2048]⟩
abbrev S_ : Shape := ⟨0, ![]⟩
abbrev S85 : Shape := ⟨1, ![85]⟩

class Facts : Prop where
  bcast_S_S42 : S_.BroadcastsInDim S42 (![] : Fin 0 → Fin S42.rank)
  bcast_S_S1 : S_.BroadcastsInDim S1 (![] : Fin 0 → Fin S1.rank)
  concatenates_S42_S42_S1_S85_d0 : Shape.Concatenates [S42, S42, S1] S85 0

variable [Facts]

def fn {F : FTy → Type} [FloatOps F] (main_arg0 : IVec S42 32) (main_arg1 : IVec S1 32) (main_arg2 : FVec F S43008x7168 .bf16) (main_arg3 : FVec F S8x7168x2048 .bf16) : IVec S85 1 :=
  let main_c : IVec S_ 32 := constantI S_ 32 0#32
  let main_v0 : IVec S42 32 := broadcastInDim S42 ![] bcast_S_S42 main_c
  let main_v1 : IVec S42 1 := cmpi .sge main_arg0 main_v0
  let main_c_0 : IVec S_ 32 := constantI S_ 32 8#32
  let main_v2 : IVec S42 32 := broadcastInDim S42 ![] bcast_S_S42 main_c_0
  let main_v3 : IVec S42 1 := cmpi .slt main_arg0 main_v2
  let main_c_1 : IVec S_ 32 := constantI S_ 32 1#32
  let main_v4 : IVec S1 32 := broadcastInDim S1 ![] bcast_S_S1 main_c_1
  let main_v5 : IVec S1 1 := cmpi .sge main_arg1 main_v4
  let main_v6 : IVec S85 1 := concatenate S85 0 [⟨S42, main_v1⟩, ⟨S42, main_v3⟩, ⟨S1, main_v5⟩] concatenates_S42_S42_S1_S85_d0
  main_v6
-- ==== Pre_named3.lean ====
abbrev S588 : Shape := ⟨1, ![588]⟩
abbrev S42 : Shape := ⟨1, ![42]⟩
abbrev S1 : Shape := ⟨1, ![1]⟩
abbrev S43008x1024 : Shape := ⟨2, ![43008, 1024]⟩
abbrev S8x2048x7168 : Shape := ⟨3, ![8, 2048, 7168]⟩
abbrev S8x7168x2048 : Shape := ⟨3, ![8, 7168, 2048]⟩
abbrev S_ : Shape := ⟨0, ![]⟩
abbrev S588x1 : Shape := ⟨2, ![588, 1]⟩
abbrev S1x588 : Shape := ⟨2, ![1, 588]⟩
abbrev S588x588 : Shape := ⟨2, ![588, 588]⟩
abbrev S1x42 : Shape := ⟨2, ![1, 42]⟩
abbrev S588x42 : Shape := ⟨2, ![588, 42]⟩
abbrev S588x631 : Shape := ⟨2, ![588, 631]⟩

class Facts : Prop where
  bcast_S_S588 : S_.BroadcastsInDim S588 (![] : Fin 0 → Fin S588.rank)
  shapeCasts_S1_S_ : S1.ShapeCasts S_
  bcast_S588_S588x1_0 : S588.BroadcastsInDim S588x1 (![0] : Fin 1 → Fin S588x1.rank)
  bcast_S588_S1x588_1 : S588.BroadcastsInDim S1x588 (![1] : Fin 1 → Fin S1x588.rank)
  bcast_S588x1_S588x588_0_1 : S588x1.BroadcastsInDim S588x588 (![0, 1] : Fin 2 → Fin S588x588.rank)
  bcast_S1x588_S588x588_0_1 : S1x588.BroadcastsInDim S588x588 (![0, 1] : Fin 2 → Fin S588x588.rank)
  bcast_S_S588x1 : S_.BroadcastsInDim S588x1 (![] : Fin 0 → Fin S588x1.rank)
  bcast_S_S1x588 : S_.BroadcastsInDim S1x588 (![] : Fin 0 → Fin S1x588.rank)
  bcast_S42_S1x42_1 : S42.BroadcastsInDim S1x42 (![1] : Fin 1 → Fin S1x42.rank)
  bcast_S588x1_S588x42_0_1 : S588x1.BroadcastsInDim S588x42 (![0, 1] : Fin 2 → Fin S588x42.rank)
  bcast_S1x42_S588x42_0_1 : S1x42.BroadcastsInDim S588x42 (![0, 1] : Fin 2 → Fin S588x42.rank)
  concatenates_S588x1_S588x588_S588x42_S588x631_d1 : Shape.Concatenates [S588x1, S588x588, S588x42] S588x631 1

variable [Facts]

def fn_part5 {F : FTy → Type} [FloatOps F] (main_v47 : IVec S588 1) (main_v64 : IVec S588x588 1) (main_v91 : IVec S588x588 1) (main_v100 : IVec S588x42 1) (main_v103 : IVec S588x42 32) (main_v104 : IVec S588x42 32) : IVec S588x631 1 :=
  let main_v105 : IVec S588x42 1 := cmpi .eq main_v103 main_v104
  let main_v106 : IVec S588x42 1 := ori main_v100 main_v105
  let main_v107 : IVec S588x1 1 := broadcastInDim S588x1 ![0] bcast_S588_S588x1_0 main_v47
  let main_v108 : IVec S588x588 1 := andi main_v64 main_v91
  let main_v109 : IVec S588x631 1 := concatenate S588x631 1 [⟨S588x1, main_v107⟩, ⟨S588x588, main_v108⟩, ⟨S588x42, main_v106⟩] concatenates_S588x1_S588x588_S588x42_S588x631_d1
  main_v109

def fn_part4 {F : FTy → Type} [FloatOps F] (main_arg0 : IVec S588 32) (main_arg3 : IVec S588 32) (main_arg4 : IVec S588 32) (main_arg5 : IVec S42 32) (main_v0 : IVec S588 32) (main_v1 : IVec S42 32) (main_v3 : IVec S588 1) (main_v47 : IVec S588 1) (main_v64 : IVec S588x588 1) (main_v78 : IVec S588x588 1) (main_v81 : IVec S588x1 32) : IVec S588x631 1 :=
  let main_v82 : IVec S1x588 32 := broadcastInDim S1x588 ![1] bcast_S588_S1x588_1 main_v0
  let main_v83 : IVec S588x588 32 := broadcastInDim S588x588 ![0, 1] bcast_S588x1_S588x588_0_1 main_v81
  let main_v84 : IVec S588x588 32 := broadcastInDim S588x588 ![0, 1] bcast_S1x588_S588x588_0_1 main_v82
  let main_v85 : IVec S588x588 1 := cmpi .ne main_v83 main_v84
  let main_v86 : IVec S1x588 32 := broadcastInDim S1x588 ![1] bcast_S588_S1x588_1 main_arg4
  let main_c_13 : IVec S_ 32 := constantI S_ 32 1#32
  let main_v87 : IVec S1x588 32 := broadcastInDim S1x588 ![] bcast_S_S1x588 main_c_13
  let main_v88 : IVec S1x588 1 := cmpi .ne main_v86 main_v87
  let main_v89 : IVec S588x588 1 := broadcastInDim S588x588 ![0, 1] bcast_S1x588_S588x588_0_1 main_v88
  let main_v90 : IVec S588x588 1 := ori main_v85 main_v89
  let main_v91 : IVec S588x588 1 := ori main_v90 main_v78
  let main_v92 : IVec S588x1 1 := broadcastInDim S588x1 ![0] bcast_S588_S588x1_0 main_v3
  let main_v93 : IVec S588x1 1 := noti main_v92
  let main_v94 : IVec S588x1 32 := broadcastInDim S588x1 ![0] bcast_S588_S588x1_0 main_arg0
  let main_v95 : IVec S1x42 32 := broadcastInDim S1x42 ![1] bcast_S42_S1x42_1 main_v1
  let main_v96 : IVec S588x42 32 := broadcastInDim S588x42 ![0, 1] bcast_S588x1_S588x42_0_1 main_v94
  let main_v97 : IVec S588x42 32 := broadcastInDim S588x42 ![0, 1] bcast_S1x42_S588x42_0_1 main_v95
  let main_v98 : IVec S588x42 1 := cmpi .ne main_v96 main_v97
  let main_v99 : IVec S588x42 1 := broadcastInDim S588x42 ![0, 1] bcast_S588x1_S588x42_0_1 main_v93
  let main_v100 : IVec S588x42 1 := ori main_v99 main_v98
  let main_v101 : IVec S588x1 32 := broadcastInDim S588x1 ![0] bcast_S588_S588x1_0 main_arg3
  let main_v102 : IVec S1x42 32 := broadcastInDim S1x42 ![1] bcast_S42_S1x42_1 main_arg5
  let main_v103 : IVec S588x42 32 := broadcastInDim S588x42 ![0, 1] bcast_S588x1_S588x42_0_1 main_v101
  let main_v104 : IVec S588x42 32 := broadcastInDim S588x42 ![0, 1] bcast_S1x42_S588x42_0_1 main_v102
  fn_part5 (F := F) main_v47 main_v64 main_v91 main_v100 main_v103 main_v104

def fn_part3 {F : FTy → Type} [FloatOps F] (main_arg0 : IVec S588 32) (main_arg1 : IVec S588 32) (main_arg2 : IVec S588 32) (main_arg3 : IVec S588 32) (main_arg4 : IVec S588 32) (main_arg5 : IVec S42 32) (main_v0 : IVec S588 32) (main_v1 : IVec S42 32) (main_v3 : IVec S588 1) (main_v47 : IVec S588 1) (main_v58 : IVec S588x588 1) : IVec S588x631 1 :=
  let main_v59 : IVec S588x1 32 := broadcastInDim S588x1 ![0] bcast_S588_S588x1_0 main_arg1
  let main_v60 : IVec S1x588 32 := broadcastInDim S1x588 ![1] bcast_S588_S1x588_1 main_arg1
  let main_v61 : IVec S588x588 32 := broadcastInDim S588x588 ![0, 1] bcast_S588x1_S588x588_0_1 main_v59
  let main_v62 : IVec S588x588 32 := broadcastInDim S588x588 ![0, 1] bcast_S1x588_S588x588_0_1 main_v60
  let main_v63 : IVec S588x588 1 := cmpi .ne main_v61 main_v62
  let main_v64 : IVec S588x588 1 := ori main_v58 main_v63
  let main_v65 : IVec S588x1 1 := broadcastInDim S588x1 ![0] bcast_S588_S588x1_0 main_v3
  let main_v66 : IVec S588x1 32 := broadcastInDim S588x1 ![0] bcast_S588_S588x1_0 main_arg3
  let main_v67 : IVec S1x588 32 := broadcastInDim S1x588 ![1] bcast_S588_S1x588_1 main_arg3
  let main_v68 : IVec S588x588 32 := broadcastInDim S588x588 ![0, 1] bcast_S588x1_S588x588_0_1 main_v66
  let main_v69 : IVec S588x588 32 := broadcastInDim S588x588 ![0, 1] bcast_S1x588_S588x588_0_1 main_v67
  let main_v70 : IVec S588x588 1 := cmpi .eq main_v68 main_v69
  let main_v71 : IVec S588x588 1 := broadcastInDim S588x588 ![0, 1] bcast_S588x1_S588x588_0_1 main_v65
  let main_v72 : IVec S588x588 1 := andi main_v71 main_v70
  let main_v73 : IVec S588x1 32 := broadcastInDim S588x1 ![0] bcast_S588_S588x1_0 main_arg2
  let main_v74 : IVec S1x588 32 := broadcastInDim S1x588 ![1] bcast_S588_S1x588_1 main_arg2
  let main_v75 : IVec S588x588 32 := broadcastInDim S588x588 ![0, 1] bcast_S588x1_S588x588_0_1 main_v73
  let main_v76 : IVec S588x588 32 := broadcastInDim S588x588 ![0, 1] bcast_S1x588_S588x588_0_1 main_v74
  let main_v77 : IVec S588x588 1 := cmpi .eq main_v75 main_v76
  let main_v78 : IVec S588x588 1 := andi main_v72 main_v77
  let main_v79 : IVec S588x1 32 := broadcastInDim S588x1 ![0] bcast_S588_S588x1_0 main_v0
  let main_c_12 : IVec S_ 32 := constantI S_ 32 1#32
  let main_v80 : IVec S588x1 32 := broadcastInDim S588x1 ![] bcast_S_S588x1 main_c_12
  let main_v81 : IVec S588x1 32 := addi main_v79 main_v80
  fn_part4 (F := F) main_arg0 main_arg3 main_arg4 main_arg5 main_v0 main_v1 main_v3 main_v47 main_v64 main_v78 main_v81

def fn_part2 {F : FTy → Type} [FloatOps F] (main_arg0 : IVec S588 32) (main_arg1 : IVec S588 32) (main_arg2 : IVec S588 32) (main_arg3 : IVec S588 32) (main_arg4 : IVec S588 32) (main_arg5 : IVec S42 32) (main_v0 : IVec S588 32) (main_v1 : IVec S42 32) (main_v3 : IVec S588 1) (main_v32 : IVec S588 1) (main_v36 : IVec S588 1) : IVec S588x631 1 :=
  let main_v37 : IVec S588 1 := andi main_v32 main_v36
  let main_v38 : IVec S588 1 := noti main_v3
  let main_v39 : IVec S588 1 := cmpi .eq main_arg1 main_arg2
  let main_v40 : IVec S588 1 := ori main_v38 main_v39
  let main_v41 : IVec S588 1 := andi main_v37 main_v40
  let main_c_10 : IVec S_ 32 := constantI S_ 32 1#32
  let main_v42 : IVec S588 32 := broadcastInDim S588 ![] bcast_S_S588 main_c_10
  let main_v43 : IVec S588 1 := cmpi .ne main_arg4 main_v42
  let main_c_11 : IVec S_ 32 := constantI S_ 32 0#32
  let main_v44 : IVec S588 32 := broadcastInDim S588 ![] bcast_S_S588 main_c_11
  let main_v45 : IVec S588 1 := cmpi .sgt main_v0 main_v44
  let main_v46 : IVec S588 1 := ori main_v43 main_v45
  let main_v47 : IVec S588 1 := andi main_v41 main_v46
  let main_v48 : IVec S588x1 32 := broadcastInDim S588x1 ![0] bcast_S588_S588x1_0 main_v0
  let main_v49 : IVec S1x588 32 := broadcastInDim S1x588 ![1] bcast_S588_S1x588_1 main_v0
  let main_v50 : IVec S588x588 32 := broadcastInDim S588x588 ![0, 1] bcast_S588x1_S588x588_0_1 main_v48
  let main_v51 : IVec S588x588 32 := broadcastInDim S588x588 ![0, 1] bcast_S1x588_S588x588_0_1 main_v49
  let main_v52 : IVec S588x588 1 := cmpi .eq main_v50 main_v51
  let main_v53 : IVec S588x1 32 := broadcastInDim S588x1 ![0] bcast_S588_S588x1_0 main_arg0
  let main_v54 : IVec S1x588 32 := broadcastInDim S1x588 ![1] bcast_S588_S1x588_1 main_arg0
  let main_v55 : IVec S588x588 32 := broadcastInDim S588x588 ![0, 1] bcast_S588x1_S588x588_0_1 main_v53
  let main_v56 : IVec S588x588 32 := broadcastInDim S588x588 ![0, 1] bcast_S1x588_S588x588_0_1 main_v54
  let main_v57 : IVec S588x588 1 := cmpi .ne main_v55 main_v56
  let main_v58 : IVec S588x588 1 := ori main_v52 main_v57
  fn_part3 (F := F) main_arg0 main_arg1 main_arg2 main_arg3 main_arg4 main_arg5 main_v0 main_v1 main_v3 main_v47 main_v58

def fn_part1 {F : FTy → Type} [FloatOps F] (main_arg0 : IVec S588 32) (main_arg1 : IVec S588 32) (main_arg2 : IVec S588 32) (main_arg3 : IVec S588 32) (main_arg4 : IVec S588 32) (main_arg5 : IVec S42 32) (main_arg6 : IVec S1 32) (main_v0 : IVec S588 32) (main_v1 : IVec S42 32) (main_v3 : IVec S588 1) (main_v17 : IVec S588 1) : IVec S588x631 1 :=
  let main_c_5 : IVec S_ 32 := constantI S_ 32 14#32
  let main_v18 : IVec S588 32 := broadcastInDim S588 ![] bcast_S_S588 main_c_5
  let main_v19 : IVec S588 1 := cmpi .slt main_arg2 main_v18
  let main_v20 : IVec S588 1 := andi main_v17 main_v19
  let main_c_6 : IVec S_ 32 := constantI S_ 32 0#32
  let main_v21 : IVec S588 32 := broadcastInDim S588 ![] bcast_S_S588 main_c_6
  let main_v22 : IVec S588 1 := cmpi .sge main_arg3 main_v21
  let main_v23 : IVec S588 1 := andi main_v20 main_v22
  let main_c_7 : IVec S_ 32 := constantI S_ 32 8#32
  let main_v24 : IVec S588 32 := broadcastInDim S588 ![] bcast_S_S588 main_c_7
  let main_v25 : IVec S588 1 := cmpi .slt main_arg3 main_v24
  let main_v26 : IVec S588 1 := andi main_v23 main_v25
  let main_c_8 : IVec S_ 32 := constantI S_ 32 0#32
  let main_v27 : IVec S588 32 := broadcastInDim S588 ![] bcast_S_S588 main_c_8
  let main_v28 : IVec S588 1 := cmpi .sge main_arg4 main_v27
  let main_v29 : IVec S588 1 := andi main_v26 main_v28
  let main_c_9 : IVec S_ 32 := constantI S_ 32 2#32
  let main_v30 : IVec S588 32 := broadcastInDim S588 ![] bcast_S_S588 main_c_9
  let main_v31 : IVec S588 1 := cmpi .sle main_arg4 main_v30
  let main_v32 : IVec S588 1 := andi main_v29 main_v31
  let main_v33 : IVec S_ 32 := shapeCast S_ main_arg6 shapeCasts_S1_S_
  let main_v34 : IVec S588 32 := broadcastInDim S588 ![] bcast_S_S588 main_v33
  let main_v35 : IVec S588 1 := cmpi .slt main_arg0 main_v34
  let main_v36 : IVec S588 1 := cmpi .eq main_v3 main_v35
  fn_part2 (F := F) main_arg0 main_arg1 main_arg2 main_arg3 main_arg4 main_arg5 main_v0 main_v1 main_v3 main_v32 main_v36

def fn {F : FTy → Type} [FloatOps F] (main_arg0 : IVec S588 32) (main_arg1 : IVec S588 32) (main_arg2 : IVec S588 32) (main_arg3 : IVec S588 32) (main_arg4 : IVec S588 32) (main_arg5 : IVec S42 32) (main_arg6 : IVec S1 32) (main_arg7 : IVec S43008x1024 32) (main_arg8 : FVec F S8x2048x7168 .f32) (main_arg9 : FVec F S8x2048x7168 .f32) (main_arg10 : FVec F S8x7168x2048 .f32) : IVec S588x631 1 :=
  let main_v0 : IVec S588 32 := iotaInDim S588 32 0
  let main_v1 : IVec S42 32 := iotaInDim S42 32 0
  let main_c : IVec S_ 32 := constantI S_ 32 0#32
  let main_v2 : IVec S588 32 := broadcastInDim S588 ![] bcast_S_S588 main_c
  let main_v3 : IVec S588 1 := cmpi .sgt main_arg4 main_v2
  let main_c_0 : IVec S_ 32 := constantI S_ 32 0#32
  let main_v4 : IVec S588 32 := broadcastInDim S588 ![] bcast_S_S588 main_c_0
  let main_v5 : IVec S588 1 := cmpi .sge main_arg0 main_v4
  let main_c_1 : IVec S_ 32 := constantI S_ 32 42#32
  let main_v6 : IVec S588 32 := broadcastInDim S588 ![] bcast_S_S588 main_c_1
  let main_v7 : IVec S588 1 := cmpi .slt main_arg0 main_v6
  let main_v8 : IVec S588 1 := andi main_v5 main_v7
  let main_c_2 : IVec S_ 32 := constantI S_ 32 0#32
  let main_v9 : IVec S588 32 := broadcastInDim S588 ![] bcast_S_S588 main_c_2
  let main_v10 : IVec S588 1 := cmpi .sge main_arg1 main_v9
  let main_v11 : IVec S588 1 := andi main_v8 main_v10
  let main_c_3 : IVec S_ 32 := constantI S_ 32 14#32
  let main_v12 : IVec S588 32 := broadcastInDim S588 ![] bcast_S_S588 main_c_3
  let main_v13 : IVec S588 1 := cmpi .slt main_arg1 main_v12
  let main_v14 : IVec S588 1 := andi main_v11 main_v13
  let main_c_4 : IVec S_ 32 := constantI S_ 32 0#32
  let main_v15 : IVec S588 32 := broadcastInDim S588 ![] bcast_S_S588 main_c_4
  let main_v16 : IVec S588 1 := cmpi .sge main_arg2 main_v15
  let main_v17 : IVec S588 1 := andi main_v14 main_v16
  fn_part1 (F := F) main_arg0 main_arg1 main_arg2 main_arg3 main_arg4 main_arg5 main_arg6 main_v0 main_v1 main_v3 main_v17
-- ==== Kernel.lean ====
abbrev S17408x6144 : Shape := ⟨2, ![17408, 6144]⟩
abbrev S128x2x512 : Shape := ⟨3, ![128, 2, 512]⟩
abbrev S128x3x512 : Shape := ⟨3, ![128, 3, 512]⟩
abbrev S128x512 : Shape := ⟨2, ![128, 512]⟩
abbrev S3x512 : Shape := ⟨2, ![3, 512]⟩
abbrev S4x512 : Shape := ⟨2, ![4, 512]⟩
abbrev S512 : Shape := ⟨1, ![512]⟩
abbrev S4x128x128 : Shape := ⟨3, ![4, 128, 128]⟩
abbrev S_ : Shape := ⟨0, ![]⟩
abbrev S1x512 : Shape := ⟨2, ![1, 512]⟩
abbrev S128x1x512 : Shape := ⟨3, ![128, 1, 512]⟩
abbrev S1024x512 : Shape := ⟨2, ![1024, 512]⟩
abbrev S128x1536 : Shape := ⟨2, ![128, 1536]⟩
abbrev S128x1024 : Shape := ⟨2, ![128, 1024]⟩
abbrev S16x2x512 : Shape := ⟨3, ![16, 2, 512]⟩
abbrev S16x3x512 : Shape := ⟨3, ![16, 3, 512]⟩
abbrev S16x1x512 : Shape := ⟨3, ![16, 1, 512]⟩
abbrev S16x16x512 : Shape := ⟨3, ![16, 16, 512]⟩
abbrev S16x8x512 : Shape := ⟨3, ![16, 8, 512]⟩
abbrev S1x1x512 : Shape := ⟨3, ![1, 1, 512]⟩
abbrev S128x128 : Shape := ⟨2, ![128, 128]⟩
abbrev S1x128x128 : Shape := ⟨3, ![1, 128, 128]⟩

abbrev nBuf : Space → Nat
  | .hbm => 37
  | .vmem => 31
  | .smem => 0
  | _ => 0

abbrev bufTy : (tb : Table) → Fin (tcTables nBuf tb) → BufTy
  | .hbm, ⟨0, _⟩ => ⟨S17408x6144, .f32⟩
  | .hbm, ⟨1, _⟩ => ⟨S128x2x512, .f32⟩
  | .hbm, ⟨2, _⟩ => ⟨S128x3x512, .f32⟩
  | .hbm, ⟨3, _⟩ => ⟨S128x512, .f32⟩
  | .hbm, ⟨4, _⟩ => ⟨S3x512, .f32⟩
  | .hbm, ⟨5, _⟩ => ⟨S4x512, .f32⟩
  | .hbm, ⟨6, _⟩ => ⟨S512, .f32⟩
  | .hbm, ⟨7, _⟩ => ⟨S4x128x128, .f32⟩
  | .hbm, ⟨8, _⟩ => ⟨S512, .f32⟩
  | .hbm, ⟨9, _⟩ => ⟨S4x128x128, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .i1⟩
  | .hbm, ⟨19, _⟩ => ⟨S512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S128x1x512, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S1024x512, .bf16⟩
  | .hbm, ⟨33, _⟩ => ⟨S1024x512, .bf16⟩
  | .hbm, ⟨34, _⟩ => ⟨S128x2x512, .f32⟩
  | .hbm, ⟨35, _⟩ => ⟨S128x3x512, .f32⟩
  | .hbm, ⟨36, _⟩ => ⟨S128x1x512, .f32⟩
  | .local _ .vmem, ⟨0, _⟩ => ⟨S128x1536, .f32⟩
  | .local _ .vmem, ⟨1, _⟩ => ⟨S128x1536, .f32⟩
  | .local _ .vmem, ⟨2, _⟩ => ⟨S128x1024, .f32⟩
  | .local _ .vmem, ⟨3, _⟩ => ⟨S128x1024, .f32⟩
  | .local _ .vmem, ⟨4, _⟩ => ⟨S16x2x512, .f32⟩
  | .local _ .vmem, ⟨5, _⟩ => ⟨S16x2x512, .f32⟩
  | .local _ .vmem, ⟨6, _⟩ => ⟨S16x3x512, .f32⟩
  | .local _ .vmem, ⟨7, _⟩ => ⟨S16x3x512, .f32⟩
  | .local _ .vmem, ⟨8, _⟩ => ⟨S16x1x512, .f32⟩
  | .local _ .vmem, ⟨9, _⟩ => ⟨S16x1x512, .f32⟩
  | .local _ .vmem, ⟨10, _⟩ => ⟨S3x512, .f32⟩
  | .local _ .vmem, ⟨11, _⟩ => ⟨S4x512, .f32⟩
  | .local _ .vmem, ⟨12, _⟩ => ⟨S1x512, .f32⟩
  | .local _ .vmem, ⟨13, _⟩ => ⟨S4x128x128, .f32⟩
  | .local _ .vmem, ⟨14, _⟩ => ⟨S1x512, .f32⟩
  | .local _ .vmem, ⟨15, _⟩ => ⟨S4x128x128, .f32⟩
  | .local _ .vmem, ⟨16, _⟩ => ⟨S1x512, .f32⟩
  | .local _ .vmem, ⟨17, _⟩ => ⟨S1x512, .f32⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S16x2x512, .f32⟩
  | .local _ .vmem, ⟨23, _⟩ => ⟨S16x2x512, .f32⟩
  | .local _ .vmem, ⟨24, _⟩ => ⟨S16x3x512, .f32⟩
  | .local _ .vmem, ⟨25, _⟩ => ⟨S16x3x512, .f32⟩
  | .local _ .vmem, ⟨26, _⟩ => ⟨S16x1x512, .f32⟩
  | .local _ .vmem, ⟨27, _⟩ => ⟨S16x1x512, .f32⟩
  | .local _ .vmem, ⟨28, _⟩ => ⟨S16x16x512, .f32⟩
  | .local _ .vmem, ⟨29, _⟩ => ⟨S16x16x512, .f32⟩
  | .local _ .vmem, ⟨30, _⟩ => ⟨S16x1x512, .f32⟩
  | _, _ => ⟨S17408x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_cst : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7_0 : Ref sig .tc := ⟨.hbm, 32, rfl⟩
abbrev main_v7_1 : Ref sig .tc := ⟨.hbm, 33, rfl⟩
abbrev main_v7_2 : Ref sig .tc := ⟨.hbm, 34, rfl⟩
abbrev main_v7_3 : Ref sig .tc := ⟨.hbm, 35, rfl⟩
abbrev main_v7_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c1_i32_0 : BitVec 32 := 1#32
  let c0_i32 : BitVec 32 := 0#32
  ![v2.toNat, c1_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c128_i32 : BitVec 32 := 128#32
  let v1 : BitVec 32 := Scalar.addi c128_i32 v0
  let v2 : BitVec 32 := Scalar.addi v1 arg1
  let c5_i32 : BitVec 32 := 5#32
  let c0_i32 : BitVec 32 := 0#32
  ![v2.toNat, c5_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x3x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x2x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S16x3x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S16x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]
-- ==== ReferenceIdeal.lean ====
abbrev S17408x6144 : Shape := ⟨2, ![17408, 6144]⟩
abbrev S128x2x512 : Shape := ⟨3, ![128, 2, 512]⟩
abbrev S128x3x512 : Shape := ⟨3, ![128, 3, 512]⟩
abbrev S128x512 : Shape := ⟨2, ![128, 512]⟩
abbrev S3x512 : Shape := ⟨2, ![3, 512]⟩
abbrev S4x512 : Shape := ⟨2, ![4, 512]⟩
abbrev S512 : Shape := ⟨1, ![512]⟩
abbrev S4x128x128 : Shape := ⟨3, ![4, 128, 128]⟩
abbrev S1024x6144 : Shape := ⟨2, ![1024, 6144]⟩
abbrev S128x8x6144 : Shape := ⟨3, ![128, 8, 6144]⟩
abbrev S128x8x1536 : Shape := ⟨3, ![128, 8, 1536]⟩
abbrev S128x8x1024 : Shape := ⟨3, ![128, 8, 1024]⟩
abbrev S128x8x512 : Shape := ⟨3, ![128, 8, 512]⟩
abbrev S128x10x512 : Shape := ⟨3, ![128, 10, 512]⟩
abbrev S1x512 : Shape := ⟨2, ![1, 512]⟩
abbrev S1x1x512 : Shape := ⟨3, ![1, 1, 512]⟩
abbrev S_ : Shape := ⟨0, ![]⟩
abbrev S128x11x512 : Shape := ⟨3, ![128, 11, 512]⟩
abbrev S128x8x4x128 : Shape := ⟨4, ![128, 8, 4, 128]⟩
abbrev S4x128x128x8 : Shape := ⟨4, ![4, 128, 128, 8]⟩
abbrev S8x128x512 : Shape := ⟨3, ![8, 128, 512]⟩
abbrev S1x128x512 : Shape := ⟨3, ![1, 128, 512]⟩
abbrev S128x1x512 : Shape := ⟨3, ![128, 1, 512]⟩
abbrev S1024x512 : Shape := ⟨2, ![1024, 512]⟩

abbrev nBuf : Space → Nat
  | .hbm => 196
  | .vmem => 0
  | .smem => 0
  | _ => 0

abbrev hbmTy0_0 (i : Nat) : BufTy := match i % 128 with
  | 0 => ⟨S17408x6144, .f32⟩
  | 1 => ⟨S128x2x512, .f32⟩
  | 2 => ⟨S128x3x512, .f32⟩
  | 3 => ⟨S128x512, .f32⟩
  | 4 => ⟨S3x512, .f32⟩
  | 5 => ⟨S4x512, .f32⟩
  | 6 => ⟨S512, .f32⟩
  | 7 => ⟨S4x128x128, .f32⟩
  | 8 => ⟨S512, .f32⟩
  | 9 => ⟨S4x128x128, .f32⟩
  | 10 => ⟨S512, .f32⟩
  | 11 => ⟨S512, .f32⟩
  | 12 => ⟨S1024x6144, .f32⟩
  | 13 => ⟨S128x8x6144, .f32⟩
  | 14 => ⟨S128x8x1536, .f32⟩
  | 15 => ⟨S128x8x1024, .f32⟩
  | 16 => ⟨S128x8x512, .f32⟩
  | 17 => ⟨S128x8x512, .f32⟩
  | 18 => ⟨S128x8x512, .f32⟩
  | 19 => ⟨S128x8x512, .f32⟩
  | 20 => ⟨S128x10x512, .f32⟩
  | 21 => ⟨S128x8x512, .f32⟩
  | 22 => ⟨S1x512, .f32⟩
  | 23 => ⟨S512, .f32⟩
  | 24 => ⟨S1x1x512, .f32⟩
  | 25 => ⟨S128x8x512, .f32⟩
  | 26 => ⟨S128x8x512, .f32⟩
  | 27 => ⟨S_, .f32⟩
  | 28 => ⟨S128x8x512, .f32⟩
  | 29 => ⟨S128x8x512, .f32⟩
  | 30 => ⟨S128x8x512, .f32⟩
  | 31 => ⟨S1x512, .f32⟩
  | 32 => ⟨S512, .f32⟩
  | 33 => ⟨S1x1x512, .f32⟩
  | 34 => ⟨S128x8x512, .f32⟩
  | 35 => ⟨S128x8x512, .f32⟩
  | 36 => ⟨S128x8x512, .f32⟩
  | 37 => ⟨S128x8x512, .f32⟩
  | 38 => ⟨S1x512, .f32⟩
  | 39 => ⟨S512, .f32⟩
  | 40 => ⟨S1x1x512, .f32⟩
  | 41 => ⟨S128x8x512, .f32⟩
  | 42 => ⟨S128x8x512, .f32⟩
  | 43 => ⟨S128x8x512, .f32⟩
  | 44 => ⟨S128x2x512, .f32⟩
  | 45 => ⟨S128x8x512, .f32⟩
  | 46 => ⟨S128x8x512, .f32⟩
  | 47 => ⟨S128x8x512, .f32⟩
  | 48 => ⟨S128x11x512, .f32⟩
  | 49 => ⟨S128x8x512, .f32⟩
  | 50 => ⟨S1x512, .f32⟩
  | 51 => ⟨S512, .f32⟩
  | 52 => ⟨S1x1x512, .f32⟩
  | 53 => ⟨S128x8x512, .f32⟩
  | 54 => ⟨S128x8x512, .f32⟩
  | 55 => ⟨S_, .f32⟩
  | 56 => ⟨S128x8x512, .f32⟩
  | 57 => ⟨S128x8x512, .f32⟩
  | 58 => ⟨S128x8x512, .f32⟩
  | 59 => ⟨S1x512, .f32⟩
  | 60 => ⟨S512, .f32⟩
  | 61 => ⟨S1x1x512, .f32⟩
  | 62 => ⟨S128x8x512, .f32⟩
  | 63 => ⟨S128x8x512, .f32⟩
  | 64 => ⟨S128x8x512, .f32⟩
  | 65 => ⟨S128x8x512, .f32⟩
  | 66 => ⟨S1x512, .f32⟩
  | 67 => ⟨S512, .f32⟩
  | 68 => ⟨S1x1x512, .f32⟩
  | 69 => ⟨S128x8x512, .f32⟩
  | 70 => ⟨S128x8x512, .f32⟩
  | 71 => ⟨S128x8x512, .f32⟩
  | 72 => ⟨S128x8x512, .f32⟩
  | 73 => ⟨S1x512, .f32⟩
  | 74 => ⟨S512, .f32⟩
  | 75 => ⟨S1x1x512, .f32⟩
  | 76 => ⟨S128x8x512, .f32⟩
  | 77 => ⟨S128x8x512, .f32⟩
  | 78 => ⟨S128x8x512, .f32⟩
  | 79 => ⟨S128x3x512, .f32⟩
  | 80 => ⟨S1x1x512, .f32⟩
  | 81 => ⟨S128x8x512, .f32⟩
  | 82 => ⟨S128x8x512, .f32⟩
  | 83 => ⟨S128x8x4x128, .f32⟩
  | 84 => ⟨S4x128x128x8, .f32⟩
  | 85 => ⟨S128x8x4x128, .f32⟩
  | 86 => ⟨S128x8x512, .f32⟩
  | 87 => ⟨S1x1x512, .f32⟩
  | 88 => ⟨S128x8x512, .f32⟩
  | 89 => ⟨S128x8x512, .f32⟩
  | 90 => ⟨S128x8x512, .f32⟩
  | 91 => ⟨S128x8x512, .f32⟩
  | 92 => ⟨S_, .f32⟩
  | 93 => ⟨S128x8x512, .f32⟩
  | 94 => ⟨S128x8x512, .f32⟩
  | 95 => ⟨S_, .f32⟩
  | 96 => ⟨S128x8x512, .f32⟩
  | 97 => ⟨S128x8x512, .f32⟩
  | 98 => ⟨S4x128x128x8, .f32⟩
  | 99 => ⟨S128x8x4x128, .f32⟩
  | 100 => ⟨S128x8x512, .f32⟩
  | 101 => ⟨S1x1x512, .f32⟩
  | 102 => ⟨S128x8x512, .f32⟩
  | 103 => ⟨S128x8x512, .f32⟩
  | 104 => ⟨S128x8x512, .f32⟩
  | 105 => ⟨S128x8x512, .f32⟩
  | 106 => ⟨S_, .f32⟩
  | 107 => ⟨S128x8x512, .f32⟩
  | 108 => ⟨S128x8x512, .f32⟩
  | 109 => ⟨S_, .f32⟩
  | 110 => ⟨S128x8x512, .f32⟩
  | 111 => ⟨S128x8x512, .f32⟩
  | 112 => ⟨S_, .f32⟩
  | 113 => ⟨S128x8x512, .f32⟩
  | 114 => ⟨S128x8x512, .f32⟩
  | 115 => ⟨S512, .f32⟩
  | 116 => ⟨S_, .f32⟩
  | 117 => ⟨S512, .f32⟩
  | 118 => ⟨S512, .f32⟩
  | 119 => ⟨S512, .f32⟩
  | 120 => ⟨S512, .f32⟩
  | 121 => ⟨S512, .i1⟩
  | 122 => ⟨S512, .f32⟩
  | 123 => ⟨S512, .f32⟩
  | 124 => ⟨S512, .f32⟩
  | 125 => ⟨S512, .f32⟩
  | 126 => ⟨S512, .f32⟩
  | 127 => ⟨S512, .f32⟩
  | _ => ⟨S17408x6144, .f32⟩

abbrev hbmTy0_1 (i : Nat) : BufTy := match i % 128 with
  | 0 => ⟨S512, .f32⟩
  | 1 => ⟨S512, .f32⟩
  | 2 => ⟨S1x1x512, .f32⟩
  | 3 => ⟨S128x8x512, .f32⟩
  | 4 => ⟨S128x8x512, .f32⟩
  | 5 => ⟨S128x8x512, .f32⟩
  | 6 => ⟨S_, .f32⟩
  | 7 => ⟨S128x8x512, .f32⟩
  | 8 => ⟨S128x8x512, .f32⟩
  | 9 => ⟨S128x8x512, .f32⟩
  | 10 => ⟨S128x8x512, .f32⟩
  | 11 => ⟨S128x8x512, .f32⟩
  | 12 => ⟨S128x8x512, .f32⟩
  | 13 => ⟨S128x8x512, .f32⟩
  | 14 => ⟨S8x128x512, .f32⟩
  | 15 => ⟨S8x128x512, .f32⟩
  | 16 => ⟨S_, .f32⟩
  | 17 => ⟨S8x128x512, .f32⟩
  | 18 => ⟨S_, .i32⟩
  | 19 => ⟨S8x128x512, .f32⟩
  | 20 => ⟨S8x128x512, .f32⟩
  | 21 => ⟨S_, .i32⟩
  | 22 => ⟨S128x512, .f32⟩
  | 23 => ⟨S8x128x512, .f32⟩
  | 24 => ⟨S_, .i32⟩
  | 25 => ⟨S_, .i1⟩
  | 26 => ⟨S_, .i32⟩
  | 27 => ⟨S_, .i32⟩
  | 28 => ⟨S1x128x512, .f32⟩
  | 29 => ⟨S128x512, .f32⟩
  | 30 => ⟨S_, .i32⟩
  | 31 => ⟨S_, .i32⟩
  | 32 => ⟨S1x128x512, .f32⟩
  | 33 => ⟨S128x512, .f32⟩
  | 34 => ⟨S128x512, .f32⟩
  | 35 => ⟨S128x512, .f32⟩
  | 36 => ⟨S1x128x512, .f32⟩
  | 37 => ⟨S_, .i32⟩
  | 38 => ⟨S_, .i32⟩
  | 39 => ⟨S8x128x512, .f32⟩
  | 40 => ⟨S_, .i32⟩
  | 41 => ⟨S_, .i32⟩
  | 42 => ⟨S128x8x512, .f32⟩
  | 43 => ⟨S128x8x512, .f32⟩
  | 44 => ⟨S128x8x512, .f32⟩
  | 45 => ⟨S_, .f32⟩
  | 46 => ⟨S128x8x512, .f32⟩
  | 47 => ⟨S128x8x512, .f32⟩
  | 48 => ⟨S128x8x512, .f32⟩
  | 49 => ⟨S_, .f32⟩
  | 50 => ⟨S128x8x512, .f32⟩
  | 51 => ⟨S128x8x512, .f32⟩
  | 52 => ⟨S128x8x512, .f32⟩
  | 53 => ⟨S_, .f32⟩
  | 54 => ⟨S128x8x512, .f32⟩
  | 55 => ⟨S128x8x512, .f32⟩
  | 56 => ⟨S_, .f32⟩
  | 57 => ⟨S128x8x512, .f32⟩
  | 58 => ⟨S128x8x512, .f32⟩
  | 59 => ⟨S128x8x512, .f32⟩
  | 60 => ⟨S128x8x512, .f32⟩
  | 61 => ⟨S128x1x512, .f32⟩
  | 62 => ⟨S128x512, .f32⟩
  | 63 => ⟨S1024x512, .f32⟩
  | 64 => ⟨S1024x512, .bf16⟩
  | 65 => ⟨S1024x512, .f32⟩
  | 66 => ⟨S1024x512, .bf16⟩
  | 67 => ⟨S128x1x512, .f32⟩
  | _ => ⟨S17408x6144, .f32⟩

abbrev hbmTy (i : Nat) : BufTy := match i / 128 with
  | 0 => hbmTy0_0 i
  | 1 => hbmTy0_1 i
  | _ => ⟨S17408x6144, .f32⟩

abbrev bufTy : (tb : Table) → Fin (tcTables nBuf tb) → BufTy
  | .hbm, ⟨i, _⟩ => hbmTy i
  | _, _ => ⟨S17408x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_0 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_cst_1 : Ref sig .tc := ⟨.hbm, 92, rfl⟩
abbrev main_v78 : Ref sig .tc := ⟨.hbm, 93, rfl⟩
abbrev main_v79 : Ref sig .tc := ⟨.hbm, 94, rfl⟩
abbrev main_cst_2 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_cst_3 : Ref sig .tc := ⟨.hbm, 106, rfl⟩
abbrev main_v90 : Ref sig .tc := ⟨.hbm, 107, rfl⟩
abbrev main_v91 : Ref sig .tc := ⟨.hbm, 108, rfl⟩
abbrev main_cst_4 : Ref sig .tc := ⟨.hbm, 109, rfl⟩
abbrev main_v92 : Ref sig .tc := ⟨.hbm, 110, rfl⟩
abbrev main_v93 : Ref sig .tc := ⟨.hbm, 111, rfl⟩
abbrev main_cst_5 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_call0_cst : Ref sig .tc := ⟨.hbm, 116, rfl⟩
abbrev main_call0_v0 : Ref sig .tc := ⟨.hbm, 117, rfl⟩
abbrev main_call0_v1 : Ref sig .tc := ⟨.hbm, 118, rfl⟩
abbrev main_call0_v2 : Ref sig .tc := ⟨.hbm, 119, rfl⟩
abbrev main_call0_v3 : Ref sig .tc := ⟨.hbm, 120, rfl⟩
abbrev main_call0_v4 : Ref sig .tc := ⟨.hbm, 121, rfl⟩
abbrev main_call0_v5 : Ref sig .tc := ⟨.hbm, 122, rfl⟩
abbrev main_call0_v6 : Ref sig .tc := ⟨.hbm, 123, rfl⟩
abbrev main_call0_v7 : Ref sig .tc := ⟨.hbm, 124, rfl⟩
abbrev main_call0_v8 : Ref sig .tc := ⟨.hbm, 125, rfl⟩
abbrev main_call0_v9 : Ref sig .tc := ⟨.hbm, 126, rfl⟩
abbrev main_call0_v10 : Ref sig .tc := ⟨.hbm, 127, rfl⟩
abbrev main_call0_v11 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_6 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_7 : Ref sig .tc := ⟨.hbm, 144, rfl⟩
abbrev main_v111 : Ref sig .tc := ⟨.hbm, 145, rfl⟩
abbrev main_c : Ref sig .tc := ⟨.hbm, 146, rfl⟩
abbrev main_v112_0 : Ref sig .tc := ⟨.hbm, 147, rfl⟩
abbrev main_v112_1 : Ref sig .tc := ⟨.hbm, 148, rfl⟩
abbrev main_v112_2 : Ref sig .tc := ⟨.hbm, 149, rfl⟩
abbrev main_v112_3 : Ref sig .tc := ⟨.hbm, 150, rfl⟩
abbrev main_v112_4 : Ref sig .tc := ⟨.hbm, 151, rfl⟩
abbrev main_while0c_c_16 : Ref sig .tc := ⟨.hbm, 152, rfl⟩
abbrev main_while0c_v135 : Ref sig .tc := ⟨.hbm, 153, rfl⟩
abbrev main_while0b_call1_c : Ref sig .tc := ⟨.hbm, 154, rfl⟩
abbrev main_while0b_call1_c_0 : Ref sig .tc := ⟨.hbm, 155, rfl⟩
abbrev main_while0b_call1_v0 : Ref sig .tc := ⟨.hbm, 156, rfl⟩
abbrev main_while0b_v135 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_v0 : Ref sig .tc := ⟨.hbm, 160, rfl⟩
abbrev main_while0b_v136 : Ref sig .tc := ⟨.hbm, 161, rfl⟩
abbrev main_while0b_v137 : Ref sig .tc := ⟨.hbm, 162, rfl⟩
abbrev main_while0b_v138 : Ref sig .tc := ⟨.hbm, 163, rfl⟩
abbrev main_while0b_call3_v0 : Ref sig .tc := ⟨.hbm, 164, rfl⟩
abbrev main_while0b_call3_c : Ref sig .tc := ⟨.hbm, 165, rfl⟩
abbrev main_while0b_call3_c_0 : Ref sig .tc := ⟨.hbm, 166, rfl⟩
abbrev main_while0b_v139 : Ref sig .tc := ⟨.hbm, 167, rfl⟩
abbrev main_while0b_c_16 : Ref sig .tc := ⟨.hbm, 168, rfl⟩
abbrev main_while0b_v140 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_cst_8 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_cst_9 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_cst_10 : Ref sig .tc := ⟨.hbm, 181, rfl⟩
abbrev main_v122 : Ref sig .tc := ⟨.hbm, 182, rfl⟩
abbrev main_v123 : Ref sig .tc := ⟨.hbm, 183, rfl⟩
abbrev main_cst_11 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩

abbrev nD : Nat := 1
abbrev τ : Topo := Topo.v7x

variable {F : FTy → Type} [FloatOps F]

abbrev main_while0_count : Scf.Loop 32 := ⟨0#32, 8#32, 1#32⟩
-- ==== Kernel2.lean ====
abbrev S42 : Shape := ⟨1, ![42]⟩
abbrev S1 : Shape := ⟨1, ![1]⟩
abbrev S43008x7168 : Shape := ⟨2, ![43008, 7168]⟩
abbrev S8x7168x2048 : Shape := ⟨3, ![8, 7168, 2048]⟩
abbrev S43008x2048 : Shape := ⟨2, ![43008, 2048]⟩
abbrev S1024x7168 : Shape := ⟨2, ![1024, 7168]⟩
abbrev S1x7168x256 : Shape := ⟨3, ![1, 7168, 256]⟩
abbrev S1024x256 : Shape := ⟨2, ![1024, 256]⟩
abbrev S7168x256 : Shape := ⟨2, ![7168, 256]⟩

abbrev nBuf : Space → Nat
  | .hbm => 3
  | .vmem => 6
  | .smem => 2
  | _ => 0

abbrev bufTy : (tb : Table) → Fin (tcTables nBuf tb) → BufTy
  | .hbm, ⟨0, _⟩ => ⟨S43008x7168, .bf16⟩
  | .hbm, ⟨1, _⟩ => ⟨S8x7168x2048, .bf16⟩
  | .hbm, ⟨2, _⟩ => ⟨S43008x2048, .f32⟩
  | .local _ .vmem, ⟨0, _⟩ => ⟨S1024x7168, .bf16⟩
  | .local _ .vmem, ⟨1, _⟩ => ⟨S1024x7168, .bf16⟩
  | .local _ .vmem, ⟨2, _⟩ => ⟨S1x7168x256, .bf16⟩
  | .local _ .vmem, ⟨3, _⟩ => ⟨S1x7168x256, .bf16⟩
  | .local _ .vmem, ⟨4, _⟩ => ⟨S1024x256, .f32⟩
  | .local _ .vmem, ⟨5, _⟩ => ⟨S1024x256, .f32⟩
  | .local _ .smem, ⟨0, _⟩ => ⟨S42, .i32⟩
  | .local _ .smem, ⟨1, _⟩ => ⟨S1, .i32⟩
  | _, _ => ⟨S43008x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_v0 : Ref sig .tc := ⟨.hbm, 2, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![42, 8], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S42.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c7_i32 : BitVec 32 := 7#32
  let v4 : BitVec 32 := Scalar.select v3 arg1 c7_i32
  let c0_i32 : BitVec 32 := 0#32
  let c0_i32_0 : BitVec 32 := 0#32
  ![v1.toNat, c0_i32.toNat, v4.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7168x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S42 : Shape := ⟨1, ![42]⟩
abbrev S1 : Shape := ⟨1, ![1]⟩
abbrev S43008x7168 : Shape := ⟨2, ![43008, 7168]⟩
abbrev S8x7168x2048 : Shape := ⟨3, ![8, 7168, 2048]⟩
abbrev S43008 : Shape := ⟨1, ![43008]⟩
abbrev S_ : Shape := ⟨0, ![]⟩
abbrev S42x1024 : Shape := ⟨2, ![42, 1024]⟩
abbrev S43008x2048 : Shape := ⟨2, ![43008, 2048]⟩
abbrev S43008x1 : Shape := ⟨2, ![43008, 1]⟩
abbrev S1x7168x2048 : Shape := ⟨3, ![1, 7168, 2048]⟩
abbrev S7168x2048 : Shape := ⟨2, ![7168, 2048]⟩

abbrev nBuf : Space → Nat
  | .hbm => 138
  | .vmem => 0
  | .smem => 0
  | _ => 0

abbrev hbmTy0_0 (i : Nat) : BufTy := match i % 128 with
  | 0 => ⟨S42, .i32⟩
  | 1 => ⟨S1, .i32⟩
  | 2 => ⟨S43008x7168, .bf16⟩
  | 3 => ⟨S8x7168x2048, .bf16⟩
  | 4 => ⟨S43008, .i32⟩
  | 5 => ⟨S_, .i32⟩
  | 6 => ⟨S_, .i32⟩
  | 7 => ⟨S43008, .i32⟩
  | 8 => ⟨S43008, .i32⟩
  | 9 => ⟨S43008, .i32⟩
  | 10 => ⟨S_, .i32⟩
  | 11 => ⟨S43008, .i32⟩
  | 12 => ⟨S43008, .i1⟩
  | 13 => ⟨S43008, .i32⟩
  | 14 => ⟨S43008, .i32⟩
  | 15 => ⟨S_, .i32⟩
  | 16 => ⟨S43008, .i32⟩
  | 17 => ⟨S43008, .i1⟩
  | 18 => ⟨S43008, .i1⟩
  | 19 => ⟨S_, .i32⟩
  | 20 => ⟨S43008, .i32⟩
  | 21 => ⟨S43008, .i32⟩
  | 22 => ⟨S43008, .i32⟩
  | 23 => ⟨S_, .i32⟩
  | 24 => ⟨S43008, .i32⟩
  | 25 => ⟨S43008, .i1⟩
  | 26 => ⟨S42x1024, .i32⟩
  | 27 => ⟨S43008, .i32⟩
  | 28 => ⟨S_, .i32⟩
  | 29 => ⟨S_, .i32⟩
  | 30 => ⟨S43008, .i32⟩
  | 31 => ⟨S43008, .i32⟩
  | 32 => ⟨S_, .f32⟩
  | 33 => ⟨S43008x2048, .f32⟩
  | 34 => ⟨S_, .i32⟩
  | 35 => ⟨S43008, .i32⟩
  | 36 => ⟨S43008, .i1⟩
  | 37 => ⟨S43008x1, .i1⟩
  | 38 => ⟨S43008x1, .f32⟩
  | 39 => ⟨S43008x7168, .f32⟩
  | 40 => ⟨S1x7168x2048, .bf16⟩
  | 41 => ⟨S7168x2048, .bf16⟩
  | 42 => ⟨S7168x2048, .f32⟩
  | 43 => ⟨S43008x2048, .f32⟩
  | 44 => ⟨S43008x2048, .f32⟩
  | 45 => ⟨S43008x2048, .f32⟩
  | 46 => ⟨S43008x2048, .f32⟩
  | 47 => ⟨S_, .i32⟩
  | 48 => ⟨S43008, .i32⟩
  | 49 => ⟨S43008, .i1⟩
  | 50 => ⟨S43008x1, .i1⟩
  | 51 => ⟨S43008x1, .f32⟩
  | 52 => ⟨S43008x7168, .f32⟩
  | 53 => ⟨S1x7168x2048, .bf16⟩
  | 54 => ⟨S7168x2048, .bf16⟩
  | 55 => ⟨S7168x2048, .f32⟩
  | 56 => ⟨S43008x2048, .f32⟩
  | 57 => ⟨S43008x2048, .f32⟩
  | 58 => ⟨S43008x2048, .f32⟩
  | 59 => ⟨S43008x2048, .f32⟩
  | 60 => ⟨S_, .i32⟩
  | 61 => ⟨S43008, .i32⟩
  | 62 => ⟨S43008, .i1⟩
  | 63 => ⟨S43008x1, .i1⟩
  | 64 => ⟨S43008x1, .f32⟩
  | 65 => ⟨S43008x7168, .f32⟩
  | 66 => ⟨S1x7168x2048, .bf16⟩
  | 67 => ⟨S7168x2048, .bf16⟩
  | 68 => ⟨S7168x2048, .f32⟩
  | 69 => ⟨S43008x2048, .f32⟩
  | 70 => ⟨S43008x2048, .f32⟩
  | 71 => ⟨S43008x2048, .f32⟩
  | 72 => ⟨S43008x2048, .f32⟩
  | 73 => ⟨S_, .i32⟩
  | 74 => ⟨S43008, .i32⟩
  | 75 => ⟨S43008, .i1⟩
  | 76 => ⟨S43008x1, .i1⟩
  | 77 => ⟨S43008x1, .f32⟩
  | 78 => ⟨S43008x7168, .f32⟩
  | 79 => ⟨S1x7168x2048, .bf16⟩
  | 80 => ⟨S7168x2048, .bf16⟩
  | 81 => ⟨S7168x2048, .f32⟩
  | 82 => ⟨S43008x2048, .f32⟩
  | 83 => ⟨S43008x2048, .f32⟩
  | 84 => ⟨S43008x2048, .f32⟩
  | 85 => ⟨S43008x2048, .f32⟩
  | 86 => ⟨S_, .i32⟩
  | 87 => ⟨S43008, .i32⟩
  | 88 => ⟨S43008, .i1⟩
  | 89 => ⟨S43008x1, .i1⟩
  | 90 => ⟨S43008x1, .f32⟩
  | 91 => ⟨S43008x7168, .f32⟩
  | 92 => ⟨S1x7168x2048, .bf16⟩
  | 93 => ⟨S7168x2048, .bf16⟩
  | 94 => ⟨S7168x2048, .f32⟩
  | 95 => ⟨S43008x2048, .f32⟩
  | 96 => ⟨S43008x2048, .f32⟩
  | 97 => ⟨S43008x2048, .f32⟩
  | 98 => ⟨S43008x2048, .f32⟩
  | 99 => ⟨S_, .i32⟩
  | 100 => ⟨S43008, .i32⟩
  | 101 => ⟨S43008, .i1⟩
  | 102 => ⟨S43008x1, .i1⟩
  | 103 => ⟨S43008x1, .f32⟩
  | 104 => ⟨S43008x7168, .f32⟩
  | 105 => ⟨S1x7168x2048, .bf16⟩
  | 106 => ⟨S7168x2048, .bf16⟩
  | 107 => ⟨S7168x2048, .f32⟩
  | 108 => ⟨S43008x2048, .f32⟩
  | 109 => ⟨S43008x2048, .f32⟩
  | 110 => ⟨S43008x2048, .f32⟩
  | 111 => ⟨S43008x2048, .f32⟩
  | 112 => ⟨S_, .i32⟩
  | 113 => ⟨S43008, .i32⟩
  | 114 => ⟨S43008, .i1⟩
  | 115 => ⟨S43008x1, .i1⟩
  | 116 => ⟨S43008x1, .f32⟩
  | 117 => ⟨S43008x7168, .f32⟩
  | 118 => ⟨S1x7168x2048, .bf16⟩
  | 119 => ⟨S7168x2048, .bf16⟩
  | 120 => ⟨S7168x2048, .f32⟩
  | 121 => ⟨S43008x2048, .f32⟩
  | 122 => ⟨S43008x2048, .f32⟩
  | 123 => ⟨S43008x2048, .f32⟩
  | 124 => ⟨S43008x2048, .f32⟩
  | 125 => ⟨S_, .i32⟩
  | 126 => ⟨S43008, .i32⟩
  | 127 => ⟨S43008, .i1⟩
  | _ => ⟨S42, .i32⟩

abbrev hbmTy0_1 (i : Nat) : BufTy := match i % 128 with
  | 0 => ⟨S43008x1, .i1⟩
  | 1 => ⟨S43008x1, .f32⟩
  | 2 => ⟨S43008x7168, .f32⟩
  | 3 => ⟨S1x7168x2048, .bf16⟩
  | 4 => ⟨S7168x2048, .bf16⟩
  | 5 => ⟨S7168x2048, .f32⟩
  | 6 => ⟨S43008x2048, .f32⟩
  | 7 => ⟨S43008x2048, .f32⟩
  | 8 => ⟨S43008x2048, .f32⟩
  | 9 => ⟨S43008x2048, .f32⟩
  | _ => ⟨S42, .i32⟩

abbrev hbmTy (i : Nat) : BufTy := match i / 128 with
  | 0 => hbmTy0_0 i
  | 1 => hbmTy0_1 i
  | _ => ⟨S42, .i32⟩

abbrev bufTy : (tb : Table) → Fin (tcTables nBuf tb) → BufTy
  | .hbm, ⟨i, _⟩ => hbmTy i
  | _, _ => ⟨S42, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_c_1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_3 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_4 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_5 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_6 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_7 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_c_8 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel3.lean ====
abbrev S588 : Shape := ⟨1, ![588]⟩
abbrev S42 : Shape := ⟨1, ![42]⟩
abbrev S1 : Shape := ⟨1, ![1]⟩
abbrev S43008x1024 : Shape := ⟨2, ![43008, 1024]⟩
abbrev S8x2048x7168 : Shape := ⟨3, ![8, 2048, 7168]⟩
abbrev S8x7168x2048 : Shape := ⟨3, ![8, 7168, 2048]⟩
abbrev S57344x2048 : Shape := ⟨2, ![57344, 2048]⟩
abbrev S43008x7168 : Shape := ⟨2, ![43008, 7168]⟩
abbrev S1024x1024 : Shape := ⟨2, ![1024, 1024]⟩
abbrev S1x2048x512 : Shape := ⟨3, ![1, 2048, 512]⟩
abbrev S224x2048 : Shape := ⟨2, ![224, 2048]⟩
abbrev S1024x512 : Shape := ⟨2, ![1024, 512]⟩
abbrev S2048x512 : Shape := ⟨2, ![2048, 512]⟩
abbrev S1024x2048 : Shape := ⟨2, ![1024, 2048]⟩

abbrev nBuf : Space → Nat
  | .hbm => 9
  | .vmem => 14
  | .smem => 5
  | _ => 0

abbrev bufTy : (tb : Table) → Fin (tcTables nBuf tb) → BufTy
  | .hbm, ⟨0, _⟩ => ⟨S42, .i32⟩
  | .hbm, ⟨1, _⟩ => ⟨S1, .i32⟩
  | .hbm, ⟨2, _⟩ => ⟨S43008x1024, .i32⟩
  | .hbm, ⟨3, _⟩ => ⟨S8x2048x7168, .f32⟩
  | .hbm, ⟨4, _⟩ => ⟨S8x2048x7168, .f32⟩
  | .hbm, ⟨5, _⟩ => ⟨S8x7168x2048, .f32⟩
  | .hbm, ⟨6, _⟩ => ⟨S57344x2048, .f32⟩
  | .hbm, ⟨7, _⟩ => ⟨S43008x7168, .bf16⟩
  | .hbm, ⟨8, _⟩ => ⟨S57344x2048, .bf16⟩
  | .local _ .vmem, ⟨0, _⟩ => ⟨S1024x1024, .i32⟩
  | .local _ .vmem, ⟨1, _⟩ => ⟨S1024x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S224x2048, .f32⟩
  | .local _ .vmem, ⟨7, _⟩ => ⟨S224x2048, .f32⟩
  | .local _ .vmem, ⟨8, _⟩ => ⟨S1024x512, .bf16⟩
  | .local _ .vmem, ⟨9, _⟩ => ⟨S1024x512, .bf16⟩
  | .local _ .vmem, ⟨10, _⟩ => ⟨S224x2048, .bf16⟩
  | .local _ .vmem, ⟨11, _⟩ => ⟨S224x2048, .bf16⟩
  | .local _ .vmem, ⟨12, _⟩ => ⟨S2048x512, .bf16⟩
  | .local _ .vmem, ⟨13, _⟩ => ⟨S2048x512, .bf16⟩
  | .local _ .smem, ⟨0, _⟩ => ⟨S588, .i32⟩
  | .local _ .smem, ⟨1, _⟩ => ⟨S588, .i32⟩
  | .local _ .smem, ⟨2, _⟩ => ⟨S588, .i32⟩
  | .local _ .smem, ⟨3, _⟩ => ⟨S588, .i32⟩
  | .local _ .smem, ⟨4, _⟩ => ⟨S588, .i32⟩
  | _, _ => ⟨S42, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg5 : Ref sig .tc := ⟨.hbm, 0, rfl⟩
abbrev main_arg6 : Ref sig .tc := ⟨.hbm, 1, rfl⟩
abbrev main_arg7 : Ref sig .tc := ⟨.hbm, 2, rfl⟩
abbrev main_arg8 : Ref sig .tc := ⟨.hbm, 3, rfl⟩
abbrev main_arg9 : Ref sig .tc := ⟨.hbm, 4, rfl⟩
abbrev main_arg10 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev main_arg4 : Ref sig .tc := ⟨.smem, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![588], ![false]⟩

abbrev pre0 : Pipeline.Prefetch sig := ⟨5, ![main_arg0.idx, main_arg1.idx, main_arg2.idx, main_arg3.idx, main_arg4.idx], fun | 0 => main_arg0.names | 1 => main_arg1.names | 2 => main_arg2.names | 3 => main_arg3.names | 4 => main_arg4.names | ⟨_ + 5, h⟩ => absurd h (Nat.not_lt.2 (Nat.le_add_left _ _)), fun | 0 => rfl | 1 => rfl | 2 => rfl | 3 => rfl | 4 => rfl | ⟨_ + 5, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v8 : Index := Scalar.indexCast arg0
  ![v8.toNat]
def k0_off3 (i : grid0.Coords) : Fin 1 → Nat :=
  let arg0 : BitVec 32 := BitVec.ofNat 32 (i 0).val
  let v13 : Index := Scalar.indexCast arg0
  ![v13.toNat]
def k0_cond3 (v9 : BitVec 32) : BitVec 1 :=
  let c0_i32_1 : BitVec 32 := 0#32
  let v10 : BitVec 1 := Scalar.cmpi .sgt v9 c0_i32_1
  let v11 : BitVec 32 := Scalar.extui v10
  let c0_i32_2 : BitVec 32 := 0#32
  let v12 : BitVec 1 := Scalar.cmpi .ne v11 c0_i32_2
  v12

def k0_cond4 (v14 : BitVec 32) : BitVec 1 :=
  let c0_i32_3 : BitVec 32 := 0#32
  let v15 : BitVec 1 := Scalar.cmpi .eq v14 c0_i32_3
  let v16 : BitVec 32 := Scalar.extui v15
  let c0_i32_4 : BitVec 32 := 0#32
  let v17 : BitVec 1 := Scalar.cmpi .ne v16 c0_i32_4
  v17

def k0_cond1 (i : grid0.Coords) : BitVec 1 :=
  let arg0 : BitVec 32 := BitVec.ofNat 32 (i 0).val
  let c256_i32 : BitVec 32 := 256#32
  let v0 : BitVec 1 := Scalar.cmpi .slt arg0 c256_i32
  let v1 : BitVec 32 := Scalar.extui v0
  let c0_i32 : BitVec 32 := 0#32
  let v2 : BitVec 1 := Scalar.cmpi .ne v1 c0_i32
  v2

def cc0_transform_0 (k0_off1_inb : ∀ i : grid0.Coords, ∀ a, (k0_off1 i) a + S1.size a ≤ S588.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S588) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S588.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S588) ![v0.toNat] S1.size (k0_off1_inb i)) numel1_S1
  let v2 : Index := Scalar.indexCast arg0
  let v3 : BitVec 32 := pf.at 2 (Rect.unit (s := S588) ![v2.toNat] S1.size (k0_off1_inb i)) numel1_S1
  let c0_i32 : BitVec 32 := 0#32
  let c0_i32_0 : BitVec 32 := 0#32
  ![v1.toNat, c0_i32.toNat, v3.toNat]

def cc0_transform_2 (k0_off1_inb : ∀ i : grid0.Coords, ∀ a, (k0_off1 i) a + S1.size a ≤ S588.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 3 (Rect.unit (s := S588) ![v0.toNat] S1.size (k0_off1_inb i)) numel1_S1
  let v2 : Index := Scalar.indexCast arg0
  let v3 : BitVec 32 := pf.at 2 (Rect.unit (s := S588) ![v2.toNat] S1.size (k0_off1_inb i)) numel1_S1
  let c0_i32 : BitVec 32 := 0#32
  let c0_i32_0 : BitVec 32 := 0#32
  ![v1.toNat, c0_i32.toNat, v3.toNat]

def cc0_transform_3 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

def cc0_transform_4 (k0_off1_inb : ∀ i : grid0.Coords, ∀ a, (k0_off1 i) a + S1.size a ≤ S588.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S588) ![v0.toNat] S1.size (k0_off1_inb i)) numel1_S1
  let v2 : Index := Scalar.indexCast arg0
  let v3 : BitVec 32 := pf.at 1 (Rect.unit (s := S588) ![v2.toNat] S1.size (k0_off1_inb i)) numel1_S1
  let c0_i32 : BitVec 32 := 0#32
  ![v1.toNat, v3.toNat]

def cc0_transform_5 (i : grid0.Coords) : Fin 2 → Nat :=
  let arg0 : BitVec 32 := BitVec.ofNat 32 (i 0).val
  let c255_i32 : BitVec 32 := 255#32
  let v0 : BitVec 32 := Scalar.minsi arg0 c255_i32
  let c0_i32 : BitVec 32 := 0#32
  let c0_i32_0 : BitVec 32 := 0#32
  ![v0.toNat, c0_i32.toNat]

abbrev stage0_0 : Fin 2 → Memref sig .tc .vmem S1024x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S588 : Shape := ⟨1, ![588]⟩
abbrev S42 : Shape := ⟨1, ![42]⟩
abbrev S1 : Shape := ⟨1, ![1]⟩
abbrev S43008x1024 : Shape := ⟨2, ![43008, 1024]⟩
abbrev S8x2048x7168 : Shape := ⟨3, ![8, 2048, 7168]⟩
abbrev S8x7168x2048 : Shape := ⟨3, ![8, 7168, 2048]⟩
abbrev S43008 : Shape := ⟨1, ![43008]⟩
abbrev S_ : Shape := ⟨0, ![]⟩
abbrev S42x1024 : Shape := ⟨2, ![42, 1024]⟩
abbrev S43008x1024x2 : Shape := ⟨3, ![43008, 1024, 2]⟩
abbrev S43008x1024x1 : Shape := ⟨3, ![43008, 1024, 1]⟩
abbrev S43008x2048 : Shape := ⟨2, ![43008, 2048]⟩
abbrev S43008x7168 : Shape := ⟨2, ![43008, 7168]⟩
abbrev S43008x1 : Shape := ⟨2, ![43008, 1]⟩
abbrev S1x2048x7168 : Shape := ⟨3, ![1, 2048, 7168]⟩
abbrev S2048x7168 : Shape := ⟨2, ![2048, 7168]⟩
abbrev S57344x2048 : Shape := ⟨2, ![57344, 2048]⟩

abbrev nBuf : Space → Nat
  | .hbm => 243
  | .vmem => 0
  | .smem => 0
  | _ => 0

abbrev hbmTy0_0 (i : Nat) : BufTy := match i % 128 with
  | 0 => ⟨S588, .i32⟩
  | 1 => ⟨S588, .i32⟩
  | 2 => ⟨S588, .i32⟩
  | 3 => ⟨S588, .i32⟩
  | 4 => ⟨S588, .i32⟩
  | 5 => ⟨S42, .i32⟩
  | 6 => ⟨S1, .i32⟩
  | 7 => ⟨S43008x1024, .i32⟩
  | 8 => ⟨S8x2048x7168, .f32⟩
  | 9 => ⟨S8x2048x7168, .f32⟩
  | 10 => ⟨S8x7168x2048, .f32⟩
  | 11 => ⟨S43008, .i32⟩
  | 12 => ⟨S_, .i32⟩
  | 13 => ⟨S_, .i32⟩
  | 14 => ⟨S43008, .i32⟩
  | 15 => ⟨S43008, .i32⟩
  | 16 => ⟨S43008, .i32⟩
  | 17 => ⟨S_, .i32⟩
  | 18 => ⟨S43008, .i32⟩
  | 19 => ⟨S43008, .i1⟩
  | 20 => ⟨S43008, .i32⟩
  | 21 => ⟨S43008, .i32⟩
  | 22 => ⟨S_, .i32⟩
  | 23 => ⟨S43008, .i32⟩
  | 24 => ⟨S43008, .i1⟩
  | 25 => ⟨S43008, .i1⟩
  | 26 => ⟨S_, .i32⟩
  | 27 => ⟨S43008, .i32⟩
  | 28 => ⟨S43008, .i32⟩
  | 29 => ⟨S43008, .i32⟩
  | 30 => ⟨S_, .i32⟩
  | 31 => ⟨S43008, .i32⟩
  | 32 => ⟨S43008, .i1⟩
  | 33 => ⟨S42x1024, .i32⟩
  | 34 => ⟨S43008, .i32⟩
  | 35 => ⟨S_, .i32⟩
  | 36 => ⟨S_, .i32⟩
  | 37 => ⟨S43008, .i32⟩
  | 38 => ⟨S43008, .i32⟩
  | 39 => ⟨S43008x1024x2, .bf16⟩
  | 40 => ⟨S43008x1024x2, .f32⟩
  | 41 => ⟨S43008x1024x1, .f32⟩
  | 42 => ⟨S43008x1024, .f32⟩
  | 43 => ⟨S43008x1024x1, .f32⟩
  | 44 => ⟨S43008x1024, .f32⟩
  | 45 => ⟨S43008x2048, .f32⟩
  | 46 => ⟨S_, .f32⟩
  | 47 => ⟨S43008x7168, .f32⟩
  | 48 => ⟨S_, .i32⟩
  | 49 => ⟨S43008, .i32⟩
  | 50 => ⟨S43008, .i1⟩
  | 51 => ⟨S43008x1, .i1⟩
  | 52 => ⟨S43008x1, .f32⟩
  | 53 => ⟨S1x2048x7168, .f32⟩
  | 54 => ⟨S2048x7168, .f32⟩
  | 55 => ⟨S43008x7168, .f32⟩
  | 56 => ⟨S43008x7168, .f32⟩
  | 57 => ⟨S43008x7168, .f32⟩
  | 58 => ⟨S_, .f32⟩
  | 59 => ⟨S43008x7168, .f32⟩
  | 60 => ⟨S43008x7168, .f32⟩
  | 61 => ⟨S_, .f32⟩
  | 62 => ⟨S43008x7168, .f32⟩
  | 63 => ⟨S43008x7168, .f32⟩
  | 64 => ⟨S43008x7168, .f32⟩
  | 65 => ⟨S1x2048x7168, .f32⟩
  | 66 => ⟨S2048x7168, .f32⟩
  | 67 => ⟨S43008x7168, .f32⟩
  | 68 => ⟨S43008x7168, .f32⟩
  | 69 => ⟨S43008x7168, .f32⟩
  | 70 => ⟨S43008x7168, .f32⟩
  | 71 => ⟨S43008x7168, .f32⟩
  | 72 => ⟨S_, .i32⟩
  | 73 => ⟨S43008, .i32⟩
  | 74 => ⟨S43008, .i1⟩
  | 75 => ⟨S43008x1, .i1⟩
  | 76 => ⟨S43008x1, .f32⟩
  | 77 => ⟨S1x2048x7168, .f32⟩
  | 78 => ⟨S2048x7168, .f32⟩
  | 79 => ⟨S43008x7168, .f32⟩
  | 80 => ⟨S43008x7168, .f32⟩
  | 81 => ⟨S43008x7168, .f32⟩
  | 82 => ⟨S_, .f32⟩
  | 83 => ⟨S43008x7168, .f32⟩
  | 84 => ⟨S43008x7168, .f32⟩
  | 85 => ⟨S_, .f32⟩
  | 86 => ⟨S43008x7168, .f32⟩
  | 87 => ⟨S43008x7168, .f32⟩
  | 88 => ⟨S43008x7168, .f32⟩
  | 89 => ⟨S1x2048x7168, .f32⟩
  | 90 => ⟨S2048x7168, .f32⟩
  | 91 => ⟨S43008x7168, .f32⟩
  | 92 => ⟨S43008x7168, .f32⟩
  | 93 => ⟨S43008x7168, .f32⟩
  | 94 => ⟨S43008x7168, .f32⟩
  | 95 => ⟨S43008x7168, .f32⟩
  | 96 => ⟨S_, .i32⟩
  | 97 => ⟨S43008, .i32⟩
  | 98 => ⟨S43008, .i1⟩
  | 99 => ⟨S43008x1, .i1⟩
  | 100 => ⟨S43008x1, .f32⟩
  | 101 => ⟨S1x2048x7168, .f32⟩
  | 102 => ⟨S2048x7168, .f32⟩
  | 103 => ⟨S43008x7168, .f32⟩
  | 104 => ⟨S43008x7168, .f32⟩
  | 105 => ⟨S43008x7168, .f32⟩
  | 106 => ⟨S_, .f32⟩
  | 107 => ⟨S43008x7168, .f32⟩
  | 108 => ⟨S43008x7168, .f32⟩
  | 109 => ⟨S_, .f32⟩
  | 110 => ⟨S43008x7168, .f32⟩
  | 111 => ⟨S43008x7168, .f32⟩
  | 112 => ⟨S43008x7168, .f32⟩
  | 113 => ⟨S1x2048x7168, .f32⟩
  | 114 => ⟨S2048x7168, .f32⟩
  | 115 => ⟨S43008x7168, .f32⟩
  | 116 => ⟨S43008x7168, .f32⟩
  | 117 => ⟨S43008x7168, .f32⟩
  | 118 => ⟨S43008x7168, .f32⟩
  | 119 => ⟨S43008x7168, .f32⟩
  | 120 => ⟨S_, .i32⟩
  | 121 => ⟨S43008, .i32⟩
  | 122 => ⟨S43008, .i1⟩
  | 123 => ⟨S43008x1, .i1⟩
  | 124 => ⟨S43008x1, .f32⟩
  | 125 => ⟨S1x2048x7168, .f32⟩
  | 126 => ⟨S2048x7168, .f32⟩
  | 127 => ⟨S43008x7168, .f32⟩
  | _ => ⟨S588, .i32⟩

abbrev hbmTy0_1 (i : Nat) : BufTy := match i % 128 with
  | 0 => ⟨S43008x7168, .f32⟩
  | 1 => ⟨S43008x7168, .f32⟩
  | 2 => ⟨S_, .f32⟩
  | 3 => ⟨S43008x7168, .f32⟩
  | 4 => ⟨S43008x7168, .f32⟩
  | 5 => ⟨S_, .f32⟩
  | 6 => ⟨S43008x7168, .f32⟩
  | 7 => ⟨S43008x7168, .f32⟩
  | 8 => ⟨S43008x7168, .f32⟩
  | 9 => ⟨S1x2048x7168, .f32⟩
  | 10 => ⟨S2048x7168, .f32⟩
  | 11 => ⟨S43008x7168, .f32⟩
  | 12 => ⟨S43008x7168, .f32⟩
  | 13 => ⟨S43008x7168, .f32⟩
  | 14 => ⟨S43008x7168, .f32⟩
  | 15 => ⟨S43008x7168, .f32⟩
  | 16 => ⟨S_, .i32⟩
  | 17 => ⟨S43008, .i32⟩
  | 18 => ⟨S43008, .i1⟩
  | 19 => ⟨S43008x1, .i1⟩
  | 20 => ⟨S43008x1, .f32⟩
  | 21 => ⟨S1x2048x7168, .f32⟩
  | 22 => ⟨S2048x7168, .f32⟩
  | 23 => ⟨S43008x7168, .f32⟩
  | 24 => ⟨S43008x7168, .f32⟩
  | 25 => ⟨S43008x7168, .f32⟩
  | 26 => ⟨S_, .f32⟩
  | 27 => ⟨S43008x7168, .f32⟩
  | 28 => ⟨S43008x7168, .f32⟩
  | 29 => ⟨S_, .f32⟩
  | 30 => ⟨S43008x7168, .f32⟩
  | 31 => ⟨S43008x7168, .f32⟩
  | 32 => ⟨S43008x7168, .f32⟩
  | 33 => ⟨S1x2048x7168, .f32⟩
  | 34 => ⟨S2048x7168, .f32⟩
  | 35 => ⟨S43008x7168, .f32⟩
  | 36 => ⟨S43008x7168, .f32⟩
  | 37 => ⟨S43008x7168, .f32⟩
  | 38 => ⟨S43008x7168, .f32⟩
  | 39 => ⟨S43008x7168, .f32⟩
  | 40 => ⟨S_, .i32⟩
  | 41 => ⟨S43008, .i32⟩
  | 42 => ⟨S43008, .i1⟩
  | 43 => ⟨S43008x1, .i1⟩
  | 44 => ⟨S43008x1, .f32⟩
  | 45 => ⟨S1x2048x7168, .f32⟩
  | 46 => ⟨S2048x7168, .f32⟩
  | 47 => ⟨S43008x7168, .f32⟩
  | 48 => ⟨S43008x7168, .f32⟩
  | 49 => ⟨S43008x7168, .f32⟩
  | 50 => ⟨S_, .f32⟩
  | 51 => ⟨S43008x7168, .f32⟩
  | 52 => ⟨S43008x7168, .f32⟩
  | 53 => ⟨S_, .f32⟩
  | 54 => ⟨S43008x7168, .f32⟩
  | 55 => ⟨S43008x7168, .f32⟩
  | 56 => ⟨S43008x7168, .f32⟩
  | 57 => ⟨S1x2048x7168, .f32⟩
  | 58 => ⟨S2048x7168, .f32⟩
  | 59 => ⟨S43008x7168, .f32⟩
  | 60 => ⟨S43008x7168, .f32⟩
  | 61 => ⟨S43008x7168, .f32⟩
  | 62 => ⟨S43008x7168, .f32⟩
  | 63 => ⟨S43008x7168, .f32⟩
  | 64 => ⟨S_, .i32⟩
  | 65 => ⟨S43008, .i32⟩
  | 66 => ⟨S43008, .i1⟩
  | 67 => ⟨S43008x1, .i1⟩
  | 68 => ⟨S43008x1, .f32⟩
  | 69 => ⟨S1x2048x7168, .f32⟩
  | 70 => ⟨S2048x7168, .f32⟩
  | 71 => ⟨S43008x7168, .f32⟩
  | 72 => ⟨S43008x7168, .f32⟩
  | 73 => ⟨S43008x7168, .f32⟩
  | 74 => ⟨S_, .f32⟩
  | 75 => ⟨S43008x7168, .f32⟩
  | 76 => ⟨S43008x7168, .f32⟩
  | 77 => ⟨S_, .f32⟩
  | 78 => ⟨S43008x7168, .f32⟩
  | 79 => ⟨S43008x7168, .f32⟩
  | 80 => ⟨S43008x7168, .f32⟩
  | 81 => ⟨S1x2048x7168, .f32⟩
  | 82 => ⟨S2048x7168, .f32⟩
  | 83 => ⟨S43008x7168, .f32⟩
  | 84 => ⟨S43008x7168, .f32⟩
  | 85 => ⟨S43008x7168, .f32⟩
  | 86 => ⟨S43008x7168, .f32⟩
  | 87 => ⟨S43008x7168, .f32⟩
  | 88 => ⟨S_, .i32⟩
  | 89 => ⟨S43008, .i32⟩
  | 90 => ⟨S43008, .i1⟩
  | 91 => ⟨S43008x1, .i1⟩
  | 92 => ⟨S43008x1, .f32⟩
  | 93 => ⟨S1x2048x7168, .f32⟩
  | 94 => ⟨S2048x7168, .f32⟩
  | 95 => ⟨S43008x7168, .f32⟩
  | 96 => ⟨S43008x7168, .f32⟩
  | 97 => ⟨S43008x7168, .f32⟩
  | 98 => ⟨S_, .f32⟩
  | 99 => ⟨S43008x7168, .f32⟩
  | 100 => ⟨S43008x7168, .f32⟩
  | 101 => ⟨S_, .f32⟩
  | 102 => ⟨S43008x7168, .f32⟩
  | 103 => ⟨S43008x7168, .f32⟩
  | 104 => ⟨S43008x7168, .f32⟩
  | 105 => ⟨S1x2048x7168, .f32⟩
  | 106 => ⟨S2048x7168, .f32⟩
  | 107 => ⟨S43008x7168, .f32⟩
  | 108 => ⟨S43008x7168, .f32⟩
  | 109 => ⟨S43008x7168, .f32⟩
  | 110 => ⟨S43008x7168, .f32⟩
  | 111 => ⟨S43008x7168, .f32⟩
  | 112 => ⟨S43008x7168, .bf16⟩
  | 113 => ⟨S57344x2048, .f32⟩
  | 114 => ⟨S57344x2048, .bf16⟩
  | _ => ⟨S588, .i32⟩

abbrev hbmTy (i : Nat) : BufTy := match i / 128 with
  | 0 => hbmTy0_0 i
  | 1 => hbmTy0_1 i
  | _ => ⟨S588, .i32⟩

abbrev bufTy : (tb : Table) → Fin (tcTables nBuf tb) → BufTy
  | .hbm, ⟨i, _⟩ => hbmTy i
  | _, _ => ⟨S588, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_c_0 : Ref sig .tc := ⟨.hbm, 35, rfl⟩
abbrev main_call1_v0 : Ref sig .tc := ⟨.hbm, 36, rfl⟩
abbrev main_call1_v1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_cst : Ref sig .tc := ⟨.hbm, 46, rfl⟩
abbrev main_v15 : Ref sig .tc := ⟨.hbm, 47, rfl⟩
abbrev main_c_1 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call2_v0 : Ref sig .tc := ⟨.hbm, 56, rfl⟩
abbrev main_call2_v1 : Ref sig .tc := ⟨.hbm, 57, rfl⟩
abbrev main_call2_cst : Ref sig .tc := ⟨.hbm, 58, rfl⟩
abbrev main_call2_v2 : Ref sig .tc := ⟨.hbm, 59, rfl⟩
abbrev main_call2_v3 : Ref sig .tc := ⟨.hbm, 60, rfl⟩
abbrev main_call2_cst_0 : Ref sig .tc := ⟨.hbm, 61, rfl⟩
abbrev main_call2_v4 : Ref sig .tc := ⟨.hbm, 62, rfl⟩
abbrev main_call2_v5 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_2 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_c_3 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_call4_v0 : Ref sig .tc := ⟨.hbm, 104, rfl⟩
abbrev main_call4_v1 : Ref sig .tc := ⟨.hbm, 105, rfl⟩
abbrev main_call4_cst : Ref sig .tc := ⟨.hbm, 106, rfl⟩
abbrev main_call4_v2 : Ref sig .tc := ⟨.hbm, 107, rfl⟩
abbrev main_call4_v3 : Ref sig .tc := ⟨.hbm, 108, rfl⟩
abbrev main_call4_cst_0 : Ref sig .tc := ⟨.hbm, 109, rfl⟩
abbrev main_call4_v4 : Ref sig .tc := ⟨.hbm, 110, rfl⟩
abbrev main_call4_v5 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_c_4 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_c_5 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v81 : Ref sig .tc := ⟨.hbm, 150, rfl⟩
abbrev main_v82 : Ref sig .tc := ⟨.hbm, 151, rfl⟩
abbrev main_call6_v0 : Ref sig .tc := ⟨.hbm, 152, rfl⟩
abbrev main_call6_v1 : Ref sig .tc := ⟨.hbm, 153, rfl⟩
abbrev main_call6_cst : Ref sig .tc := ⟨.hbm, 154, rfl⟩
abbrev main_call6_v2 : Ref sig .tc := ⟨.hbm, 155, rfl⟩
abbrev main_call6_v3 : Ref sig .tc := ⟨.hbm, 156, rfl⟩
abbrev main_call6_cst_0 : Ref sig .tc := ⟨.hbm, 157, rfl⟩
abbrev main_call6_v4 : Ref sig .tc := ⟨.hbm, 158, rfl⟩
abbrev main_call6_v5 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_v88 : Ref sig .tc := ⟨.hbm, 165, rfl⟩
abbrev main_v89 : Ref sig .tc := ⟨.hbm, 166, rfl⟩
abbrev main_v90 : Ref sig .tc := ⟨.hbm, 167, rfl⟩
abbrev main_c_6 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_v95 : Ref sig .tc := ⟨.hbm, 173, rfl⟩
abbrev main_v96 : Ref sig .tc := ⟨.hbm, 174, rfl⟩
abbrev main_v97 : Ref sig .tc := ⟨.hbm, 175, rfl⟩
abbrev main_call7_v0 : Ref sig .tc := ⟨.hbm, 176, rfl⟩
abbrev main_call7_v1 : Ref sig .tc := ⟨.hbm, 177, rfl⟩
abbrev main_call7_cst : Ref sig .tc := ⟨.hbm, 178, rfl⟩
abbrev main_call7_v2 : Ref sig .tc := ⟨.hbm, 179, rfl⟩
abbrev main_call7_v3 : Ref sig .tc := ⟨.hbm, 180, rfl⟩
abbrev main_call7_cst_0 : Ref sig .tc := ⟨.hbm, 181, rfl⟩
abbrev main_call7_v4 : Ref sig .tc := ⟨.hbm, 182, rfl⟩
abbrev main_call7_v5 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_v102 : Ref sig .tc := ⟨.hbm, 188, rfl⟩
abbrev main_v103 : Ref sig .tc := ⟨.hbm, 189, rfl⟩
abbrev main_v104 : Ref sig .tc := ⟨.hbm, 190, rfl⟩
abbrev main_v105 : Ref sig .tc := ⟨.hbm, 191, rfl⟩
abbrev main_c_7 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_call8_v0 : Ref sig .tc := ⟨.hbm, 200, rfl⟩
abbrev main_call8_v1 : Ref sig .tc := ⟨.hbm, 201, rfl⟩
abbrev main_call8_cst : Ref sig .tc := ⟨.hbm, 202, rfl⟩
abbrev main_call8_v2 : Ref sig .tc := ⟨.hbm, 203, rfl⟩
abbrev main_call8_v3 : Ref sig .tc := ⟨.hbm, 204, rfl⟩
abbrev main_call8_cst_0 : Ref sig .tc := ⟨.hbm, 205, rfl⟩
abbrev main_call8_v4 : Ref sig .tc := ⟨.hbm, 206, rfl⟩
abbrev main_call8_v5 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_c_8 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_v124 : Ref sig .tc := ⟨.hbm, 220, rfl⟩
abbrev main_v125 : Ref sig .tc := ⟨.hbm, 221, rfl⟩
abbrev main_v126 : Ref sig .tc := ⟨.hbm, 222, rfl⟩
abbrev main_v127 : Ref sig .tc := ⟨.hbm, 223, rfl⟩
abbrev main_call9_v0 : Ref sig .tc := ⟨.hbm, 224, rfl⟩
abbrev main_call9_v1 : Ref sig .tc := ⟨.hbm, 225, rfl⟩
abbrev main_call9_cst : Ref sig .tc := ⟨.hbm, 226, rfl⟩
abbrev main_call9_v2 : Ref sig .tc := ⟨.hbm, 227, rfl⟩
abbrev main_call9_v3 : Ref sig .tc := ⟨.hbm, 228, rfl⟩
abbrev main_call9_cst_0 : Ref sig .tc := ⟨.hbm, 229, rfl⟩
abbrev main_call9_v4 : Ref sig .tc := ⟨.hbm, 230, rfl⟩
abbrev main_call9_v5 : Ref sig .tc := ⟨.hbm, 231, rfl⟩
abbrev main_v128 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩

abbrev nD : Nat := 1
abbrev τ : Topo := Topo.v7x

variable {F : FTy → Type} [FloatOps F]
-- ==== Kernel4.lean ====
abbrev S17408x2048 : Shape := ⟨2, ![17408, 2048]⟩
abbrev S2048x5632 : Shape := ⟨2, ![2048, 5632]⟩
abbrev S17408x5632 : Shape := ⟨2, ![17408, 5632]⟩
abbrev S1088x2048 : Shape := ⟨2, ![1088, 2048]⟩
abbrev S2048x512 : Shape := ⟨2, ![2048, 512]⟩
abbrev S1088x512 : Shape := ⟨2, ![1088, 512]⟩

abbrev nBuf : Space → Nat
  | .hbm => 6
  | .vmem => 8
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S2048x5632, .bf16⟩
  | .hbm, ⟨4, _⟩ => ⟨S2048x5632, .bf16⟩
  | .hbm, ⟨5, _⟩ => ⟨S17408x5632, .bf16⟩
  | .local _ .vmem, ⟨0, _⟩ => ⟨S1088x2048, .bf16⟩
  | .local _ .vmem, ⟨1, _⟩ => ⟨S1088x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S1088x512, .bf16⟩
  | .local _ .vmem, ⟨7, _⟩ => ⟨S1088x512, .bf16⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S17408x2048 : Shape := ⟨2, ![17408, 2048]⟩
abbrev S2048x5632 : Shape := ⟨2, ![2048, 5632]⟩
abbrev S17408x5632 : Shape := ⟨2, ![17408, 5632]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x5632, .f32⟩
  | .hbm, ⟨2, _⟩ => ⟨S2048x5632, .f32⟩
  | .hbm, ⟨3, _⟩ => ⟨S17408x2048, .f32⟩
  | .hbm, ⟨4, _⟩ => ⟨S17408x5632, .f32⟩
  | .hbm, ⟨5, _⟩ => ⟨S17408x5632, .f32⟩
  | .hbm, ⟨6, _⟩ => ⟨S17408x5632, .f32⟩
  | .hbm, ⟨7, _⟩ => ⟨S_, .f32⟩
  | .hbm, ⟨8, _⟩ => ⟨S17408x5632, .f32⟩
  | .hbm, ⟨9, _⟩ => ⟨S17408x5632, .f32⟩
  | .hbm, ⟨10, _⟩ => ⟨S_, .f32⟩
  | .hbm, ⟨11, _⟩ => ⟨S17408x5632, .f32⟩
  | .hbm, ⟨12, _⟩ => ⟨S17408x5632, .f32⟩
  | .hbm, ⟨13, _⟩ => ⟨S17408x5632, .f32⟩
  | .hbm, ⟨14, _⟩ => ⟨S17408x5632, .f32⟩
  | .hbm, ⟨15, _⟩ => ⟨S17408x5632, .f32⟩
  | .hbm, ⟨16, _⟩ => ⟨S17408x5632, .bf16⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel5.lean ====
abbrev S17408x2048 : Shape := ⟨2, ![17408, 2048]⟩
abbrev S2048 : Shape := ⟨1, ![2048]⟩
abbrev S1x2048 : Shape := ⟨2, ![1, 2048]⟩
abbrev S16384x2048 : Shape := ⟨2, ![16384, 2048]⟩
abbrev S1024x2048 : Shape := ⟨2, ![1024, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S1x2048, .f32⟩
  | .hbm, ⟨3, _⟩ => ⟨S16384x2048, .f32⟩
  | .hbm, ⟨4, _⟩ => ⟨S1024x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c32_i32 : BitVec 32 := 32#32
  let v15 : BitVec 1 := Scalar.cmpi .slt arg0 c32_i32
  let v16 : BitVec 32 := Scalar.extui v15
  let c0_i32 : BitVec 32 := 0#32
  let v17 : BitVec 1 := Scalar.cmpi .ne v16 c0_i32
  v17

def k0_cond2 (i : grid0.Coords) : BitVec 1 :=
  let arg0 : BitVec 32 := BitVec.ofNat 32 (i 0).val
  let c32_i32_5 : BitVec 32 := 32#32
  let v18 : BitVec 1 := Scalar.cmpi .sge arg0 c32_i32_5
  let v19 : BitVec 32 := Scalar.extui v18
  let c0_i32_6 : BitVec 32 := 0#32
  let v20 : BitVec 1 := Scalar.cmpi .ne v19 c0_i32_6
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S17408x2048 : Shape := ⟨2, ![17408, 2048]⟩
abbrev S2048 : Shape := ⟨1, ![2048]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S16384x2048 : Shape := ⟨2, ![16384, 2048]⟩
abbrev S1024x2048 : Shape := ⟨2, ![1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S17408x2048, .f32⟩
  | .hbm, ⟨3, _⟩ => ⟨S_, .f32⟩
  | .hbm, ⟨4, _⟩ => ⟨S17408, .f32⟩
  | .hbm, ⟨5, _⟩ => ⟨S17408x1, .f32⟩
  | .hbm, ⟨6, _⟩ => ⟨S_, .f32⟩
  | .hbm, ⟨7, _⟩ => ⟨S17408x1, .f32⟩
  | .hbm, ⟨8, _⟩ => ⟨S17408x1, .f32⟩
  | .hbm, ⟨9, _⟩ => ⟨S_, .f32⟩
  | .hbm, ⟨10, _⟩ => ⟨S17408x1, .f32⟩
  | .hbm, ⟨11, _⟩ => ⟨S17408x1, .f32⟩
  | .hbm, ⟨12, _⟩ => ⟨S17408x1, .f32⟩
  | .hbm, ⟨13, _⟩ => ⟨S17408x2048, .f32⟩
  | .hbm, ⟨14, _⟩ => ⟨S17408x2048, .f32⟩
  | .hbm, ⟨15, _⟩ => ⟨S1x2048, .f32⟩
  | .hbm, ⟨16, _⟩ => ⟨S17408x2048, .f32⟩
  | .hbm, ⟨17, _⟩ => ⟨S17408x2048, .f32⟩
  | .hbm, ⟨18, _⟩ => ⟨S16384x2048, .f32⟩
  | .hbm, ⟨19, _⟩ => ⟨S1024x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel6.lean ====
abbrev S17408x2048 : Shape := ⟨2, ![17408, 2048]⟩
abbrev S2048x6152 : Shape := ⟨2, ![2048, 6152]⟩
abbrev S2048x5120 : Shape := ⟨2, ![2048, 5120]⟩
abbrev S2048x1024 : Shape := ⟨2, ![2048, 1024]⟩
abbrev S2048x6144 : Shape := ⟨2, ![2048, 6144]⟩
abbrev S2048x8 : Shape := ⟨2, ![2048, 8]⟩
abbrev S_ : Shape := ⟨0, ![]⟩
abbrev S2048x120 : Shape := ⟨2, ![2048, 120]⟩
abbrev S2048x128 : Shape := ⟨2, ![2048, 128]⟩
abbrev S17408x6144 : Shape := ⟨2, ![17408, 6144]⟩
abbrev S17408x128 : Shape := ⟨2, ![17408, 128]⟩
abbrev S1088x2048 : Shape := ⟨2, ![1088, 2048]⟩
abbrev S1088x1024 : Shape := ⟨2, ![1088, 1024]⟩
abbrev S1088x128 : Shape := ⟨2, ![1088, 128]⟩

abbrev nBuf : Space → Nat
  | .hbm => 13
  | .vmem => 9
  | .smem => 0
  | _ => 0

abbrev bufTy : (tb : Table) → Fin (tcTables nBuf tb) → BufTy
  | .hbm, ⟨0, _⟩ => ⟨S17408x2048, .bf16⟩
  | .hbm, ⟨1, _⟩ => ⟨S2048x6152, .f32⟩
  | .hbm, ⟨2, _⟩ => ⟨S2048x5120, .f32⟩
  | .hbm, ⟨3, _⟩ => ⟨S2048x1024, .f32⟩
  | .hbm, ⟨4, _⟩ => ⟨S2048x6144, .f32⟩
  | .hbm, ⟨5, _⟩ => ⟨S2048x6144, .bf16⟩
  | .hbm, ⟨6, _⟩ => ⟨S2048x8, .f32⟩
  | .hbm, ⟨7, _⟩ => ⟨S_, .f32⟩
  | .hbm, ⟨8, _⟩ => ⟨S2048x120, .f32⟩
  | .hbm, ⟨9, _⟩ => ⟨S2048x128, .f32⟩
  | .hbm, ⟨10, _⟩ => ⟨S2048x128, .bf16⟩
  | .hbm, ⟨11, _⟩ => ⟨S17408x6144, .f32⟩
  | .hbm, ⟨12, _⟩ => ⟨S17408x128, .f32⟩
  | .local _ .vmem, ⟨0, _⟩ => ⟨S1088x2048, .bf16⟩
  | .local _ .vmem, ⟨1, _⟩ => ⟨S1088x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x128, .bf16⟩
  | .local _ .vmem, ⟨5, _⟩ => ⟨S1088x1024, .f32⟩
  | .local _ .vmem, ⟨6, _⟩ => ⟨S1088x1024, .f32⟩
  | .local _ .vmem, ⟨7, _⟩ => ⟨S1088x128, .f32⟩
  | .local _ .vmem, ⟨8, _⟩ => ⟨S1088x128, .f32⟩
  | _, _ => ⟨S17408x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1088x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference6Ideal.lean ====
abbrev S17408x2048 : Shape := ⟨2, ![17408, 2048]⟩
abbrev S2048x6152 : Shape := ⟨2, ![2048, 6152]⟩
abbrev S17408x6152 : Shape := ⟨2, ![17408, 6152]⟩
abbrev S17408x5120 : Shape := ⟨2, ![17408, 5120]⟩
abbrev S17408x1024 : Shape := ⟨2, ![17408, 1024]⟩
abbrev S17408x6144 : Shape := ⟨2, ![17408, 6144]⟩
abbrev S17408x8 : Shape := ⟨2, ![17408, 8]⟩
abbrev S_ : Shape := ⟨0, ![]⟩
abbrev S17408x120 : Shape := ⟨2, ![17408, 120]⟩
abbrev S17408x128 : Shape := ⟨2, ![17408, 128]⟩

abbrev nBuf : Space → Nat
  | .hbm => 11
  | .vmem => 0
  | .smem => 0
  | _ => 0

abbrev bufTy : (tb : Table) → Fin (tcTables nBuf tb) → BufTy
  | .hbm, ⟨0, _⟩ => ⟨S17408x2048, .bf16⟩
  | .hbm, ⟨1, _⟩ => ⟨S2048x6152, .f32⟩
  | .hbm, ⟨2, _⟩ => ⟨S17408x2048, .f32⟩
  | .hbm, ⟨3, _⟩ => ⟨S17408x6152, .f32⟩
  | .hbm, ⟨4, _⟩ => ⟨S17408x5120, .f32⟩
  | .hbm, ⟨5, _⟩ => ⟨S17408x1024, .f32⟩
  | .hbm, ⟨6, _⟩ => ⟨S17408x6144, .f32⟩
  | .hbm, ⟨7, _⟩ => ⟨S17408x8, .f32⟩
  | .hbm, ⟨8, _⟩ => ⟨S_, .f32⟩
  | .hbm, ⟨9, _⟩ => ⟨S17408x120, .f32⟩
  | .hbm, ⟨10, _⟩ => ⟨S17408x128, .f32⟩
  | _, _ => ⟨S17408x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S17408x5632 : Shape := ⟨2, ![17408, 5632]⟩
abbrev S5632x2048 : Shape := ⟨2, ![5632, 2048]⟩
abbrev S17408x2048 : Shape := ⟨2, ![17408, 2048]⟩
abbrev S136x12288 : Shape := ⟨2, ![136, 12288]⟩
abbrev S8x12288 : Shape := ⟨2, ![8, 12288]⟩
abbrev S8x6x2048 : Shape := ⟨3, ![8, 6, 2048]⟩
abbrev S6x8x2048 : Shape := ⟨3, ![6, 8, 2048]⟩
abbrev S6x8x1x2048 : Shape := ⟨4, ![6, 8, 1, 2048]⟩
abbrev S128x12288 : Shape := ⟨2, ![128, 12288]⟩
abbrev S128x6x2048 : Shape := ⟨3, ![128, 6, 2048]⟩
abbrev S6x128x2048 : Shape := ⟨3, ![6, 128, 2048]⟩
abbrev S1024x5632 : Shape := ⟨2, ![1024, 5632]⟩
abbrev S5632x256 : Shape := ⟨2, ![5632, 256]⟩
abbrev S1024x256 : Shape := ⟨2, ![1024, 256]⟩
abbrev S1x1x1x256 : Shape := ⟨4, ![1, 1, 1, 256]⟩
abbrev S1x128x256 : Shape := ⟨3, ![1, 128, 256]⟩
abbrev S1x256 : Shape := ⟨2, ![1, 256]⟩
abbrev S128x256 : Shape := ⟨2, ![128, 256]⟩
abbrev S128x8x256 : Shape := ⟨3, ![128, 8, 256]⟩
abbrev S128x1x256 : Shape := ⟨3, ![128, 1, 256]⟩

abbrev nBuf : Space → Nat
  | .hbm => 13
  | .vmem => 15
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S136x12288, .f32⟩
  | .hbm, ⟨4, _⟩ => ⟨S8x12288, .f32⟩
  | .hbm, ⟨5, _⟩ => ⟨S8x6x2048, .f32⟩
  | .hbm, ⟨6, _⟩ => ⟨S6x8x2048, .f32⟩
  | .hbm, ⟨7, _⟩ => ⟨S6x8x1x2048, .f32⟩
  | .hbm, ⟨8, _⟩ => ⟨S128x12288, .f32⟩
  | .hbm, ⟨9, _⟩ => ⟨S128x6x2048, .f32⟩
  | .hbm, ⟨10, _⟩ => ⟨S6x128x2048, .f32⟩
  | .hbm, ⟨11, _⟩ => ⟨S5632x2048, .bf16⟩
  | .hbm, ⟨12, _⟩ => ⟨S17408x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x256, .bf16⟩
  | .local _ .vmem, ⟨3, _⟩ => ⟨S5632x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1x1x1x256, .f32⟩
  | .local _ .vmem, ⟨9, _⟩ => ⟨S1x1x1x256, .f32⟩
  | .local _ .vmem, ⟨10, _⟩ => ⟨S1x128x256, .f32⟩
  | .local _ .vmem, ⟨11, _⟩ => ⟨S1x128x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | _, _ => ⟨S17408x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![17, 8, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def k0_cond4 (i : grid0.Coords) : BitVec 1 :=
  let arg0 : BitVec 32 := BitVec.ofNat 32 (i 0).val
  let c16_i32 : BitVec 32 := 16#32
  let v14 : BitVec 1 := Scalar.cmpi .slt arg0 c16_i32
  let v15 : BitVec 32 := Scalar.extui v14
  let c0_i32_10 : BitVec 32 := 0#32
  let v16 : BitVec 1 := Scalar.cmpi .ne v15 c0_i32_10
  v16

def k0_cond5 (i : grid0.Coords) : BitVec 1 :=
  let arg0 : BitVec 32 := BitVec.ofNat 32 (i 0).val
  let c16_i32_11 : BitVec 32 := 16#32
  let v17 : BitVec 1 := Scalar.cmpi .sge arg0 c16_i32_11
  let v18 : BitVec 32 := Scalar.extui v17
  let c0_i32_12 : BitVec 32 := 0#32
  let v19 : BitVec 1 := Scalar.cmpi .ne v18 c0_i32_12
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c15_i32 : BitVec 32 := 15#32
  let v0 : BitVec 32 := Scalar.minsi arg0 c15_i32
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.maxsi arg0 c16_i32
  let c0_i32 : BitVec 32 := 0#32
  ![v0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c5_i32 : BitVec 32 := 5#32
  let c0_i32_4 : BitVec 32 := 0#32
  let c0_i32_5 : BitVec 32 := 0#32
  ![c5_i32.toNat, v17.toNat, c0_i32_4.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.subi arg0 c16_i32
  let c0_i32 : BitVec 32 := 0#32
  let v1 : BitVec 32 := Scalar.maxsi v0 c0_i32
  let c5_i32 : BitVec 32 := 5#32
  let c0_i32_0 : BitVec 32 := 0#32
  ![c5_i32.toNat, v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== Reference7Ideal.lean ====
abbrev S17408x5632 : Shape := ⟨2, ![17408, 5632]⟩
abbrev S5632x2048 : Shape := ⟨2, ![5632, 2048]⟩
abbrev S17408x2048 : Shape := ⟨2, ![17408, 2048]⟩
abbrev S136x12288 : Shape := ⟨2, ![136, 12288]⟩
abbrev S136x2048 : Shape := ⟨2, ![136, 2048]⟩
abbrev S8x2048 : Shape := ⟨2, ![8, 2048]⟩
abbrev S8x2048x2048 : Shape := ⟨3, ![8, 2048, 2048]⟩
abbrev S16384x2048 : Shape := ⟨2, ![16384, 2048]⟩
abbrev S128x2048 : Shape := ⟨2, ![128, 2048]⟩
abbrev S128x8x2048 : Shape := ⟨3, ![128, 8, 2048]⟩
abbrev S1024x2048 : Shape := ⟨2, ![1024, 2048]⟩

abbrev nBuf : Space → Nat
  | .hbm => 16
  | .vmem => 0
  | .smem => 0
  | _ => 0

abbrev bufTy : (tb : Table) → Fin (tcTables nBuf tb) → BufTy
  | .hbm, ⟨0, _⟩ => ⟨S17408x5632, .bf16⟩
  | .hbm, ⟨1, _⟩ => ⟨S5632x2048, .f32⟩
  | .hbm, ⟨2, _⟩ => ⟨S17408x2048, .f32⟩
  | .hbm, ⟨3, _⟩ => ⟨S136x12288, .f32⟩
  | .hbm, ⟨4, _⟩ => ⟨S136x2048, .f32⟩
  | .hbm, ⟨5, _⟩ => ⟨S8x2048, .f32⟩
  | .hbm, ⟨6, _⟩ => ⟨S8x2048x2048, .f32⟩
  | .hbm, ⟨7, _⟩ => ⟨S16384x2048, .f32⟩
  | .hbm, ⟨8, _⟩ => ⟨S128x2048, .f32⟩
  | .hbm, ⟨9, _⟩ => ⟨S128x8x2048, .f32⟩
  | .hbm, ⟨10, _⟩ => ⟨S1024x2048, .f32⟩
  | .hbm, ⟨11, _⟩ => ⟨S17408x2048, .f32⟩
  | .hbm, ⟨12, _⟩ => ⟨S17408x5632, .f32⟩
  | .hbm, ⟨13, _⟩ => ⟨S17408x2048, .f32⟩
  | .hbm, ⟨14, _⟩ => ⟨S17408x2048, .f32⟩
  | .hbm, ⟨15, _⟩ => ⟨S17408x2048, .f32⟩
  | _, _ => ⟨S17408x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel8.lean ====
abbrev S16384x512 : Shape := ⟨2, ![16384, 512]⟩
abbrev S1024x512 : Shape := ⟨2, ![1024, 512]⟩
abbrev S2048x2048 : Shape := ⟨2, ![2048, 2048]⟩
abbrev S16384x2048 : Shape := ⟨2, ![16384, 2048]⟩
abbrev S1024x2048 : Shape := ⟨2, ![1024, 2048]⟩
abbrev S136x12288 : Shape := ⟨2, ![136, 12288]⟩
abbrev S8x12288 : Shape := ⟨2, ![8, 12288]⟩
abbrev S8x6x2048 : Shape := ⟨3, ![8, 6, 2048]⟩
abbrev S6x8x2048 : Shape := ⟨3, ![6, 8, 2048]⟩
abbrev S6x8x1x2048 : Shape := ⟨4, ![6, 8, 1, 2048]⟩
abbrev S128x12288 : Shape := ⟨2, ![128, 12288]⟩
abbrev S128x6x2048 : Shape := ⟨3, ![128, 6, 2048]⟩
abbrev S6x128x2048 : Shape := ⟨3, ![6, 128, 2048]⟩
abbrev S17408x2048 : Shape := ⟨2, ![17408, 2048]⟩
abbrev S2048x1024 : Shape := ⟨2, ![2048, 1024]⟩
abbrev S1024x1024 : Shape := ⟨2, ![1024, 1024]⟩
abbrev S1x1x1x1024 : Shape := ⟨4, ![1, 1, 1, 1024]⟩
abbrev S1x128x1024 : Shape := ⟨3, ![1, 128, 1024]⟩
abbrev S512x1024 : Shape := ⟨2, ![512, 1024]⟩
abbrev S1x1024 : Shape := ⟨2, ![1, 1024]⟩
abbrev S128x1024 : Shape := ⟨2, ![128, 1024]⟩
abbrev S128x8x1024 : Shape := ⟨3, ![128, 8, 1024]⟩
abbrev S128x1x1024 : Shape := ⟨3, ![128, 1, 1024]⟩

abbrev nBuf : Space → Nat
  | .hbm => 21
  | .vmem => 28
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x512, .bf16⟩
  | .hbm, ⟨5, _⟩ => ⟨S1024x512, .bf16⟩
  | .hbm, ⟨6, _⟩ => ⟨S16384x512, .bf16⟩
  | .hbm, ⟨7, _⟩ => ⟨S1024x512, .bf16⟩
  | .hbm, ⟨8, _⟩ => ⟨S2048x2048, .f32⟩
  | .hbm, ⟨9, _⟩ => ⟨S16384x2048, .f32⟩
  | .hbm, ⟨10, _⟩ => ⟨S1024x2048, .f32⟩
  | .hbm, ⟨11, _⟩ => ⟨S136x12288, .f32⟩
  | .hbm, ⟨12, _⟩ => ⟨S8x12288, .f32⟩
  | .hbm, ⟨13, _⟩ => ⟨S8x6x2048, .f32⟩
  | .hbm, ⟨14, _⟩ => ⟨S6x8x2048, .f32⟩
  | .hbm, ⟨15, _⟩ => ⟨S6x8x1x2048, .f32⟩
  | .hbm, ⟨16, _⟩ => ⟨S128x12288, .f32⟩
  | .hbm, ⟨17, _⟩ => ⟨S128x6x2048, .f32⟩
  | .hbm, ⟨18, _⟩ => ⟨S6x128x2048, .f32⟩
  | .hbm, ⟨19, _⟩ => ⟨S2048x2048, .bf16⟩
  | .hbm, ⟨20, _⟩ => ⟨S17408x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S2048x1024, .bf16⟩
  | .local _ .vmem, ⟨17, _⟩ => ⟨S2048x1024, .bf16⟩
  | .local _ .vmem, ⟨18, _⟩ => ⟨S1024x1024, .f32⟩
  | .local _ .vmem, ⟨19, _⟩ => ⟨S1024x1024, .f32⟩
  | .local _ .vmem, ⟨20, _⟩ => ⟨S1024x1024, .f32⟩
  | .local _ .vmem, ⟨21, _⟩ => ⟨S1024x1024, .f32⟩
  | .local _ .vmem, ⟨22, _⟩ => ⟨S1x1x1x1024, .f32⟩
  | .local _ .vmem, ⟨23, _⟩ => ⟨S1x1x1x1024, .f32⟩
  | .local _ .vmem, ⟨24, _⟩ => ⟨S1x128x1024, .f32⟩
  | .local _ .vmem, ⟨25, _⟩ => ⟨S1x128x1024, .f32⟩
  | .local _ .vmem, ⟨26, _⟩ => ⟨S1024x1024, .f32⟩
  | .local _ .vmem, ⟨27, _⟩ => ⟨S1024x1024, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![17, 2], ![false, false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg0 c15_i32
  let c0_i32 : BitVec 32 := 0#32
  ![v0.toNat, arg1.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  ![v1.toNat, arg1.toNat]

def cc0_transform_11 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let v17 : BitVec 32 := Scalar.minsi v16 c7_i32
  let c2_i32_4 : BitVec 32 := 2#32
  let c0_i32_5 : BitVec 32 := 0#32
  let c0_i32_6 : BitVec 32 := 0#32
  ![c2_i32_4.toNat, v17.toNat, c0_i32_5.toNat, arg1.toNat]

def cc0_transform_12 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi arg0 c16_i32
  let c0_i32 : BitVec 32 := 0#32
  let v1 : BitVec 32 := Scalar.maxsi v0 c0_i32
  let c2_i32 : BitVec 32 := 2#32
  let c0_i32_0 : BitVec 32 := 0#32
  ![c2_i32.toNat, v1.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference8Ideal.lean ====
abbrev S16384x512 : Shape := ⟨2, ![16384, 512]⟩
abbrev S1024x512 : Shape := ⟨2, ![1024, 512]⟩
abbrev S2048x2048 : Shape := ⟨2, ![2048, 2048]⟩
abbrev S16384x2048 : Shape := ⟨2, ![16384, 2048]⟩
abbrev S1024x2048 : Shape := ⟨2, ![1024, 2048]⟩
abbrev S136x12288 : Shape := ⟨2, ![136, 12288]⟩
abbrev S17408x2048 : Shape := ⟨2, ![17408, 2048]⟩
abbrev S136x2048 : Shape := ⟨2, ![136, 2048]⟩
abbrev S8x2048 : Shape := ⟨2, ![8, 2048]⟩
abbrev S8x2048x2048 : Shape := ⟨3, ![8, 2048, 2048]⟩
abbrev S128x2048 : Shape := ⟨2, ![128, 2048]⟩
abbrev S128x8x2048 : Shape := ⟨3, ![128, 8, 2048]⟩

abbrev nBuf : Space → Nat
  | .hbm => 28
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .bf16⟩
  | .hbm, ⟨3, _⟩ => ⟨S1024x512, .bf16⟩
  | .hbm, ⟨4, _⟩ => ⟨S16384x512, .bf16⟩
  | .hbm, ⟨5, _⟩ => ⟨S1024x512, .bf16⟩
  | .hbm, ⟨6, _⟩ => ⟨S16384x512, .bf16⟩
  | .hbm, ⟨7, _⟩ => ⟨S1024x512, .bf16⟩
  | .hbm, ⟨8, _⟩ => ⟨S2048x2048, .f32⟩
  | .hbm, ⟨9, _⟩ => ⟨S16384x2048, .f32⟩
  | .hbm, ⟨10, _⟩ => ⟨S1024x2048, .f32⟩
  | .hbm, ⟨11, _⟩ => ⟨S136x12288, .f32⟩
  | .hbm, ⟨12, _⟩ => ⟨S16384x2048, .bf16⟩
  | .hbm, ⟨13, _⟩ => ⟨S1024x2048, .bf16⟩
  | .hbm, ⟨14, _⟩ => ⟨S17408x2048, .bf16⟩
  | .hbm, ⟨15, _⟩ => ⟨S17408x2048, .f32⟩
  | .hbm, ⟨16, _⟩ => ⟨S136x2048, .f32⟩
  | .hbm, ⟨17, _⟩ => ⟨S8x2048, .f32⟩
  | .hbm, ⟨18, _⟩ => ⟨S8x2048x2048, .f32⟩
  | .hbm, ⟨19, _⟩ => ⟨S16384x2048, .f32⟩
  | .hbm, ⟨20, _⟩ => ⟨S128x2048, .f32⟩
  | .hbm, ⟨21, _⟩ => ⟨S128x8x2048, .f32⟩
  | .hbm, ⟨22, _⟩ => ⟨S1024x2048, .f32⟩
  | .hbm, ⟨23, _⟩ => ⟨S17408x2048, .f32⟩
  | .hbm, ⟨24, _⟩ => ⟨S17408x2048, .f32⟩
  | .hbm, ⟨25, _⟩ => ⟨S17408x2048, .f32⟩
  | .hbm, ⟨26, _⟩ => ⟨S17408x2048, .f32⟩
  | .hbm, ⟨27, _⟩ => ⟨S17408x2048, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Reads.lean ====
module

public import Idealize.ShloMosaic.Lib.Pointwise
public import Idealize.ShloMosaic.Lib.Pipeline.ValueKit

@[expose] public section

/-! Arrays read at natural-number coordinates: zero outside the array. Two reads are then compared by
    comparing numbers. -/

noncomputable section
namespace Cert.Reads
open Idealize.ShloMosaic

/-- `v` at `i`, zero outside. -/
def at1 {n : ℕ} (v : Shape.Idx ⟨1, ![n]⟩ → EReal) (i : ℕ) : EReal :=
  if h : i < n then v (ix1 ⟨i, h⟩) else (0 : EReal)

/-- `v` at `(i, j)`, zero outside. -/
def at2 {n k : ℕ} (v : Shape.Idx ⟨2, ![n, k]⟩ → EReal) (i j : ℕ) : EReal :=
  if h : i < n ∧ j < k then v (ix2 ⟨i, h.1⟩ ⟨j, h.2⟩) else (0 : EReal)

/-- `v` at `(i, j, l)`, zero outside. -/
def at3 {n k q : ℕ} (v : Shape.Idx ⟨3, ![n, k, q]⟩ → EReal) (i j l : ℕ) : EReal :=
  if h : i < n ∧ j < k ∧ l < q then v (ix3 ⟨i, h.1⟩ ⟨j, h.2.1⟩ ⟨l, h.2.2⟩) else (0 : EReal)

theorem rd1 {n : ℕ} (v : Shape.Idx ⟨1, ![n]⟩ → EReal) (a : Fin n) : v (ix1 a) = at1 v a := by
  unfold at1; rw [dif_pos a.isLt]

theorem rd2 {n k : ℕ} (v : Shape.Idx ⟨2, ![n, k]⟩ → EReal) (a : Fin n) (b : Fin k) : v (ix2 a b) = at2 v a b := by
  unfold at2; rw [dif_pos ⟨a.isLt, b.isLt⟩]

theorem rd3 {n k q : ℕ} (v : Shape.Idx ⟨3, ![n, k, q]⟩ → EReal) (a : Fin n) (b : Fin k) (c : Fin q) :
    v (ix3 a b c) = at3 v a b c := by
  unfold at3; rw [dif_pos ⟨a.isLt, b.isLt, c.isLt⟩]

/-- A one-element read of a rank-two array from an arbitrary index. -/
theorem rd2' {n k : ℕ} (v : Shape.Idx ⟨2, ![n, k]⟩ → EReal) (j : Shape.Idx ⟨2, ![n, k]⟩) :
    v j = at2 v ((j 0 : Fin n) : ℕ) ((j 1 : Fin k) : ℕ) := by
  rw [← rd2 v (j 0) (j 1), ← eq_ix2 j]

theorem rd3' {n k q : ℕ} (v : Shape.Idx ⟨3, ![n, k, q]⟩ → EReal) (j : Shape.Idx ⟨3, ![n, k, q]⟩) :
    v j = at3 v ((j 0 : Fin n) : ℕ) ((j 1 : Fin k) : ℕ) ((j 2 : Fin q) : ℕ) := by
  rw [← rd3 v (j 0) (j 1) (j 2), ← eq_ix3 j]

/-- A buffer written in pieces, at an index inside the last piece. -/
theorem canon_hit {S : Shape} {e : EltTy} (r : Rect S) (w : r.shape.Idx → Elt Ideal e)
    (L : List (View.Piece (Elt Ideal) S e)) {y : S.Idx} (x : r.shape.Idx) (h : r.emb x = y) :
    View.canon (⟨r, w⟩ :: L) y = w x := by
  subst h; exact View.canon_cons_emb r w L x

end Cert.Reads
end
-- ==== Proof.Blocks.lean ====
module

public import proofs.«01_k».proof.Proof.Gen.KernelIdeal.Frame
public import proofs.«01_k».proof.Proof.Reads
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

/-- The stores into the first convolution scratch, the last first. -/
abbrev scrB (x0 : Vec Ideal S128x1536 .f32) (x2 : Vec Ideal S16x2x512 .f32) : List (View.Piece (Elt Ideal) S16x16x512 .f32) :=
  [⟨Rect.unit ![0, 8, 0] ![16, 8, 512] inb_S16x16x512_S16x8x512_0_8_0, k0_pay8 x0⟩,
    ⟨Rect.unit ![0, 6, 0] ![16, 2, 512] inb_S16x16x512_S16x2x512_0_6_0, k0_pay7 x2⟩,
    ⟨Rect.unit ![0, 0, 0] ![16, 8, 512] inb_S16x16x512_S16x8x512_0_0_0, k0_pay6 (F := Ideal)⟩]

/-- The stores into the second convolution scratch, the last first. -/
abbrev scrD (x1 : Vec Ideal S128x1024 .f32) (x3 : Vec Ideal S16x3x512 .f32) : List (View.Piece (Elt Ideal) S16x16x512 .f32) :=
  [⟨Rect.unit ![0, 8, 0] ![16, 8, 512] inb_S16x16x512_S16x8x512_0_8_0, k0_pay15 x1⟩,
    ⟨Rect.unit ![0, 5, 0] ![16, 3, 512] inb_S16x16x512_S16x3x512_0_5_0, k0_pay14 x3⟩,
    ⟨Rect.unit ![0, 0, 0] ![16, 8, 512] inb_S16x16x512_S16x8x512_0_0_0, k0_pay13 (F := Ideal)⟩]

variable (x0 : Vec Ideal S128x1536 .f32) (x1 : Vec Ideal S128x1024 .f32) (x2 : Vec Ideal S16x2x512 .f32) (x3 : Vec Ideal S16x3x512 .f32)

/-- A block's convolution input: the state's two rows, then the eight products. -/
def fB (q s l : ℕ) : EReal :=
  if s < 2 then at3 x2 q s l else at2 x0 (q * 8 + (s - 2)) (512 + l) * at2 x0 (q * 8 + (s - 2)) (1024 + l)

/-- A block's recurrence input: the state's three rows, then the eight inputs. -/
def fD (q s l : ℕ) : EReal :=
  if s < 3 then at3 x3 q s l else at2 x1 (q * 8 + (s - 3)) l

theorem scrB_at (q s : Fin 16) (l : Fin 512) (h : 6 ≤ (s : ℕ)) :
    View.canon (scrB x0 x2) (ix3 q s l) = fB x0 x2 q (s - 6) l := by
  unfold fB
  by_cases h8 : (s : ℕ) < 8
  · rw [if_pos (by omega)]
    refine (View.canon_cons_of_not_mem _ _ ?_).trans ?_
    · rw [Rect.mem_set_unit]; intro hh; have := (hh 1).1; simp at this; omega
    refine (canon_hit (S := S16x16x512) _ _ _ (show S16x2x512.Idx from ix3 q ⟨s - 6, by omega⟩ l) ?_).trans ?_
    · blk_ext
    · pointwise [k0_pay7]; rw [rd3 x2]
  · rw [if_neg (by omega)]
    refine (canon_hit (S := S16x16x512) _ _ _ (show S16x8x512.Idx from ix3 q ⟨s - 8, by omega⟩ l) ?_).trans ?_
    · blk_ext
    · pointwise [k0_pay8]; erw [rd2 x0, rd2 x0]
      have e : ((q : ℕ) * 8 + ((s : ℕ) - 6 - 2)) = (q : ℕ) * 8 + ((s : ℕ) - 8) := by omega
      rw [e]

theorem scrD_at (q s : Fin 16) (l : Fin 512) (h : 5 ≤ (s : ℕ)) :
    View.canon (scrD x1 x3) (ix3 q s l) = fD x1 x3 q (s - 5) l := by
  unfold fD
  by_cases h8 : (s : ℕ) < 8
  · rw [if_pos (by omega)]
    refine (View.canon_cons_of_not_mem _ _ ?_).trans ?_
    · rw [Rect.mem_set_unit]; intro hh; have := (hh 1).1; simp at this; omega
    refine (canon_hit (S := S16x16x512) _ _ _ (show S16x3x512.Idx from ix3 q ⟨s - 5, by omega⟩ l) ?_).trans ?_
    · blk_ext
    · pointwise [k0_pay14]; rw [rd3 x3]
  · rw [if_neg (by omega)]
    refine (canon_hit (S := S16x16x512) _ _ _ (show S16x8x512.Idx from ix3 q ⟨s - 8, by omega⟩ l) ?_).trans ?_
    · blk_ext
    · pointwise [k0_pay15]; erw [rd2 x1]
      have e : ((q : ℕ) * 8 + ((s : ℕ) - 5 - 3)) = (q : ℕ) * 8 + ((s : ℕ) - 8) := by omega
      rw [e]

theorem winB_at (o n : ℕ) (inb) (q : Fin 16) (p : Fin n) (l : Fin 512) (h : 6 ≤ o) (hn : o + n ≤ 16) :
    (View.whole cc0_scratch0).readCov (Val := Elt Ideal) (scrB x0 x2) (Rect.unit (s := S16x16x512) ![0, o, 0] ![16, n, 512] inb).toLoadRect
      (show (Shape.mk 3 ![16, n, 512]).Idx from ix3 q p l) = fB x0 x2 q (o - 6 + p) l := by
  rw [View.readCov_eq_canon']
  refine Eq.trans (b := View.canon (scrB x0 x2) (ix3 q ⟨o + p, by omega⟩ l)) (congrArg _ ?_) ?_
  · funext a; apply Fin.ext
    refine (Rect.idx_unit_val _ _ _ _ a).trans ?_
    fin_cases a <;> simp
  · rw [scrB_at x0 x2 _ _ _ (by simp; omega)]
    exact congrArg (fun s => fB x0 x2 q s l) (by simp; omega)

theorem winD_at (o n : ℕ) (inb) (q : Fin 16) (p : Fin n) (l : Fin 512) (h : 5 ≤ o) (hn : o + n ≤ 16) :
    (View.whole cc0_scratch1).readCov (Val := Elt Ideal) (scrD x1 x3) (Rect.unit (s := S16x16x512) ![0, o, 0] ![16, n, 512] inb).toLoadRect
      (show (Shape.mk 3 ![16, n, 512]).Idx from ix3 q p l) = fD x1 x3 q (o - 5 + p) l := by
  rw [View.readCov_eq_canon']
  refine Eq.trans (b := View.canon (scrD x1 x3) (ix3 q ⟨o + p, by omega⟩ l)) (congrArg _ ?_) ?_
  · funext a; apply Fin.ext
    refine (Rect.idx_unit_val _ _ _ _ a).trans ?_
    fin_cases a <;> simp
  · rw [scrD_at x1 x3 _ _ _ (by simp; omega)]
    exact congrArg (fun s => fD x1 x3 q s l) (by simp; omega)

/-- The row's number within its sequence of eight, as the program counts it. -/
def posV : IVec S128x512 32 := k0_pay31 (iota Kind.tc S128x512 32 [0] iota_S128x512_d0_w32) 8#32 0#32
theorem pos_at (r : Fin 128) (l : Fin 512) : posV (ix2 r l) = BitVec.ofNat 32 (r % 8) := by
  unfold posV
  pointwise [k0_pay31]
  revert r; decide +kernel

theorem sel_pos (k : ℕ) (hk : k ∈ [1, 2, 4]) (r : Fin 128) (l : Fin 512) (a b : EReal) :
    Scalar.select (IntOp.cmpi CmpIPredicate.sge (posV (ix2 r l)) (BitVec.ofNat 32 k)) a b = if k ≤ (r : ℕ) % 8 then a else b := by
  rw [pos_at]
  have : ∀ r : Fin 128, ∀ k ∈ [1, 2, 4], IntOp.cmpi CmpIPredicate.sge (BitVec.ofNat 32 (r % 8)) (BitVec.ofNat 32 k) = BitVec.ofBool (decide (k ≤ (r : ℕ) % 8)) := by decide +kernel
  rw [this r k hk]
  by_cases hh : k ≤ (r : ℕ) % 8 <;> simp [hh, Scalar.select]
end Cert.KernelIdeal.Val
end
-- ==== Proof.Scan.lean ====
module

public import Idealize.ShloMosaic.Lib.Pointwise

@[expose] public section

/-! The mathematics the two programs share, over the extended reals: the linear recurrence
    `h (t + 1) = a t * h t + b t`, the doubling scan that computes it, and the two spellings of the
    input gate of the recurrence. -/

noncomputable section
namespace Cert.Scan
open Idealize.ShloMosaic

/-! ## Factors between zero and infinity -/

/-- A finite extended real that is not negative: what distributes over every sum. -/
def Fac (x : EReal) : Prop := 0 ≤ x ∧ x ≠ ⊤

theorem Fac.mul {x y : EReal} (hx : Fac x) (hy : Fac y) : Fac (x * y) := by
  obtain ⟨hx0, hxt⟩ := hx
  obtain ⟨hy0, hyt⟩ := hy
  lift x to ℝ using ⟨hxt, (lt_of_lt_of_le EReal.bot_lt_zero hx0).ne'⟩
  lift y to ℝ using ⟨hyt, (lt_of_lt_of_le EReal.bot_lt_zero hy0).ne'⟩
  refine ⟨mul_nonneg hx0 hy0, ?_⟩
  rw [← EReal.coe_mul]
  exact EReal.coe_ne_top _

theorem Fac.distrib {x : EReal} (hx : Fac x) (y z : EReal) : x * (y + z) = x * y + x * z :=
  EReal.left_distrib_of_nonneg_of_ne_top hx.1 hx.2 y z

theorem fac_exp {x : EReal} (h : x ≤ 0) : Fac (Ideal.exp x) := by
  induction x with
  | bot => exact ⟨le_refl _, EReal.zero_ne_top⟩
  | top => exact absurd h (by simp)
  | coe r =>
    refine ⟨?_, EReal.coe_ne_top _⟩
    show (0 : EReal) ≤ ((Real.exp r : ℝ) : EReal)
    exact_mod_cast (Real.exp_pos r).le

/-! ## The recurrence and the doubling scan -/

/-- `h (t + 1) = a t * h t + b t` from `h 0 = x`. -/
def lin (a b : ℕ → EReal) (x : EReal) : ℕ → EReal
  | 0 => x
  | t + 1 => a t * lin a b x t + b t

/-- `(A, B)` at position `p` carry the state `min s (p + 1)` steps back to the state after `p`. -/
def Spans (a b : ℕ → EReal) (s : ℕ) (A B : ℕ → EReal) (p : ℕ) : Prop :=
  Fac (A p) ∧ ∀ x, B p + A p * lin a b x (p + 1 - s) = lin a b x (p + 1)

theorem spans_one {a b : ℕ → EReal} {p : ℕ} (h : Fac (a p)) : Spans a b 1 a b p :=
  ⟨h, fun _ => add_comm _ _⟩

/-- One doubling step: the factor at distance `s` composed with itself. -/
theorem Spans.double {a b A B A' B' : ℕ → EReal} {s p : ℕ} (h : Spans a b s A B p)
    (hs : s ≤ p → Spans a b s A B (p - s))
    (hA : A' p = if s ≤ p then A p * A (p - s) else A p)
    (hB : B' p = if s ≤ p then A p * B (p - s) + B p else B p) : Spans a b (s + s) A' B' p := by
  by_cases hsp : s ≤ p
  · rw [if_pos hsp] at hA hB
    obtain ⟨hf, hr⟩ := h
    obtain ⟨hf', hr'⟩ := hs hsp
    unfold Spans
    rw [hA, hB]
    refine ⟨hf.mul hf', fun x => ?_⟩
    have e : p + 1 - (s + s) = p - s + 1 - s := by omega
    have e' : p - s + 1 = p + 1 - s := by omega
    rw [e, mul_assoc, add_comm (A p * B (p - s)) (B p), add_assoc, ← hf.distrib, hr' x, e', hr x]
  · rw [if_neg hsp] at hA hB
    unfold Spans
    rw [hA, hB]
    refine ⟨h.1, fun x => ?_⟩
    have e : p + 1 - (s + s) = p + 1 - s := by omega
    rw [e]; exact h.2 x

/-- Once the distance passes the position the scan has reached the start. -/
theorem Spans.reached {a b A B : ℕ → EReal} {s p : ℕ} (h : Spans a b s A B p) (hp : p < s) (x : EReal) :
    B p + A p * x = lin a b x (p + 1) := by
  have e := h.2 x
  rwa [show p + 1 - s = 0 by omega] at e

/-- Two recurrences over the same steps from the same start agree. -/
theorem lin_congr {a b a' b' : ℕ → EReal} {x x' : EReal} {n : ℕ} (hx : x = x')
    (ha : ∀ t, t < n → a t = a' t) (hb : ∀ t, t < n → b t = b' t) : lin a b x n = lin a' b' x' n := by
  induction n with
  | zero => exact hx
  | succ n ih =>
    show a n * lin a b x n + b n = a' n * lin a' b' x' n + b' n
    rw [ha n (by omega), hb n (by omega), ih (fun t h => ha t (by omega)) (fun t h => hb t (by omega))]

/-- The recurrence restarted at step `n`. -/
theorem lin_add (a b : ℕ → EReal) (x : EReal) (n t : ℕ) :
    lin a b x (n + t) = lin (fun k => a (n + k)) (fun k => b (n + k)) (lin a b x n) t := by
  induction t with
  | zero => rfl
  | succ t ih =>
    show a (n + t) * lin a b x (n + t) + b (n + t) = _
    rw [ih]; rfl

/-! ## The gates -/

theorem logistic_nonneg (x : EReal) : 0 ≤ Ideal.logistic x := by
  have h : (0 : EReal) ≤ Ideal.exp (-x) := by
    induction x with
    | bot => exact le_top
    | top => exact le_refl _
    | coe r =>
      rw [← EReal.coe_neg]
      show (0 : EReal) ≤ ((Real.exp (-r) : ℝ) : EReal)
      exact_mod_cast (Real.exp_pos (-r)).le
  unfold Ideal.logistic Ideal.div
  split
  · split
    · exact le_top
    · rename_i h1; exact absurd zero_lt_one h1
  · rw [one_mul]
    exact EReal.inv_nonneg_of_nonneg (add_nonneg zero_le_one h)

theorem zero_sub_eq_neg (x : EReal) : 0 - x = -x := by
  rw [sub_eq_add_neg, zero_add]

theorem nonpos_of_neg_mul {c r s : EReal} (hc : c ≤ 0) (hr : 0 ≤ r) (hs : 0 ≤ s) : c * r * s ≤ 0 := by
  have h1 : c * r ≤ 0 := by
    have : 0 ≤ (-c) * r := mul_nonneg (by simpa using hc) hr
    rw [EReal.neg_mul] at this
    simpa using this
  have : 0 ≤ (-(c * r)) * s := mul_nonneg (by simpa using h1) hs
  rw [EReal.neg_mul] at this
  simpa using this

/-- `-2 tanh x / (1 - tanh x) = 1 - exp (2 x)` for every `x ≤ 0`, `-∞` included. -/
theorem tanh_expm1 {x : EReal} (h : x ≤ 0) :
    Ideal.div (((-2 : ℝ) : EReal) * Ideal.tanh x) (1 - Ideal.tanh x) = -(Ideal.expm1 (((2 : ℝ) : EReal) * x)) := by
  induction x with
  | bot =>
    show Ideal.div (((-2 : ℝ) : EReal) * (((-1 : ℝ)) : EReal)) (((1 : ℝ) : EReal) - ((-1 : ℝ) : EReal)) = _
    have e : ((2 : ℝ) : EReal) * ⊥ = ⊥ := EReal.coe_mul_bot_of_pos (by norm_num)
    rw [e]
    show _ = -((0 : EReal) - 1)
    rw [← EReal.coe_mul, ← EReal.coe_sub]
    unfold Ideal.div
    rw [if_neg (by norm_cast), ← EReal.coe_inv, ← EReal.coe_mul]
    rw [show ((0 : EReal) - 1) = (((0 : ℝ) - 1 : ℝ) : EReal) from rfl, ← EReal.coe_neg]
    congr 1
    norm_num
  | top => exact absurd h (by simp)
  | coe r =>
    show Ideal.div (((-2 : ℝ) : EReal) * ((Real.tanh r : ℝ) : EReal)) (((1 : ℝ) : EReal) - ((Real.tanh r : ℝ) : EReal)) = _
    have hne : (1 : ℝ) - Real.tanh r ≠ 0 := by
      have := Real.tanh_lt_one r
      exact (sub_pos.mpr this).ne'
    unfold Ideal.div Ideal.expm1
    rw [← EReal.coe_mul, ← EReal.coe_mul, ← EReal.coe_sub, if_neg (by exact_mod_cast hne), ← EReal.coe_inv, ← EReal.coe_mul]
    show _ = -(((Real.exp (2 * r) : ℝ) : EReal) - ((1 : ℝ) : EReal))
    rw [← EReal.coe_sub, ← EReal.coe_neg]
    congr 1
    have hp := Real.exp_pos r
    have hn := Real.exp_pos (-r)
    have hm : Real.exp r * Real.exp (-r) = 1 := by rw [← Real.exp_add]; simp
    have e2 : Real.exp (2 * r) = Real.exp r * Real.exp r := by rw [← Real.exp_add]; ring_nf
    have ht : Real.tanh r = (Real.exp r - Real.exp (-r)) / (Real.exp r + Real.exp (-r)) := Real.tanh_eq r
    rw [← div_eq_mul_inv, div_eq_iff hne, e2, ht]
    field_simp
    ring_nf
    nlinarith [hm]

/-- `log (1 + exp y)` is not negative. -/
theorem log1p_exp_nonneg (y : EReal) : 0 ≤ Ideal.log1p (Ideal.exp y) := by
  induction y with
  | bot =>
    show (0 : EReal) ≤ Ideal.log (1 + 0)
    rw [add_zero]
    show (0 : EReal) ≤ (if (1 : ℝ) ≤ 0 then ⊥ else ((Real.log 1 : ℝ) : EReal))
    rw [if_neg (by norm_num)]; simp
  | top =>
    show (0 : EReal) ≤ Ideal.log (1 + ⊤)
    rw [EReal.add_top_of_ne_bot (by decide)]
    exact le_top
  | coe r =>
    show (0 : EReal) ≤ Ideal.log (((1 : ℝ) : EReal) + ((Real.exp r : ℝ) : EReal))
    rw [← EReal.coe_add]
    have hp := Real.exp_pos r
    show (0 : EReal) ≤ (if (1 + Real.exp r : ℝ) ≤ 0 then ⊥ else ((Real.log (1 + Real.exp r) : ℝ) : EReal))
    rw [if_neg (by linarith)]
    exact_mod_cast Real.log_nonneg (by linarith)

/-! ## Constants -/

theorem ofBits_neg_two : Ideal.ofBits .f32 0xC0000000#32 = ((-2 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_neg_eight : Ideal.ofBits .f32 0xC1000000#32 = ((-8 : ℝ) : EReal) := by
  simp [Ideal.ofBits, Ideal.ieee, -EReal.coe_mul]; norm_num

end Cert.Scan
end
-- ==== Proof.Spec.lean ====
module

public import proofs.«01_k».proof.Proof.Scan
@[expose] public section
noncomputable section
open Idealize.ShloMosaic
/-! What one sequence of the two mixers computes, a lane at a time: the convolutions over a sequence that begins with the carried state's rows,
the recurrence's two gates, its decay and its drive, and the gelu. Rows and lanes are numbered by natural numbers. -/
namespace Cert.Spec

/-- Three taps at row `t`. -/
def conv3 (full w : ℕ → ℕ → EReal) (t l : ℕ) : EReal :=
  full t l * w 0 l + full (t + 1) l * w 1 l + full (t + 2) l * w 2 l

/-- Four taps at row `t`, with a bias. -/
def conv4 (full w : ℕ → ℕ → EReal) (bias : ℕ → EReal) (t l : ℕ) : EReal :=
  full t l * w 0 l + full (t + 1) l * w 1 l + full (t + 2) l * w 2 l + full (t + 3) l * w 3 l + bias l

/-- A gate's dot of lane `l`: the lane's head's 128 inputs with its column of the head's weights. -/
def dots (x : ℕ → EReal) (w : ℕ → ℕ → ℕ → EReal) (l : ℕ) : EReal :=
  ∑ k : Fin 128, w (l / 128) k (l % 128) * x (l / 128 * 128 + k)

/-- A gate of lane `l`. -/
def gate (x : ℕ → EReal) (w : ℕ → ℕ → ℕ → EReal) (bias : ℕ → EReal) (l : ℕ) : EReal :=
  Ideal.logistic (dots x w l + bias l)

/-- The decay's logarithm. -/
def logDecay (x : ℕ → EReal) (wa : ℕ → ℕ → ℕ → EReal) (ba sp : ℕ → EReal) (l : ℕ) : EReal :=
  ((-8 : ℝ) : EReal) * gate x wa ba l * sp l

/-- The decay of lane `l`. -/
def decay (x : ℕ → EReal) (wa : ℕ → ℕ → ℕ → EReal) (ba sp : ℕ → EReal) (l : ℕ) : EReal :=
  Ideal.exp (logDecay x wa ba sp l)

/-- What enters lane `l` of the recurrence. -/
def drive (x : ℕ → EReal) (wa : ℕ → ℕ → ℕ → EReal) (ba : ℕ → EReal) (wx : ℕ → ℕ → ℕ → EReal) (bx sp : ℕ → EReal) (l : ℕ) : EReal :=
  Ideal.sqrt (-(Ideal.expm1 (((2 : ℝ) : EReal) * logDecay x wa ba sp l))) * (gate x wx bx l * x l)

/-- The tanh gelu. -/
def gelu (x : EReal) : EReal :=
  x * (Ideal.ofBits (FTy.f32) 0x3F000000 * (1 + Ideal.tanh (Ideal.ofBits (FTy.f32) 0x3F4C422A * (x + Ideal.ofBits (FTy.f32) 0x3D372713 * (x * x * x)))))

theorem logDecay_nonpos (x : ℕ → EReal) (wa : ℕ → ℕ → ℕ → EReal) (ba sp : ℕ → EReal) (l : ℕ) (h : 0 ≤ sp l) :
    logDecay x wa ba sp l ≤ 0 :=
  Scan.nonpos_of_neg_mul (by exact_mod_cast (by norm_num : (-8 : ℝ) ≤ 0)) (Scan.logistic_nonneg _) h

theorem fac_decay (x : ℕ → EReal) (wa : ℕ → ℕ → ℕ → EReal) (ba sp : ℕ → EReal) (l : ℕ) (h : 0 ≤ sp l) :
    Scan.Fac (decay x wa ba sp l) := Scan.fac_exp (logDecay_nonpos x wa ba sp l h)

theorem dots_congr {x y : ℕ → EReal} (w : ℕ → ℕ → ℕ → EReal) {l : ℕ} (hl : l < 512) (h : ∀ j < 512, x j = y j) : dots x w l = dots y w l :=
  Finset.sum_congr rfl fun k _ => congrArg (w (l / 128) k (l % 128) * ·) (h _ (by omega))

theorem decay_congr {x y : ℕ → EReal} (wa : ℕ → ℕ → ℕ → EReal) (ba sp : ℕ → EReal) {l : ℕ} (hl : l < 512) (h : ∀ j < 512, x j = y j) :
    decay x wa ba sp l = decay y wa ba sp l := by
  unfold decay logDecay gate; rw [dots_congr wa hl h]

theorem drive_congr {x y : ℕ → EReal} (wa : ℕ → ℕ → ℕ → EReal) (ba : ℕ → EReal) (wx : ℕ → ℕ → ℕ → EReal) (bx sp : ℕ → EReal) {l : ℕ} (hl : l < 512)
    (h : ∀ j < 512, x j = y j) : drive x wa ba wx bx sp l = drive y wa ba wx bx sp l := by
  unfold drive logDecay gate; rw [dots_congr wa hl h, dots_congr wx hl h, h l hl]

/-- The softplus as the host computes it. -/
def softplus (x : EReal) : EReal := max x 0 + Ideal.log1p (Ideal.exp (-(FloatOps.absf (F := Ideal) (φ := .f32) x)))

theorem softplus_nonneg (x : EReal) : 0 ≤ softplus x := add_nonneg (le_max_right _ _) (Scan.log1p_exp_nonneg _)

/-! ## A group of equally long sequences -/

/-- The arrays the two mixers read, at natural-number coordinates: the projected rows `P`, the carried states and the weights. -/
structure Args where
  P : ℕ → ℕ → EReal
  cb : ℕ → ℕ → ℕ → EReal
  lb : ℕ → ℕ → ℕ → EReal
  h0 : ℕ → ℕ → EReal
  wb : ℕ → ℕ → EReal
  wd : ℕ → ℕ → EReal
  bd : ℕ → EReal
  wa : ℕ → ℕ → ℕ → EReal
  ba : ℕ → EReal
  wx : ℕ → ℕ → ℕ → EReal
  bx : ℕ → EReal
  sp : ℕ → EReal

variable (A : Args) (R0 T : ℕ)

/-- The convolution mixer's input of sequence `b`: two carried rows, then the gated rows; the group's rows begin at row `R0` of `P`,
    `T` to a sequence. -/
def fullB (b s l : ℕ) : EReal :=
  if s < 2 then A.cb b s l else A.P (R0 + b * T + (s - 2)) (2048 + l) * A.P (R0 + b * T + (s - 2)) (2560 + l)

/-- The recurrent mixer's convolution input of sequence `b`: three carried rows, then the projected rows. -/
def fullD (b s l : ℕ) : EReal :=
  if s < 3 then A.lb b s l else A.P (R0 + b * T + (s - 3)) (5120 + l)

/-- The recurrence's input at row `p` of sequence `b`. -/
def xRow (b p : ℕ) : ℕ → EReal := conv4 (fullD A R0 T b) A.wd A.bd p

/-- The recurrence's state of sequence `b`, lane `l` after `t` rows. -/
def state (b l t : ℕ) : EReal :=
  Scan.lin (fun p => decay (xRow A R0 T b p) A.wa A.ba A.sp l) (fun p => drive (xRow A R0 T b p) A.wa A.ba A.wx A.bx A.sp l) (A.h0 b l) t

/-- The convolution mixer's output at row `r` of the group. -/
def outB (r l : ℕ) : EReal := A.P (R0 + r) (1536 + l) * conv3 (fullB A R0 T (r / T)) A.wb (r % T) l

/-- The recurrent mixer's output at row `r` of the group. -/
def outD (r l : ℕ) : EReal := state A R0 T (r / T) l (r % T + 1) * gelu (A.P (R0 + r) (5632 + l))

end Cert.Spec
end
-- ==== Proof.Gates.lean ====
module

public import proofs.«01_k».proof.Proof.Blocks
public import proofs.«01_k».proof.Proof.Spec
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

variable (x0 : Vec Ideal S128x1536 .f32) (x1 : Vec Ideal S128x1024 .f32) (x2 : Vec Ideal S16x2x512 .f32) (x3 : Vec Ideal S16x3x512 .f32)
  (x4 : Vec Ideal S16x1x512 .f32) (x5 : Vec Ideal S3x512 .f32) (x6 : Vec Ideal S4x512 .f32) (x7 : Vec Ideal S1x512 .f32)
  (x8 : Vec Ideal S4x128x128 .f32) (x9 : Vec Ideal S1x512 .f32) (x10 : Vec Ideal S4x128x128 .f32) (x11 x12 : Vec Ideal S1x512 .f32)

/-- Rows 6 to 13 of the first scratch. -/
def wB6 : Vec Ideal S16x8x512 .f32 :=
  (View.whole cc0_scratch0).readCov (Val := Elt Ideal) (scrB x0 x2) (Rect.unit (s := S16x16x512) ![0, 6, 0] ![16, 8, 512] inb_S16x16x512_S16x8x512_0_6_0).toLoadRect
theorem wB6_at (q : Fin 16) (p : Fin 8) (l : Fin 512) : wB6 x0 x2 (ix3 q p l) = fB x0 x2 q (0 + p) l :=
  winB_at x0 x2 6 8 inb_S16x16x512_S16x8x512_0_6_0 q p l (by omega) (by omega)
/-- Rows 7 to 14 of the first scratch. -/
def wB7 : Vec Ideal S16x8x512 .f32 :=
  (View.whole cc0_scratch0).readCov (Val := Elt Ideal) (scrB x0 x2) (Rect.unit (s := S16x16x512) ![0, 7, 0] ![16, 8, 512] inb_S16x16x512_S16x8x512_0_7_0).toLoadRect
theorem wB7_at (q : Fin 16) (p : Fin 8) (l : Fin 512) : wB7 x0 x2 (ix3 q p l) = fB x0 x2 q (1 + p) l :=
  winB_at x0 x2 7 8 inb_S16x16x512_S16x8x512_0_7_0 q p l (by omega) (by omega)
/-- Rows 8 to 15 of the first scratch. -/
def wB8 : Vec Ideal S16x8x512 .f32 :=
  (View.whole cc0_scratch0).readCov (Val := Elt Ideal) (scrB x0 x2) (Rect.unit (s := S16x16x512) ![0, 8, 0] ![16, 8, 512] inb_S16x16x512_S16x8x512_0_8_0).toLoadRect
theorem wB8_at (q : Fin 16) (p : Fin 8) (l : Fin 512) : wB8 x0 x2 (ix3 q p l) = fB x0 x2 q (2 + p) l :=
  winB_at x0 x2 8 8 inb_S16x16x512_S16x8x512_0_8_0 q p l (by omega) (by omega)
/-- Rows 14 to 15 of the first scratch. -/
def wB14 : Vec Ideal S16x2x512 .f32 :=
  (View.whole cc0_scratch0).readCov (Val := Elt Ideal) (scrB x0 x2) (Rect.unit (s := S16x16x512) ![0, 14, 0] ![16, 2, 512] inb_S16x16x512_S16x2x512_0_14_0).toLoadRect
theorem wB14_at (q : Fin 16) (p : Fin 2) (l : Fin 512) : wB14 x0 x2 (ix3 q p l) = fB x0 x2 q (8 + p) l :=
  winB_at x0 x2 14 2 inb_S16x16x512_S16x2x512_0_14_0 q p l (by omega) (by omega)
/-- Rows 5 to 12 of the second scratch. -/
def wD5 : Vec Ideal S16x8x512 .f32 :=
  (View.whole cc0_scratch1).readCov (Val := Elt Ideal) (scrD x1 x3) (Rect.unit (s := S16x16x512) ![0, 5, 0] ![16, 8, 512] inb_S16x16x512_S16x8x512_0_5_0).toLoadRect
theorem wD5_at (q : Fin 16) (p : Fin 8) (l : Fin 512) : wD5 x1 x3 (ix3 q p l) = fD x1 x3 q (0 + p) l :=
  winD_at x1 x3 5 8 inb_S16x16x512_S16x8x512_0_5_0 q p l (by omega) (by omega)
/-- Rows 6 to 13 of the second scratch. -/
def wD6 : Vec Ideal S16x8x512 .f32 :=
  (View.whole cc0_scratch1).readCov (Val := Elt Ideal) (scrD x1 x3) (Rect.unit (s := S16x16x512) ![0, 6, 0] ![16, 8, 512] inb_S16x16x512_S16x8x512_0_6_0).toLoadRect
theorem wD6_at (q : Fin 16) (p : Fin 8) (l : Fin 512) : wD6 x1 x3 (ix3 q p l) = fD x1 x3 q (1 + p) l :=
  winD_at x1 x3 6 8 inb_S16x16x512_S16x8x512_0_6_0 q p l (by omega) (by omega)
/-- Rows 7 to 14 of the second scratch. -/
def wD7 : Vec Ideal S16x8x512 .f32 :=
  (View.whole cc0_scratch1).readCov (Val := Elt Ideal) (scrD x1 x3) (Rect.unit (s := S16x16x512) ![0, 7, 0] ![16, 8, 512] inb_S16x16x512_S16x8x512_0_7_0).toLoadRect
theorem wD7_at (q : Fin 16) (p : Fin 8) (l : Fin 512) : wD7 x1 x3 (ix3 q p l) = fD x1 x3 q (2 + p) l :=
  winD_at x1 x3 7 8 inb_S16x16x512_S16x8x512_0_7_0 q p l (by omega) (by omega)
/-- Rows 8 to 15 of the second scratch. -/
def wD8 : Vec Ideal S16x8x512 .f32 :=
  (View.whole cc0_scratch1).readCov (Val := Elt Ideal) (scrD x1 x3) (Rect.unit (s := S16x16x512) ![0, 8, 0] ![16, 8, 512] inb_S16x16x512_S16x8x512_0_8_0).toLoadRect
theorem wD8_at (q : Fin 16) (p : Fin 8) (l : Fin 512) : wD8 x1 x3 (ix3 q p l) = fD x1 x3 q (3 + p) l :=
  winD_at x1 x3 8 8 inb_S16x16x512_S16x8x512_0_8_0 q p l (by omega) (by omega)
/-- Rows 13 to 15 of the second scratch. -/
def wD13 : Vec Ideal S16x3x512 .f32 :=
  (View.whole cc0_scratch1).readCov (Val := Elt Ideal) (scrD x1 x3) (Rect.unit (s := S16x16x512) ![0, 13, 0] ![16, 3, 512] inb_S16x16x512_S16x3x512_0_13_0).toLoadRect
theorem wD13_at (q : Fin 16) (p : Fin 3) (l : Fin 512) : wD13 x1 x3 (ix3 q p l) = fD x1 x3 q (8 + p) l :=
  winD_at x1 x3 13 3 inb_S16x16x512_S16x3x512_0_13_0 q p l (by omega) (by omega)

/-- The block's rows of the first mixer's output. -/
def o13 : FVec Ideal S128x512 .bf16 :=
  k0_pay11 (k0_pay5 x0) (k0_pay9 (View.ld x5 (Rect.unit (s := S3x512) ![0, 0] ![1, 512] inb_S3x512_S1x512_0_0)) (wB6 x0 x2) (View.ld x5 (Rect.unit (s := S3x512) ![1, 0] ![1, 512] inb_S3x512_S1x512_1_0)) (wB7 x0 x2) (View.ld x5 (Rect.unit (s := S3x512) ![2, 0] ![1, 512] inb_S3x512_S1x512_2_0)) (wB8 x0 x2))
theorem o13_at (r : Fin 128) (l : Fin 512) : o13 x0 x2 x5 (ix2 r l) =
    at2 x0 r l * Spec.conv3 (fB x0 x2 (r / 8)) (at2 x5) (r % 8) l := by
  unfold o13
  pointwise [k0_pay11, k0_pay5, k0_pay9]
  erw [wB6_at, wB7_at, wB8_at, rd2 x0, rd2 x5, rd2 x5, rd2 x5]
  simp [Spec.conv3, mul_comm, add_comm 1, add_comm 2]

/-- The recurrence's input: the second convolution with its bias. -/
def uD : FVec Ideal S128x512 .f32 :=
  k0_pay18 (k0_pay16 (View.ld x6 (Rect.unit (s := S4x512) ![0, 0] ![1, 512] inb_S4x512_S1x512_0_0)) (wD5 x1 x3) (View.ld x6 (Rect.unit (s := S4x512) ![1, 0] ![1, 512] inb_S4x512_S1x512_1_0)) (wD6 x1 x3)) (View.ld x6 (Rect.unit (s := S4x512) ![2, 0] ![1, 512] inb_S4x512_S1x512_2_0)) (wD7 x1 x3) (View.ld x6 (Rect.unit (s := S4x512) ![3, 0] ![1, 512] inb_S4x512_S1x512_3_0)) (wD8 x1 x3) x7
theorem uD_at (r : Fin 128) (l : Fin 512) : uD x1 x3 x6 x7 (ix2 r l) =
    Spec.conv4 (fD x1 x3 (r / 8)) (at2 x6) (at2 x7 0) (r % 8) l := by
  unfold uD
  pointwise [k0_pay18, k0_pay16]
  erw [wD5_at, wD6_at, wD7_at, wD8_at, rd2 x6, rd2 x6, rd2 x6, rd2 x6, rd2 x7]
  simp [Spec.conv4, mul_comm, add_comm 1, add_comm 2, add_comm 3]

/-- The recurrence's input as the gates' dots take it. -/
def uH : FVec Ideal S128x512 .bf16 :=
  k0_pay19 (k0_pay16 (View.ld x6 (Rect.unit (s := S4x512) ![0, 0] ![1, 512] inb_S4x512_S1x512_0_0)) (wD5 x1 x3) (View.ld x6 (Rect.unit (s := S4x512) ![1, 0] ![1, 512] inb_S4x512_S1x512_1_0)) (wD6 x1 x3)) (View.ld x6 (Rect.unit (s := S4x512) ![2, 0] ![1, 512] inb_S4x512_S1x512_2_0)) (wD7 x1 x3) (View.ld x6 (Rect.unit (s := S4x512) ![3, 0] ![1, 512] inb_S4x512_S1x512_3_0)) (wD8 x1 x3) x7
theorem uH_at (r : Fin 128) (l : Fin 512) : uH x1 x3 x6 x7 (ix2 r l) = uD x1 x3 x6 x7 (ix2 r l) := by
  unfold uH uD
  pointwise [k0_pay18, k0_pay19]

theorem dots_split (u : FVec Ideal S128x512 .f32) (w : Vec Ideal S4x128x128 .f32) (r : Fin 128) (l : Fin 512) :
    (if h : (l : ℕ) < 128 then ∑ x : Fin 128, u (ix2 r ⟨x, by omega⟩) * w (ix3 0 x ⟨l, by omega⟩)
    else if h : (l : ℕ) - 128 < 128 then ∑ x : Fin 128, u (ix2 r ⟨128 + x, by omega⟩) * w (ix3 1 x ⟨l - 128, by omega⟩)
    else if h : (l : ℕ) - 128 - 128 < 128 then ∑ x : Fin 128, u (ix2 r ⟨256 + x, by omega⟩) * w (ix3 2 x ⟨l - 128 - 128, by omega⟩)
    else ∑ x : Fin 128, u (ix2 r ⟨384 + x, by omega⟩) * w (ix3 3 x ⟨l - 128 - 128 - 128, by omega⟩)) =
    Spec.dots (fun j => at2 u r j) (at3 w) l := by
  unfold Spec.dots
  have key : ∀ (i : Fin 4) (c : Fin 128) (o : ℕ) (ho : o + 128 ≤ 512), o = l / 128 * 128 → (i : ℕ) = l / 128 → (c : ℕ) = l % 128 →
      (∑ x : Fin 128, u (ix2 r ⟨o + x, by omega⟩) * w (ix3 i x c)) = ∑ k : Fin 128, at3 w (l / 128) k (l % 128) * at2 u r (l / 128 * 128 + k) := by
    intro i c o ho h1 h2 h3
    refine Finset.sum_congr rfl fun x _ => ?_
    rw [rd2 u, rd3 w, mul_comm, h2, h3]
    subst h1; rfl
  split_ifs with h1 h2 h3
  · rw [← key 0 ⟨l, by omega⟩ 0 (by omega) (by omega) (by simp; omega) (by simp; omega)]
    refine Finset.sum_congr rfl fun x _ => ?_
    congr 3; simp
  · exact key 1 ⟨l - 128, by omega⟩ 128 (by omega) (by omega) (by simp; omega) (by simp; omega)
  · exact key 2 ⟨l - 128 - 128, by omega⟩ 256 (by omega) (by omega) (by simp; omega) (by simp; omega)
  · exact key 3 ⟨l - 128 - 128 - 128, by omega⟩ 384 (by omega) (by omega) (by simp; omega) (by simp; omega)

/-- The first gate's dots, head by head. -/
def gA : FVec Ideal S128x512 .f32 :=
  k0_pay22 (uH x1 x3 x6 x7) (k0_pay20 (k0_pay16 (View.ld x6 (Rect.unit (s := S4x512) ![0, 0] ![1, 512] inb_S4x512_S1x512_0_0)) (wD5 x1 x3) (View.ld x6 (Rect.unit (s := S4x512) ![1, 0] ![1, 512] inb_S4x512_S1x512_1_0)) (wD6 x1 x3)) (View.ld x6 (Rect.unit (s := S4x512) ![2, 0] ![1, 512] inb_S4x512_S1x512_2_0)) (wD7 x1 x3) (View.ld x6 (Rect.unit (s := S4x512) ![3, 0] ![1, 512] inb_S4x512_S1x512_3_0)) (wD8 x1 x3) x7 (View.ld x8 (Rect.unit (s := S4x128x128) ![0, 0, 0] ![1, 128, 128] inb_S4x128x128_S1x128x128_0_0_0))) (k0_pay21 (k0_pay16 (View.ld x6 (Rect.unit (s := S4x512) ![0, 0] ![1, 512] inb_S4x512_S1x512_0_0)) (wD5 x1 x3) (View.ld x6 (Rect.unit (s := S4x512) ![1, 0] ![1, 512] inb_S4x512_S1x512_1_0)) (wD6 x1 x3)) (View.ld x6 (Rect.unit (s := S4x512) ![2, 0] ![1, 512] inb_S4x512_S1x512_2_0)) (wD7 x1 x3) (View.ld x6 (Rect.unit (s := S4x512) ![3, 0] ![1, 512] inb_S4x512_S1x512_3_0)) (wD8 x1 x3) x7) (View.ld x8 (Rect.unit (s := S4x128x128) ![1, 0, 0] ![1, 128, 128] inb_S4x128x128_S1x128x128_1_0_0)) (View.ld x8 (Rect.unit (s := S4x128x128) ![2, 0, 0] ![1, 128, 128] inb_S4x128x128_S1x128x128_2_0_0)) (View.ld x8 (Rect.unit (s := S4x128x128) ![3, 0, 0] ![1, 128, 128] inb_S4x128x128_S1x128x128_3_0_0))
theorem gA_at (r : Fin 128) (l : Fin 512) : gA x1 x3 x6 x7 x8 (ix2 r l) =
    Spec.dots (fun j => at2 (uD x1 x3 x6 x7) r j) (at3 x8) l := by
  unfold gA
  pointwise [k0_pay20, k0_pay21, k0_pay22]
  change (if h : (l : ℕ) < 128 then ∑ x : Fin 128, uH x1 x3 x6 x7 (ix2 r ⟨x, by omega⟩) * x8 (ix3 0 x ⟨l, by omega⟩)
    else if h : (l : ℕ) - 128 < 128 then ∑ x : Fin 128, uH x1 x3 x6 x7 (ix2 r ⟨128 + x, by omega⟩) * x8 (ix3 1 x ⟨l - 128, by omega⟩)
    else if h : (l : ℕ) - 128 - 128 < 128 then ∑ x : Fin 128, uH x1 x3 x6 x7 (ix2 r ⟨256 + x, by omega⟩) * x8 (ix3 2 x ⟨l - 128 - 128, by omega⟩)
    else ∑ x : Fin 128, uH x1 x3 x6 x7 (ix2 r ⟨384 + x, by omega⟩) * x8 (ix3 3 x ⟨l - 128 - 128 - 128, by omega⟩)) = _
  simp only [uH_at]
  exact dots_split (uD x1 x3 x6 x7) x8 r l

theorem logDecay_at (r : Fin 128) (l : Fin 512) : k0_pay28 (gA x1 x3 x6 x7 x8) x9 x12 (ix2 r l) =
    Spec.logDecay (fun j => at2 (uD x1 x3 x6 x7) r j) (at3 x8) (at2 x9 0) (at2 x12 0) l := by
  pointwise [k0_pay28]
  rw [gA_at]
  erw [rd2 x9, rd2 x12]
  rw [Scan.ofBits_neg_eight, Scan.zero_sub_eq_neg]
  rfl

/-- The decay's rows. -/
def aV : FVec Ideal S128x512 .f32 := k0_pay29 (gA x1 x3 x6 x7 x8) x9 x12

theorem aV_at (r : Fin 128) (l : Fin 512) : aV x1 x3 x6 x7 x8 x9 x12 (ix2 r l) =
    Spec.decay (fun j => at2 (uD x1 x3 x6 x7) r j) (at3 x8) (at2 x9 0) (at2 x12 0) l := by
  unfold aV
  pointwise [k0_pay29]
  exact congrArg Ideal.exp (logDecay_at ..)

/-- The drive's rows. -/
def bV : FVec Ideal S128x512 .f32 :=
  k0_pay30 (uD x1 x3 x6 x7) (gA x1 x3 x6 x7 x8) (k0_pay23 (uH x1 x3 x6 x7) (View.ld x10 (Rect.unit (s := S4x128x128) ![0, 0, 0] ![1, 128, 128] inb_S4x128x128_S1x128x128_0_0_0))) (k0_pay24 (uH x1 x3 x6 x7) (View.ld x10 (Rect.unit (s := S4x128x128) ![1, 0, 0] ![1, 128, 128] inb_S4x128x128_S1x128x128_1_0_0)))
    (k0_pay25 (uH x1 x3 x6 x7) (View.ld x10 (Rect.unit (s := S4x128x128) ![2, 0, 0] ![1, 128, 128] inb_S4x128x128_S1x128x128_2_0_0))) (k0_pay26 (uH x1 x3 x6 x7)) (k0_pay27 (View.ld x10 (Rect.unit (s := S4x128x128) ![3, 0, 0] ![1, 128, 128] inb_S4x128x128_S1x128x128_3_0_0))) x9 x11 x12

theorem bV_at (r : Fin 128) (l : Fin 512) (h : 0 ≤ at2 x12 0 l) : bV x1 x3 x6 x7 x8 x9 x10 x11 x12 (ix2 r l) =
    Spec.drive (fun j => at2 (uD x1 x3 x6 x7) r j) (at3 x8) (at2 x9 0) (at3 x10) (at2 x11 0) (at2 x12 0) l := by
  unfold bV
  pointwise [k0_pay30, k0_pay23, k0_pay24, k0_pay25, k0_pay26, k0_pay27]
  rw [show k0_pay28 (gA x1 x3 x6 x7 x8) x9 x12 (ix2 r l) = Spec.logDecay (fun j => at2 (uD x1 x3 x6 x7) r j) (at3 x8) (at2 x9 0) (at2 x12 0) l from logDecay_at ..]
  rw [Scan.ofBits_neg_two, Scan.tanh_expm1 (Spec.logDecay_nonpos _ _ _ _ _ h)]
  simp only [uH_at]
  rw [dots_split (uD x1 x3 x6 x7) x10 r l]
  erw [rd2 x11, rd2 (uD x1 x3 x6 x7)]
  rw [Scan.zero_sub_eq_neg]
  rfl

end Cert.KernelIdeal.Val
end
-- ==== Proof.Doubling.lean ====
module

public import proofs.«01_k».proof.Proof.Blocks
public import proofs.«01_k».proof.Proof.Scan
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

/-- The rows' numbers. -/
abbrev rowV : IVec S128x512 32 := iota Kind.tc S128x512 32 [0] iota_S128x512_d0_w32
/-- The row `k` before, around the block. -/
abbrev bk (k : ℕ) (r : Fin 128) : Fin 128 := ⟨(r + 128 - k) % 128, by omega⟩

variable (A B : FVec Ideal S128x512 .f32)

/-- The drive after a doubling step at distance `k`. -/
def stepB (k : ℕ) : FVec Ideal S128x512 .f32 := fun i =>
  if k ≤ ((i 0 : Fin 128) : ℕ) % 8 then A i * B (ix2 (bk k (i 0)) (i 1 : Fin 512)) + B i else B i

theorem stepB_at (k : ℕ) (r : Fin 128) (l : Fin 512) : stepB A B k (ix2 r l) =
    if k ≤ (r : ℕ) % 8 then A (ix2 r l) * B (ix2 (bk k r) l) + B (ix2 r l) else B (ix2 r l) := rfl

theorem mask1 (r : Fin 128) (l : Fin 512) (a b : EReal) :
    Scalar.select (k0_pay32 rowV 8#32 0#32 (ix2 r l)) a b = if 1 ≤ (r : ℕ) % 8 then a else b := sel_pos 1 (by simp) r l a b
theorem mask2 (r : Fin 128) (l : Fin 512) (a b : EReal) :
    Scalar.select (k0_pay34 rowV 8#32 0#32 (ix2 r l)) a b = if 2 ≤ (r : ℕ) % 8 then a else b := sel_pos 2 (by simp) r l a b
theorem mask4 (r : Fin 128) (l : Fin 512) (a b : EReal) :
    Scalar.select (k0_pay36 rowV 8#32 0#32 (ix2 r l)) a b = if 4 ≤ (r : ℕ) % 8 then a else b := sel_pos 4 (by simp) r l a b

theorem pay33_at (r : Fin 128) (l : Fin 512) : k0_pay33 A rowV 8#32 0#32 (ix2 r l) =
    if 1 ≤ (r : ℕ) % 8 then A (ix2 r l) * A (ix2 (bk 1 r) l) else A (ix2 r l) := by
  pointwise [k0_pay33]
  rw [mask1]

theorem pay35_at (r : Fin 128) (l : Fin 512) : k0_pay35 A rowV 8#32 0#32 (ix2 r l) =
    if 2 ≤ (r : ℕ) % 8 then k0_pay33 A rowV 8#32 0#32 (ix2 r l) * k0_pay33 A rowV 8#32 0#32 (ix2 (bk 2 r) l)
    else k0_pay33 A rowV 8#32 0#32 (ix2 r l) := by
  pointwise [k0_pay35]
  rw [mask2]

theorem pay38_at (r : Fin 128) (l : Fin 512) : k0_pay38 A rowV 8#32 0#32 (ix2 r l) =
    if 4 ≤ (r : ℕ) % 8 then k0_pay35 A rowV 8#32 0#32 (ix2 r l) * k0_pay35 A rowV 8#32 0#32 (ix2 (bk 4 r) l)
    else k0_pay35 A rowV 8#32 0#32 (ix2 r l) := by
  pointwise [k0_pay38]
  rw [mask4]

theorem pay37_at (r : Fin 128) (l : Fin 512) : k0_pay37 A B rowV 8#32 0#32 (ix2 r l) =
    stepB (k0_pay35 A rowV 8#32 0#32) (stepB (k0_pay33 A rowV 8#32 0#32) (stepB A B 1) 2) 4 (ix2 r l) := by
  pointwise [k0_pay37]
  simp only [mask1, mask2, mask4, stepB_at]

/-- The sequence's row, lane `l`. -/
abbrev sq (X : FVec Ideal S128x512 .f32) (q : Fin 16) (l : Fin 512) (p : ℕ) : EReal := at2 X (q * 8 + p) l

theorem sq_eq (X : FVec Ideal S128x512 .f32) (q : Fin 16) (l : Fin 512) (p : ℕ) (hp : p < 8) :
    sq X q l p = X (ix2 ⟨q * 8 + p, by omega⟩ l) := (rd2 X ⟨q * 8 + p, by omega⟩ l).symm

theorem stepA_sq {A' : FVec Ideal S128x512 .f32} (k : ℕ) (q : Fin 16) (l : Fin 512) (p : ℕ) (hp : p < 8)
    (h : ∀ r l, A' (ix2 r l) = if k ≤ (r : ℕ) % 8 then A (ix2 r l) * A (ix2 (bk k r) l) else A (ix2 r l)) :
    sq A' q l p = if k ≤ p then sq A q l p * sq A q l (p - k) else sq A q l p := by
  have e : ((q : ℕ) * 8 + p) % 8 = p := by omega
  rw [sq_eq A' q l p hp, h]
  simp only [e]
  split_ifs with hk
  · rw [sq_eq A q l p hp, sq_eq A q l (p - k) (by omega)]
    congr 3; exact Fin.ext (by simp; omega)
  · rw [sq_eq A q l p hp]

theorem stepB_sq (k : ℕ) (q : Fin 16) (l : Fin 512) (p : ℕ) (hp : p < 8) :
    sq (stepB A B k) q l p = if k ≤ p then sq A q l p * sq B q l (p - k) + sq B q l p else sq B q l p := by
  have e : ((q : ℕ) * 8 + p) % 8 = p := by omega
  rw [sq_eq (stepB A B k) q l p hp, stepB_at]
  simp only [e]
  split_ifs with hk
  · rw [sq_eq A q l p hp, sq_eq B q l p hp, sq_eq B q l (p - k) (by omega)]
    congr 4; exact Fin.ext (by simp; omega)
  · rw [sq_eq B q l p hp]

/-- The three doubling steps carry a sequence's first state to every one of its eight rows. -/
theorem scan_at (q : Fin 16) (l : Fin 512) (hf : ∀ p < 8, Scan.Fac (sq A q l p)) (p : ℕ) (hp : p < 8) (x : EReal) :
    k0_pay37 A B rowV 8#32 0#32 (ix2 ⟨q * 8 + p, by omega⟩ l) + k0_pay38 A rowV 8#32 0#32 (ix2 ⟨q * 8 + p, by omega⟩ l) * x =
      Scan.lin (sq A q l) (sq B q l) x (p + 1) := by
  have h1 : ∀ p < 8, Scan.Spans (sq A q l) (sq B q l) 1 (sq A q l) (sq B q l) p := fun p hp => Scan.spans_one (hf p hp)
  have h2 : ∀ p < 8, Scan.Spans (sq A q l) (sq B q l) 2 (sq (k0_pay33 A rowV 8#32 0#32) q l) (sq (stepB A B 1) q l) p := fun p hp =>
    (h1 p hp).double (fun _ => h1 (p - 1) (by omega)) (stepA_sq A 1 q l p hp (pay33_at A)) (stepB_sq A B 1 q l p hp)
  have h4 : ∀ p < 8, Scan.Spans (sq A q l) (sq B q l) 4 (sq (k0_pay35 A rowV 8#32 0#32) q l)
      (sq (stepB (k0_pay33 A rowV 8#32 0#32) (stepB A B 1) 2) q l) p := fun p hp =>
    (h2 p hp).double (fun _ => h2 (p - 2) (by omega)) (stepA_sq _ 2 q l p hp (pay35_at A)) (stepB_sq _ _ 2 q l p hp)
  have h8 : ∀ p < 8, Scan.Spans (sq A q l) (sq B q l) 8 (sq (k0_pay38 A rowV 8#32 0#32) q l)
      (sq (stepB (k0_pay35 A rowV 8#32 0#32) (stepB (k0_pay33 A rowV 8#32 0#32) (stepB A B 1) 2) 4) q l) p := fun p hp =>
    (h4 p hp).double (fun _ => h4 (p - 4) (by omega)) (stepA_sq _ 4 q l p hp (pay38_at A)) (stepB_sq _ _ 4 q l p hp)
  rw [← (h8 p hp).reached hp x, pay37_at, sq_eq _ q l p hp, sq_eq _ q l p hp]

end Cert.KernelIdeal.Val
end
-- ==== Proof.Outs.lean ====
module

public import proofs.«01_k».proof.Proof.Gates
public import proofs.«01_k».proof.Proof.Doubling
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

variable (x0 : Vec Ideal S128x1536 .f32) (x1 : Vec Ideal S128x1024 .f32) (x2 : Vec Ideal S16x2x512 .f32) (x3 : Vec Ideal S16x3x512 .f32)
  (x4 : Vec Ideal S16x1x512 .f32) (x5 : Vec Ideal S3x512 .f32) (x6 : Vec Ideal S4x512 .f32) (x7 : Vec Ideal S1x512 .f32)
  (x8 : Vec Ideal S4x128x128 .f32) (x9 : Vec Ideal S1x512 .f32) (x10 : Vec Ideal S4x128x128 .f32) (x11 x12 : Vec Ideal S1x512 .f32)

/-- The recurrence's factors and offsets after the doubling. -/
abbrev sB : FVec Ideal S128x512 .f32 := k0_pay37 (aV x1 x3 x6 x7 x8 x9 x12) (bV x1 x3 x6 x7 x8 x9 x10 x11 x12) rowV 8#32 0#32
abbrev sA : FVec Ideal S128x512 .f32 := k0_pay38 (aV x1 x3 x6 x7 x8 x9 x12) rowV 8#32 0#32

/-- The block's rows of the recurrent mixer's output. -/
def o14 : FVec Ideal S128x512 .bf16 :=
  k0_pay4 (k0_pay12 x1) (sB x1 x3 x6 x7 x8 x9 x10 x11 x12) (sA x1 x3 x6 x7 x8 x9 x12) (k0_pay39 x4)
/-- The block's last states. -/
def o17 : FVec Ideal S16x1x512 .f32 :=
  k0_pay2 (sB x1 x3 x6 x7 x8 x9 x10 x11 x12) (sA x1 x3 x6 x7 x8 x9 x12) (k0_pay39 x4)

/-- The recurrence of sequence `q`, lane `l` of the block. -/
abbrev hS (q l t : ℕ) : EReal :=
  Scan.lin (fun p => Spec.decay (Spec.conv4 (fD x1 x3 q) (at2 x6) (at2 x7 0) p) (at3 x8) (at2 x9 0) (at2 x12 0) l)
    (fun p => Spec.drive (Spec.conv4 (fD x1 x3 q) (at2 x6) (at2 x7 0) p) (at3 x8) (at2 x9 0) (at3 x10) (at2 x11 0) (at2 x12 0) l)
    (at3 x4 q 0 l) t

theorem uD_row (q : Fin 16) (p : ℕ) (hp : p < 8) (j : ℕ) (hj : j < 512) :
    at2 (uD x1 x3 x6 x7) (q * 8 + p) j = Spec.conv4 (fD x1 x3 q) (at2 x6) (at2 x7 0) p j := by
  have := uD_at x1 x3 x6 x7 ⟨q * 8 + p, by omega⟩ ⟨j, hj⟩
  rw [rd2 (uD x1 x3 x6 x7)] at this
  rw [this]
  have e1 : ((q : ℕ) * 8 + p) / 8 = q := by omega
  have e2 : ((q : ℕ) * 8 + p) % 8 = p := by omega
  simp only [e1, e2]

theorem scanned (hs : ∀ l, 0 ≤ at2 x12 0 l) (q : Fin 16) (l : Fin 512) (p : ℕ) (hp : p < 8) :
    sB x1 x3 x6 x7 x8 x9 x10 x11 x12 (ix2 ⟨q * 8 + p, by omega⟩ l) + sA x1 x3 x6 x7 x8 x9 x12 (ix2 ⟨q * 8 + p, by omega⟩ l) * at3 x4 q 0 l =
      hS x1 x3 x4 x6 x7 x8 x9 x10 x11 x12 q l (p + 1) := by
  have hd : ∀ (w : ℕ → ℕ → ℕ → EReal) (p : ℕ) (hp : p < 8), Spec.dots (fun j => at2 (uD x1 x3 x6 x7) (q * 8 + p) j) w l =
      Spec.dots (Spec.conv4 (fD x1 x3 q) (at2 x6) (at2 x7 0) p) w l := fun w p hp =>
    Finset.sum_congr rfl fun k _ => congrArg (_ * ·) (uD_row x1 x3 x6 x7 q p hp _ (by omega))
  have hA : ∀ p < 8, sq (aV x1 x3 x6 x7 x8 x9 x12) q l p =
      Spec.decay (Spec.conv4 (fD x1 x3 q) (at2 x6) (at2 x7 0) p) (at3 x8) (at2 x9 0) (at2 x12 0) l := fun p hp => by
    rw [sq_eq _ q l p hp, aV_at]
    simp only [Spec.decay, Spec.logDecay, Spec.gate, hd _ p hp]
  have hB : ∀ p < 8, sq (bV x1 x3 x6 x7 x8 x9 x10 x11 x12) q l p =
      Spec.drive (Spec.conv4 (fD x1 x3 q) (at2 x6) (at2 x7 0) p) (at3 x8) (at2 x9 0) (at3 x10) (at2 x11 0) (at2 x12 0) l := fun p hp => by
    rw [sq_eq _ q l p hp, bV_at _ _ _ _ _ _ _ _ _ _ _ (hs l)]
    simp only [Spec.drive, Spec.logDecay, Spec.gate, hd _ p hp]
    rw [uD_row x1 x3 x6 x7 q p hp _ (by omega)]
  rw [scan_at _ _ q l (fun p hp => by rw [hA p hp]; exact Spec.fac_decay _ _ _ _ _ (hs l)) p hp]
  exact Scan.lin_congr rfl (fun k hk => hA k (by omega)) (fun k hk => hB k (by omega))

theorem o17_at (hs : ∀ l, 0 ≤ at2 x12 0 l) (q : Fin 16) (p : Fin 1) (l : Fin 512) : o17 x1 x3 x4 x6 x7 x8 x9 x10 x11 x12 (ix3 q p l) =
    hS x1 x3 x4 x6 x7 x8 x9 x10 x11 x12 q l 8 := by
  unfold o17
  pointwise [k0_pay2, k0_pay1, k0_pay39]
  erw [rd3 x4]
  exact scanned x1 x3 x4 x6 x7 x8 x9 x10 x11 x12 hs q l 7 (by omega)

theorem o14_at (hs : ∀ l, 0 ≤ at2 x12 0 l) (r : Fin 128) (l : Fin 512) : o14 x1 x3 x4 x6 x7 x8 x9 x10 x11 x12 (ix2 r l) =
    hS x1 x3 x4 x6 x7 x8 x9 x10 x11 x12 (r / 8) l (r % 8 + 1) * Spec.gelu (at2 x1 r (512 + l)) := by
  unfold o14
  pointwise [k0_pay4, k0_pay12, k0_pay1, k0_pay39]
  erw [rd2 x1, rd3 x4]
  have e : r = ⟨((⟨r / 8, by omega⟩ : Fin 16) : ℕ) * 8 + r % 8, by simp; omega⟩ := Fin.ext (by simp; omega)
  have key := scanned x1 x3 x4 x6 x7 x8 x9 x10 x11 x12 hs ⟨r / 8, by omega⟩ l (r % 8) (by omega)
  rw [← e] at key
  refine congrArg₂ (· * ·) key ?_
  unfold Spec.gelu
  rw [mul_comm (Ideal.ofBits _ _) (at2 x1 _ _), mul_assoc]
  rfl

theorem o15_at (q : Fin 16) (p : Fin 2) (l : Fin 512) : wB14 x0 x2 (ix3 q p l) = fB x0 x2 q (8 + p) l := wB14_at ..
theorem o16_at (q : Fin 16) (p : Fin 3) (l : Fin 512) : wD13 x1 x3 (ix3 q p l) = fD x1 x3 q (8 + p) l := wD13_at ..

section
variable (m : (ℓ : Loc nD τ sig) → Buf (Elt Ideal) ℓ) (c : Dev nD) (t : Fin cfg0.N)
theorem outs13 : (outsAt0 m c t).1 = o13 (iblk m c 0 t) (iblk m c 2 t) (iblk m c 5 t) := by
  unfold outsAt0; frame_out; rfl
theorem outs14 : (outsAt0 m c t).2.1 = o14 (iblk m c 1 t) (iblk m c 3 t) (iblk m c 4 t) (iblk m c 6 t) (iblk m c 7 t) (iblk m c 8 t) (iblk m c 9 t) (iblk m c 10 t) (iblk m c 11 t) (iblk m c 12 t) := by
  unfold outsAt0; frame_out; rfl
theorem outs15 : (outsAt0 m c t).2.2.1 = wB14 (iblk m c 0 t) (iblk m c 2 t) := by
  unfold outsAt0; frame_out; rfl
theorem outs16 : (outsAt0 m c t).2.2.2.1 = wD13 (iblk m c 1 t) (iblk m c 3 t) := by
  unfold outsAt0; frame_out; rfl
theorem outs17 : (outsAt0 m c t).2.2.2.2 = o17 (iblk m c 1 t) (iblk m c 3 t) (iblk m c 4 t) (iblk m c 6 t) (iblk m c 7 t) (iblk m c 8 t) (iblk m c 9 t) (iblk m c 10 t) (iblk m c 11 t) (iblk m c 12 t) := by
  unfold outsAt0; frame_out; rfl
end
end Cert.KernelIdeal.Val
end
-- ==== Proof.Windows.lean ====
module

public import proofs.«01_k».proof.Proof.Outs
public import proofs.«01_k».proof.Proof.Gen.KernelIdeal.Value
public import Idealize.ShloMosaic.Lib.Claim
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

variable (m : (ℓ : Loc nD τ sig) → Buf (Elt Ideal) ℓ) (c : Dev nD) (t : Fin cfg0.N)

theorem idx : ∀ t : Fin cfg0.N, win0_0.index t = ![128 + t.val, 1] ∧ win0_1.index t = ![128 + t.val, 5] ∧ win0_2.index t = ![t.val, 0, 0]
    ∧ win0_3.index t = ![t.val, 0, 0] ∧ win0_4.index t = ![t.val, 0, 0] ∧ win0_5.index t = ![0, 0] ∧ win0_6.index t = ![0, 0] ∧ win0_7.index t = ![0, 0]
    ∧ win0_8.index t = ![0, 0, 0] ∧ win0_9.index t = ![0, 0] ∧ win0_10.index t = ![0, 0, 0] ∧ win0_11.index t = ![0, 0] ∧ win0_12.index t = ![0, 0]
    ∧ win0_13.index t = ![t.val, 0] ∧ win0_14.index t = ![t.val, 0] ∧ win0_15.index t = ![t.val, 0, 0] ∧ win0_16.index t = ![t.val, 0, 0]
    ∧ win0_17.index t = ![t.val, 0, 0] ∧ t.val < 8 :=
  (by decide +kernel : ∀ t : Fin grid0.N, _)

abbrev A0 : FVec Ideal S17408x6144 .f32 := m ((c : Thread nD τ).loc main_arg0)
abbrev A1 : FVec Ideal S128x2x512 .f32 := m ((c : Thread nD τ).loc main_arg1)
abbrev A2 : FVec Ideal S128x3x512 .f32 := m ((c : Thread nD τ).loc main_arg2)
abbrev A3 : FVec Ideal S128x512 .f32 := m ((c : Thread nD τ).loc main_arg3)
abbrev A4 : FVec Ideal S3x512 .f32 := m ((c : Thread nD τ).loc main_arg4)
abbrev A5 : FVec Ideal S4x512 .f32 := m ((c : Thread nD τ).loc main_arg5)
abbrev A6 : FVec Ideal S512 .f32 := m ((c : Thread nD τ).loc main_arg6)
abbrev A7 : FVec Ideal S4x128x128 .f32 := m ((c : Thread nD τ).loc main_arg7)
abbrev A8 : FVec Ideal S512 .f32 := m ((c : Thread nD τ).loc main_arg8)
abbrev A9 : FVec Ideal S4x128x128 .f32 := m ((c : Thread nD τ).loc main_arg9)
abbrev A10 : FVec Ideal S512 .f32 := m ((c : Thread nD τ).loc main_arg10)
abbrev A11 : FVec Ideal S512 .f32 := m ((c : Thread nD τ).loc main_arg11)

/-- The host's softplus. -/
def softV (x : FVec Ideal S512 .f32) : FVec Ideal S512 .f32 :=
  select (cmpf CmpFPredicate.une (subf x (broadcastInDim S512 ![] bcast_S_S512 (constant S_ FTy.f32 0#32)))
      (subf x (broadcastInDim S512 ![] bcast_S_S512 (constant S_ FTy.f32 0#32))))
    (addf x (broadcastInDim S512 ![] bcast_S_S512 (constant S_ FTy.f32 0#32)))
    (addf (maximumf x (broadcastInDim S512 ![] bcast_S_S512 (constant S_ FTy.f32 0#32)))
      (Host.log1p (Host.exp (Host.negf (Host.absf (subf x (broadcastInDim S512 ![] bcast_S_S512 (constant S_ FTy.f32 0#32))))))))
theorem softV_at (x : FVec Ideal S512 .f32) (l : Fin 512) : softV x (ix1 l) = Spec.softplus (x (ix1 l)) := by
  pointwise [softV]
  rw [if_neg (fun h => h rfl)]
  rfl
theorem V3 (q : Fin 128) (l : Fin 512) : (V m c main_v3 : FVec Ideal S128x1x512 .f32) (ix3 q 0 l) = A3 m c (ix2 q l) := by
  unfold V
  simp only [List.flatten_cons, List.flatten_nil, List.append_nil, hostOps0, hostOps0_1, hostOps0_2, List.cons_append, List.nil_append]
  entry_read
  pointwise
theorem V4 (l : Fin 512) : (V m c main_v4 : FVec Ideal S1x512 .f32) (ix2 0 l) = A6 m c (ix1 l) := by
  unfold V
  simp only [List.flatten_cons, List.flatten_nil, List.append_nil, hostOps0, hostOps0_1, hostOps0_2, List.cons_append, List.nil_append]
  entry_read
  pointwise
theorem V5 (l : Fin 512) : (V m c main_v5 : FVec Ideal S1x512 .f32) (ix2 0 l) = A8 m c (ix1 l) := by
  unfold V
  simp only [List.flatten_cons, List.flatten_nil, List.append_nil, hostOps0, hostOps0_1, hostOps0_2, List.cons_append, List.nil_append]
  entry_read
  pointwise
theorem V6 (l : Fin 512) : (V m c main_v6 : FVec Ideal S1x512 .f32) (ix2 0 l) = A10 m c (ix1 l) := by
  unfold V
  simp only [List.flatten_cons, List.flatten_nil, List.append_nil, hostOps0, hostOps0_1, hostOps0_2, List.cons_append, List.nil_append]
  entry_read
  pointwise
theorem V2 (l : Fin 512) : (V m c main_v2 : FVec Ideal S1x512 .f32) (ix2 0 l) = softV (Host.negf (A11 m c)) (ix1 l) := by
  unfold V
  simp only [List.flatten_cons, List.flatten_nil, List.append_nil, hostOps0, hostOps0_1, hostOps0_2, List.cons_append, List.nil_append]
  entry_read
  simp only [StableHlo.TRef.ofBuf_toBuf]
  pointwise
  rfl
/-- The arguments as the mixers read them. -/
def args : Spec.Args where
  P := at2 (A0 m c)
  cb := at3 (A1 m c)
  lb := at3 (A2 m c)
  h0 := at2 (A3 m c)
  wb := at2 (A4 m c)
  wd := at2 (A5 m c)
  bd := at1 (A6 m c)
  wa := at3 (A7 m c)
  ba := at1 (A8 m c)
  wx := at3 (A9 m c)
  bx := at1 (A10 m c)
  sp := at1 (softV (Host.negf (A11 m c)))

theorem sp_nonneg (l : ℕ) : 0 ≤ (args m c).sp l := by
  show 0 ≤ at1 (softV (Host.negf (A11 m c))) l
  unfold at1
  split_ifs with h
  · rw [softV_at]; exact Spec.softplus_nonneg _
  · exact le_refl _

theorem lt8 : t.val < 8 := (idx t).2.2.2.2.2.2.2.2.2.2.2.2.2.2.2.2.2.2

theorem blk0 (r l : ℕ) (hr : r < 128) (hl : l < 1536) :
    at2 (iblk m c 0 t : FVec Ideal S128x1536 .f32) r l = (args m c).P (16384 + t * 128 + r) (1536 + l) := by
  have ht := lt8 t
  refine (rd2 (iblk m c 0 t : FVec Ideal S128x1536 .f32) ⟨r, hr⟩ ⟨l, hl⟩).symm.trans
    (Eq.trans ?_ (rd2 (A0 m c) ⟨16384 + t * 128 + r, by omega⟩ ⟨1536 + l, by omega⟩))
  blk_ext [iblk, V, idx t]
theorem blk1 (r l : ℕ) (hr : r < 128) (hl : l < 1024) :
    at2 (iblk m c 1 t : FVec Ideal S128x1024 .f32) r l = (args m c).P (16384 + t * 128 + r) (5120 + l) := by
  have ht := lt8 t
  refine (rd2 (iblk m c 1 t : FVec Ideal S128x1024 .f32) ⟨r, hr⟩ ⟨l, hl⟩).symm.trans
    (Eq.trans ?_ (rd2 (A0 m c) ⟨16384 + t * 128 + r, by omega⟩ ⟨5120 + l, by omega⟩))
  blk_ext [iblk, V, idx t]
theorem blk2 (q s l : ℕ) (hq : q < 16) (hs : s < 2) (hl : l < 512) :
    at3 (iblk m c 2 t : FVec Ideal S16x2x512 .f32) q s l = (args m c).cb (t * 16 + q) s l := by
  have ht := lt8 t
  refine (rd3 (iblk m c 2 t : FVec Ideal S16x2x512 .f32) ⟨q, hq⟩ ⟨s, hs⟩ ⟨l, hl⟩).symm.trans
    (Eq.trans ?_ (rd3 (A1 m c) ⟨t * 16 + q, by omega⟩ ⟨s, hs⟩ ⟨l, hl⟩))
  blk_ext [iblk, V, idx t]
theorem blk3 (q s l : ℕ) (hq : q < 16) (hs : s < 3) (hl : l < 512) :
    at3 (iblk m c 3 t : FVec Ideal S16x3x512 .f32) q s l = (args m c).lb (t * 16 + q) s l := by
  have ht := lt8 t
  refine (rd3 (iblk m c 3 t : FVec Ideal S16x3x512 .f32) ⟨q, hq⟩ ⟨s, hs⟩ ⟨l, hl⟩).symm.trans
    (Eq.trans ?_ (rd3 (A2 m c) ⟨t * 16 + q, by omega⟩ ⟨s, hs⟩ ⟨l, hl⟩))
  blk_ext [iblk, V, idx t]
theorem blk4 (q l : ℕ) (hq : q < 16) (hl : l < 512) :
    at3 (iblk m c 4 t : FVec Ideal S16x1x512 .f32) q 0 l = (args m c).h0 (t * 16 + q) l := by
  have ht := lt8 t
  refine (rd3 (iblk m c 4 t : FVec Ideal S16x1x512 .f32) ⟨q, hq⟩ 0 ⟨l, hl⟩).symm.trans
    (Eq.trans ?_ (rd2 (A3 m c) ⟨t * 16 + q, by omega⟩ ⟨l, hl⟩))
  rw [← V3]
  blk_ext [iblk, idx t]
theorem blk5 : at2 (iblk m c 5 t : FVec Ideal S3x512 .f32) = (args m c).wb := by
  have e : (iblk m c 5 t : FVec Ideal S3x512 .f32) = A4 m c := by blk_ext! [iblk, V, idx t]
  exact congrArg at2 e
theorem blk6 : at2 (iblk m c 6 t : FVec Ideal S4x512 .f32) = (args m c).wd := by
  have e : (iblk m c 6 t : FVec Ideal S4x512 .f32) = A5 m c := by blk_ext! [iblk, V, idx t]
  exact congrArg at2 e
theorem blk8 : at3 (iblk m c 8 t : FVec Ideal S4x128x128 .f32) = (args m c).wa := by
  have e : (iblk m c 8 t : FVec Ideal S4x128x128 .f32) = A7 m c := by blk_ext! [iblk, V, idx t]
  exact congrArg at3 e
theorem blk10 : at3 (iblk m c 10 t : FVec Ideal S4x128x128 .f32) = (args m c).wx := by
  have e : (iblk m c 10 t : FVec Ideal S4x128x128 .f32) = A9 m c := by blk_ext! [iblk, V, idx t]
  exact congrArg at3 e
theorem row_at1 (X : FVec Ideal S1x512 .f32) (Y : FVec Ideal S512 .f32) (h : ∀ l : Fin 512, X (ix2 0 l) = Y (ix1 l)) : at2 X 0 = at1 Y := by
  funext l
  unfold at2 at1
  by_cases hl : l < 512
  · rw [dif_pos ⟨by omega, hl⟩, dif_pos hl]; exact h ⟨l, hl⟩
  · rw [dif_neg (fun h => hl h.2), dif_neg hl]
theorem blk7 : at2 (iblk m c 7 t : FVec Ideal S1x512 .f32) 0 = (args m c).bd :=
  row_at1 _ _ fun l => by rw [← V4]; blk_ext [iblk, idx t]
theorem blk9 : at2 (iblk m c 9 t : FVec Ideal S1x512 .f32) 0 = (args m c).ba :=
  row_at1 _ _ fun l => by rw [← V5]; blk_ext [iblk, idx t]
theorem blk11 : at2 (iblk m c 11 t : FVec Ideal S1x512 .f32) 0 = (args m c).bx :=
  row_at1 _ _ fun l => by rw [← V6]; blk_ext [iblk, idx t]
theorem blk12 : at2 (iblk m c 12 t : FVec Ideal S1x512 .f32) 0 = (args m c).sp :=
  row_at1 _ _ fun l => by rw [← V2]; blk_ext [iblk, idx t]
end Cert.KernelIdeal.Val
end
-- ==== Proof.Arrays.lean ====
module

public import proofs.«01_k».proof.Proof.Windows
@[expose] public section
set_option maxRecDepth 16384
noncomputable section
open Idealize.ShloMosaic Idealize.ShloMosaic.TcCoe Idealize.SL.Sem
open Idealize.ShloMosaic.Pipeline (Dat)
open Cert.Reads
namespace Cert.KernelIdeal.Val
open Cert.KernelIdeal Cert.KernelIdeal.Gen

variable (m : (ℓ : Loc nD τ sig) → Buf (Elt Ideal) ℓ) (c : Dev nD) (t : Fin cfg0.N)

theorem fullB_blk (q s l : ℕ) (hq : q < 16) (hs : s < 10) (hl : l < 512) :
    fB (iblk m c 0 t : FVec Ideal S128x1536 .f32) (iblk m c 2 t : FVec Ideal S16x2x512 .f32) q s l = Spec.fullB (args m c) 16384 8 (t * 16 + q) s l := by
  unfold fB Spec.fullB
  split_ifs with h
  · exact blk2 m c t q s l hq h hl
  · have e1 := blk0 m c t (q * 8 + (s - 2)) (512 + l) (by omega) (by omega)
    have e2 := blk0 m c t (q * 8 + (s - 2)) (1024 + l) (by omega) (by omega)
    rw [show 16384 + t.val * 128 + (q * 8 + (s - 2)) = 16384 + (t.val * 16 + q) * 8 + (s - 2) by ring, ← Nat.add_assoc] at e1 e2
    exact congrArg₂ (· * ·) e1 e2

theorem fullD_blk (q s l : ℕ) (hq : q < 16) (hs : s < 11) (hl : l < 512) :
    fD (iblk m c 1 t) (iblk m c 3 t) q s l = Spec.fullD (args m c) 16384 8 (t * 16 + q) s l := by
  unfold fD Spec.fullD
  split_ifs with h
  · exact blk3 m c t q s l hq h hl
  · have e1 := blk1 m c t (q * 8 + (s - 3)) l (by omega) (by omega)
    rw [show 16384 + t.val * 128 + (q * 8 + (s - 3)) = 16384 + (t.val * 16 + q) * 8 + (s - 3) by ring] at e1
    exact e1

theorem xRow_blk (q p l : ℕ) (hq : q < 16) (hp : p < 8) (hl : l < 512) :
    Spec.conv4 (fD (iblk m c 1 t) (iblk m c 3 t) q) (at2 (iblk m c 6 t : FVec Ideal S4x512 .f32)) (at2 (iblk m c 7 t : FVec Ideal S1x512 .f32) 0) p l =
      Spec.xRow (args m c) 16384 8 (t * 16 + q) p l := by
  unfold Spec.xRow Spec.conv4
  rw [blk6, blk7, fullD_blk m c t q p l hq (by omega) hl, fullD_blk m c t q (p + 1) l hq (by omega) hl,
    fullD_blk m c t q (p + 2) l hq (by omega) hl, fullD_blk m c t q (p + 3) l hq (by omega) hl]

theorem state_blk (q l n : ℕ) (hq : q < 16) (hn : n ≤ 8) (hl : l < 512) :
    hS (iblk m c 1 t) (iblk m c 3 t) (iblk m c 4 t) (iblk m c 6 t) (iblk m c 7 t) (iblk m c 8 t) (iblk m c 9 t) (iblk m c 10 t) (iblk m c 11 t)
      (iblk m c 12 t) q l n = Spec.state (args m c) 16384 8 (t * 16 + q) l n := by
  unfold hS Spec.state
  refine Scan.lin_congr (blk4 m c t q l hq hl) (fun p hp => ?_) (fun p hp => ?_)
  · rw [blk8, blk9, blk12]
    exact Spec.decay_congr _ _ _ hl fun j hj => xRow_blk m c t q p j hq (by omega) hj
  · rw [blk8, blk9, blk10, blk11, blk12]
    exact Spec.drive_congr _ _ _ _ _ hl fun j hj => xRow_blk m c t q p j hq (by omega) hj

/-- The five results, as functions of the arguments. -/
def G13 : FVec Ideal S1024x512 .bf16 := fun j => Spec.outB (args m c) 16384 8 ((j 0 : Fin 1024) : ℕ) ((j 1 : Fin 512) : ℕ)
def G14 : FVec Ideal S1024x512 .bf16 := fun j => Spec.outD (args m c) 16384 8 ((j 0 : Fin 1024) : ℕ) ((j 1 : Fin 512) : ℕ)
def G15 : FVec Ideal S128x2x512 .f32 := fun j => Spec.fullB (args m c) 16384 8 ((j 0 : Fin 128) : ℕ) (8 + ((j 1 : Fin 2) : ℕ)) ((j 2 : Fin 512) : ℕ)
def G16 : FVec Ideal S128x3x512 .f32 := fun j => Spec.fullD (args m c) 16384 8 ((j 0 : Fin 128) : ℕ) (8 + ((j 1 : Fin 3) : ℕ)) ((j 2 : Fin 512) : ℕ)
def G17 : FVec Ideal S128x1x512 .f32 := fun j => Spec.state (args m c) 16384 8 ((j 0 : Fin 128) : ℕ) ((j 2 : Fin 512) : ℕ) 8

theorem final15 : (dats m 0 c).arrAt 15 cfg0.N = G15 m c := by
  refine (dats m 0 c).arrAt_eq_of_covers 15 (G15 m c) (by decide +kernel) fun t hf y => ?_
  have ht := lt8 t
  blk_simp [idx t]
  rw [after0_15, outs15]
  idx_vars y
  refine Eq.trans (b := G15 m c (show S128x2x512.Idx from ix3 ⟨t * 16 + y0, by omega⟩ y1 y2)) ?_ (by blk_ext [idx t])
  refine (o15_at ..).trans ?_
  refine (fullB_blk m c t y0 (8 + y1) y2 y0.isLt (by omega) y2.isLt).trans ?_
  rfl
theorem final16 : (dats m 0 c).arrAt 16 cfg0.N = G16 m c := by
  refine (dats m 0 c).arrAt_eq_of_covers 16 (G16 m c) (by decide +kernel) fun t hf y => ?_
  have ht := lt8 t
  blk_simp [idx t]
  rw [after0_16, outs16]
  idx_vars y
  refine Eq.trans (b := G16 m c (show S128x3x512.Idx from ix3 ⟨t * 16 + y0, by omega⟩ y1 y2)) ?_ (by blk_ext [idx t])
  refine (o16_at ..).trans ?_
  refine (fullD_blk m c t y0 (8 + y1) y2 y0.isLt (by omega) y2.isLt).trans ?_
  rfl
theorem final17 : (dats m 0 c).arrAt 17 cfg0.N = G17 m c := by
  refine (dats m 0 c).arrAt_eq_of_covers 17 (G17 m c) (by decide +kernel) fun t hf y => ?_
  have ht := lt8 t
  blk_simp [idx t]
  rw [after0_17, outs17]
  idx_vars y
  refine Eq.trans (b := G17 m c (show S128x1x512.Idx from ix3 ⟨t * 16 + y0, by omega⟩ y1 y2)) ?_ (by blk_ext [idx t])
  refine (o17_at _ _ _ _ _ _ _ _ _ _ (fun l => by rw [blk12]; exact sp_nonneg m c l) y0 y1 y2).trans ?_
  refine (state_blk m c t y0 y2 8 y0.isLt (by omega) y2.isLt).trans ?_
  rfl
theorem final13 : (dats m 0 c).arrAt 13 cfg0.N = G13 m c := by
  refine (dats m 0 c).arrAt_eq_of_covers 13 (G13 m c) (by decide +kernel) fun t hf y => ?_
  have ht := lt8 t
  blk_simp [idx t]
  rw [after0_13, outs13]
  idx_vars y
  refine Eq.trans (b := G13 m c (show S1024x512.Idx from ix2 ⟨t * 128 + y0, by omega⟩ y1)) ?_ (by blk_ext [idx t])
  refine (o13_at ..).trans ?_
  show _ = Spec.outB (args m c) 16384 8 (t * 128 + y0) y1
  unfold Spec.outB Spec.conv3
  have e1 : (t.val * 128 + y0.val) / 8 = t * 16 + y0 / 8 := by omega
  have e2 : (t.val * 128 + y0.val) % 8 = y0 % 8 := by omega
  rw [blk0 m c t y0 y1 y0.isLt (by omega), blk5, fullB_blk m c t (y0 / 8) (y0 % 8) y1 (by omega) (by omega) y1.isLt,
    fullB_blk m c t (y0 / 8) (y0 % 8 + 1) y1 (by omega) (by omega) y1.isLt, fullB_blk m c t (y0 / 8) (y0 % 8 + 2) y1 (by omega) (by omega) y1.isLt,
    e1, e2, Nat.add_assoc 16384]
theorem final14 : (dats m 0 c).arrAt 14 cfg0.N = G14 m c := by
  refine (dats m 0 c).arrAt_eq_of_covers 14 (G14 m c) (by decide +kernel) fun t hf y => ?_
  have ht := lt8 t
  blk_simp [idx t]
  rw [after0_14, outs14]
  idx_vars y
  refine Eq.trans (b := G14 m c (show S1024x512.Idx from ix2 ⟨t * 128 + y0, by omega⟩ y1)) ?_ (by blk_ext [idx t])
  refine (o14_at _ _ _ _ _ _ _ _ _ _ (fun l => by rw [blk12]; exact sp_nonneg m c l) y0 y1).trans ?_
  show _ = Spec.outD (args m c) 16384 8 (t * 128 + y0) y1
  unfold Spec.outD
  have e1 : (t.val * 128 + y0.val) / 8 = t * 16 + y0 / 8 := by omega
  have e2 : (t.val * 128 + y0.val) % 8 = y0 % 8 := by omega
  rw [blk1 m c t y0 (512 + y1) y0.isLt (by omega), state_blk m c t (y0 / 8) y1 (y0 % 8 + 1) (by omega) (by omega) y1.isLt,
    e1, e2, Nat.add_assoc 16384, ← Nat.add_assoc 5120]
end Cert.KernelIdeal.Val
end
-- ==== Proof.RefReads.lean ====
module

public import proofs.«01_k».proof.Proof.Gen.ReferenceIdeal.Run
public import proofs.«01_k».proof.Proof.Spec
public import proofs.«01_k».proof.Proof.Reads
public import Idealize.ShloMosaic.Lib.Claim
@[expose] public section
set_option maxRecDepth 16384
noncomputable section
open Idealize.ShloMosaic Idealize.ShloMosaic.TcCoe Idealize.SL.Sem
open Idealize.ShloMosaic.StableHlo
open Cert.Reads
/-! The reference's buffers before its loop and the few it reads after it, an element at a time, in the terms of `Spec`. -/
namespace Cert.ReferenceIdeal.Val
open Cert.ReferenceIdeal Cert.ReferenceIdeal.Gen Cert.ReferenceIdeal.Value
variable (m : (ℓ : Loc nD τ sig) → Buf (Elt Ideal) ℓ) (c : Dev nD)

def A0 : FVec Ideal S17408x6144 .f32 := m ((c : Thread nD τ).loc main_arg0)
theorem la0 : launchContents m c (Proc.tc.devRef main_arg0) = A0 m c := rfl
theorem ma0 : m (c.tc.loc main_arg0) = A0 m c := rfl
def A1 : FVec Ideal S128x2x512 .f32 := m ((c : Thread nD τ).loc main_arg1)
theorem la1 : launchContents m c (Proc.tc.devRef main_arg1) = A1 m c := rfl
theorem ma1 : m (c.tc.loc main_arg1) = A1 m c := rfl
def A2 : FVec Ideal S128x3x512 .f32 := m ((c : Thread nD τ).loc main_arg2)
theorem la2 : launchContents m c (Proc.tc.devRef main_arg2) = A2 m c := rfl
theorem ma2 : m (c.tc.loc main_arg2) = A2 m c := rfl
def A3 : FVec Ideal S128x512 .f32 := m ((c : Thread nD τ).loc main_arg3)
theorem la3 : launchContents m c (Proc.tc.devRef main_arg3) = A3 m c := rfl
theorem ma3 : m (c.tc.loc main_arg3) = A3 m c := rfl
def A4 : FVec Ideal S3x512 .f32 := m ((c : Thread nD τ).loc main_arg4)
theorem la4 : launchContents m c (Proc.tc.devRef main_arg4) = A4 m c := rfl
theorem ma4 : m (c.tc.loc main_arg4) = A4 m c := rfl
def A5 : FVec Ideal S4x512 .f32 := m ((c : Thread nD τ).loc main_arg5)
theorem la5 : launchContents m c (Proc.tc.devRef main_arg5) = A5 m c := rfl
theorem ma5 : m (c.tc.loc main_arg5) = A5 m c := rfl
def A6 : FVec Ideal S512 .f32 := m ((c : Thread nD τ).loc main_arg6)
theorem la6 : launchContents m c (Proc.tc.devRef main_arg6) = A6 m c := rfl
theorem ma6 : m (c.tc.loc main_arg6) = A6 m c := rfl
def A7 : FVec Ideal S4x128x128 .f32 := m ((c : Thread nD τ).loc main_arg7)
theorem la7 : launchContents m c (Proc.tc.devRef main_arg7) = A7 m c := rfl
theorem ma7 : m (c.tc.loc main_arg7) = A7 m c := rfl
def A8 : FVec Ideal S512 .f32 := m ((c : Thread nD τ).loc main_arg8)
theorem la8 : launchContents m c (Proc.tc.devRef main_arg8) = A8 m c := rfl
theorem ma8 : m (c.tc.loc main_arg8) = A8 m c := rfl
def A9 : FVec Ideal S4x128x128 .f32 := m ((c : Thread nD τ).loc main_arg9)
theorem la9 : launchContents m c (Proc.tc.devRef main_arg9) = A9 m c := rfl
theorem ma9 : m (c.tc.loc main_arg9) = A9 m c := rfl
def A10 : FVec Ideal S512 .f32 := m ((c : Thread nD τ).loc main_arg10)
theorem la10 : launchContents m c (Proc.tc.devRef main_arg10) = A10 m c := rfl
theorem ma10 : m (c.tc.loc main_arg10) = A10 m c := rfl
def A11 : FVec Ideal S512 .f32 := m ((c : Thread nD τ).loc main_arg11)
theorem la11 : launchContents m c (Proc.tc.devRef main_arg11) = A11 m c := rfl
theorem ma11 : m (c.tc.loc main_arg11) = A11 m c := rfl

/-- The host's softplus. -/
def softV (x : FVec Ideal S512 .f32) : FVec Ideal S512 .f32 :=
  Idealize.ShloMosaic.select (cmpf CmpFPredicate.une (subf x (broadcastInDim S512 ![] bcast_S_S512 (constant S_ FTy.f32 0#32)))
      (subf x (broadcastInDim S512 ![] bcast_S_S512 (constant S_ FTy.f32 0#32))))
    (addf x (broadcastInDim S512 ![] bcast_S_S512 (constant S_ FTy.f32 0#32)))
    (addf (maximumf x (broadcastInDim S512 ![] bcast_S_S512 (constant S_ FTy.f32 0#32)))
      (Host.log1p (Host.exp (Host.negf (Host.absf (subf x (broadcastInDim S512 ![] bcast_S_S512 (constant S_ FTy.f32 0#32))))))))
/-- The arguments as the mixers read them. -/
def args : Spec.Args where
  P := at2 (A0 m c)
  cb := at3 (A1 m c)
  lb := at3 (A2 m c)
  h0 := at2 (A3 m c)
  wb := at2 (A4 m c)
  wd := at2 (A5 m c)
  bd := at1 (A6 m c)
  wa := at3 (A7 m c)
  ba := at1 (A8 m c)
  wx := at3 (A9 m c)
  bx := at1 (A10 m c)
  sp := at1 (softV (Host.negf (A11 m c)))

abbrev R0 : ℕ := 16384
abbrev T : ℕ := 8

theorem cB (b s l : ℕ) : (if s < 2 then at3 (A1 m c) b s l else at2 (A0 m c) (16384 + (b * 8 + (s - 2))) (1536 + (512 + l)) * at2 (A0 m c) (16384 + (b * 8 + (s - 2))) (1536 + (1024 + l)))
    = Spec.fullB (args m c) R0 T b s l := by
  unfold Spec.fullB
  simp only [args, ← Nat.add_assoc]
theorem cB' (b s l : ℕ) : at2 (A0 m c) (16384 + (b * 8 + s)) (1536 + (512 + l)) * at2 (A0 m c) (16384 + (b * 8 + s)) (1536 + (1024 + l))
    = Spec.fullB (args m c) R0 T b (s + 2) l := by
  rw [← cB, if_neg (by omega)]; rfl
theorem cD (b s l : ℕ) : (if s < 3 then at3 (A2 m c) b s l else at2 (A0 m c) (16384 + (b * 8 + (s - 3))) (5120 + l))
    = Spec.fullD (args m c) R0 T b s l := by
  unfold Spec.fullD
  simp only [args, ← Nat.add_assoc]
theorem cD' (b s l : ℕ) : at2 (A0 m c) (16384 + (b * 8 + s)) (5120 + l) = Spec.fullD (args m c) R0 T b (s + 3) l := by
  rw [← cD, if_neg (by omega)]; rfl
theorem cX (b t l : ℕ) : Spec.fullD (args m c) R0 T b t l * at2 (A5 m c) 0 l + Spec.fullD (args m c) R0 T b (1 + t) l * at2 (A5 m c) 1 l + Spec.fullD (args m c) R0 T b (2 + t) l * at2 (A5 m c) 2 l
     + Spec.fullD (args m c) R0 T b (t + 3) l * at2 (A5 m c) 3 l + at1 (A6 m c) l = Spec.xRow (args m c) R0 T b t l := by
  rw [Nat.add_comm 1, Nat.add_comm 2]; rfl

set_option backward.isDefEq.respectTransparency false in
set_option maxHeartbeats 1000000 in
theorem e31 (b : Fin 128) (s : Fin 2) (l : Fin 512) : (entryContents preI m c (Proc.devRef .tc main_v31) : FVec Ideal S128x2x512 .f32) (ix3 b s l) = Spec.fullB (args m c) R0 T b (8 + s) l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  pointwise
  simp only [rd1, rd2, rd3, dite_eq_ite, Fin.isValue, Fin.val_zero, Fin.val_one, Fin.val_two, Fin.coe_ofNat_eq_mod]
  exact cB m c b (8 + s) l
set_option backward.isDefEq.respectTransparency false in
set_option maxHeartbeats 1000000 in
theorem e65 (b : Fin 128) (s : Fin 3) (l : Fin 512) : (entryContents preI m c (Proc.devRef .tc main_v65) : FVec Ideal S128x3x512 .f32) (ix3 b s l) = Spec.fullD (args m c) R0 T b (8 + s) l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  pointwise
  simp only [rd1, rd2, rd3, dite_eq_ite, Fin.isValue, Fin.val_zero, Fin.val_one, Fin.val_two, Fin.coe_ofNat_eq_mod]
  exact cD m c b (8 + s) l
set_option backward.isDefEq.respectTransparency false in
set_option maxHeartbeats 1000000 in
theorem e34 (b : Fin 128) (t : Fin 8) (l : Fin 512) : (entryContents preI m c (Proc.devRef .tc main_v34) : FVec Ideal S128x8x512 .f32) (ix3 b t l) = (args m c).P (16384 + (b * 8 + t)) (5632 + l) := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  pointwise
  simp only [rd1, rd2, rd3, dite_eq_ite, Fin.isValue, Fin.val_zero, Fin.val_one, Fin.val_two, Fin.coe_ofNat_eq_mod]
  show _ = at2 (A0 m c) _ _
  rw [show 5120 + (512 + l.val) = 5632 + l.val by omega]
set_option backward.isDefEq.respectTransparency false in
set_option maxHeartbeats 1000000 in
theorem eH (b : Fin 128) (l : Fin 512) : (entryContents preI m c (Proc.devRef .tc main_v112_3) : FVec Ideal S128x512 .f32) (ix2 b l) = (args m c).h0 b l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  pointwise
  simp only [rd1, rd2, rd3, dite_eq_ite, Fin.isValue, Fin.val_zero, Fin.val_one, Fin.val_two, Fin.coe_ofNat_eq_mod]
  rfl
set_option backward.isDefEq.respectTransparency false in
set_option maxHeartbeats 1000000 in
theorem e32 (b : Fin 128) (t : Fin 8) (l : Fin 512) : (entryContents preI m c (Proc.devRef .tc main_v32) : FVec Ideal S128x8x512 .f32) (ix3 b t l) = (args m c).P (16384 + (b * 8 + t)) (1536 + l) * Spec.conv3 (Spec.fullB (args m c) R0 T b) (args m c).wb t l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  pointwise
  simp only [rd1, rd2, rd3, dite_eq_ite, Fin.isValue, Fin.val_zero, Fin.val_one, Fin.val_two, Fin.coe_ofNat_eq_mod]
  simp only [cB]
  simp only [cB', Nat.reduceMod, Nat.zero_mod]
  rw [Nat.add_comm 1]
  rfl
set_option backward.isDefEq.respectTransparency false in
set_option maxHeartbeats 1000000 in
theorem eA (t : Fin 8) (b : Fin 128) (l : Fin 512) : (entryContents preI m c (Proc.devRef .tc main_v112_0) : FVec Ideal S8x128x512 .f32) (ix3 t b l) = Spec.decay (Spec.xRow (args m c) R0 T b t) (args m c).wa (args m c).ba (args m c).sp l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  simp only [StableHlo.TRef.ofBuf_toBuf]
  pointwise
  simp only [rd1, rd2, rd3, dite_eq_ite, Fin.isValue, Fin.val_zero, Fin.val_one, Fin.val_two, Fin.coe_ofNat_eq_mod]
  simp only [cD]
  simp only [cD', cX, Nat.reduceMod, Nat.zero_mod, Ideal.ofBits_zero]
  simp only [Scan.ofBits_two, Scan.ofBits_neg_eight]
  rfl
set_option backward.isDefEq.respectTransparency false in
set_option maxHeartbeats 1000000 in
theorem eX (t : Fin 8) (b : Fin 128) (l : Fin 512) : (entryContents preI m c (Proc.devRef .tc main_v112_1) : FVec Ideal S8x128x512 .f32) (ix3 t b l) = Spec.drive (Spec.xRow (args m c) R0 T b t) (args m c).wa (args m c).ba (args m c).wx (args m c).bx (args m c).sp l := by
  unfold entryContents
  rw [afterL_eq_after_flatten]
  simp only [preI, List.flatten_cons, List.flatten_nil, List.append_nil, hostOps0, hostOps0_1, hostOps0_2, List.cons_append, List.nil_append]
  entry_read
  simp only [la0, ma0, la1, ma1, la2, ma2, la3, ma3, la4, ma4, la5, ma5, la6, ma6, la7, ma7, la8, ma8, la9, ma9, la10, ma10, la11, ma11, id_eq]
  simp only [StableHlo.TRef.ofBuf_toBuf]
  pointwise
  simp only [rd1, rd2, rd3, dite_eq_ite, Fin.isValue, Fin.val_zero, Fin.val_one, Fin.val_two, Fin.coe_ofNat_eq_mod]
  simp only [cD]
  simp only [cD', cX, Nat.reduceMod, Nat.zero_mod, Ideal.ofBits_zero]
  simp only [Scan.ofBits_two, Scan.ofBits_neg_eight]
  rfl
end Cert.ReferenceIdeal.Val
end
-- ==== Proof.RefLoop.lean ====
module

public import proofs.«01_k».proof.Proof.Gen.ReferenceIdeal.Run
public import proofs.«01_k».proof.Proof.RefReads
public import Idealize.ShloMosaic.Lib.DynamicIndex
public import Idealize.ShloMosaic.Lib.Pipeline.Value
public import Idealize.ShloMosaic.Lib.Claim
@[expose] public section
set_option maxRecDepth 16384
noncomputable section
open Idealize.ShloMosaic Idealize.ShloMosaic.TcCoe Idealize.SL.Sem
open Idealize.ShloMosaic.StableHlo
open Cert.Reads
/-! The reference's loop: what a trip does to the carried state and to the stack of states. -/
namespace Cert.ReferenceIdeal.Val
open Cert.ReferenceIdeal Cert.ReferenceIdeal.Gen Cert.ReferenceIdeal.Value
variable (m : (ℓ : Loc nD τ sig) → Buf (Elt Ideal) ℓ) (c : Dev nD)

/-- The carried buffers of a valuation: the decays, the drives, the state, the stack of states. -/
abbrev cA (V0 : Valuation τ sig (Elt Ideal)) : S8x128x512.Idx → EReal := V0 (Proc.devRef .tc main_v112_0)
abbrev cU (V0 : Valuation τ sig (Elt Ideal)) : S8x128x512.Idx → EReal := V0 (Proc.devRef .tc main_v112_1)
abbrev cH (V0 : Valuation τ sig (Elt Ideal)) : S128x512.Idx → EReal := V0 (Proc.devRef .tc main_v112_3)
abbrev cS (V0 : Valuation τ sig (Elt Ideal)) : S8x128x512.Idx → EReal := V0 (Proc.devRef .tc main_v112_4)
abbrev rH (V0 : Valuation τ sig (Elt Ideal)) : S128x512.Idx → EReal := res_main_while0b_v138 V0

theorem iv_toInt : ∀ k : Fin 8, (Scf.iv 0#32 1#32 k).toInt = (k.val : Int) := by decide +kernel

theorem slice_starts (x : S8x128x512.Idx → EReal) (k : Fin 8) (off : Fin 3 → ℤ) (h0 : off 0 = (k.val : ℤ)) (h1 : off 1 = 0) (h2 : off 2 = 0)
    (b : Fin 128) (l : Fin 512) :
    (Host.dynamicSlice S1x128x512 x off sliceFits_S8x128x512_S1x128x512) (ix3 0 b l) = x (ix3 k b l) := by
  have hk := k.isLt
  have hoff : S8x128x512.Slices ![k.val, 0, 0] S1x128x512 := ⟨rfl, fun a => by fin_cases a <;> simp [S1x128x512, S8x128x512, Shape.size]⟩
  rw [Host.dynamicSlice_eq_extractStridedSlice S1x128x512 x off ![k.val, 0, 0] sliceFits_S8x128x512_S1x128x512 hoff
     (fun a => by fin_cases a; exacts [h0, h1, h2])]
  pointwise

theorem update_starts (x : S8x128x512.Idx → EReal) (u : S1x128x512.Idx → EReal) (k : Fin 8) (off : Fin 3 → ℤ) (h0 : off 0 = (k.val : ℤ)) (h1 : off 1 = 0) (h2 : off 2 = 0)
    (t : Fin 8) (b : Fin 128) (l : Fin 512) :
    (Host.dynamicUpdateSlice x u off updateFits_S8x128x512_S1x128x512) (ix3 t b l) = if t = k then u (ix3 0 b l) else x (ix3 t b l) := by
  have hk := k.isLt
  have hoff : S8x128x512.Slices ![k.val, 0, 0] S1x128x512 := ⟨rfl, fun a => by fin_cases a <;> simp [S1x128x512, S8x128x512, Shape.size]⟩
  rw [Host.dynamicUpdateSlice_eq_updateSlice x u off updateFits_S8x128x512_S1x128x512 ![k.val, 0, 0]
     (fun a => by fin_cases a <;> simp [h0, h1, h2, S1x128x512, S8x128x512, Shape.size]; omega) hoff]
  pointwise
  by_cases e : t = k
  · subst e
    rw [dif_pos ⟨le_refl _, Nat.lt_succ_self _⟩, if_pos rfl]
    congr 2
    exact Fin.ext (Nat.sub_self _)
  · rw [dif_neg (fun h => e (Fin.ext (by omega))), if_neg e]

theorem res_at (V0 : Valuation τ sig (Elt Ideal)) (k : Fin 8) (hV : V0 (Proc.devRef .tc main_v112_2) = fun _ => Scf.iv 0#32 1#32 k) (b : Fin 128) (l : Fin 512) :
    rH V0 (ix2 b l) = cA V0 (ix3 k b l) * cH V0 (ix2 b l) + cU V0 (ix3 k b l) := by
  unfold rH res_main_while0b_v138
  have e0 : ((V0 (Proc.devRef .tc main_v112_2) : IVec S_ 32) (Shape.Idx.first h_S_)).toInt = (k.val : ℤ) := by rw [hV]; exact iv_toInt k
  rw [← slice_starts (cA V0) k (fun k => (((![V0 (Proc.devRef .tc main_v112_2), constantI S_ 32 0#32, constantI S_ 32 0#32] : Fin 3 → (⟨S_, .i32⟩ : BufTy).Contents (Elt Ideal))) k (Shape.Idx.first h_S_)).toInt) e0 rfl rfl b l,
    ← slice_starts (cU V0) k (fun k => (((![V0 (Proc.devRef .tc main_v112_2), constantI S_ 32 0#32, constantI S_ 32 0#32] : Fin 3 → (⟨S_, .i32⟩ : BufTy).Contents (Elt Ideal))) k (Shape.Idx.first h_S_)).toInt) e0 rfl rfl b l]
  generalize Host.dynamicSlice S1x128x512 (cA V0) _ _ = A
  generalize Host.dynamicSlice S1x128x512 (cU V0) _ _ = B
  pointwise

theorem upd_at (V0 : Valuation τ sig (Elt Ideal)) (k : Fin 8) (hV : V0 (Proc.devRef .tc main_v112_2) = fun _ => Scf.iv 0#32 1#32 k) (t : Fin 8) (b : Fin 128) (l : Fin 512) :
    cS (afterL bodyI V0) (ix3 t b l) = if t = k then rH V0 (ix2 b l) else cS V0 (ix3 t b l) := by
  have e0 : ((V0 (Proc.devRef .tc main_v112_2) : IVec S_ 32) (Shape.Idx.first h_S_)).toInt = (k.val : ℤ) := by rw [hV]; exact iv_toInt k
  have hU : ∀ R : S128x512.Idx → EReal, (broadcastInDim S1x128x512 ![1, 2] bcast_S128x512_S1x128x512_1_2 R) (ix3 0 b l) = R (ix2 b l) := fun R => by pointwise
  rw [← hU (rH V0)]
  have e := congrFun (trip_main_v112_4 V0) (ix3 t b l)
  exact e.trans (update_starts (cS V0) _ k (fun k => (((![V0 (Proc.devRef .tc main_v112_2), constantI S_ 32 0#32, constantI S_ 32 0#32] : Fin 3 → (⟨S_, .i32⟩ : BufTy).Contents (Elt Ideal))) k (Shape.Idx.first h_S_)).toInt) e0 rfl rfl t b l)

/-- A buffer no operation of the loop writes. -/
def Kept (r : Ref sig .tc) : Prop :=
  r ∉ condOps_W ∧ r ∉ while0Ops0_W ∧ r ∉ while0Ops0_1_W ∧ r ∉ while0Ops0_2_W ∧ r ∉ while0Ops0_3_W ∧ r ∉ while0Ops0_4_W

theorem cond_kept (V0 : Valuation τ sig (Elt Ideal)) {r : Ref sig .tc} (h : Kept r) :
    after condOps V0 (Proc.devRef .tc r) = V0 (Proc.devRef .tc r) := after_of_writes_sub condOps V0 condOps_writes h.1

theorem kept {r : Ref sig .tc} (h : Kept r) : ∀ k, atK m k c (Proc.devRef .tc r) = entryContents preI m c (Proc.devRef .tc r)
  | 0 => rfl
  | k + 1 => by
    rw [show atK m (k + 1) c = after while0Ops0_4 (after while0Ops0_3 (after while0Ops0_2 (after while0Ops0_1 (after while0Ops0 (after condOps (atK m k c)))))) from rfl]
    rw [after_of_writes_sub while0Ops0_4 _ while0Ops0_4_writes h.2.2.2.2.2, after_of_writes_sub while0Ops0_3 _ while0Ops0_3_writes h.2.2.2.2.1,
      after_of_writes_sub while0Ops0_2 _ while0Ops0_2_writes h.2.2.2.1, after_of_writes_sub while0Ops0_1 _ while0Ops0_1_writes h.2.2.1,
      after_of_writes_sub while0Ops0 _ while0Ops0_writes h.2.1, cond_kept _ h, kept h k]

/-- Before the trip of index `k`: the decays and the drives as at the loop's entry, the state after `k` rows, and the stack's first `k` rows. -/
structure Inv (k : ℕ) (V0 : Valuation τ sig (Elt Ideal)) : Prop where
  ctr : V0 (Proc.devRef .tc main_v112_2) = fun _ => Scf.iv 0#32 1#32 k
  a : ∀ (t : Fin 8) (b : Fin 128) (l : Fin 512), cA V0 (ix3 t b l) = Spec.decay (Spec.xRow (args m c) R0 T b t) (args m c).wa (args m c).ba (args m c).sp l
  u : ∀ (t : Fin 8) (b : Fin 128) (l : Fin 512), cU V0 (ix3 t b l) = Spec.drive (Spec.xRow (args m c) R0 T b t) (args m c).wa (args m c).ba (args m c).wx (args m c).bx (args m c).sp l
  h : ∀ (b : Fin 128) (l : Fin 512), cH V0 (ix2 b l) = Spec.state (args m c) R0 T b l k
  s : ∀ (t : Fin 8) (b : Fin 128) (l : Fin 512), t.val < k → cS V0 (ix3 t b l) = Spec.state (args m c) R0 T b l (t + 1)

theorem inv_entry : Inv m c 0 (entryContents preI m c) :=
  ⟨atK_ctr m c 0, eA m c, eX m c, eH m c, fun _ _ _ h => absurd h (Nat.not_lt_zero _)⟩

theorem inv_cond {k : ℕ} {V0 : Valuation τ sig (Elt Ideal)} (h : Inv m c k V0) : Inv m c k (after condOps V0) := by
  have e0 : cA (after condOps V0) = cA V0 := cond_keeps V0 main_v112_0 (by decide)
  have e1 : cU (after condOps V0) = cU V0 := cond_keeps V0 main_v112_1 (by decide)
  have e2 := cond_keeps V0 main_v112_2 (by decide)
  have e3 : cH (after condOps V0) = cH V0 := cond_keeps V0 main_v112_3 (by decide)
  have e4 : cS (after condOps V0) = cS V0 := cond_keeps V0 main_v112_4 (by decide)
  exact ⟨e2.trans h.ctr, by rw [e0]; exact h.a, by rw [e1]; exact h.u, by rw [e3]; exact h.h, by rw [e4]; exact h.s⟩

theorem inv_body {k : ℕ} (hk : k < 8) {V0 : Valuation τ sig (Elt Ideal)} (h : Inv m c k V0) : Inv m c (k + 1) (afterL bodyI V0) := by
  have e0 : cA (afterL bodyI V0) = cA V0 := trip_main_v112_0 V0
  have e1 : cU (afterL bodyI V0) = cU V0 := trip_main_v112_1 V0
  have e3 : cH (afterL bodyI V0) = rH V0 := trip_main_v112_3 V0
  have hr : ∀ (b : Fin 128) (l : Fin 512), rH V0 (ix2 b l) = Spec.state (args m c) R0 T b l (k + 1) := fun b l => by
    rw [res_at V0 ⟨k, hk⟩ h.ctr, h.a, h.u, h.h]; rfl
  refine ⟨(trip_main_v112_2 V0).trans ?_, by rw [e0]; exact h.a, by rw [e1]; exact h.u, by rw [e3]; exact hr, fun t b l ht => ?_⟩
  · rw [h.ctr, Scf.iv_succ]; rfl
  · rw [upd_at V0 ⟨k, hk⟩ h.ctr]
    split_ifs with e
    · subst e
      exact hr b l
    · exact h.s t b l (Nat.lt_of_le_of_ne (Nat.le_of_lt_succ ht) fun q => e (Fin.ext q))

theorem inv_atK : ∀ k ≤ 8, Inv m c k (atK m k c)
  | 0, _ => inv_entry m c
  | k + 1, h => inv_body m c (by omega) (inv_cond m c (inv_atK k (by omega)))

/-- The contents the operations after the loop read. -/
def atEnd : Valuation τ sig (Elt Ideal) := after condOps (atK m 8 c)
theorem inv_end : Inv m c 8 (atEnd m c) := inv_cond m c (inv_atK m c 8 (le_refl _))
theorem end_kept {r : Ref sig .tc} (h : Kept r) : atEnd m c (Proc.devRef .tc r) = entryContents preI m c (Proc.devRef .tc r) :=
  (cond_kept _ h).trans (kept m c h 8)
theorem final_eq : finalContents condOps preI bodyI postI 8 m c = after hostOps0_3 (atEnd m c) := rfl

theorem f31 (b : Fin 128) (s : Fin 2) (l : Fin 512) : (finalContents condOps preI bodyI postI 8 m c (Proc.devRef .tc main_v31) : FVec Ideal S128x2x512 .f32) (ix3 b s l) = Spec.fullB (args m c) R0 T b (8 + s) l := by
  rw [final_eq]
  entry_read
  rw [end_kept m c (by unfold Kept; decide)]
  exact e31 m c b s l
theorem f65 (b : Fin 128) (s : Fin 3) (l : Fin 512) : (finalContents condOps preI bodyI postI 8 m c (Proc.devRef .tc main_v65) : FVec Ideal S128x3x512 .f32) (ix3 b s l) = Spec.fullD (args m c) R0 T b (8 + s) l := by
  rw [final_eq]
  entry_read
  rw [end_kept m c (by unfold Kept; decide)]
  exact e65 m c b s l
theorem f134 (b : Fin 128) (l : Fin 512) : (finalContents condOps preI bodyI postI 8 m c (Proc.devRef .tc main_v134) : FVec Ideal S128x1x512 .f32) (ix3 b 0 l) = Spec.state (args m c) R0 T b l 8 := by
  rw [final_eq]
  entry_read
  refine Eq.trans ?_ ((inv_end m c).s 7 b l (by decide))
  pointwise
theorem f131 (r : Fin 1024) (l : Fin 512) : (finalContents condOps preI bodyI postI 8 m c (Proc.devRef .tc main_v131) : FVec Ideal S1024x512 .bf16) (ix2 r l) = Spec.outB (args m c) R0 T r l := by
  rw [final_eq]
  entry_read
  rw [end_kept m c (r := main_v32) (by unfold Kept; decide)]
  pointwise
  rw [e32]
  show (args m c).P (16384 + (r.val / 8 * 8 + r.val % 8)) (1536 + l) * _ = (args m c).P (16384 + r.val) (1536 + l) * _
  rw [show r.val / 8 * 8 + r.val % 8 = r.val by omega]
theorem out_of_reads {r l : ℕ} {z x : EReal} (hz : z = Spec.state (args m c) R0 T (r / 8) l (r % 8 + 1)) (hx : x = (args m c).P (16384 + r) (5632 + l)) :
    z * Spec.gelu x = Spec.outD (args m c) R0 T r l := by subst hz hx; rfl

theorem f133 (r : Fin 1024) (l : Fin 512) : (finalContents condOps preI bodyI postI 8 m c (Proc.devRef .tc main_v133) : FVec Ideal S1024x512 .bf16) (ix2 r l) = Spec.outD (args m c) R0 T r l := by
  rw [final_eq]
  entry_read
  rw [end_kept m c (r := main_v34) (by unfold Kept; decide)]
  pointwise
  have hs := (inv_end m c).s ⟨r.val % 8, by omega⟩ ⟨r.val / 8, by omega⟩ l (by show r.val % 8 < 8; omega)
  have hx := e34 m c ⟨r.val / 8, by omega⟩ ⟨r.val % 8, by omega⟩ l
  have hx' := hx.trans (congrArg (fun n => (args m c).P (16384 + n) (5632 + l.val)) (show r.val / 8 * 8 + r.val % 8 = r.val by omega))
  exact out_of_reads m c hs hx'
end Cert.ReferenceIdeal.Val
end
-- ==== Proof.Sample.lean ====
module

public import proofs.«01_k».proof.Defs
public import proofs.«01_k».proof.Proof.Arrays
public import proofs.«01_k».proof.Proof.RefLoop
public import proofs.«01_k».proof.Proof.Gen.Kernel.Frame
@[expose] public section
set_option maxRecDepth 16384
noncomputable section
open Idealize.ShloMosaic Idealize.ShloMosaic.TcCoe Idealize.SL.Sem
open Idealize.ShloMosaic.StableHlo
/-! The sample group's kernel beside its reference: the reference's run leaves its arguments and the counters as they were, and both programs
end at the same arrays. -/
namespace Cert.ReferenceIdeal.Val
open Cert.ReferenceIdeal Cert.ReferenceIdeal.Gen Cert.ReferenceIdeal.Value
variable (m : (ℓ : Loc nD τ sig) → Buf (Elt Ideal) ℓ) (c : Dev nD)

theorem fin_arg {r : Ref sig .tc} (hk : Kept r) (h0 : r ∉ hostOps0_W) (h1 : r ∉ hostOps0_1_W) (h2 : r ∉ hostOps0_2_W)
    (h3 : after hostOps0_3 (atEnd m c) (Proc.devRef .tc r) = atEnd m c (Proc.devRef .tc r)) :
    finalContents condOps preI bodyI postI 8 m c (Proc.devRef .tc r) = m ((c : Thread nD τ).loc r) := by
  rw [final_eq, h3, end_kept m c hk,
    show entryContents preI m c = after hostOps0_2 (after hostOps0_1 (after hostOps0 (launchContents m c))) from rfl,
    after_of_writes_sub hostOps0_2 _ hostOps0_2_writes h2, after_of_writes_sub hostOps0_1 _ hostOps0_1_writes h1,
    after_of_writes_sub hostOps0 _ hostOps0_writes h0]
theorem fin0 : finalContents condOps preI bodyI postI 8 m c (Proc.devRef .tc main_arg0) = m ((c : Thread nD τ).loc main_arg0) :=
  fin_arg m c (by unfold Kept; decide) (by decide +kernel) (by decide) (by decide) (by entry_read <;> rfl)
theorem fin1 : finalContents condOps preI bodyI postI 8 m c (Proc.devRef .tc main_arg1) = m ((c : Thread nD τ).loc main_arg1) :=
  fin_arg m c (by unfold Kept; decide) (by decide +kernel) (by decide) (by decide) (by entry_read <;> rfl)
theorem fin2 : finalContents condOps preI bodyI postI 8 m c (Proc.devRef .tc main_arg2) = m ((c : Thread nD τ).loc main_arg2) :=
  fin_arg m c (by unfold Kept; decide) (by decide +kernel) (by decide) (by decide) (by entry_read <;> rfl)
theorem fin3 : finalContents condOps preI bodyI postI 8 m c (Proc.devRef .tc main_arg3) = m ((c : Thread nD τ).loc main_arg3) :=
  fin_arg m c (by unfold Kept; decide) (by decide +kernel) (by decide) (by decide) (by entry_read <;> rfl)
theorem fin4 : finalContents condOps preI bodyI postI 8 m c (Proc.devRef .tc main_arg4) = m ((c : Thread nD τ).loc main_arg4) :=
  fin_arg m c (by unfold Kept; decide) (by decide +kernel) (by decide) (by decide) (by entry_read <;> rfl)
theorem fin5 : finalContents condOps preI bodyI postI 8 m c (Proc.devRef .tc main_arg5) = m ((c : Thread nD τ).loc main_arg5) :=
  fin_arg m c (by unfold Kept; decide) (by decide +kernel) (by decide) (by decide) (by entry_read <;> rfl)
theorem fin6 : finalContents condOps preI bodyI postI 8 m c (Proc.devRef .tc main_arg6) = m ((c : Thread nD τ).loc main_arg6) :=
  fin_arg m c (by unfold Kept; decide) (by decide +kernel) (by decide) (by decide) (by entry_read <;> rfl)
theorem fin7 : finalContents condOps preI bodyI postI 8 m c (Proc.devRef .tc main_arg7) = m ((c : Thread nD τ).loc main_arg7) :=
  fin_arg m c (by unfold Kept; decide) (by decide +kernel) (by decide) (by decide) (by entry_read <;> rfl)
theorem fin8 : finalContents condOps preI bodyI postI 8 m c (Proc.devRef .tc main_arg8) = m ((c : Thread nD τ).loc main_arg8) :=
  fin_arg m c (by unfold Kept; decide) (by decide +kernel) (by decide) (by decide) (by entry_read <;> rfl)
theorem fin9 : finalContents condOps preI bodyI postI 8 m c (Proc.devRef .tc main_arg9) = m ((c : Thread nD τ).loc main_arg9) :=
  fin_arg m c (by unfold Kept; decide) (by decide +kernel) (by decide) (by decide) (by entry_read <;> rfl)
theorem fin10 : finalContents condOps preI bodyI postI 8 m c (Proc.devRef .tc main_arg10) = m ((c : Thread nD τ).loc main_arg10) :=
  fin_arg m c (by unfold Kept; decide) (by decide +kernel) (by decide) (by decide) (by entry_read <;> rfl)
theorem fin11 : finalContents condOps preI bodyI postI 8 m c (Proc.devRef .tc main_arg11) = m ((c : Thread nD τ).loc main_arg11) :=
  fin_arg m c (by unfold Kept; decide) (by decide +kernel) (by decide) (by decide) (by entry_read <;> rfl)
end Cert.ReferenceIdeal.Val

namespace Cert.Sample
theorem unit_mid (j : Shape.Idx ⟨3, ![128, 1, 512]⟩) : j = ix3 (j 0 : Fin 128) (0 : Fin 1) (j 2 : Fin 512) :=
  (eq_ix3 j).trans (congrArg (fun q : Fin 1 => (ix3 (j 0 : Fin 128) q (j 2 : Fin 512) : Shape.Idx ⟨3, ![128, 1, 512]⟩)) (Subsingleton.elim (α := Fin 1) _ _))

open Cert.ReferenceIdeal.Val in
open Cert.ReferenceIdeal in
theorem quiescent_ReferenceIdeal : Cert.quiescent_ReferenceIdeal (hReferenceIdeal := Cert.ReferenceIdeal.Gen.facts) := fun m g _ =>
  (θ_run _ _ _).mono (fun _ h => ⟨fun c => ⟨(h c main_arg0 rfl).trans (fin0 m c), (h c main_arg1 rfl).trans (fin1 m c), (h c main_arg2 rfl).trans (fin2 m c), (h c main_arg3 rfl).trans (fin3 m c), (h c main_arg4 rfl).trans (fin4 m c), (h c main_arg5 rfl).trans (fin5 m c), (h c main_arg6 rfl).trans (fin6 m c), (h c main_arg7 rfl).trans (fin7 m c), (h c main_arg8 rfl).trans (fin8 m c), (h c main_arg9 rfl).trans (fin9 m c), (h c main_arg10 rfl).trans (fin10 m c), (h c main_arg11 rfl).trans (fin11 m c)⟩,
    sem_eq_zero_of_no_sems rfl _⟩) (Cert.ReferenceIdeal.Value.run_fold m g)

theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : Cert.ReferenceIdeal.Val.A0 m' c = Cert.KernelIdeal.Val.A0 m c)
    (h1 : Cert.ReferenceIdeal.Val.A1 m' c = Cert.KernelIdeal.Val.A1 m c)
    (h2 : Cert.ReferenceIdeal.Val.A2 m' c = Cert.KernelIdeal.Val.A2 m c)
    (h3 : Cert.ReferenceIdeal.Val.A3 m' c = Cert.KernelIdeal.Val.A3 m c)
    (h4 : Cert.ReferenceIdeal.Val.A4 m' c = Cert.KernelIdeal.Val.A4 m c)
    (h5 : Cert.ReferenceIdeal.Val.A5 m' c = Cert.KernelIdeal.Val.A5 m c)
    (h6 : Cert.ReferenceIdeal.Val.A6 m' c = Cert.KernelIdeal.Val.A6 m c)
    (h7 : Cert.ReferenceIdeal.Val.A7 m' c = Cert.KernelIdeal.Val.A7 m c)
    (h8 : Cert.ReferenceIdeal.Val.A8 m' c = Cert.KernelIdeal.Val.A8 m c)
    (h9 : Cert.ReferenceIdeal.Val.A9 m' c = Cert.KernelIdeal.Val.A9 m c)
    (h10 : Cert.ReferenceIdeal.Val.A10 m' c = Cert.KernelIdeal.Val.A10 m c)
    (h11 : Cert.ReferenceIdeal.Val.A11 m' c = Cert.KernelIdeal.Val.A11 m c) :
    Cert.ReferenceIdeal.Val.args m' c = Cert.KernelIdeal.Val.args m c := by
  unfold Cert.ReferenceIdeal.Val.args Cert.KernelIdeal.Val.args
  rw [h0, h1, h2, h3, h4, h5, h6, h7, h8, h9, h10, h11]
  rfl

open Cert.KernelIdeal.Val (G13 G14 G15 G16 G17 final13 final14 final15 final16 final17) in
open Cert.ReferenceIdeal.Val in
open Cert.ReferenceIdeal in
theorem algebraic : Cert.algebraic_KernelIdeal_ReferenceIdeal (hKernelIdeal := Cert.KernelIdeal.Gen.facts) (hReferenceIdeal := Cert.ReferenceIdeal.Gen.facts) := by
  intro m g m' g' _ hag
  refine ⟨fun c => G13 m c, fun c => G14 m c, fun c => G15 m c, fun c => G16 m c, fun c => G17 m c, ?_, ?_⟩
  · refine (θ_run _ _ _).mono (fun r h c => ?_) (Cert.KernelIdeal.Value.run_blocks m g)
    obtain ⟨o0, o1, o2, o3, o4, hargs⟩ := h c
    exact ⟨o0.trans (final13 m c), o1.trans (final14 m c), o2.trans (final15 m c), o3.trans (final16 m c), o4.trans (final17 m c), hargs⟩
  · refine (θ_run _ _ _).mono (fun r h c => ?_) (Cert.ReferenceIdeal.Value.run_fold m' g')
    obtain ⟨h0, h1, h2, h3, h4, h5, h6, h7, h8, h9, h10, h11⟩ := hag c
    have ha := args_eq m m' c h0 h1 h2 h3 h4 h5 h6 h7 h8 h9 h10 h11
    refine ⟨(h c main_v131 rfl).trans (funext fun j => ?_), (h c main_v133 rfl).trans (funext fun j => ?_), (h c main_v31 rfl).trans (funext fun j => ?_),
      (h c main_v65 rfl).trans (funext fun j => ?_), (h c main_v134 rfl).trans (funext fun j => ?_), (h c main_arg0 rfl).trans (fin0 m' c), (h c main_arg1 rfl).trans (fin1 m' c), (h c main_arg2 rfl).trans (fin2 m' c), (h c main_arg3 rfl).trans (fin3 m' c), (h c main_arg4 rfl).trans (fin4 m' c), (h c main_arg5 rfl).trans (fin5 m' c), (h c main_arg6 rfl).trans (fin6 m' c), (h c main_arg7 rfl).trans (fin7 m' c), (h c main_arg8 rfl).trans (fin8 m' c), (h c main_arg9 rfl).trans (fin9 m' c), (h c main_arg10 rfl).trans (fin10 m' c), (h c main_arg11 rfl).trans (fin11 m' c)⟩
    · exact ((congrArg _ (eq_ix2 j)).trans (f131 m' c (j 0) (j 1))).trans (congrArg (fun A => Spec.outB A 16384 8 ((j 0 : Fin 1024) : ℕ) ((j 1 : Fin 512) : ℕ)) ha)
    · exact ((congrArg _ (eq_ix2 j)).trans (f133 m' c (j 0) (j 1))).trans (congrArg (fun A => Spec.outD A 16384 8 ((j 0 : Fin 1024) : ℕ) ((j 1 : Fin 512) : ℕ)) ha)
    · exact ((congrArg _ (eq_ix3 j)).trans (f31 m' c (j 0) (j 1) (j 2))).trans
        (congrArg (fun A => Spec.fullB A 16384 8 ((j 0 : Fin 128) : ℕ) (8 + ((j 1 : Fin 2) : ℕ)) ((j 2 : Fin 512) : ℕ)) ha)
    · exact ((congrArg _ (eq_ix3 j)).trans (f65 m' c (j 0) (j 1) (j 2))).trans
        (congrArg (fun A => Spec.fullD A 16384 8 ((j 0 : Fin 128) : ℕ) (8 + ((j 1 : Fin 3) : ℕ)) ((j 2 : Fin 512) : ℕ)) ha)
    · exact ((congrArg _ (unit_mid j)).trans (f134 m' c (j 0) (j 2))).trans (congrArg (fun A => Spec.state A 16384 8 ((j 0 : Fin 128) : ℕ) ((j 2 : Fin 512) : ℕ) 8) ha)
end Cert.Sample
end
-- ==== Proof.DownTables.lean ====
/- The down projection of the routed experts: the two tables that its launch reads, and what the index maps make of them.
   A grid point is a tile of 1024 rows and a block of 256 columns. The first table names each tile's expert, the second says how many
   tiles are in use. -/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal.Run
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init
@[expose] public section
set_option maxRecDepth 16384
noncomputable section
namespace Cert.Kernel2Ideal.Down
open Cert.Kernel2Ideal Cert.Kernel2Ideal.Gen
open Idealize.ShloMosaic
variable {F : FTy → Type} [FloatOps F]

/-! ## Words -/

theorem toInt_ofNat (k : ℕ) (h : k < 42) : (BitVec.ofNat 32 k).toInt = k := by
  rw [BitVec.toInt_eq_toNat_cond, BitVec.toNat_ofNat]; omega

/-- A tile in use names itself: the minimum of its number and the last tile in use. -/
theorem min_of_lt (k : ℕ) (h : k < 42) (v : BitVec 32) (hv : (k : Int) < v.toInt) :
    Scalar.minsi (BitVec.ofNat 32 k) (Scalar.subi v 1#32) = BitVec.ofNat 32 k := by
  have hk := toInt_ofNat k h
  have e : (v - 1#32).toInt = v.toInt - 1 := by
    rw [BitVec.toInt_eq_toNat_cond] at hv ⊢
    rw [BitVec.toInt_eq_toNat_cond, BitVec.toNat_sub]
    have := v.isLt
    simp only [BitVec.toNat_ofNat] at *
    split at hv <;> omega
  unfold Scalar.minsi Scalar.subi IntOp.minsi IntOp.subi
  split
  · rfl
  · next hc =>
    apply BitVec.eq_of_toInt_eq
    simp only [BitVec.slt, decide_eq_true_eq, not_lt] at hc
    omega

/-- And the tile that the index maps read is one of the 42, whichever the point. -/
theorem min_lt (k : ℕ) (h : k < 42) (v : BitVec 32) (hv : 1 ≤ v.toInt) :
    (Scalar.minsi (BitVec.ofNat 32 k) (Scalar.subi v 1#32)).toNat < 42 := by
  rcases lt_or_ge (k : Int) v.toInt with hl | hg
  · rw [min_of_lt k h v hl, BitVec.toNat_ofNat]; omega
  · have hk := toInt_ofNat k h
    have e : (v - 1#32).toInt = v.toInt - 1 ∧ ((v - 1#32).toNat : Int) = v.toInt - 1 := by
      rw [BitVec.toInt_eq_toNat_cond] at hv hg ⊢
      rw [BitVec.toInt_eq_toNat_cond, BitVec.toNat_sub]
      have := v.isLt
      simp only [BitVec.toNat_ofNat] at *
      split at hv <;> omega
    unfold Scalar.minsi Scalar.subi IntOp.minsi IntOp.subi
    split
    · rw [BitVec.toNat_ofNat]; omega
    · omega

theorem cond1_iff (i : grid0.Coords) (v : BitVec 32) : k0_cond1 i v = 1#1 ↔ ((i 0).val : Int) < v.toInt := by
  have h := toInt_ofNat (i 0).val (i 0).isLt
  unfold k0_cond1 Scalar.cmpi IntOp.cmpi Scalar.extui
  simp only [BitVec.slt]
  rw [h]
  by_cases hc : ((i 0).val : Int) < v.toInt
  · simp [hc]
  · simp [hc]

theorem cond2_iff (i : grid0.Coords) (v : BitVec 32) : k0_cond2 i v = 1#1 ↔ ¬ ((i 0).val : Int) < v.toInt := by
  have h := toInt_ofNat (i 0).val (i 0).isLt
  unfold k0_cond2 Scalar.cmpi IntOp.cmpi Scalar.extui
  simp only [BitVec.sle]
  rw [h]
  by_cases hc : ((i 0).val : Int) < v.toInt
  · simp [hc, not_le.mpr hc]
  · simp only [not_lt] at hc; simp [hc]

/-! ## The tables -/

/-- The tables that the precondition admits: experts below 8, and a tile in use. -/
structure Tables where
  e : S42.Idx → BitVec 32
  n : S1.Idx → BitVec 32
  e_lt : ∀ x, (e x).toNat < 8
  n_pos : ∀ x, 1 ≤ (n x).toInt

variable (tb : Tables)

def pf : pre0.Contents (Elt F) := fun | ⟨0, _⟩ => tb.e | ⟨1, _⟩ => tb.n | ⟨_ + 2, h⟩ => absurd h (by simp)

/-- The one word of the second table: how many tiles are in use. -/
def word : BitVec 32 := tb.n (Shape.Idx.first (numel1_S1.symm ▸ Nat.one_pos))

theorem word_pos : 1 ≤ (word tb).toInt := tb.n_pos _

theorem n_eq (x : S1.Idx) : tb.n x = word tb :=
  congrArg tb.n (funext fun a => by
    obtain rfl : a = 0 := Subsingleton.elim (α := Fin 1) _ _
    exact Subsingleton.elim (α := Fin 1) _ _)

theorem at_n (r : Rect S1) (h : r.shape.numel = 1) : (pf (F := F) tb).at 1 r h = word tb := n_eq tb _

theorem at_e (r : Rect S42) (h : r.shape.numel = 1) : ∃ x, (pf (F := F) tb).at 0 r h = tb.e x := ⟨_, rfl⟩

/-! ## What the index maps make of them -/

variable (i : grid0.Coords)

/-- Whether the point's tile is in use. -/
abbrev Live : Prop := ((i 0).val : Int) < (word tb).toInt

theorem rows_lt : (Scalar.minsi (BitVec.ofNat 32 (i 0).val) (Scalar.subi (word tb) 1#32)).toNat < 42 := min_lt _ (i 0).isLt _ (word_pos tb)

theorem map0_eq : cc0_transform_0 inb_S1_S1_0 numel1_S1 (pf (F := F) tb) i
    = ![(Scalar.minsi (BitVec.ofNat 32 (i 0).val) (Scalar.subi (word tb) 1#32)).toNat, 0] := by
  unfold cc0_transform_0; rw [at_n]; rfl

/-- The word of the first table that the point reads. -/
def mine : BitVec 32 := (pf (F := F) tb).at 0 (Rect.unit (s := S42) ![(Scalar.indexCast (BitVec.ofNat 32 (i 0).val)).toNat] S1.size (k0_off1_inb i)) numel1_S1

theorem mine_lt : (mine (F := F) tb i).toNat < 8 := tb.e_lt _

theorem map1_eq : cc0_transform_1 k0_off1_inb numel1_S1 inb_S1_S1_0 (pf (F := F) tb) i
    = ![(mine (F := F) tb i).toNat, 0, (Scalar.select (Scalar.cmpi .slt (BitVec.ofNat 32 (i 0).val) (word tb)) (BitVec.ofNat 32 (i 1).val) 7#32).toNat] := by
  unfold cc0_transform_1; rw [at_n]; rfl

theorem col_lt (b : BitVec 1) : (Scalar.select b (BitVec.ofNat 32 (i 1).val) 7#32).toNat < 8 := by
  have h : (i 1).val < 8 := (i 1).isLt
  unfold Scalar.select
  split
  · rw [BitVec.toNat_ofNat]; omega
  · decide

theorem inb0 (x : ℕ) (h : x < 42) : ∀ a, ((![x, 0] : Fin 2 → ℕ) a + 1) * S1024x7168.size a ≤ S43008x7168.size a
  | ⟨0, _⟩ => show (x + 1) * 1024 ≤ 43008 by omega
  | ⟨1, _⟩ => show (0 + 1) * 7168 ≤ 7168 by omega

theorem inb1 (x y : ℕ) (h : x < 8) (h' : y < 8) : ∀ a, ((![x, 0, y] : Fin 3 → ℕ) a + 1) * S1x7168x256.size a ≤ S8x7168x2048.size a
  | ⟨0, _⟩ => show (x + 1) * 1 ≤ 8 by omega
  | ⟨1, _⟩ => show (0 + 1) * 7168 ≤ 7168 by omega
  | ⟨2, _⟩ => show (y + 1) * 256 ≤ 2048 by omega

/-- Every block that the tables name lies inside its array. -/
theorem ok_pf : ok0 (F := F) (pf tb) := by
  refine ⟨fun i => ⟨fun a => ?_, .inr (Affine.block_words_dvd (s := S43008x7168) (p := EltTy.packing .bf16) (by decide) (by decide))⟩,
    fun i => ⟨fun a => ?_, .inr (Affine.block_words_dvd (s := S8x7168x2048) (p := EltTy.packing .bf16) (by decide) (by decide))⟩⟩
  · rw [map0_eq]; exact inb0 _ (rows_lt tb i) a
  · rw [map1_eq]; exact inb1 _ _ (mine_lt tb i) (col_lt i _) a

/-- The tables as the launch takes them, and the pipeline at them. -/
def adm : (pcfg0 (F := F)).Adm := ⟨pf tb, ok_pf tb⟩
abbrev cfgA : Pipeline.Cfg sig Λ₀ := cfg0 (F := F) (adm tb)
abbrev pcs : Fin 1 → Pipeline.Cfg sig Λ₀ := Pipeline.pin (pcfgs (F := F)) fun _ => adm tb
abbrev crd (t : Fin (cfgA (F := F) tb).N) : grid0.Coords := (cfgA (F := F) tb).grid.coords t

theorem atD_n : (pf (F := F) tb).atD 1 ![0] = word tb := n_eq tb _

/-- The output's block is stored at every point, -/
theorem idle_false (i : grid0.Coords) : (cfgA (F := F) tb).idle (2 : Fin 3) i = false := by
  show (!(k0_cond1 i ((pf (F := F) tb).atD 1 ![0]) == 1#1) && !(k0_cond2 i ((pf (F := F) tb).atD 1 ![0]) == 1#1)) = false
  rw [atD_n]
  by_cases h : Live tb i
  · rw [(cond1_iff i _).2 h]; rfl
  · rw [(cond2_iff i _).2 h]; simp

/-- Tables to decide by: where the output's blocks lie depends on no table. -/
def tb0 : Tables := ⟨fun _ => 0#32, fun _ => 1#32, fun _ => by decide, fun _ => by decide⟩

theorem flush0 : ∀ t : Fin (cfgA (F := Ideal) tb0).N, ((cfgA (F := Ideal) tb0).win (2 : Fin 3)).flush t = true := by decide +kernel

/-- and written back there. -/
theorem flush_true (t : Fin (cfgA (F := F) tb).N) : ((cfgA (F := F) tb).win (2 : Fin 3)).flush t = true :=
  (show ((cfgA (F := F) tb).win (2 : Fin 3)).flush t = ((cfgA (F := Ideal) tb0).win (2 : Fin 3)).flush t from rfl).trans (flush0 t)

end Cert.Kernel2Ideal.Down
end
-- ==== Proof.DownBody.lean ====
/- The down projection of the routed experts: its body, on a tile in use and on one that is not. -/
module

public import proofs.«01_k».proof.Proof.DownTables
public import Idealize.ShloMosaic.Lib.Claim
public import Idealize.ShloMosaic.Lib.Pipeline.Quiescent
public import Idealize.ShloMosaic.Lib.Pipeline.TableIdle
@[expose] public section
set_option maxRecDepth 16384
set_option Elab.async false
noncomputable section
namespace Cert.Kernel2Ideal.Down
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

/-- The two tables, whole. -/
abbrev tbM0_0 : Memref sig .tc .smem S42 .i32 := Memref.whole main_arg0
abbrev tbM0_1 : Memref sig .tc .smem S1 .i32 := Memref.whole main_arg1

/-- The word the body reads of the second table. -/
abbrev rd (T1 : S1.Idx → Elt F .i32) : Elt F .i32 :=
  View.readAt (Elt F) (tbM0_1).view (Rect.unit (s := S1) ![0] S1.size inb_S1_S1_0).toLoadRect T1 (Shape.Idx.first (numel1_S1.symm ▸ Nat.one_pos))

/-- One staging buffer of output window 2, through which its contents are stated. -/
abbrev VO0_2 : View sig .tc .vmem S1024x256 .f32 := (Memref.whole cc0_stg2_0 : Memref sig .tc .vmem S1024x256 .f32).view

set_option backward.proofsInPublic true in
set_option maxHeartbeats 8000000 in
/-- What the body leaves at a point of a tile in use, found by running it: its one store, with the proof that from the two input blocks, the
    tables and an output buffer at anything it runs to the continuation holding all of it. -/
noncomputable def runA (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : k0_cond1 i (rd T1) = 1#1) (k0_h2 : ¬(k0_cond2 i (rd T1) = 1#1)) :
    { out0 : List (View.Piece (Elt F) S1024x256 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6) K } :=
  ⟨_, fun K => by
    unfold owns
    rw [cc0_moe_down_eq_skeleton]; unfold cc0_moe_down_skel
    iintro ⟨H0, H1, HT0, HT1, ⟨%d2, %f2, -, HO2⟩, Hk⟩
    have hT0 : tbM0_0.IsWhole := Memref.isWhole_whole _
    have hT1 : tbM0_1.IsWhole := Memref.isWhole_whole _
    sl_exec! (disch := first | (guard_target = k0_cond1 _ _ = _; exact k0_h1) | (guard_target = ¬(k0_cond2 _ _ = _); exact k0_h2))
    sl_step
    iapply Hk
    isplitl [H0]; · iexact H0
    isplitl [H1]; · iexact H1
    isplitl [HT0]; · iexact HT0
    isplitl [HT1]; · iexact HT1
    iexists _; iexact HO2⟩

/-- The store covers the block. -/
theorem coverA (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : k0_cond1 i (rd T1) = 1#1) (k0_h2 : ¬(k0_cond2 i (rd T1) = 1#1)) (y : S1024x256.Idx) :
    ∃ pc ∈ (runA c i arg4 harg4 arg5 harg5 arg6 harg6 T0 T1 x0 x1 k0_h1 k0_h2).1, y ∈ pc.1.set :=
  View.cover_of_tiledL (runA c i arg4 harg4 arg5 harg5 arg6 harg6 T0 T1 x0 x1 k0_h1 k0_h2).1 S1024x256.size (by sl_kernel_rfl) y

/-- The block it leaves. -/
def outA (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : k0_cond1 i (rd T1) = 1#1) (k0_h2 : ¬(k0_cond2 i (rd T1) = 1#1)) : (S1024x256.Idx → Elt F .f32) :=
  VO0_2.read (Elt F) (VO0_2.writes (Elt F) VO0_2.junk (runA c i arg4 harg4 arg5 harg5 arg6 harg6 T0 T1 x0 x1 k0_h1 k0_h2).1)

set_option backward.proofsInPublic true in
set_option maxHeartbeats 8000000 in
/-- What it leaves at a point of a tile not in use. -/
noncomputable def runB (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : ¬(k0_cond1 i (rd T1) = 1#1)) (k0_h2 : k0_cond2 i (rd T1) = 1#1) :
    { out0 : List (View.Piece (Elt F) S1024x256 .f32) //
      ∀ (K : PUnit → sProp 𝕄),
        iprop((arg4.view.loc (c : Thread nD τ) ↦[arg4.view.set]{fullShare} arg4.view.rep x0)
          ∗ (arg5.view.loc (c : Thread nD τ) ↦[arg5.view.set]{fullShare} arg5.view.rep x1)
          ∗ (tbM0_0.view.loc (c : Thread nD τ) ↦{fullShare.right} T0)
          ∗ (tbM0_1.view.loc (c : Thread nD τ) ↦{fullShare.right} T1)
          ∗ (∃ d, owns (c : Thread nD τ) arg6 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (tbM0_0.view.loc (c : Thread nD τ) ↦{fullShare.right} T0)
              ∗ (tbM0_1.view.loc (c : Thread nD τ) ↦{fullShare.right} T1)
              ∗ (∃ f, arg6.view.loc (c : Thread nD τ) ↦[arg6.view.set]{fullShare} arg6.view.writes (Elt F) f out0)) -∗ K ⟨⟩))
          ⊢ wp frame (wpE (defs₀ (F := F)) Variants.none c none) Set.univ (cc0_moe_down i tbM0_0 (Memref.isWhole_whole _) tbM0_1 (Memref.isWhole_whole _) arg4 harg4 arg5 harg5 arg6 harg6) K } :=
  ⟨_, fun K => by
    unfold owns
    rw [cc0_moe_down_eq_skeleton]; unfold cc0_moe_down_skel
    iintro ⟨H0, H1, HT0, HT1, ⟨%d2, %f2, -, HO2⟩, Hk⟩
    have hT0 : tbM0_0.IsWhole := Memref.isWhole_whole _
    have hT1 : tbM0_1.IsWhole := Memref.isWhole_whole _
    sl_exec! (disch := first | (guard_target = ¬(k0_cond1 _ _ = _); exact k0_h1) | (guard_target = k0_cond2 _ _ = _; exact k0_h2))
    sl_step
    iapply Hk
    isplitl [H0]; · iexact H0
    isplitl [H1]; · iexact H1
    isplitl [HT0]; · iexact HT0
    isplitl [HT1]; · iexact HT1
    iexists _; iexact HO2⟩

/-- The store covers the block. -/
theorem coverB (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : ¬(k0_cond1 i (rd T1) = 1#1)) (k0_h2 : k0_cond2 i (rd T1) = 1#1) (y : S1024x256.Idx) :
    ∃ pc ∈ (runB c i arg4 harg4 arg5 harg5 arg6 harg6 T0 T1 x0 x1 k0_h1 k0_h2).1, y ∈ pc.1.set :=
  View.cover_of_tiledL (runB c i arg4 harg4 arg5 harg5 arg6 harg6 T0 T1 x0 x1 k0_h1 k0_h2).1 S1024x256.size (by sl_kernel_rfl) y

/-- The block it leaves. -/
def outB (c : Dev nD) (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt F .i32)) (T1 : (S1.Idx → Elt F .i32))
     (x0 : (S1024x7168.Idx → Elt F .bf16)) (x1 : (S1x7168x256.Idx → Elt F .bf16)) (k0_h1 : ¬(k0_cond1 i (rd T1) = 1#1)) (k0_h2 : k0_cond2 i (rd T1) = 1#1) : (S1024x256.Idx → Elt F .f32) :=
  VO0_2.read (Elt F) (VO0_2.writes (Elt F) VO0_2.junk (runB c i arg4 harg4 arg5 harg5 arg6 harg6 T0 T1 x0 x1 k0_h1 k0_h2).1)

end Cert.Kernel2Ideal.Down

end
-- ==== Proof.DownRun.lean ====
/- The down projection of the routed experts: the launch over any admitted tables, over any interpretation of the floats. -/
module

public import proofs.«01_k».proof.Proof.DownBody
public import Idealize.ShloMosaic.Lib.Claim
public import Idealize.ShloMosaic.Lib.Pipeline.Quiescent
public import Idealize.ShloMosaic.Lib.Pipeline.TableIdle
@[expose] public section
set_option maxRecDepth 16384
set_option Elab.async false
noncomputable section
namespace Cert.Kernel2Ideal.Down
open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

variable (tb : Tables)
variable (m : (ℓ : Loc nD τ sig) → Buf (Elt F) ℓ) (ρ : Dev nD → PrngReg)

/-- The resource algebra of the staging cells. -/
abbrev EP : Emb (UR sig nD τ) 𝕄 := emb₁

/-- The launch memory holds these tables. -/
def Pinned : Prop :=
  (∀ c : Dev nD, m ((c : Thread nD τ).loc main_arg0) = tb.e)
  ∧ (∀ c : Dev nD, m ((c : Thread nD τ).loc main_arg1) = tb.n)

/-- Each window's staging memref at point `t`, and its wholeness. -/
abbrev ms0_0 (t : Fin (cfgA (F := F) tb).N) : Memref sig .tc .vmem S1024x7168 .bf16 := spec0_0.stage ((cfgA (F := F) tb).slots t (0 : Fin 3))
abbrev hs0_0 (t : Fin (cfgA (F := F) tb).N) : (ms0_0 tb t).IsWhole := hstage0_0 (((cfgA (F := F) tb).slots t (0 : Fin 3)).cast nbuf0_0)
abbrev ms0_1 (t : Fin (cfgA (F := F) tb).N) : Memref sig .tc .vmem S1x7168x256 .bf16 := spec0_1.stage ((cfgA (F := F) tb).slots t (1 : Fin 3))
abbrev hs0_1 (t : Fin (cfgA (F := F) tb).N) : (ms0_1 tb t).IsWhole := hstage0_1 (((cfgA (F := F) tb).slots t (1 : Fin 3)).cast nbuf0_1)
abbrev ms0_2 (t : Fin (cfgA (F := F) tb).N) : Memref sig .tc .vmem S1024x256 .f32 := spec0_2.stage ((cfgA (F := F) tb).slots t (2 : Fin 3))
abbrev hs0_2 (t : Fin (cfgA (F := F) tb).N) : (ms0_2 tb t).IsWhole := hstage0_2 (((cfgA (F := F) tb).slots t (2 : Fin 3)).cast nbuf0_2)

/-- Window `w`'s block at point `t`, read off its array at launch. -/
def iblk (c : Dev nD) (w : Fin (cfgA (F := F) tb).W) (t : Fin (cfgA (F := F) tb).N) :
    (((cfgA (F := F) tb).win w).xblock (crd (F := F) tb t)).Idx → Elt F ((cfgA (F := F) tb).win w).elt :=
  (((cfgA (F := F) tb).win w).blk t).view.read (Elt F) ((s₀ m ρ).mem (((cfgA (F := F) tb).win w).arr.view.loc (c : Thread nD τ)))

theorem rd_eq : rd (F := F) tb.n = word tb := n_eq tb _

theorem live_1 (i : grid0.Coords) (h : Live tb i) : k0_cond1 i (rd (F := F) tb.n) = 1#1 := by rw [rd_eq]; exact (cond1_iff i _).2 h
theorem live_2 (i : grid0.Coords) (h : Live tb i) : ¬ k0_cond2 i (rd (F := F) tb.n) = 1#1 := by rw [rd_eq]; exact fun h' => (cond2_iff i _).1 h' h
theorem dead_1 (i : grid0.Coords) (h : ¬ Live tb i) : ¬ k0_cond1 i (rd (F := F) tb.n) = 1#1 := by rw [rd_eq]; exact fun h' => h ((cond1_iff i _).1 h')
theorem dead_2 (i : grid0.Coords) (h : ¬ Live tb i) : k0_cond2 i (rd (F := F) tb.n) = 1#1 := by rw [rd_eq]; exact (cond2_iff i _).2 h

/-- What the output's block holds after the body at point `t`. -/
def left (c : Dev nD) (t : Fin (cfgA (F := F) tb).N) : S1024x256.Idx → Elt F .f32 :=
  if h : Live tb (crd (F := F) tb t) then
    outA c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (live_1 tb _ h) (live_2 tb _ h)
  else
    outB c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (dead_1 tb _ h) (dead_2 tb _ h)

/-! ## The pipeline's proof data -/

/-- Between points the body holds its halves of the tables. -/
def Phi (c : Dev nD) : sProp 𝕄 :=
  iprop((tbM0_0.view.loc (c : Thread nD τ) ↦{fullShare.right} tb.e) ∗ (tbM0_1.view.loc (c : Thread nD τ) ↦{fullShare.right} tb.n))

/-- The proof data of the one pipeline on core `c`. -/
def dats (_ : Fin 1) (c : Dev nD) : Dat τ (Elt F) Unit ℕ (UR sig nD τ) ℕ (cfgA (F := F) tb) c where
  A w := (s₀ m ρ).mem (((cfgA (F := F) tb).win w).arr.view.loc (c : Thread nD τ))
  after w t := match w with
    | ⟨0, _⟩ => iblk tb m ρ c (0 : Fin 3) t
    | ⟨1, _⟩ => iblk tb m ρ c (1 : Fin 3) t
    | ⟨2, _⟩ => left tb m ρ c t
  Φ _ := Phi tb c
  q _ := fullShare
  owed _ := 0

theorem after0_0 (c : Dev nD) (t : Fin (cfgA (F := F) tb).N) : (dats tb m ρ 0 c).after (0 : Fin 3) t = iblk tb m ρ c (0 : Fin 3) t := rfl
theorem after0_1 (c : Dev nD) (t : Fin (cfgA (F := F) tb).N) : (dats tb m ρ 0 c).after (1 : Fin 3) t = iblk tb m ρ c (1 : Fin 3) t := rfl
theorem after0_2 (c : Dev nD) (t : Fin (cfgA (F := F) tb).N) : (dats tb m ρ 0 c).after (2 : Fin 3) t = left tb m ρ c t := rfl

/-! ## What each window's staging buffer holds when the body runs -/

/-- Input window 0 holds its block, fetched there or not (Lib/Pipeline/FrameBody.lean `Dat.before_in_eq_fetched`). -/
theorem before0_0 (c : Dev nD) (t : Fin (cfgA (F := F) tb).N) (d) : (dats tb m ρ 0 c).before (0 : Fin 3) t d = iblk tb m ρ c (0 : Fin 3) t :=
  ((dats tb m ρ 0 c).before_in_eq_fetched (0 : Fin 3) rfl (fun _ => rfl) (fun _ _ _ => rfl) (fun t => by rw [after0_0]; unfold Dat.blockOf iblk; rfl) t d).trans
    (by unfold Dat.fetched Dat.blockOf iblk; rfl)

/-- Input window 1 holds its block, fetched there or not (Lib/Pipeline/FrameBody.lean `Dat.before_in_eq_fetched`). -/
theorem before0_1 (c : Dev nD) (t : Fin (cfgA (F := F) tb).N) (d) : (dats tb m ρ 0 c).before (1 : Fin 3) t d = iblk tb m ρ c (1 : Fin 3) t :=
  ((dats tb m ρ 0 c).before_in_eq_fetched (1 : Fin 3) rfl (fun _ => rfl) (fun _ _ _ => rfl) (fun t => by rw [after0_1]; unfold Dat.blockOf iblk; rfl) t d).trans
    (by unfold Dat.fetched Dat.blockOf iblk; rfl)

/-! ## The body obligation, at a generic point, by path -/

/-- The body at point `t` on its staging memrefs, as the pipeline calls it. -/
abbrev bodyAt0 (t : Fin (cfgA (F := F) tb).N) : Prog (TpuEff nD τ sig (Elt F) Λ₀ .tc) PUnit :=
  cc0_moe_down (crd tb t) (Memref.whole main_arg0) (Memref.isWhole_whole _) (Memref.whole main_arg1) (Memref.isWhole_whole _) (ms0_0 tb t) (hs0_0 tb t) (ms0_1 tb t) (hs0_1 tb t) (ms0_2 tb t) (hs0_2 tb t)

set_option maxHeartbeats 4000000 in
/-- The body at point `t`: its tile is in use or not, and each case is its run. -/
theorem sound_body (hp : Pinned tb m) (c : Dev nD) (t : Fin (cfgA (F := F) tb).N) :
    iprop((dats tb m ρ 0 c).Φ t.castSucc ∗ (dats tb m ρ 0 c).owesAt () t.castSucc
        ∗ (∃ d, owns (c : Thread nD τ) (ms0_0 tb t) fullShare ((dats tb m ρ 0 c).before (0 : Fin 3) t d))
        ∗ (∃ d, owns (c : Thread nD τ) (ms0_1 tb t) fullShare ((dats tb m ρ 0 c).before (1 : Fin 3) t d))
        ∗ (∃ d, owns (c : Thread nD τ) (ms0_2 tb t) fullShare ((dats tb m ρ 0 c).before (2 : Fin 3) t d)))
      ⊢ wp frame (wpE (defs₀ (F := F)) Variants.none c none) Set.univ (bodyAt0 tb t) fun _ =>
          iprop((dats tb m ρ 0 c).Φ t.succ ∗ (dats tb m ρ 0 c).owesAt () t.succ
            ∗ bigSep Finset.univ fun w : Fin (cfgA (F := F) tb).W =>
                match (cfgA (F := F) tb).idle w ((cfgA (F := F) tb).grid.coords t) with
                | true =>
                  match ((cfgA (F := F) tb).win w).flush t with
                  | false => iprop(∃ d, owns (c : Thread nD τ) (((cfgA (F := F) tb).win w).stage ((cfgA (F := F) tb).slots t w)) fullShare ((dats tb m ρ 0 c).before w t d))
                  | true => owns (c : Thread nD τ) (((cfgA (F := F) tb).win w).stage ((cfgA (F := F) tb).slots t w)) fullShare ((dats tb m ρ 0 c).after w t)
                | false => owns (c : Thread nD τ) (((cfgA (F := F) tb).win w).stage ((cfgA (F := F) tb).slots t w)) fullShare ((dats tb m ρ 0 c).after w t)) := by
  rw [bigSep_W0]
  rewrite [idle_false]
  simp only [before0_0, before0_1, after0_0, after0_1, after0_2]
  rewrite [show (dats tb m ρ 0 c).Φ t.succ = Phi tb c from rfl, show (dats tb m ρ 0 c).Φ t.castSucc = Phi tb c from rfl,
    show (dats tb m ρ 0 c).owesAt () t.succ = (dats tb m ρ 0 c).owesAt () t.castSucc from rfl]
  unfold Phi
  by_cases q0 : Live tb (crd (F := F) tb t)
  · rewrite [show left tb m ρ c t = outA c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (live_1 tb _ q0) (live_2 tb _ q0) from by unfold left; rw [dif_pos q0]]
    iintro ⟨⟨HT0, HT1⟩, Ho, ⟨%d0, H0⟩, ⟨%d1, H1⟩, ⟨%d2, H2⟩⟩
    iapply ((runA c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (live_1 tb _ q0) (live_2 tb _ q0)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (coverA c _ _ _ _ _ _ _ _ _ _ _ _ _)
  · rewrite [show left tb m ρ c t = outB c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (dead_1 tb _ q0) (dead_2 tb _ q0) from by unfold left; rw [dif_neg q0]]
    iintro ⟨⟨HT0, HT1⟩, Ho, ⟨%d0, H0⟩, ⟨%d1, H1⟩, ⟨%d2, H2⟩⟩
    iapply ((runB c (crd (F := F) tb t) (ms0_0 tb t) (hs0_0 tb t) (ms0_1 tb t) (hs0_1 tb t) (ms0_2 tb t) (hs0_2 tb t) tb.e tb.n (iblk tb m ρ c (0 : Fin 3) t) (iblk tb m ρ c (1 : Fin 3) t) (dead_1 tb _ q0) (dead_2 tb _ q0)).2 _)
    isplitl [H0]; · iapply rep_of_owns; iexact H0
    isplitl [H1]; · iapply rep_of_owns; iexact H1
    isplitl [HT0]; · iexact HT0
    isplitl [HT1]; · iexact HT1
    isplitl [H2]; · iexists _; iexact H2
    iintro ⟨H0, H1, HT0, HT1, ⟨%e2, H2⟩⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    unfold owns; iexists _; isplitr; swap
    · iexact H2
    · ipureintro; exact View.read_writes_of_cover _ _ _ _ _ (coverB c _ _ _ _ _ _ _ _ _ _ _ _ _)

/-- The library's body obligation, at every point. -/
theorem body_obligation (hp : Pinned tb m) (c : Dev nD) : BodyObligation (dats tb m ρ 0 c) (defs₀ (F := F)) Variants.none () Set.univ := fun t => by
  rw [bigSep_W0]
  exact sound_body tb m ρ hp c t

/-! ## The launch -/

/-- The rounds library's launch element. -/
def u₀ : UR sig nD τ :=
  initOf (Pipeline.cells (pcs (F := F) tb) ((launch0 (F := F)).cellOf_inj fun _ => adm (F := F) tb))
    (Pipeline.launchToks (pcs (F := F) tb) ((launch0 (F := F)).cellOf_inj fun _ => adm (F := F) tb))

theorem share_eq (c : Dev nD) (w : Fin (cfgA (F := F) tb).W) : (dats tb m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables and the scratch buffers (`hin`); -/
theorem phi0_intro (c : Dev nD) :
    iprop(BI.emp ∗ Pipeline.prefHeld pre0 c (fun _ => fullShare.right) (adm (F := F) tb).1 ∗ Pipeline.scopedRest spec0 c) ⊢ (dats tb m ρ 0 c).Φ 0 := by
  rw [prefHeld_eq, scopedRest0_eq, show (dats tb m ρ 0 c).Φ 0 = Phi tb c from rfl]
  unfold Phi
  iintro ⟨-, ⟨HT0, HT1⟩, -⟩
  isplitl [HT0]
  · iexact HT0
  iexact HT1

/-- at the last point it gives the scratch buffers back (`hout`), the tables let go. -/
theorem phiN_exit (c : Dev nD) : (dats tb m ρ 0 c).Φ (Fin.last (cfgA (F := F) tb).N) ⊢ iprop(BI.emp ∗ Pipeline.scopedRest spec0 c) := by
  rw [scopedRest0_eq, show (dats tb m ρ 0 c).Φ (Fin.last (cfgA (F := F) tb).N) = Phi tb c from rfl]
  unfold Phi
  iintro ⟨-, -⟩
  isplitr; · iempintro
  iempintro

/-- The physical post: every array at what the library computes, every table at what the pipeline ran at. -/
def QC : PUnit × MemSt nD τ sig (Elt F) → Prop := fun r =>
  ∀ c : Dev nD, (∀ w : Fin (cfgA (F := F) tb).W, r.2.mem (((cfgA (F := F) tb).win w).arr.view.loc (c : Thread nD τ)) = (dats tb m ρ 0 c).arrAt w (cfgA (F := F) tb).N)
    ∧ ∀ j, r.2.mem ((c : Thread nD τ).loc (pre0.ref j)) = (adm (F := F) tb).1 j

theorem V_pre (hp : Pinned tb m) (c : Dev nD) (j : Fin 2) : m ((c : Thread nD τ).loc (pre0.ref j)) = (adm (F := F) tb).1 j := by
  fin_cases j
  · exact hp.1 c
  · exact hp.2 c

set_option backward.isDefEq.respectTransparency.types false in
set_option maxHeartbeats 4000000 in
/-- From a memory that holds these tables every run terminates, each array at the computed contents and every counter at zero. -/
theorem run_main_quiescent (hp : Pinned tb m) : θ_run (defs (F := F)) (onTc (τ := τ) (main (F := F))) (s₀ m ρ) (fun r => QC tb m ρ r ∧ r.2.sem = fun _ => 0) :=
  Pipeline.θ_run_region_noSem_pf_quiescent pcfgs (fun _ => adm (F := F) tb) (dats tb m ρ) () ((launch0 (F := F)).cellOf_inj fun _ => adm (F := F) tb) (0 : Fin 1)
    (launch0 (F := F)).win.to₀ (launch0 (F := F)).pre EP defs₀ Variants.none m ρ main
    (hbody := fun c => (body_obligation tb m ρ hp c).loose) (hne := (launch0 (F := F)).block_pos)
    (harr := (launch0 (F := F)).arr_whole) (hstage := (launch0 (F := F)).stage_whole) (howed := fun _ _ => rfl)
    (u₀ := u₀ tb) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs (F := F) tb) (dats tb m ρ) 0 (launch0 (F := F)).win.arr_inj c (launch0 (F := F)).arr_whole
      (share_eq tb m ρ c) _ _ fun _ => rfl)
    (hpf := V_pre tb m hp)
    (X := fun _ => iprop(emp)) (Y := fun _ => iprop(emp)) (Z := fun _ => iprop(emp))
    (hX := fun c => by rw [unscopedRestP0_eq]; iintro -; isplitr <;> iempintro)
    (hin := phi0_intro tb m ρ)
    (hout := phiN_exit tb m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `run_main_quiescent` without the counters. -/
theorem run_main (hp : Pinned tb m) : θ_run (defs (F := F)) (onTc (τ := τ) (main (F := F))) (s₀ m ρ) (QC tb m ρ) :=
  (θ_run defs _ _).mono (fun _ h => h.1) (run_main_quiescent tb m ρ hp)

/-- `frame` without the counters: the argument arrays end unchanged. -/
theorem unchanged (hp : Pinned tb m) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 0).trans (hp.1 c).symm, ((h c).2 1).trans (hp.2 c).symm, ((h c).1 (0 : Fin 3)).trans ((dats tb m ρ 0 c).arrAt_in (0 : Fin 3) rfl _), ((h c).1 (1 : Fin 3)).trans ((dats tb m ρ 0 c).arrAt_in (1 : Fin 3) rfl _)⟩) (run_main tb m ρ hp)

/-- Every run terminates without a fault, the argument arrays unchanged and every counter at zero. -/
theorem frame (hp : Pinned tb m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged tb m ρ hp) ((θ_run defs _ _).mono (fun _ h => h.2) (run_main_quiescent tb m ρ hp))

end Cert.Kernel2Ideal.Down

end
-- ==== Proof.DownPre.lean ====
/- The down projection of the routed experts: what the precondition says of the two tables. -/
module

public import proofs.«01_k».proof.Proof.DownTables
public import proofs.«01_k».proof.Proof.Gen.Pre_named2
public import Idealize.ShloMosaic.Lib.Pointwise
@[expose] public section
set_option maxRecDepth 16384
noncomputable section
namespace Cert.Kernel2Ideal.Down
open Cert.Kernel2Ideal Cert.Kernel2Ideal.Gen
open Idealize.ShloMosaic
variable {F : FTy → Type} [FloatOps F]
variable (e : S42.Idx → BitVec 32) (n : S1.Idx → BitVec 32) (h : FVec F S43008x7168 .bf16) (w : FVec F S8x7168x2048 .bf16)

theorem pre_at (hp : Cert.Pre_named2.fn (F := F) e n h w = fun _ => 1#1) (k : Fin 85) :
    (if hk : k.val < 42 then IntOp.cmpi .sge (e (ix1 ⟨k, hk⟩)) 0#32
      else if hk' : k.val - 42 < 42 then IntOp.cmpi .slt (e (ix1 ⟨k - 42, hk'⟩)) 8#32
      else IntOp.cmpi .sge (n (ix1 ⟨k - 42 - 42, by omega⟩)) 1#32) = 1#1 := by
  have := congrFun hp (ix1 k)
  pointwise [Cert.Pre_named2.fn] at this
  exact this

theorem sge_of (x y : BitVec 32) (h : IntOp.cmpi .sge x y = 1#1) : y.toInt ≤ x.toInt := by
  unfold IntOp.cmpi at h
  by_contra hc
  simp [BitVec.sle, hc] at h

theorem slt_of (x y : BitVec 32) (h : IntOp.cmpi .slt x y = 1#1) : x.toInt < y.toInt := by
  unfold IntOp.cmpi at h
  by_contra hc
  simp [BitVec.slt, hc] at h

theorem e_lt_at (hp : Cert.Pre_named2.fn (F := F) e n h w = fun _ => 1#1) (k : Fin 42) : (e (ix1 k)).toNat < 8 := by
  have a := pre_at e n h w hp ⟨k, by omega⟩
  have b := pre_at e n h w hp ⟨42 + k, by omega⟩
  rw [dif_pos (show k.val < 42 from k.isLt)] at a
  rw [dif_neg (show ¬ 42 + k.val < 42 by omega), dif_pos (show 42 + k.val - 42 < 42 by omega)] at b
  replace a := sge_of _ _ a
  replace b := slt_of _ _ b
  have hk : (⟨42 + k.val - 42, by omega⟩ : Fin 42) = k := Fin.ext (Nat.add_sub_cancel_left ..)
  rw [show (ix1 ⟨42 + k.val - 42, by omega⟩ : S42.Idx) = ix1 k from congrArg ix1 hk] at b
  have a' : 0 ≤ (e (ix1 k)).toInt := a
  have b' : (e (ix1 k)).toInt < 8 := b
  rw [BitVec.toInt_eq_toNat_cond] at a' b'
  split at a' <;> omega

theorem e_lt_of (hp : Cert.Pre_named2.fn (F := F) e n h w = fun _ => 1#1) (x : S42.Idx) : (e x).toNat < 8 :=
  (congrArg (fun i => (e i).toNat < 8) (eq_ix1 x)).mpr (e_lt_at e n h w hp (x 0))

theorem n_pos_of (hp : Cert.Pre_named2.fn (F := F) e n h w = fun _ => 1#1) (x : S1.Idx) : 1 ≤ (n x).toInt := by
  have a := pre_at e n h w hp ⟨84, by omega⟩
  rw [dif_neg (show ¬ 84 < 42 by omega), dif_neg (show ¬ 84 - 42 < 42 by omega)] at a
  have hx : x = ix1 ⟨84 - 42 - 42, by omega⟩ := (eq_ix1 x).trans (congrArg ix1 (Subsingleton.elim (α := Fin 1) _ _))
  rw [hx]
  exact sge_of _ _ a

/-- The tables of a memory that the precondition admits. -/
def ofPre (hp : Cert.Pre_named2.fn (F := F) e n h w = fun _ => 1#1) : Tables := ⟨e, n, e_lt_of e n h w hp, n_pos_of e n h w hp⟩

end Cert.Kernel2Ideal.Down
end
-- ==== Proof.DownFrame.lean ====
/- The down projection of the routed experts runs and leaves its arguments as they were: the printed program and the idealized one, by the
   one run. -/
module

public import proofs.«01_k».proof.Proof.DownRun
public import proofs.«01_k».proof.Proof.DownPre
public import proofs.«01_k».proof.Proof.Gen.Kernel2
@[expose] public section
set_option maxRecDepth 16384
noncomputable section
namespace Cert.Kernel2Ideal.Down
open Cert.Kernel2Ideal Cert.Kernel2Ideal.Gen
open Idealize.ShloMosaic Idealize.ShloMosaic.TcCoe Idealize.SL.Sem
variable {F : FTy → Type} [FloatOps F]

/-- The tables of a launch memory that the precondition admits; there is one device. -/
theorem pinned_of_pre (m : (ℓ : Loc nD τ sig) → Buf (Elt F) ℓ)
    (hp : ∀ c : Dev nD, Cert.Pre_named2.fn (F := F) (m ((c : Thread nD τ).loc main_arg0)) (m ((c : Thread nD τ).loc main_arg1))
      (m ((c : Thread nD τ).loc main_arg2)) (m ((c : Thread nD τ).loc main_arg3)) = fun _ => 1#1) :
    Pinned (ofPre _ _ _ _ (hp 0)) m :=
  ⟨fun c => by rw [show c = 0 from Subsingleton.elim (α := Fin 1) _ _]; rfl, fun c => by rw [show c = 0 from Subsingleton.elim (α := Fin 1) _ _]; rfl⟩

theorem quiescent_Kernel2Ideal : Cert.quiescent_Kernel2Ideal := fun m ρ hp => frame _ m ρ (pinned_of_pre m hp)

/-- The two programs have one body table, -/
theorem defs₀_eq : Cert.Kernel2.defs₀ (F := F) = Cert.Kernel2Ideal.defs₀ := by
  funext p l a
  cases p with
  | tc => match l, a with | ⟨0, _⟩, (_, _) => rfl
  | scScalar => rfl
  | scVector => rfl

/-- with the pipeline's labels too. -/
theorem defs_eq : Cert.Kernel2.defs (F := F) = Cert.Kernel2Ideal.defs := congrArg (Pipeline.defs Cert.Kernel2Ideal.pcfgs) defs₀_eq

theorem quiescent_Kernel2 : Cert.quiescent_Kernel2 := fun m ρ hp =>
  (congrArg (fun D => θ_run D (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)) (defs_eq (F := Bits))).mpr (frame (F := Bits) _ m ρ (pinned_of_pre (F := Bits) m hp))

end Cert.Kernel2Ideal.Down
end
-- ==== Proof.DownVal.lean ====
/- The down projection of the routed experts: the output array after the run, entry by entry. -/
module

public import proofs.«01_k».proof.Proof.DownRun
public import proofs.«01_k».proof.Proof.Reads
public import Idealize.ShloMosaic.Lib.Pointwise
public import Idealize.ShloMosaic.Lib.Pipeline.ValueKit
@[expose] public section
set_option maxRecDepth 16384
noncomputable section
namespace Cert.Kernel2Ideal.Down
open Cert.Kernel2Ideal Cert.Kernel2Ideal.Gen Cert.Reads
open Idealize.ShloMosaic Idealize.ShloMosaic.TcCoe
variable (tb : Tables)
variable (m : (ℓ : Loc nD τ sig) → Buf (Elt Ideal) ℓ) (ρ : Dev nD → PrngReg) (c : Dev nD)

abbrev H : FVec Ideal S43008x7168 .bf16 := m ((c.tc : Thread nD τ).loc main_arg2)
abbrev W : FVec Ideal S8x7168x2048 .bf16 := m ((c.tc : Thread nD τ).loc main_arg3)

/-- The product of a tile in use with its expert's weights; zero on the other tiles. -/
def G : FVec Ideal S43008x2048 .f32 := fun y =>
  if (((y 0 : Fin 43008).val / 1024 : ℕ) : Int) < (tb.n (ix1 0)).toInt then
    ∑ j : Fin 7168, H m c (ix2 (y 0) j) * W m c (ix3 ⟨(tb.e (ix1 ⟨(y 0 : Fin 43008).val / 1024, by
      have : (y 0 : Fin 43008).val < 43008 := (y 0 : Fin 43008).isLt
      omega⟩)).toNat, tb.e_lt _⟩ j (y 1)) else (0 : EReal)

theorem crd0 (t : Fin (cfgA (F := Ideal) tb).N) : (crd (F := Ideal) tb t 0).val = t.val / 8 := by
  have h : ∀ t : Fin (cfgA (F := Ideal) tb0).N, (crd (F := Ideal) tb0 t 0).val = t.val / 8 := by decide +kernel
  exact h t

theorem crd1 (t : Fin (cfgA (F := Ideal) tb).N) : (crd (F := Ideal) tb t 1).val = t.val % 8 := by
  have h : ∀ t : Fin (cfgA (F := Ideal) tb0).N, (crd (F := Ideal) tb0 t 1).val = t.val % 8 := by decide +kernel
  exact h t

theorem idx2 (t : Fin (cfgA (F := Ideal) tb).N) : ((cfgA (F := Ideal) tb).win (2 : Fin 3)).index t = ![t.val / 8, t.val % 8] := by
  have h : ∀ t : Fin (cfgA (F := Ideal) tb0).N, ((cfgA (F := Ideal) tb0).win (2 : Fin 3)).index t = ![t.val / 8, t.val % 8] := by decide +kernel
  exact h t

theorem outA_eq (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt Ideal .i32)) (T1 : (S1.Idx → Elt Ideal .i32))
    (x0 : (S1024x7168.Idx → Elt Ideal .bf16)) (x1 : (S1x7168x256.Idx → Elt Ideal .bf16)) (k0_h1 : k0_cond1 i (rd T1) = 1#1) (k0_h2 : ¬(k0_cond2 i (rd T1) = 1#1)) :
    outA (F := Ideal) c i arg4 harg4 arg5 harg5 arg6 harg6 T0 T1 x0 x1 k0_h1 k0_h2 = k0_pay1 x0 x1 := by
  unfold outA; frame_out; rw [View.read_rep, View.read_rep]

theorem outB_eq (i : grid0.Coords) (arg4 : Memref sig .tc .vmem S1024x7168 .bf16) (harg4 : arg4.IsWhole) (arg5 : Memref sig .tc .vmem S1x7168x256 .bf16) (harg5 : arg5.IsWhole) (arg6 : Memref sig .tc .vmem S1024x256 .f32) (harg6 : arg6.IsWhole) (T0 : (S42.Idx → Elt Ideal .i32)) (T1 : (S1.Idx → Elt Ideal .i32))
     (x0 : (S1024x7168.Idx → Elt Ideal .bf16)) (x1 : (S1x7168x256.Idx → Elt Ideal .bf16)) (k0_h1 : ¬(k0_cond1 i (rd T1) = 1#1)) (k0_h2 : k0_cond2 i (rd T1) = 1#1) :
    outB (F := Ideal) c i arg4 harg4 arg5 harg5 arg6 harg6 T0 T1 x0 x1 k0_h1 k0_h2 = k0_pay2 (F := Ideal) := by
  unfold outB; frame_out

theorem left_live (t : Fin (cfgA (F := Ideal) tb).N) (h : Live tb (crd (F := Ideal) tb t)) :
    left tb m ρ c t = k0_pay1 (iblk tb m ρ c (0 : Fin 3) t) (iblk tb m ρ c (1 : Fin 3) t) := by
  unfold left; rw [dif_pos h]; exact outA_eq ..

theorem left_dead (t : Fin (cfgA (F := Ideal) tb).N) (h : ¬ Live tb (crd (F := Ideal) tb t)) :
    left tb m ρ c t = k0_pay2 (F := Ideal) := by
  unfold left; rw [dif_neg h]; exact outB_eq ..

theorem pay1_at (x0 : FVec Ideal S1024x7168 .bf16) (x1 : FVec Ideal S1x7168x256 .bf16) (r : Fin 1024) (l : Fin 256) :
    (k0_pay1 (F := Ideal) x0 x1 (ix2 r l) : EReal) = ∑ j : Fin 7168, x0 (ix2 r j) * x1 (ix3 0 j l) := by
  pointwise [k0_pay1]

theorem pay2_at (r : Fin 1024) (l : Fin 256) : (k0_pay2 (F := Ideal) (ix2 r l) : EReal) = 0 := by
  pointwise [k0_pay2]

theorem idx0 (t : Fin (cfgA (F := Ideal) tb).N) (h : Live tb (crd (F := Ideal) tb t)) : ((cfgA (F := Ideal) tb).win (0 : Fin 3)).index t = ![t.val / 8, 0] := by
  show cc0_transform_0 inb_S1_S1_0 numel1_S1 (pf (F := Ideal) tb) (crd (F := Ideal) tb t) = _
  rw [map0_eq, min_of_lt _ (crd (F := Ideal) tb t 0).isLt _ h, BitVec.toNat_ofNat, crd0]
  have := t.isLt
  rw [Nat.mod_eq_of_lt (by change t.val < 336 at this; omega)]

theorem idx1 (t : Fin (cfgA (F := Ideal) tb).N) (h : Live tb (crd (F := Ideal) tb t)) : ((cfgA (F := Ideal) tb).win (1 : Fin 3)).index t
    = ![(mine (F := Ideal) tb (crd (F := Ideal) tb t)).toNat, 0, t.val % 8] := by
  show cc0_transform_1 k0_off1_inb numel1_S1 inb_S1_S1_0 (pf (F := Ideal) tb) (crd (F := Ideal) tb t) = _
  rw [map1_eq]
  have hc : Scalar.cmpi .slt (BitVec.ofNat 32 (crd (F := Ideal) tb t 0).val) (word tb) = 1#1 := by
    have hk := toInt_ofNat _ (crd (F := Ideal) tb t 0).isLt
    unfold Scalar.cmpi IntOp.cmpi
    simp only [BitVec.slt]
    rw [hk, decide_eq_true h]; rfl
  rw [hc, show Scalar.select 1#1 (BitVec.ofNat 32 (crd (F := Ideal) tb t 1).val) 7#32 = BitVec.ofNat 32 (crd (F := Ideal) tb t 1).val from rfl, BitVec.toNat_ofNat, crd1]
  rw [Nat.mod_eq_of_lt (by omega)]

theorem mine_eq (t : Fin (cfgA (F := Ideal) tb).N) : mine (F := Ideal) tb (crd (F := Ideal) tb t)
    = tb.e (ix1 ⟨t.val / 8, by have := t.isLt; change t.val < 336 at this; omega⟩) := by
  have hk : (crd (F := Ideal) tb t 0).val < 42 := (crd (F := Ideal) tb t 0).isLt
  have hv : (BitVec.ofNat 32 (crd (F := Ideal) tb t 0).val).toNat + 0 * 1 = t.val / 8 := by
    rw [BitVec.toNat_ofNat, crd0] at *; omega
  exact congrArg tb.e (funext fun | ⟨0, _⟩ => Fin.ext hv)

theorem blk0_at (t : Fin (cfgA (F := Ideal) tb).N) (h : Live tb (crd (F := Ideal) tb t)) (r : Fin 1024) (j : Fin 7168) :
    (iblk tb m ρ c (0 : Fin 3) t : FVec Ideal S1024x7168 .bf16) (ix2 r j)
      = H m c (ix2 ⟨t.val / 8 * 1024 + r, by have := t.isLt; change t.val < 336 at this; omega⟩ j) := by
  blk_ext [iblk, idx0 tb t h]

theorem blk1_at (t : Fin (cfgA (F := Ideal) tb).N) (h : Live tb (crd (F := Ideal) tb t)) (j : Fin 7168) (l : Fin 256) :
    (iblk tb m ρ c (1 : Fin 3) t : FVec Ideal S1x7168x256 .bf16) (ix3 0 j l)
      = W m c (ix3 ⟨(mine (F := Ideal) tb (crd (F := Ideal) tb t)).toNat, mine_lt tb _⟩ j ⟨t.val % 8 * 256 + l, by omega⟩) := by
  blk_ext [iblk, idx1 tb t h]

theorem final2 : (dats tb m ρ 0 c).arrAt (2 : Fin 3) (cfgA (F := Ideal) tb).N = G tb m c := by
  refine (dats tb m ρ 0 c).arrAt_eq_of_covers (2 : Fin 3) (G tb m c) ?_ fun t hf y => ?_
  · exact (show ((cfgA (F := Ideal) tb0).win (2 : Fin 3)).Covers by decide +kernel)
  blk_simp [idx2 tb t]
  rw [after0_2]
  idx_vars y
  have ht : t.val < 336 := t.isLt
  have hw : tb.n (ix1 0) = word tb := n_eq tb _
  refine Eq.trans (b := G tb m c (show S43008x2048.Idx from ix2 ⟨t.val / 8 * 1024 + y0, by omega⟩ ⟨t.val % 8 * 256 + y1, by omega⟩)) ?_ (by blk_ext [idx2 tb t])
  have hq : (t.val / 8 * 1024 + y0.val) / 1024 = t.val / 8 := by omega
  by_cases h : Live tb (crd (F := Ideal) tb t)
  · rw [left_live tb m ρ c t h, pay1_at]
    have hl : (((t.val / 8 * 1024 + y0.val) / 1024 : ℕ) : Int) < (tb.n (ix1 0)).toInt := by rw [hq, hw, ← crd0 tb t]; exact h
    refine Eq.trans ?_ (if_pos hl).symm
    refine Finset.sum_congr rfl fun j _ => ?_
    rw [blk0_at tb m ρ c t h, blk1_at tb m ρ c t h]
    congr 2
    refine congrArg (fun q => ix3 q j _) (Fin.ext ?_)
    show (mine (F := Ideal) tb (crd (F := Ideal) tb t)).toNat = (tb.e (ix1 ⟨(t.val / 8 * 1024 + y0.val) / 1024, _⟩)).toNat
    rw [mine_eq]
    exact congrArg (fun q => (tb.e (ix1 q)).toNat) (Fin.ext hq.symm)
  · rw [left_dead tb m ρ c t h, pay2_at]
    have hl : ¬ (((t.val / 8 * 1024 + y0.val) / 1024 : ℕ) : Int) < (tb.n (ix1 0)).toInt := by rw [hq, hw, ← crd0 tb t]; exact h
    exact (if_neg hl).symm

end Cert.Kernel2Ideal.Down
end
-- ==== Proof.DownRef.lean ====
/- The down projection of the routed experts: the reference, entry by entry. -/
module

public import proofs.«01_k».proof.Proof.DownTables
public import proofs.«01_k».proof.Proof.Gen.Reference2Ideal.Run
public import Idealize.ShloMosaic.Lib.Pointwise
public import Idealize.ShloMosaic.Lib.Routing.Words
@[expose] public section
set_option maxRecDepth 16384
noncomputable section
namespace Cert.Reference2Ideal.Down
open Cert.Reference2Ideal Cert.Reference2Ideal.Gen Cert.Reference2Ideal.Value
open Idealize.ShloMosaic Idealize.ShloMosaic.TcCoe
variable (m : (ℓ : Loc nD τ sig) → Buf (Elt Ideal) ℓ) (c : Dev nD)
variable (e : S42.Idx → BitVec 32) (n : S1.Idx → BitVec 32) (H : FVec Ideal S43008x7168 .bf16) (W : FVec Ideal S8x7168x2048 .bf16)

/-- The tile of each row, by the reference's division rounded down. -/
def tileV : S43008.Idx → BitVec 32 :=
  (select (andi (cmpi .ne (signi (iotaInDim S43008 32 0)) (broadcastInDim S43008 ![] bcast_S_S43008 (signi (id (constantI S_ 32 1024#32))))) (cmpi .ne (Host.remsi (iotaInDim S43008 32 0) (broadcastInDim S43008 ![] bcast_S_S43008 (id (constantI S_ 32 1024#32)))) (broadcastInDim S43008 ![] bcast_S_S43008 (constantI S_ 32 0#32)))) (subi (Host.divsi (iotaInDim S43008 32 0) (broadcastInDim S43008 ![] bcast_S_S43008 (id (constantI S_ 32 1024#32)))) (broadcastInDim S43008 ![] bcast_S_S43008 (constantI S_ 32 1#32))) (Host.divsi (iotaInDim S43008 32 0) (broadcastInDim S43008 ![] bcast_S_S43008 (id (constantI S_ 32 1024#32)))))

/-- The expert of each row, -1 where the row's tile is not in use. -/
def rowV : S43008.Idx → BitVec 32 :=
  (select (cmpi .slt tileV (broadcastInDim S43008 ![] bcast_S_S43008 (shapeCast _ n shapeCasts_S1_S_))) (shapeCast _ (broadcastInDim S42x1024 ![0] bcast_S42_S42x1024_0 e) shapeCasts_S42x1024_S43008) (broadcastInDim S43008 ![] bcast_S_S43008 (id (constantI S_ 32 4294967295#32))))

/-- One expert's term of the reference's sum: its rows' products with its weights, the other rows' taken to zero. -/
def part (k : BitVec 32) (o : ℕ) (h : Shape.Slices S8x7168x2048 ![o, 0, 0] S1x7168x2048) : FVec Ideal S43008x2048 .f32 :=
  mulf (broadcastInDim S43008x2048 ![0, 1] bcast_S43008x1_S43008x2048_0_1 (uitofp .f32 (broadcastInDim S43008x1 ![0] bcast_S43008_S43008x1_0 (cmpi .eq (rowV e n) (broadcastInDim S43008 ![] bcast_S_S43008 (constantI S_ 32 k))))))
    (Host.dotGeneral dot_S43008x7168_S7168x2048_S43008x2048_1_0_0_1_n_n none (extf .f32 H bitsLt_bf16_f32) (extf .f32 (shapeCast _ (extractStridedSlice S1x7168x2048 ![o, 0, 0] W h) shapeCasts_S1x7168x2048_S7168x2048) bitsLt_bf16_f32))

/-- The reference's sum over the experts. -/
def total : FVec Ideal S43008x2048 .f32 :=
  (addf (addf (addf (addf (addf (addf (addf (addf (broadcastInDim S43008x2048 ![] bcast_S_S43008x2048 (constant S_ .f32 0x00000000#32)) (part e n H W 0#32 0 slices_S8x7168x2048_S1x7168x2048_0_0_0)) (part e n H W 1#32 1 slices_S8x7168x2048_S1x7168x2048_1_0_0)) (part e n H W 2#32 2 slices_S8x7168x2048_S1x7168x2048_2_0_0)) (part e n H W 3#32 3 slices_S8x7168x2048_S1x7168x2048_3_0_0)) (part e n H W 4#32 4 slices_S8x7168x2048_S1x7168x2048_4_0_0)) (part e n H W 5#32 5 slices_S8x7168x2048_S1x7168x2048_5_0_0)) (part e n H W 6#32 6 slices_S8x7168x2048_S1x7168x2048_6_0_0)) (part e n H W 7#32 7 slices_S8x7168x2048_S1x7168x2048_7_0_0))

theorem res_eq : res_main_v104 m c = total (m ((c.tc : Thread nD τ).loc main_arg0)) (m ((c.tc : Thread nD τ).loc main_arg1))
    (m ((c.tc : Thread nD τ).loc main_arg2)) (m ((c.tc : Thread nD τ).loc main_arg3)) := rfl

theorem tile_at (r : Fin 43008) : tileV (ix1 r) = BitVec.ofNat 32 (r / 1024) := by
  have hr := r.isLt
  pointwise [tileV]
  rw [show id (constantI S_ 32 1024#32) ix0 = BitVec.ofNat 32 1024 from rfl, Routing.divsi_word _ (by omega) (by omega) (by omega), Routing.remsi_word _ (by omega) (by omega) (by omega)]
  by_cases h0 : r.val = 0
  · have hz : IntOp.cmpi .ne (BitVec.ofNat 32 (r.val % 1024)) 0#32 = 0#1 := by
      have : r.val % 1024 = 0 := by omega
      simp only [this]; decide
    have hc : ∀ b : BitVec 1, IntOp.andi b 0#1 = 0#1 := by decide
    simp only [hz, hc]; rfl
  · have hz : ¬ BitVec.ofNat 32 r.val = 0 := fun h => h0 (by
      have := congrArg BitVec.toNat h
      rw [BitVec.toNat_ofNat, show (0 : BitVec 32).toNat = 0 from rfl] at this
      omega)
    have hm : (BitVec.ofNat 32 r.val).msb = false := by rw [BitVec.msb_eq_false_iff_two_mul_lt, BitVec.toNat_ofNat]; omega
    simp only [if_neg hz, hm]
    have hc : ∀ b : BitVec 1, IntOp.andi (IntOp.cmpi .ne (if false = true then (-1 : BitVec 32) else 1) (if BitVec.ofNat 32 1024 = 0 then 0 else if (BitVec.ofNat 32 1024).msb = true then -1 else 1)) b = 0#1 := by decide
    simp only [hc]; rfl

theorem row_at (r : Fin 43008) : rowV e n (ix1 r)
    = if ((r.val / 1024 : ℕ) : Int) < (n (ix1 0)).toInt then e (ix1 ⟨r / 1024, by omega⟩) else 4294967295#32 := by
  pointwise [rowV, tile_at]
  rw [show id (constantI S_ 32 4294967295#32) ix0 = 4294967295#32 from rfl]
  have h := Cert.Kernel2Ideal.Down.toInt_ofNat (r / 1024) (by omega)
  have hc : IntOp.cmpi .slt (BitVec.ofNat 32 (r.val / 1024)) (n (ix1 0)) = BitVec.ofBool (decide (((r.val / 1024 : ℕ) : Int) < (n (ix1 0)).toInt)) := by
    rw [← h]; rfl
  rw [hc]
  by_cases hl : ((r.val / 1024 : ℕ) : Int) < (n (ix1 0)).toInt
  · rw [if_pos hl, decide_eq_true hl]; rfl
  · rw [if_neg hl, decide_eq_false hl]; rfl

theorem part_at (k : BitVec 32) (o : ℕ) (ho : o < 8) (h) (r : Fin 43008) (l : Fin 2048) :
    part e n H W k o h (ix2 r l) = (if rowV e n (ix1 r) = k then (1 : EReal) else 0) * ∑ j : Fin 7168, H (ix2 r j) * W (ix3 ⟨o, ho⟩ j l) := by
  pointwise [part]
  generalize rowV e n (ix1 r) = v
  generalize ∑ x, H (ix2 r x) * W (ix3 ⟨o, ho⟩ x l) = s
  congr 1
  by_cases hv : v = k
  · rw [if_pos hv, show IntOp.cmpi .eq v k = 1#1 by unfold IntOp.cmpi; simp [hv]]
    show (((1#1).toNat : ℝ) : EReal) = 1
    simp
  · rw [if_neg hv, show IntOp.cmpi .eq v k = 0#1 by unfold IntOp.cmpi; rw [show (v == k) = false from beq_false_of_ne hv]; rfl]
    show (((0#1).toNat : ℝ) : EReal) = 0
    simp

theorem sum_pick (v : BitVec 32) (f : Fin 8 → EReal) :
    (if v = 0#32 then (1 : EReal) else 0) * f 0 + (if v = 1#32 then (1 : EReal) else 0) * f 1 + (if v = 2#32 then (1 : EReal) else 0) * f 2 + (if v = 3#32 then (1 : EReal) else 0) * f 3 + (if v = 4#32 then (1 : EReal) else 0) * f 4 + (if v = 5#32 then (1 : EReal) else 0) * f 5 + (if v = 6#32 then (1 : EReal) else 0) * f 6 + (if v = 7#32 then (1 : EReal) else 0) * f 7
      = if h : v.toNat < 8 then f ⟨v.toNat, h⟩ else 0 := by
  by_cases h : v.toNat < 8
  · obtain ⟨k, rfl⟩ : ∃ k : Fin 8, v = BitVec.ofNat 32 k := ⟨⟨v.toNat, h⟩, BitVec.eq_of_toNat_eq ((BitVec.toNat_ofNat ..).trans (Nat.mod_eq_of_lt v.isLt)).symm⟩
    fin_cases k <;> simp
  · rw [dif_neg h]
    have hk : ∀ k : ℕ, k < 8 → v ≠ BitVec.ofNat 32 k := fun k hk hv => h (by rw [hv, BitVec.toNat_ofNat]; omega)
    simp [hk 0, hk 1, hk 2, hk 3, hk 4, hk 5, hk 6, hk 7]

theorem res_at (he : ∀ x, (e x).toNat < 8) (r : Fin 43008) (l : Fin 2048) : total e n H W (ix2 r l)
    = if ((r.val / 1024 : ℕ) : Int) < (n (ix1 0)).toInt then
        ∑ j : Fin 7168, H (ix2 r j) * W (ix3 ⟨(e (ix1 ⟨r / 1024, by omega⟩)).toNat, he _⟩ j l) else (0 : EReal) := by
  pointwise [total]
  rw [part_at _ _ _ _ _ 0 (by omega), part_at _ _ _ _ _ 1 (by omega), part_at _ _ _ _ _ 2 (by omega), part_at _ _ _ _ _ 3 (by omega), part_at _ _ _ _ _ 4 (by omega),
    part_at _ _ _ _ _ 5 (by omega), part_at _ _ _ _ _ 6 (by omega), part_at _ _ _ _ _ 7 (by omega)]
  refine (sum_pick _ fun k => ∑ j : Fin 7168, H (ix2 r j) * W (ix3 k j l)).trans ?_
  rw [row_at]
  by_cases hl : ((r.val / 1024 : ℕ) : Int) < (n (ix1 0)).toInt
  · simp only [if_pos hl, dif_pos (he _)]
  · simp only [if_neg hl]; rw [dif_neg (by decide)]

end Cert.Reference2Ideal.Down
end
-- ==== Proof.Down.lean ====
/- The down projection of the routed experts beside its reference: the reference runs and leaves its arguments and the counters as they were,
   and both programs end at the same array. -/
module

public import proofs.«01_k».proof.Proof.DownFrame
public import proofs.«01_k».proof.Proof.DownVal
public import proofs.«01_k».proof.Proof.DownRef
@[expose] public section
set_option maxRecDepth 16384
noncomputable section
namespace Cert.Down
open Idealize.ShloMosaic Idealize.ShloMosaic.TcCoe Idealize.SL.Sem Idealize.ShloMosaic.StableHlo
open Cert.Kernel2Ideal.Down

theorem quiescent_Reference2Ideal : Cert.quiescent_Reference2Ideal := fun m g _ =>
  (θ_run _ _ _).mono (fun _ h => ⟨fun c => (h c).2, sem_eq_zero_of_no_sems rfl _⟩) (Cert.Reference2Ideal.Value.run m g)

theorem quiescent_Reference2Ideal_pre_named2 : Cert.quiescent_Reference2Ideal_pre_named2 := fun m g _ => quiescent_Reference2Ideal m g trivial

/-- The reference's sum at the tables and arrays of a launch memory is what the kernel leaves. -/
theorem total_eq (tb : Tables) (m : (ℓ : Loc Cert.Kernel2Ideal.nD Cert.Kernel2Ideal.τ Cert.Kernel2Ideal.sig) → Buf (Elt Ideal) ℓ) (c : Dev Cert.Kernel2Ideal.nD) :
    Cert.Reference2Ideal.Down.total tb.e tb.n (H m c) (W m c) = G tb m c := funext fun y =>
  (congrArg _ (eq_ix2 y)).trans ((Cert.Reference2Ideal.Down.res_at tb.e tb.n (H m c) (W m c) tb.e_lt (y 0) (y 1)).trans rfl)

open Cert.Kernel2Ideal in
theorem algebraic : Cert.algebraic_Kernel2Ideal_Reference2Ideal := by
  intro m g m' g' hp hag
  have hpin := pinned_of_pre m hp
  refine ⟨fun c => G (ofPre _ _ _ _ (hp 0)) m c, ?_, ?_⟩
  · refine (θ_run _ _ _).mono (fun r h c => ?_) (θ_run_and (run_main _ m g hpin) (unchanged _ m g hpin))
    exact ⟨((h.1 c).1 (2 : Fin 3)).trans (final2 _ m g c), h.2 c⟩
  · refine (θ_run _ _ _).mono (fun r h c => ?_) (Cert.Reference2Ideal.Value.run m' g')
    obtain ⟨h0, h1, h2, h3⟩ := hag c
    refine ⟨(h c).1.trans ?_, (h c).2⟩
    rw [Cert.Reference2Ideal.Down.res_eq, h0, h1, h2, h3, hpin.1 c, hpin.2 c]
    exact total_eq _ m c

end Cert.Down
end
-- ==== Proof.UpTables.lean ====
/- The up projection of the routed experts: the item tables that its launch reads, and what the index maps make of them.
   A grid point is an item: a tile of 1024 rows and a block of 512 columns, with the tile's expert and a word that says what to do: 0, the
   tile is not in use; 1, multiply by the weights of the item before; 2, take up new weights and multiply by them. -/
module

public import proofs.«01_k».proof.Defs
public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Gen.Reference3Ideal.Run
public import Idealize.ShloMosaic.Lib.Pipeline.Kit
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pointwise
public import Idealize.ShloMosaic.Adequacy
public import Idealize.ShloMosaic.Init
@[expose] public section
set_option maxRecDepth 16384
noncomputable section
namespace Cert.Kernel3Ideal.Up
open Cert.Kernel3Ideal Cert.Kernel3Ideal.Gen
open Idealize.ShloMosaic
variable {F : FTy → Type} [FloatOps F]

/-- The tables that the precondition admits: every item names a tile, a block and an expert that exist; the used items are those of the tiles
    in use, and read the weights of their own block; no two items have one tile and block; an item that keeps the weights follows a used item
    of the same weights; and a used item's expert is its tile's. -/
structure Tables where
  m : S588.Idx → BitVec 32
  n : S588.Idx → BitVec 32
  w : S588.Idx → BitVec 32
  e : S588.Idx → BitVec 32
  v : S588.Idx → BitVec 32
  te : S42.Idx → BitVec 32
  nu : S1.Idx → BitVec 32
  m_lt : ∀ i : Fin 588, (m (ix1 i)).toNat < 42
  n_lt : ∀ i : Fin 588, (n (ix1 i)).toNat < 14
  w_lt : ∀ i : Fin 588, (w (ix1 i)).toNat < 14
  e_lt : ∀ i : Fin 588, (e (ix1 i)).toNat < 8
  v_of : ∀ i : Fin 588, v (ix1 i) = 0#32 ∨ v (ix1 i) = 1#32 ∨ v (ix1 i) = 2#32
  used : ∀ i : Fin 588, v (ix1 i) ≠ 0#32 ↔ ((m (ix1 i)).toNat : Int) < (nu (ix1 0)).toInt
  own : ∀ i : Fin 588, v (ix1 i) ≠ 0#32 → n (ix1 i) = w (ix1 i)
  first : ∀ i : Fin 588, v (ix1 i) = 1#32 → 0 < i.val
  apart : ∀ i j : Fin 588, m (ix1 i) = m (ix1 j) → n (ix1 i) = n (ix1 j) → i = j
  carried : ∀ i j : Fin 588, i.val + 1 = j.val → v (ix1 j) = 1#32 → v (ix1 i) ≠ 0#32 ∧ e (ix1 i) = e (ix1 j) ∧ w (ix1 i) = w (ix1 j)
  expert : ∀ (i : Fin 588) (k : Fin 42), v (ix1 i) ≠ 0#32 → m (ix1 i) = BitVec.ofNat 32 k → e (ix1 i) = te (ix1 k)

variable (tb : Tables) (i : grid0.Coords)

def pf : pre0.Contents (Elt F) := fun
  | ⟨0, _⟩ => tb.m | ⟨1, _⟩ => tb.n | ⟨2, _⟩ => tb.w | ⟨3, _⟩ => tb.e | ⟨4, _⟩ => tb.v | ⟨_ + 5, h⟩ => absurd h (by simp)

/-- The item's number. -/
abbrev num : Fin 588 := ⟨(i 0).val, (i 0).isLt⟩

theorem word_num : (BitVec.ofNat 32 (i 0).val).toNat + 0 * 1 = (i 0).val := by
  have h : (i 0).val < 588 := (i 0).isLt
  rw [BitVec.toNat_ofNat]; omega

/-- Each table's word that the item reads. -/
theorem at_m : (pf (F := F) tb).at 0 (Rect.unit (s := S588) ![(Scalar.indexCast (BitVec.ofNat 32 (i 0).val)).toNat] S1.size (k0_off1_inb i)) numel1_S1 = tb.m (ix1 (num i)) :=
  congrArg tb.m (funext fun | ⟨0, _⟩ => Fin.ext (word_num i))
theorem at_n : (pf (F := F) tb).at 1 (Rect.unit (s := S588) ![(Scalar.indexCast (BitVec.ofNat 32 (i 0).val)).toNat] S1.size (k0_off1_inb i)) numel1_S1 = tb.n (ix1 (num i)) :=
  congrArg tb.n (funext fun | ⟨0, _⟩ => Fin.ext (word_num i))
theorem at_w : (pf (F := F) tb).at 2 (Rect.unit (s := S588) ![(Scalar.indexCast (BitVec.ofNat 32 (i 0).val)).toNat] S1.size (k0_off1_inb i)) numel1_S1 = tb.w (ix1 (num i)) :=
  congrArg tb.w (funext fun | ⟨0, _⟩ => Fin.ext (word_num i))
theorem at_e : (pf (F := F) tb).at 3 (Rect.unit (s := S588) ![(Scalar.indexCast (BitVec.ofNat 32 (i 0).val)).toNat] S1.size (k0_off1_inb i)) numel1_S1 = tb.e (ix1 (num i)) :=
  congrArg tb.e (funext fun | ⟨0, _⟩ => Fin.ext (word_num i))

/-! ## What the index maps make of them -/

theorem map0_eq : cc0_transform_0 k0_off1_inb numel1_S1 (pf (F := F) tb) i = ![(tb.m (ix1 (num i))).toNat, 0] :=
  congrArg (fun a : BitVec 32 => ![a.toNat, 0]) (at_m (F := F) tb i)

theorem map1_eq : cc0_transform_1 k0_off1_inb numel1_S1 (pf (F := F) tb) i = ![(tb.e (ix1 (num i))).toNat, 0, (tb.w (ix1 (num i))).toNat] :=
  congrArg₂ (fun a b : BitVec 32 => ![a.toNat, 0, b.toNat]) (at_e (F := F) tb i) (at_w (F := F) tb i)

theorem map2_eq : cc0_transform_2 k0_off1_inb numel1_S1 (pf (F := F) tb) i = ![(tb.e (ix1 (num i))).toNat, 0, (tb.w (ix1 (num i))).toNat] := map1_eq tb i

theorem map4_eq : cc0_transform_4 k0_off1_inb numel1_S1 (pf (F := F) tb) i = ![(tb.m (ix1 (num i))).toNat, (tb.n (ix1 (num i))).toNat] :=
  congrArg₂ (fun a b : BitVec 32 => ![a.toNat, b.toNat]) (at_m (F := F) tb i) (at_n (F := F) tb i)

theorem inb0 (x : ℕ) (h : x < 42) : ∀ a, ((![x, 0] : Fin 2 → ℕ) a + 1) * S1024x1024.size a ≤ S43008x1024.size a
  | ⟨0, _⟩ => show (x + 1) * 1024 ≤ 43008 by omega
  | ⟨1, _⟩ => show (0 + 1) * 1024 ≤ 1024 by omega

theorem inb1 (x y : ℕ) (h : x < 8) (h' : y < 14) : ∀ a, ((![x, 0, y] : Fin 3 → ℕ) a + 1) * S1x2048x512.size a ≤ S8x2048x7168.size a
  | ⟨0, _⟩ => show (x + 1) * 1 ≤ 8 by omega
  | ⟨1, _⟩ => show (0 + 1) * 2048 ≤ 2048 by omega
  | ⟨2, _⟩ => show (y + 1) * 512 ≤ 7168 by omega

theorem inb4 (x y : ℕ) (h : x < 42) (h' : y < 14) : ∀ a, ((![x, y] : Fin 2 → ℕ) a + 1) * S1024x512.size a ≤ S43008x7168.size a
  | ⟨0, _⟩ => show (x + 1) * 1024 ≤ 43008 by omega
  | ⟨1, _⟩ => show (y + 1) * 512 ≤ 7168 by omega

/-- Every block that the tables name lies inside its array. -/
theorem ok_pf : ok0 (F := F) (pf tb) := by
  refine ⟨fun i => ⟨fun a => ?_, .inl rfl⟩, fun i => ⟨fun a => ?_, .inl rfl⟩, fun i => ⟨fun a => ?_, .inl rfl⟩,
    fun i => ⟨fun a => ?_, .inr (Affine.block_words_dvd (s := S43008x7168) (p := EltTy.packing .bf16) (by decide) (by decide))⟩⟩
  · rw [map0_eq]; exact inb0 _ (tb.m_lt _) a
  · rw [map1_eq]; exact inb1 _ _ (tb.e_lt _) (tb.w_lt _) a
  · rw [map2_eq]; exact inb1 _ _ (tb.e_lt _) (tb.w_lt _) a
  · rw [map4_eq]; exact inb4 _ _ (tb.m_lt _) (tb.n_lt _) a

/-- The tables as the launch takes them, and the pipeline at them. -/
def adm : (pcfg0 (F := F)).Adm := ⟨pf tb, ok_pf tb⟩
abbrev cfgA : Pipeline.Cfg sig Λ₀ := cfg0 (F := F) (adm tb)
abbrev pcs : Fin 1 → Pipeline.Cfg sig Λ₀ := Pipeline.pin (pcfgs (F := F)) fun _ => adm tb
abbrev crd (t : Fin (cfgA (F := F) tb).N) : grid0.Coords := (cfgA (F := F) tb).grid.coords t

/-! ## What the item's word decides -/

theorem atD_2 : (pf (F := F) tb).atD 4 (k0_off2 i) = tb.v (ix1 (num i)) := by
  have h : (i 0).val < 588 := (i 0).isLt
  have hw := word_num i
  refine (dif_pos (fun | ⟨0, _⟩ => ?_)).trans (congrArg tb.v (funext fun | ⟨0, _⟩ => Fin.ext ?_))
  · show (BitVec.ofNat 32 (i 0).val).toNat = (i 0).val
    omega
  · show (BitVec.ofNat 32 (i 0).val).toNat + 1 ≤ 588
    omega

theorem atD_3 : (pf (F := F) tb).atD 4 (k0_off3 i) = tb.v (ix1 (num i)) := atD_2 tb i

theorem cond1_iff : k0_cond1 i = 1#1 ↔ (i 0).val < 256 := by
  have hi : (i 0).val < 588 := (i 0).isLt
  have h : (BitVec.ofNat 32 (i 0).val).toInt = (i 0).val := by
    rw [BitVec.toInt_eq_toNat_cond, BitVec.toNat_ofNat]; omega
  unfold k0_cond1 Scalar.cmpi IntOp.cmpi Scalar.extui
  simp only [BitVec.slt]
  rw [h]
  by_cases hc : (i 0).val < 256
  · simp [hc]
  · simp [hc]

/-- The item's block of the product is stored at every point, -/
theorem idle_4 : (cfgA (F := F) tb).idle (4 : Fin 6) i = false := by
  show (!(k0_cond3 ((pf (F := F) tb).atD 4 (k0_off2 i)) == 1#1) && !(k0_cond4 ((pf (F := F) tb).atD 4 (k0_off3 i)) == 1#1)) = false
  rw [atD_2, atD_3]
  rcases tb.v_of (num i) with h | h | h <;> rw [h] <;> decide

/-- the block of the cast weights at the first 256. -/
theorem idle_5 : (cfgA (F := F) tb).idle (5 : Fin 6) i = !decide ((i 0).val < 256) := by
  show (!(k0_cond1 i == 1#1)) = _
  congr 1
  exact Bool.eq_iff_iff.mpr (by rw [beq_iff_eq, cond1_iff, decide_eq_true_iff])

end Cert.Kernel3Ideal.Up
end
-- ==== Proof.UpBody.lean ====
/- The up projection of the routed experts: its body, by what the item's word says and whether a block of the weights is cast. -/
module

public import proofs.«01_k».proof.Proof.UpTables
public import Idealize.ShloMosaic.Lib.Claim
public import Idealize.ShloMosaic.Lib.Pipeline.Quiescent
public import Idealize.ShloMosaic.Lib.Pipeline.TableIdle
public import Idealize.ShloMosaic.Lib.Pipeline.ValueKit
@[expose] public section
set_option maxRecDepth 16384
set_option Elab.async false
noncomputable section
namespace Cert.Kernel3Ideal.Up
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

/-- The five tables, whole. -/
abbrev tbM0_0 : Memref sig .tc .smem S588 .i32 := Memref.whole main_arg0
abbrev tbM0_1 : Memref sig .tc .smem S588 .i32 := Memref.whole main_arg1
abbrev tbM0_2 : Memref sig .tc .smem S588 .i32 := Memref.whole main_arg2
abbrev tbM0_3 : Memref sig .tc .smem S588 .i32 := Memref.whole main_arg3
abbrev tbM0_4 : Memref sig .tc .smem S588 .i32 := Memref.whole main_arg4
/-- The two scratches, whole. -/
abbrev scM0_0 : Memref sig .tc .vmem S2048x512 .bf16 := Memref.whole cc0_scratch0
abbrev scM0_1 : Memref sig .tc .vmem S2048x512 .bf16 := Memref.whole cc0_scratch1

/-- The word the body reads of the fifth table. -/
abbrev rd (i : grid0.Coords) (T4 : S588.Idx → Elt F .i32) : Elt F .i32 :=
  View.readAt (Elt F) (tbM0_4).view (Rect.unit (s := S588) (k0_off1 i) S1.size (k0_off1_inb i)).toLoadRect T4 (Shape.Idx.first (numel1_S1.symm ▸ Nat.one_pos))

/-- The word asks for new weights. -/
abbrev Takes (v : BitVec 32) : Prop := Scalar.cmpi .ne (Scalar.extui (Scalar.cmpi .eq v 2#32) : BitVec 32) 0#32 = 1#1

variable (c : Dev nD) (i : grid0.Coords)
  (arg6 : Memref sig .tc .vmem S1024x1024 .i32) (harg6 : arg6.IsWhole) (arg7 : Memref sig .tc .vmem S1x2048x512 .f32) (harg7 : arg7.IsWhole)
  (arg8 : Memref sig .tc .vmem S1x2048x512 .f32) (harg8 : arg8.IsWhole) (arg9 : Memref sig .tc .vmem S224x2048 .f32) (harg9 : arg9.IsWhole)
  (arg10 : Memref sig .tc .vmem S1024x512 .bf16) (harg10 : arg10.IsWhole) (arg11 : Memref sig .tc .vmem S224x2048 .bf16) (harg11 : arg11.IsWhole)
  (arg12 : Memref sig .tc .vmem S2048x512 .bf16) (harg12 : arg12.IsWhole) (arg13 : Memref sig .tc .vmem S2048x512 .bf16) (harg13 : arg13.IsWhole)
  (T4 : S588.Idx → Elt F .i32) (x0 : S1024x1024.Idx → Elt F .i32) (x1 x2 : S1x2048x512.Idx → Elt F .f32) (x3 : S224x2048.Idx → Elt F .f32)
  (a0 a1 : S2048x512.Idx → Elt F .bf16) (d4 : S1024x512.Idx → Elt F .bf16) (d5 : S224x2048.Idx → Elt F .bf16)

/-- What the scratches hold after the body, -/
def next0 : S2048x512.Idx → Elt F .bf16 := if Takes (rd i T4) then k0_pay2 x1 else a0
def next1 : S2048x512.Idx → Elt F .bf16 := if Takes (rd i T4) then k0_pay3 x2 else a1
/-- and the two outputs' blocks. -/
def put4 : S1024x512.Idx → Elt F .bf16 :=
  if k0_cond4 (rd i T4) = 1#1 then k0_pay5 else if k0_cond3 (rd i T4) = 1#1 then k0_pay4 x0 (next0 i T4 x1 a0) (next1 i T4 x2 a1) else d4
def put5 : S224x2048.Idx → Elt F .bf16 := if k0_cond1 i = 1#1 then k0_pay1 x3 else d5

set_option maxHeartbeats 4000000 in
theorem run (K : PUnit → sProp 𝕄) :
    iprop((arg6.view.loc (c : Thread nD τ) ↦[arg6.view.set]{fullShare} arg6.view.rep x0)
      ∗ (arg7.view.loc (c : Thread nD τ) ↦[arg7.view.set]{fullShare} arg7.view.rep x1)
      ∗ (arg8.view.loc (c : Thread nD τ) ↦[arg8.view.set]{fullShare} arg8.view.rep x2)
      ∗ (arg9.view.loc (c : Thread nD τ) ↦[arg9.view.set]{fullShare} arg9.view.rep x3)
      ∗ (tbM0_4.view.loc (c : Thread nD τ) ↦{fullShare.right} T4)
      ∗ (arg12.view.loc (c : Thread nD τ) ↦[arg12.view.set]{fullShare} arg12.view.rep a0)
      ∗ (arg13.view.loc (c : Thread nD τ) ↦[arg13.view.set]{fullShare} arg13.view.rep a1)
      ∗ (arg10.view.loc (c : Thread nD τ) ↦[arg10.view.set]{fullShare} arg10.view.rep d4)
      ∗ (arg11.view.loc (c : Thread nD τ) ↦[arg11.view.set]{fullShare} arg11.view.rep d5)
      ∗ (iprop((arg6.view.loc (c : Thread nD τ) ↦[arg6.view.set]{fullShare} arg6.view.rep x0)
          ∗ (arg7.view.loc (c : Thread nD τ) ↦[arg7.view.set]{fullShare} arg7.view.rep x1)
          ∗ (arg8.view.loc (c : Thread nD τ) ↦[arg8.view.set]{fullShare} arg8.view.rep x2)
          ∗ (arg9.view.loc (c : Thread nD τ) ↦[arg9.view.set]{fullShare} arg9.view.rep x3)
          ∗ (tbM0_4.view.loc (c : Thread nD τ) ↦{fullShare.right} T4)
          ∗ owns (c : Thread nD τ) arg12 fullShare (next0 i T4 x1 a0)
          ∗ owns (c : Thread nD τ) arg13 fullShare (next1 i T4 x2 a1)
          ∗ owns (c : Thread nD τ) arg10 fullShare (put4 i T4 x0 x1 x2 a0 a1 d4)
          ∗ owns (c : Thread nD τ) arg11 fullShare (put5 i x3 d5)) -∗ K ⟨⟩))
      ⊢ wp frame (wpE (defs₀ (F := F)) Variants.none c none) Set.univ (cc0_moe_up i tbM0_0 (Memref.isWhole_whole _) tbM0_1 (Memref.isWhole_whole _) tbM0_2 (Memref.isWhole_whole _) tbM0_3 (Memref.isWhole_whole _) tbM0_4 (Memref.isWhole_whole _)
          arg6 harg6 arg7 harg7 arg8 harg8 arg9 harg9 arg10 harg10 arg11 harg11 arg12 harg12 arg13 harg13) K := by
  rw [cc0_moe_up_eq_skeleton]; unfold cc0_moe_up_skel
  iintro ⟨H0, H1, H2, H3, HT4, HS0, HS1, H4, H5, Hk⟩
  have hT4 : tbM0_4.IsWhole := Memref.isWhole_whole _
  unfold put4 put5 next0 next1
  by_cases h1 : k0_cond1 i = 1#1 <;> by_cases h2 : Takes (rd i T4) <;> by_cases h3 : k0_cond3 (rd i T4) = 1#1 <;> by_cases h4 : k0_cond4 (rd i T4) = 1#1
  all_goals
    first | rw [if_pos h1] | rw [if_neg h1]
    first | rw [if_pos h4] | rw [if_neg h4]
    try first | rw [if_pos h3] | rw [if_neg h3]
    first | rw [if_pos h2, if_pos h2] | rw [if_neg h2, if_neg h2]
    sl_exec! (disch := first | exact h1 | exact h2 | exact h3 | exact h4)
    sl_step
    iapply Hk
    isplitl [H0]; · iexact H0
    isplitl [H1]; · iexact H1
    isplitl [H2]; · iexact H2
    isplitl [H3]; · iexact H3
    isplitl [HT4]; · iexact HT4
    isplitl [HS0]
    · unfold owns; iexists _; isplitr; swap
      · iexact HS0
      · ipureintro; first | rw [View.read_rep] | (frame_out; try simp only [View.read_rep])
    isplitl [HS1]
    · unfold owns; iexists _; isplitr; swap
      · iexact HS1
      · ipureintro; first | rw [View.read_rep] | (frame_out; try simp only [View.read_rep])
    isplitl [H4]
    · unfold owns; iexists _; isplitr; swap
      · iexact H4
      · ipureintro; first | rw [View.read_rep] | (frame_out; try simp only [View.read_rep])
    · unfold owns; iexists _; isplitr; swap
      · iexact H5
      · ipureintro; first | rw [View.read_rep] | (frame_out; try simp only [View.read_rep])

end Cert.Kernel3Ideal.Up
end
-- ==== Proof.UpDats.lean ====
/- The up projection of the routed experts: what each window's staging buffer holds at each item, and what the scratches carry from one item
   to the next. -/
module

public import proofs.«01_k».proof.Proof.UpBody
public import Idealize.ShloMosaic.Lib.Pipeline.Frame
@[expose] public section
set_option maxRecDepth 16384
set_option Elab.async false
noncomputable section
namespace Cert.Kernel3Ideal.Up
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

variable (tb : Tables)
variable (m : (ℓ : Loc nD τ sig) → Buf (Elt F) ℓ)

/-! ## The buffers as the region finds them, after the one host operation before it -/

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hostOps0_writes : (hostOps0 : List (HloOp τ sig (Elt F))).Forall fun op => op.writes ⊆ ([main_v0].map (Proc.devRef (τ := τ) .tc)).toFinset :=
  StableHlo.forall_writes_sub_of_map rfl

/-- A buffer that the host operation does not write is as launched, -/
theorem V_of (c : Dev nD) (r : Ref sig .tc) (h : r ∉ [main_v0]) : V m c r = m ((c : Thread nD τ).loc r) :=
  StableHlo.after_of_writes_sub hostOps0 _ hostOps0_writes h

/-- and the one it writes is the weights with their first two axes as one. -/
theorem V_v0 (c : Dev nD) : (V m c main_v0 : FVec F S57344x2048 .f32) = shapeCast S57344x2048 (m ((c : Thread nD τ).loc main_arg10) : FVec F S8x7168x2048 .f32) shapeCasts_S8x7168x2048_S57344x2048 :=
  rfl

/-- The launch memory holds these tables. -/
def Pinned : Prop :=
  ∀ c : Dev nD, m ((c : Thread nD τ).loc main_arg0) = tb.m ∧ m ((c : Thread nD τ).loc main_arg1) = tb.n ∧ m ((c : Thread nD τ).loc main_arg2) = tb.w
    ∧ m ((c : Thread nD τ).loc main_arg3) = tb.e ∧ m ((c : Thread nD τ).loc main_arg4) = tb.v

/-! ## Blocks -/

/-- Each window's staging memref at point `t`, and its wholeness. -/
abbrev ms0_0 (t : Fin (cfgA (F := F) tb).N) : Memref sig .tc .vmem S1024x1024 .i32 := spec0_0.stage ((cfgA (F := F) tb).slots t (0 : Fin 6))
abbrev hs0_0 (t : Fin (cfgA (F := F) tb).N) : (ms0_0 tb t).IsWhole := hstage0_0 (((cfgA (F := F) tb).slots t (0 : Fin 6)).cast nbuf0_0)
abbrev ms0_1 (t : Fin (cfgA (F := F) tb).N) : Memref sig .tc .vmem S1x2048x512 .f32 := spec0_1.stage ((cfgA (F := F) tb).slots t (1 : Fin 6))
abbrev hs0_1 (t : Fin (cfgA (F := F) tb).N) : (ms0_1 tb t).IsWhole := hstage0_1 (((cfgA (F := F) tb).slots t (1 : Fin 6)).cast nbuf0_1)
abbrev ms0_2 (t : Fin (cfgA (F := F) tb).N) : Memref sig .tc .vmem S1x2048x512 .f32 := spec0_2.stage ((cfgA (F := F) tb).slots t (2 : Fin 6))
abbrev hs0_2 (t : Fin (cfgA (F := F) tb).N) : (ms0_2 tb t).IsWhole := hstage0_2 (((cfgA (F := F) tb).slots t (2 : Fin 6)).cast nbuf0_2)
abbrev ms0_3 (t : Fin (cfgA (F := F) tb).N) : Memref sig .tc .vmem S224x2048 .f32 := spec0_3.stage ((cfgA (F := F) tb).slots t (3 : Fin 6))
abbrev hs0_3 (t : Fin (cfgA (F := F) tb).N) : (ms0_3 tb t).IsWhole := hstage0_3 (((cfgA (F := F) tb).slots t (3 : Fin 6)).cast nbuf0_3)
abbrev ms0_4 (t : Fin (cfgA (F := F) tb).N) : Memref sig .tc .vmem S1024x512 .bf16 := spec0_4.stage ((cfgA (F := F) tb).slots t (4 : Fin 6))
abbrev hs0_4 (t : Fin (cfgA (F := F) tb).N) : (ms0_4 tb t).IsWhole := hstage0_4 (((cfgA (F := F) tb).slots t (4 : Fin 6)).cast nbuf0_4)
abbrev ms0_5 (t : Fin (cfgA (F := F) tb).N) : Memref sig .tc .vmem S224x2048 .bf16 := spec0_5.stage ((cfgA (F := F) tb).slots t (5 : Fin 6))
abbrev hs0_5 (t : Fin (cfgA (F := F) tb).N) : (ms0_5 tb t).IsWhole := hstage0_5 (((cfgA (F := F) tb).slots t (5 : Fin 6)).cast nbuf0_5)

/-- Window `w`'s block at point `t`, read off its array as the region finds it. -/
def iblk (c : Dev nD) (w : Fin (cfgA (F := F) tb).W) (t : Fin (cfgA (F := F) tb).N) :
    (((cfgA (F := F) tb).win w).xblock (crd (F := F) tb t)).Idx → Elt F ((cfgA (F := F) tb).win w).elt :=
  (((cfgA (F := F) tb).win w).blk t).view.read (Elt F) (V m c (Pipeline.arrRef spec0 w))

/-- The item of a point. -/
abbrev itm (t : Fin (cfgA (F := F) tb).N) : Fin 588 := ⟨t.val, t.isLt⟩

theorem crd_val (t : Fin (cfgA (F := F) tb).N) : (crd (F := F) tb t 0).val = t.val :=
  (show ∀ t : Fin grid0.N, (grid0.coords t 0).val = t.val by decide +kernel) t

theorem num_eq (t : Fin (cfgA (F := F) tb).N) : num (crd (F := F) tb t) = itm tb t := Fin.ext (crd_val tb t)

theorem idx0 (t : Fin (cfgA (F := F) tb).N) : ((cfgA (F := F) tb).win (0 : Fin 6)).index t = ![(tb.m (ix1 (itm tb t))).toNat, 0] :=
  (map0_eq tb _).trans (by rw [num_eq])
theorem idx1 (t : Fin (cfgA (F := F) tb).N) : ((cfgA (F := F) tb).win (1 : Fin 6)).index t = ![(tb.e (ix1 (itm tb t))).toNat, 0, (tb.w (ix1 (itm tb t))).toNat] :=
  (map1_eq tb _).trans (by rw [num_eq])
theorem idx2 (t : Fin (cfgA (F := F) tb).N) : ((cfgA (F := F) tb).win (2 : Fin 6)).index t = ![(tb.e (ix1 (itm tb t))).toNat, 0, (tb.w (ix1 (itm tb t))).toNat] :=
  (map2_eq tb _).trans (by rw [num_eq])
theorem idx4 (t : Fin (cfgA (F := F) tb).N) : ((cfgA (F := F) tb).win (4 : Fin 6)).index t = ![(tb.m (ix1 (itm tb t))).toNat, (tb.n (ix1 (itm tb t))).toNat] :=
  (map4_eq tb _).trans (by rw [num_eq])

theorem min_num (k : ℕ) (h : k < 588) : (Scalar.minsi (BitVec.ofNat 32 k) 255#32).toNat = min k 255 := by
  have hk : (BitVec.ofNat 32 k).toInt = k := by rw [BitVec.toInt_eq_toNat_cond, BitVec.toNat_ofNat]; omega
  have h5 : (255#32).toInt = 255 := by decide
  unfold Scalar.minsi IntOp.minsi
  split
  · next hc =>
    simp only [BitVec.slt, decide_eq_true_eq, hk, h5] at hc
    rw [BitVec.toNat_ofNat]; omega
  · next hc =>
    simp only [BitVec.slt, decide_eq_true_eq, hk, h5] at hc
    rw [BitVec.toNat_ofNat]; omega

theorem map5_eq (i : grid0.Coords) : cc0_transform_5 i = ![min (i 0).val 255, 0] :=
  congrArg (fun a : ℕ => ![a, 0]) (min_num (i 0).val (i 0).isLt)

theorem idx3 (t : Fin (cfgA (F := F) tb).N) : ((cfgA (F := F) tb).win (3 : Fin 6)).index t = ![min t.val 255, 0] :=
  (map5_eq _).trans (by rw [crd_val])
theorem idx5 (t : Fin (cfgA (F := F) tb).N) : ((cfgA (F := F) tb).win (5 : Fin 6)).index t = ![min t.val 255, 0] :=
  (map5_eq _).trans (by rw [crd_val])

theorem blk0_at (c : Dev nD) (t : Fin (cfgA (F := F) tb).N) (r : Fin 1024) (j : Fin 1024) :
    (iblk tb m c (0 : Fin 6) t : S1024x1024.Idx → Elt F .i32) (ix2 r j)
      = (V m c main_arg7 : S43008x1024.Idx → Elt F .i32) (ix2 ⟨(tb.m (ix1 (itm tb t))).toNat * 1024 + r, by have := tb.m_lt (itm tb t); omega⟩ j) := by
  blk_ext [iblk, idx0 tb t]

theorem blk1_at (c : Dev nD) (t : Fin (cfgA (F := F) tb).N) (j : Fin 2048) (l : Fin 512) :
    (iblk tb m c (1 : Fin 6) t : S1x2048x512.Idx → Elt F .f32) (ix3 0 j l)
      = (V m c main_arg8 : S8x2048x7168.Idx → Elt F .f32) (ix3 ⟨(tb.e (ix1 (itm tb t))).toNat, tb.e_lt _⟩ j
          ⟨(tb.w (ix1 (itm tb t))).toNat * 512 + l, by have := tb.w_lt (itm tb t); omega⟩) := by
  blk_ext [iblk, idx1 tb t]

theorem blk2_at (c : Dev nD) (t : Fin (cfgA (F := F) tb).N) (j : Fin 2048) (l : Fin 512) :
    (iblk tb m c (2 : Fin 6) t : S1x2048x512.Idx → Elt F .f32) (ix3 0 j l)
      = (V m c main_arg9 : S8x2048x7168.Idx → Elt F .f32) (ix3 ⟨(tb.e (ix1 (itm tb t))).toNat, tb.e_lt _⟩ j
          ⟨(tb.w (ix1 (itm tb t))).toNat * 512 + l, by have := tb.w_lt (itm tb t); omega⟩) := by
  blk_ext [iblk, idx2 tb t]

theorem blk3_at (c : Dev nD) (t : Fin (cfgA (F := F) tb).N) (r : Fin 224) (j : Fin 2048) :
    (iblk tb m c (3 : Fin 6) t : S224x2048.Idx → Elt F .f32) (ix2 r j)
      = (V m c main_v0 : S57344x2048.Idx → Elt F .f32) (ix2 ⟨min t.val 255 * 224 + r, by omega⟩ j) := by
  blk_ext [iblk, idx3 tb t]

/-- Two items of one expert and one block of weights have the same blocks of both weights. -/
theorem blk1_same (c : Dev nD) (s t : Fin (cfgA (F := F) tb).N) (he : tb.e (ix1 (itm tb s)) = tb.e (ix1 (itm tb t))) (hw : tb.w (ix1 (itm tb s)) = tb.w (ix1 (itm tb t))) :
    (iblk tb m c (1 : Fin 6) s : S1x2048x512.Idx → Elt F .f32) = iblk tb m c (1 : Fin 6) t := funext fun y => by
  have hy : y = ix3 (0 : Fin 1) (y 1) (y 2) := (eq_ix3 y).trans (congrArg (ix3 · (y 1) (y 2)) (Subsingleton.elim (α := Fin 1) _ _))
  rw [hy]
  refine (blk1_at tb m c s (y 1) (y 2)).trans (Eq.trans ?_ (blk1_at tb m c t (y 1) (y 2)).symm)
  simp only [he, hw]

theorem blk2_same (c : Dev nD) (s t : Fin (cfgA (F := F) tb).N) (he : tb.e (ix1 (itm tb s)) = tb.e (ix1 (itm tb t))) (hw : tb.w (ix1 (itm tb s)) = tb.w (ix1 (itm tb t))) :
    (iblk tb m c (2 : Fin 6) s : S1x2048x512.Idx → Elt F .f32) = iblk tb m c (2 : Fin 6) t := funext fun y => by
  have hy : y = ix3 (0 : Fin 1) (y 1) (y 2) := (eq_ix3 y).trans (congrArg (ix3 · (y 1) (y 2)) (Subsingleton.elim (α := Fin 1) _ _))
  rw [hy]
  refine (blk2_at tb m c s (y 1) (y 2)).trans (Eq.trans ?_ (blk2_at tb m c t (y 1) (y 2)).symm)
  simp only [he, hw]

/-- From item 255 on the block of the down weights is the last one. -/
theorem blk3_same (c : Dev nD) (s t : Fin (cfgA (F := F) tb).N) (h : min s.val 255 = min t.val 255) :
    (iblk tb m c (3 : Fin 6) s : S224x2048.Idx → Elt F .f32) = iblk tb m c (3 : Fin 6) t := funext fun y => by
  rw [eq_ix2 y]
  refine (blk3_at tb m c s (y 0) (y 1)).trans (Eq.trans ?_ (blk3_at tb m c t (y 0) (y 1)).symm)
  simp only [h]

/-! ## What the body leaves -/

/-- The item's block of the product. -/
def left (c : Dev nD) (t : Fin (cfgA (F := F) tb).N) : S1024x512.Idx → Elt F .bf16 :=
  if tb.v (ix1 (itm tb t)) = 0#32 then k0_pay5
  else k0_pay4 (iblk tb m c (0 : Fin 6) t) (k0_pay2 (iblk tb m c (1 : Fin 6) t)) (k0_pay3 (iblk tb m c (2 : Fin 6) t))

/-- The block of the cast weights. -/
def cast (c : Dev nD) (t : Fin (cfgA (F := F) tb).N) : S224x2048.Idx → Elt F .bf16 := k0_pay1 (iblk tb m c (3 : Fin 6) t)

/-- Between two items the scratches hold the cast weights of the item before, if it was a used one. -/
def Held (c : Dev nD) (t : Fin ((cfgA (F := F) tb).N + 1)) (a0 a1 : S2048x512.Idx → Elt F .bf16) : Prop :=
  ∀ s : Fin (cfgA (F := F) tb).N, s.val + 1 = t.val → tb.v (ix1 (itm tb s)) ≠ 0#32 →
    a0 = k0_pay2 (iblk tb m c (1 : Fin 6) s) ∧ a1 = k0_pay3 (iblk tb m c (2 : Fin 6) s)

theorem rd_eq (t : Fin (cfgA (F := F) tb).N) : rd (F := F) (crd (F := F) tb t) tb.v = tb.v (ix1 (itm tb t)) :=
  (show rd (F := F) (crd (F := F) tb t) tb.v = tb.v (ix1 (num (crd (F := F) tb t))) from
    congrArg tb.v (funext fun | ⟨0, _⟩ => Fin.ext (word_num (crd (F := F) tb t)))).trans (by rw [num_eq])

/-- One item's step: the block it stores, and what the scratches hold for the next. -/
theorem step (c : Dev nD) (t : Fin (cfgA (F := F) tb).N) (a0 a1 : S2048x512.Idx → Elt F .bf16) (d4 : S1024x512.Idx → Elt F .bf16) (h : Held tb m c t.castSucc a0 a1) :
    put4 (crd (F := F) tb t) tb.v (iblk tb m c (0 : Fin 6) t) (iblk tb m c (1 : Fin 6) t) (iblk tb m c (2 : Fin 6) t) a0 a1 d4 = left tb m c t
    ∧ Held tb m c t.succ (next0 (crd (F := F) tb t) tb.v (iblk tb m c (1 : Fin 6) t) a0) (next1 (crd (F := F) tb t) tb.v (iblk tb m c (2 : Fin 6) t) a1) := by
  have hs : ∀ s : Fin (cfgA (F := F) tb).N, s.val + 1 = t.succ.val → s = t := fun s hs => Fin.ext (by
    rw [Fin.val_succ] at hs; omega)
  unfold put4 next0 next1 left
  rw [rd_eq]
  rcases tb.v_of (itm tb t) with hv | hv | hv
  · rw [hv, if_pos (by decide), if_pos rfl]
    exact ⟨rfl, fun s hs' hu => absurd (hs s hs' ▸ hv) hu⟩
  · have h0 := tb.first _ hv
    have hc := tb.carried ⟨t.val - 1, by have := t.isLt; change t.val < 588 at this; omega⟩ (itm tb t) (Nat.sub_add_cancel h0) hv
    have hh := h ⟨t.val - 1, by omega⟩ (Nat.sub_add_cancel h0) hc.1
    rw [blk1_same tb m c _ t hc.2.1 hc.2.2, blk2_same tb m c _ t hc.2.1 hc.2.2] at hh
    rw [hv, if_neg (by decide), if_pos (by decide), if_neg (by decide), if_neg (by decide), if_neg (by decide), hh.1, hh.2]
    exact ⟨rfl, fun s hs' _ => by rw [hs s hs']; exact ⟨rfl, rfl⟩⟩
  · rw [hv, if_neg (by decide), if_pos (by decide), if_pos (by decide), if_pos (by decide), if_neg (by decide)]
    exact ⟨rfl, fun s hs' _ => by rw [hs s hs']; exact ⟨rfl, rfl⟩⟩

/-! ## The pipeline's proof data -/

/-- Between points the body holds its halves of the tables, and the scratches. -/
def Phi (c : Dev nD) (t : Fin ((cfgA (F := F) tb).N + 1)) : sProp 𝕄 :=
  iprop((tbM0_0.view.loc (c : Thread nD τ) ↦{fullShare.right} tb.m) ∗ (tbM0_1.view.loc (c : Thread nD τ) ↦{fullShare.right} tb.n)
    ∗ (tbM0_2.view.loc (c : Thread nD τ) ↦{fullShare.right} tb.w) ∗ (tbM0_3.view.loc (c : Thread nD τ) ↦{fullShare.right} tb.e)
    ∗ (tbM0_4.view.loc (c : Thread nD τ) ↦{fullShare.right} tb.v)
    ∗ ∃ a0 a1, ⌜Held tb m c t a0 a1⌝ ∗ owns (c : Thread nD τ) scM0_0 fullShare a0 ∗ owns (c : Thread nD τ) scM0_1 fullShare a1)

/-- The proof data of the one pipeline on core `c`. -/
def dats (_ : Fin 1) (c : Dev nD) : Dat τ (Elt F) Unit ℕ (UR sig nD τ) ℕ (cfgA (F := F) tb) c where
  A w := V m c (Pipeline.arrRef spec0 w)
  after w t := match w with
    | ⟨0, _⟩ => iblk tb m c (0 : Fin 6) t
    | ⟨1, _⟩ => iblk tb m c (1 : Fin 6) t
    | ⟨2, _⟩ => iblk tb m c (2 : Fin 6) t
    | ⟨3, _⟩ => iblk tb m c (3 : Fin 6) t
    | ⟨4, _⟩ => left tb m c t
    | ⟨5, _⟩ => cast tb m c t
  Φ t := Phi tb m c t
  q _ := fullShare
  owed _ := 0

theorem after0_0 (c : Dev nD) (t : Fin (cfgA (F := F) tb).N) : (dats tb m 0 c).after (0 : Fin 6) t = iblk tb m c (0 : Fin 6) t := rfl
theorem after0_1 (c : Dev nD) (t : Fin (cfgA (F := F) tb).N) : (dats tb m 0 c).after (1 : Fin 6) t = iblk tb m c (1 : Fin 6) t := rfl
theorem after0_2 (c : Dev nD) (t : Fin (cfgA (F := F) tb).N) : (dats tb m 0 c).after (2 : Fin 6) t = iblk tb m c (2 : Fin 6) t := rfl
theorem after0_3 (c : Dev nD) (t : Fin (cfgA (F := F) tb).N) : (dats tb m 0 c).after (3 : Fin 6) t = iblk tb m c (3 : Fin 6) t := rfl
theorem after0_4 (c : Dev nD) (t : Fin (cfgA (F := F) tb).N) : (dats tb m 0 c).after (4 : Fin 6) t = left tb m c t := rfl
theorem after0_5 (c : Dev nD) (t : Fin (cfgA (F := F) tb).N) : (dats tb m 0 c).after (5 : Fin 6) t = cast tb m c t := rfl

/-! ## What each window's staging buffer holds when the body runs -/

/-- An input's window holds its block, fetched there or not. -/
theorem before0_0 (c : Dev nD) (t : Fin (cfgA (F := F) tb).N) (d) : (dats tb m 0 c).before (0 : Fin 6) t d = iblk tb m c (0 : Fin 6) t :=
  ((dats tb m 0 c).before_in_eq_fetched (0 : Fin 6) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) tb).N) (d) : (dats tb m 0 c).before (1 : Fin 6) t d = iblk tb m c (1 : Fin 6) t :=
  ((dats tb m 0 c).before_in_eq_fetched (1 : Fin 6) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) tb).N) (d) : (dats tb m 0 c).before (2 : Fin 6) t d = iblk tb m c (2 : Fin 6) t :=
  ((dats tb m 0 c).before_in_eq_fetched (2 : Fin 6) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) tb).N) (d) : (dats tb m 0 c).before (3 : Fin 6) t d = iblk tb m c (3 : Fin 6) t :=
  ((dats tb m 0 c).before_in_eq_fetched (3 : Fin 6) rfl (fun _ => rfl) (fun _ _ _ => rfl) (fun t => by rw [after0_3]; unfold Dat.blockOf iblk; rfl) t d).trans
    (by unfold Dat.fetched Dat.blockOf iblk; rfl)

/-- The cast weights' block is written back at the items before the last block, and at the end. -/
theorem flush_5 (t : Fin (cfgA (F := F) tb).N) : ((cfgA (F := F) tb).win (5 : Fin 6)).flush t = decide (t.val < 255 ∨ t.val = 587) := by
  have ht : t.val < 588 := t.isLt
  refine Bool.eq_iff_iff.mpr ?_
  unfold Window.flush
  rw [Bool.and_eq_true, Bool.or_eq_true, decide_eq_true_iff, decide_eq_true_iff, decide_eq_true_iff]
  constructor
  · rintro ⟨-, h | ⟨h, hn⟩⟩
    · exact .inr (by change t.val + 1 = 588 at h; omega)
    · refine .inl (by_contra fun hc => hn ?_)
      rw [idx5, idx5]
      show ![min (t.val + 1) 255, 0] = ![min t.val 255, 0]
      rw [Nat.min_eq_right (by omega), Nat.min_eq_right (by omega)]
  · rintro (h | h)
    · refine ⟨rfl, .inr ⟨show t.val + 1 < 588 by omega, fun hn => ?_⟩⟩
      rw [idx5, idx5] at hn
      have h0 : min (t.val + 1) 255 = min t.val 255 := congrFun hn 0
      omega
    · exact ⟨rfl, .inl (show t.val + 1 = 588 by omega)⟩

theorem cast_same (c : Dev nD) (s t : Fin (cfgA (F := F) tb).N) (h : min s.val 255 = min t.val 255) : cast tb m c s = cast tb m c t :=
  congrArg k0_pay1 (blk3_same tb m c s t h)

/-- After the last block it holds that block's cast. -/
theorem before0_5 (c : Dev nD) (d) : ∀ (k : ℕ) (t : Fin (cfgA (F := F) tb).N), t.val = 256 + k → (dats tb m 0 c).before (5 : Fin 6) t d = cast tb m c t := by
  intro k
  induction k with
  | zero =>
    intro t ht
    have hN : t.val < 588 := t.isLt
    rw [(dats tb m 0 c).before_of_pos (5 : Fin 6) t (by omega) rfl, flush_5, if_neg (by rw [decide_eq_true_iff]; show ¬ (t.val - 1 < 255 ∨ t.val - 1 = 587); omega)]
    unfold Dat.left
    rw [idle_5, crd_val, decide_eq_true (by show t.val - 1 < 256; omega)]
    exact cast_same tb m c _ t (by show min (t.val - 1) 255 = min t.val 255; omega)
  | succ k ih =>
    intro t ht
    have hN : t.val < 588 := t.isLt
    rw [(dats tb m 0 c).before_of_pos (5 : Fin 6) t (by omega) rfl, flush_5, if_neg (by rw [decide_eq_true_iff]; show ¬ (t.val - 1 < 255 ∨ t.val - 1 = 587); omega)]
    unfold Dat.left
    rw [idle_5, crd_val, decide_eq_false (by show ¬ t.val - 1 < 256; omega)]
    exact (ih _ (by show t.val - 1 = _; omega)).trans (cast_same tb m c _ t (by show min (t.val - 1) 255 = min t.val 255; omega))

end Cert.Kernel3Ideal.Up
end
-- ==== Proof.UpRun.lean ====
/- The up projection of the routed experts: the launch over any admitted tables, over any interpretation of the floats. -/
module

public import proofs.«01_k».proof.Proof.UpDats
@[expose] public section
set_option maxRecDepth 16384
set_option Elab.async false
noncomputable section
namespace Cert.Kernel3Ideal.Up
open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

variable (tb : Tables)
variable (m : (ℓ : Loc nD τ sig) → Buf (Elt F) ℓ) (ρ : Dev nD → PrngReg)

/-- The resource algebra of the staging cells. -/
abbrev EP : Emb (UR sig nD τ) 𝕄 := emb₁

/-! ## The body obligation -/

theorem idle_0 (i : grid0.Coords) : (cfgA (F := F) tb).idle (0 : Fin 6) i = false := rfl
theorem idle_1 (i : grid0.Coords) : (cfgA (F := F) tb).idle (1 : Fin 6) i = false := rfl
theorem idle_2 (i : grid0.Coords) : (cfgA (F := F) tb).idle (2 : Fin 6) i = false := rfl
theorem idle_3 (i : grid0.Coords) : (cfgA (F := F) tb).idle (3 : Fin 6) i = false := rfl

/-- What a window's staging buffer must hold after the body. -/
abbrev leaves (c : Dev nD) (w : Fin (cfgA (F := F) tb).W) (t : Fin (cfgA (F := F) tb).N) : sProp 𝕄 :=
  match (cfgA (F := F) tb).idle w ((cfgA (F := F) tb).grid.coords t) with
  | true =>
    match ((cfgA (F := F) tb).win w).flush t with
    | false => iprop(∃ d, owns (c : Thread nD τ) (((cfgA (F := F) tb).win w).stage ((cfgA (F := F) tb).slots t w)) fullShare ((dats tb m 0 c).before w t d))
    | true => owns (c : Thread nD τ) (((cfgA (F := F) tb).win w).stage ((cfgA (F := F) tb).slots t w)) fullShare ((dats tb m 0 c).after w t)
  | false => owns (c : Thread nD τ) (((cfgA (F := F) tb).win w).stage ((cfgA (F := F) tb).slots t w)) fullShare ((dats tb m 0 c).after w t)

theorem leaves_in (c : Dev nD) (w : Fin (cfgA (F := F) tb).W) (t : Fin (cfgA (F := F) tb).N) (h : (cfgA (F := F) tb).idle w (crd (F := F) tb t) = false) :
    leaves tb m c w t = owns (c : Thread nD τ) (((cfgA (F := F) tb).win w).stage ((cfgA (F := F) tb).slots t w)) fullShare ((dats tb m 0 c).after w t) := by
  unfold leaves
  rw [h]

/-- The cast weights' buffer after the body: their block's cast while there are blocks, after that what it held. -/
theorem leaves_5 (c : Dev nD) (t : Fin (cfgA (F := F) tb).N) (d) :
    (owns (c : Thread nD τ) (ms0_5 tb t) fullShare (put5 (crd (F := F) tb t) (iblk tb m c (3 : Fin 6) t) ((dats tb m 0 c).before (5 : Fin 6) t d)) : sProp 𝕄)
      ⊢ leaves tb m c (5 : Fin 6) t := by
  unfold leaves put5
  rw [idle_5, crd_val]
  by_cases h : t.val < 256
  · rw [if_pos ((cond1_iff _).2 (by rw [crd_val]; exact h)), decide_eq_true h]
    exact .rfl
  · rw [if_neg (fun h' => h (by rw [← crd_val tb t]; exact (cond1_iff _).1 h')), decide_eq_false h, flush_5]
    by_cases h' : t.val = 587
    · rw [decide_eq_true (.inr h'), before0_5 tb m c d (t.val - 256) t (by omega)]
      exact .rfl
    · rw [decide_eq_false (by omega)]
      show _ ⊢ iprop(∃ d, _)
      iintro H; iexists d; iexact H

/-- The body at point `t` on its staging memrefs, as the pipeline calls it. -/
abbrev bodyAt0 (t : Fin (cfgA (F := F) tb).N) : Prog (TpuEff nD τ sig (Elt F) Λ₀ .tc) PUnit :=
  cc0_moe_up (crd tb t) tbM0_0 (Memref.isWhole_whole _) tbM0_1 (Memref.isWhole_whole _) tbM0_2 (Memref.isWhole_whole _) tbM0_3 (Memref.isWhole_whole _) tbM0_4 (Memref.isWhole_whole _)
    (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t)
    scM0_0 (Memref.isWhole_whole _) scM0_1 (Memref.isWhole_whole _)

set_option maxHeartbeats 2000000 in
theorem sound_body (c : Dev nD) (t : Fin (cfgA (F := F) tb).N) :
    iprop((dats tb m 0 c).Φ t.castSucc ∗ (dats tb m 0 c).owesAt () t.castSucc
        ∗ (∃ d, owns (c : Thread nD τ) (ms0_0 tb t) fullShare ((dats tb m 0 c).before (0 : Fin 6) t d))
        ∗ (∃ d, owns (c : Thread nD τ) (ms0_1 tb t) fullShare ((dats tb m 0 c).before (1 : Fin 6) t d))
        ∗ (∃ d, owns (c : Thread nD τ) (ms0_2 tb t) fullShare ((dats tb m 0 c).before (2 : Fin 6) t d))
        ∗ (∃ d, owns (c : Thread nD τ) (ms0_3 tb t) fullShare ((dats tb m 0 c).before (3 : Fin 6) t d))
        ∗ (∃ d, owns (c : Thread nD τ) (ms0_4 tb t) fullShare ((dats tb m 0 c).before (4 : Fin 6) t d))
        ∗ (∃ d, owns (c : Thread nD τ) (ms0_5 tb t) fullShare ((dats tb m 0 c).before (5 : Fin 6) t d)))
      ⊢ wp frame (wpE (defs₀ (F := F)) Variants.none c none) Set.univ (bodyAt0 tb t) fun _ =>
          iprop((dats tb m 0 c).Φ t.succ ∗ (dats tb m 0 c).owesAt () t.succ
            ∗ leaves tb m c (0 : Fin 6) t ∗ leaves tb m c (1 : Fin 6) t ∗ leaves tb m c (2 : Fin 6) t ∗ leaves tb m c (3 : Fin 6) t ∗ leaves tb m c (4 : Fin 6) t ∗ leaves tb m c (5 : Fin 6) t) := by
  have l5 := leaves_5 tb m c t
  generalize leaves tb m c (5 : Fin 6) t = L5 at l5 ⊢
  rewrite [leaves_in tb m c (0 : Fin 6) t (idle_0 tb _), leaves_in tb m c (1 : Fin 6) t (idle_1 tb _), leaves_in tb m c (2 : Fin 6) t (idle_2 tb _), leaves_in tb m c (3 : Fin 6) t (idle_3 tb _), leaves_in tb m c (4 : Fin 6) t (idle_4 tb _)]
  simp only [before0_0, before0_1, before0_2, before0_3, after0_0, after0_1, after0_2, after0_3, after0_4]
  rewrite [show (dats tb m 0 c).Φ t.succ = Phi tb m c t.succ from rfl, show (dats tb m 0 c).Φ t.castSucc = Phi tb m c t.castSucc from rfl,
    show (dats tb m 0 c).owesAt () t.succ = (dats tb m 0 c).owesAt () t.castSucc from rfl]
  unfold Phi
  iintro ⟨⟨HT0, HT1, HT2, HT3, HT4, ⟨%a0, %a1, %hh, HS0, HS1⟩⟩, Ho, ⟨%d0, H0⟩, ⟨%d1, H1⟩, ⟨%d2, H2⟩, ⟨%d3, H3⟩, ⟨%d4, H4⟩, ⟨%d5, H5⟩⟩
  have hst := step tb m c t a0 a1 ((dats tb m 0 c).before (4 : Fin 6) t d4) hh
  iapply (run c (crd (F := F) tb t) (ms0_0 tb t) (hs0_0 tb t) (ms0_1 tb t) (hs0_1 tb t) (ms0_2 tb t) (hs0_2 tb t) (ms0_3 tb t) (hs0_3 tb t) (ms0_4 tb t) (hs0_4 tb t) (ms0_5 tb t) (hs0_5 tb t)
    scM0_0 (Memref.isWhole_whole _) scM0_1 (Memref.isWhole_whole _) tb.v (iblk tb m c (0 : Fin 6) t) (iblk tb m c (1 : Fin 6) t) (iblk tb m c (2 : Fin 6) t) (iblk tb m c (3 : Fin 6) t)
    a0 a1 ((dats tb m 0 c).before (4 : Fin 6) t d4) ((dats tb m 0 c).before (5 : Fin 6) t d5) _)
  isplitl [H0]; · iapply rep_of_owns; iexact H0
  isplitl [H1]; · iapply rep_of_owns; iexact H1
  isplitl [H2]; · iapply rep_of_owns; iexact H2
  isplitl [H3]; · iapply rep_of_owns; iexact H3
  isplitl [HT4]; · iexact HT4
  isplitl [HS0]; · iapply rep_of_owns; iexact HS0
  isplitl [HS1]; · iapply rep_of_owns; iexact HS1
  isplitl [H4]; · iapply rep_of_owns; iexact H4
  isplitl [H5]; · iapply rep_of_owns; iexact H5
  iintro ⟨H0, H1, H2, H3, HT4, HS0, HS1, H4, H5⟩
  isplitl [HT0 HT1 HT2 HT3 HT4 HS0 HS1]
  · isplitl [HT0]; · iexact HT0
    isplitl [HT1]; · iexact HT1
    isplitl [HT2]; · iexact HT2
    isplitl [HT3]; · iexact HT3
    isplitl [HT4]; · iexact HT4
    iexists _; iexists _
    isplitr; · ipureintro; exact hst.2
    isplitl [HS0]; · iexact HS0
    iexact HS1
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]
  · rw [← hst.1]; iexact H4
  iapply (l5 d5); iexact H5

/-- The library's body obligation, at every point. -/
theorem body_obligation (c : Dev nD) : BodyObligation (dats tb m 0 c) (defs₀ (F := F)) Variants.none () Set.univ := fun t => by
  rw [bigSep_W0, bigSep_W0]
  exact sound_body tb m c t

/-! ## The launch -/

/-- The rounds library's launch element. -/
def u₀ : UR sig nD τ :=
  initOf (Pipeline.cells (pcs (F := F) tb) ((launch0 (F := F)).cellOf_inj fun _ => adm (F := F) tb))
    (Pipeline.launchToks (pcs (F := F) tb) ((launch0 (F := F)).cellOf_inj fun _ => adm (F := F) tb))

theorem share_eq (c : Dev nD) (w : Fin (cfgA (F := F) tb).W) : (dats tb m 0 c).share w = fullShare := by unfold Dat.share; split <;> rfl

/-- The tables as the launch hands them to the region, one by one. -/
theorem prefHeld_eq (c : Dev nD) (q : Fin 5 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2)
        ∗ (((c : Thread nD τ).loc main_arg3) ↦{q 3} v 3) ∗ (((c : Thread nD τ).loc main_arg4) ↦{q 4} v 4)) :=
  bigSep_univ_eq_bigSepL [(0 : Fin 5), (1 : Fin 5), (2 : Fin 5), (3 : Fin 5), (4 : Fin 5)] (by decide) (by decide) _

/-- The invariant at the first point from the tables and the scratch buffers (`hin`); -/
theorem phi0_intro (c : Dev nD) :
    iprop(BI.emp ∗ Pipeline.prefHeld pre0 c (fun _ => fullShare.right) (adm (F := F) tb).1 ∗ Pipeline.scopedRest spec0 c) ⊢ (dats tb m 0 c).Φ 0 := by
  rw [prefHeld_eq, scopedRest0_eq, show (dats tb m 0 c).Φ 0 = Phi tb m c 0 from rfl]
  unfold Phi scM0_0 scM0_1
  simp only [owns_whole]
  iintro ⟨-, ⟨HT0, HT1, HT2, HT3, HT4⟩, ⟨%f0, HS0⟩, ⟨%f1, HS1⟩⟩
  isplitl [HT0]; · iexact HT0
  isplitl [HT1]; · iexact HT1
  isplitl [HT2]; · iexact HT2
  isplitl [HT3]; · iexact HT3
  isplitl [HT4]; · iexact HT4
  iexists f0; iexists f1
  isplitr; · ipureintro; exact fun s hs => absurd hs (Nat.succ_ne_zero _)
  isplitl [HS0]; · iexact HS0
  iexact HS1

/-- at the last point it gives the scratch buffers back (`hout`), the tables let go. -/
theorem phiN_exit (c : Dev nD) : (dats tb m 0 c).Φ (Fin.last (cfgA (F := F) tb).N) ⊢ iprop(BI.emp ∗ Pipeline.scopedRest spec0 c) := by
  rw [scopedRest0_eq, show (dats tb m 0 c).Φ (Fin.last (cfgA (F := F) tb).N) = Phi tb m c (Fin.last (cfgA (F := F) tb).N) from rfl]
  unfold Phi scM0_0 scM0_1
  simp only [owns_whole]
  iintro ⟨-, -, -, -, -, ⟨%a0, %a1, -, HS0, HS1⟩⟩
  isplitr; · iempintro
  isplitl [HS0]; · iexists _; iexact HS0
  iexists _; iexact HS1

/-- The buffers that are neither a table nor a window's array end as they were launched. -/
def Kept (c : Dev nD) (s : MemSt nD τ sig (Elt F)) : Prop :=
  s.mem ((c : Thread nD τ).loc main_arg5) = m ((c : Thread nD τ).loc main_arg5)
  ∧ s.mem ((c : Thread nD τ).loc main_arg6) = m ((c : Thread nD τ).loc main_arg6)
  ∧ s.mem ((c : Thread nD τ).loc main_arg10) = m ((c : Thread nD τ).loc main_arg10)

/-- The physical post: every array at what the library computes, every table at what the pipeline ran at. -/
def QC : PUnit × MemSt nD τ sig (Elt F) → Prop := fun r =>
  ∀ c : Dev nD, (∀ w : Fin (cfgA (F := F) tb).W, r.2.mem (((cfgA (F := F) tb).win w).arr.view.loc (c : Thread nD τ)) = (dats tb m 0 c).arrAt w (cfgA (F := F) tb).N)
    ∧ (∀ j, r.2.mem ((c : Thread nD τ).loc (pre0.ref j)) = (adm (F := F) tb).1 j) ∧ Kept m c r.2

theorem V_pre (hp : Pinned tb m) (c : Dev nD) (j : Fin 5) : V m c (pre0.ref j) = (adm (F := F) tb).1 j := by
  fin_cases j
  · exact (V_of m c main_arg0 (by decide)).trans (hp c).1
  · exact (V_of m c main_arg1 (by decide)).trans (hp c).2.1
  · exact (V_of m c main_arg2 (by decide)).trans (hp c).2.2.1
  · exact (V_of m c main_arg3 (by decide)).trans (hp c).2.2.2.1
  · exact (V_of m c main_arg4 (by decide)).trans (hp c).2.2.2.2

set_option backward.isDefEq.respectTransparency.types false in
set_option maxHeartbeats 4000000 in
/-- From a memory that holds these tables every run terminates, each array at the computed contents and every counter at zero. -/
theorem run_main_quiescent (hp : Pinned tb m) : θ_run (defs (F := F)) (onTc (τ := τ) (main (F := F))) (s₀ m ρ) (fun r => QC tb m r ∧ r.2.sem = fun _ => 0) :=
  Pipeline.θ_run_region_noSem_pf_quiescent pcfgs (fun _ => adm (F := F) tb) (dats tb m) () ((launch0 (F := F)).cellOf_inj fun _ => adm (F := F) tb) (0 : Fin 1)
    (launch0 (F := F)).win.to₀ (launch0 (F := F)).pre EP defs₀ Variants.none m ρ main
    (hbody := fun c => (body_obligation tb m c).loose) (hne := (launch0 (F := F)).block_pos)
    (harr := (launch0 (F := F)).arr_whole) (hstage := (launch0 (F := F)).stage_whole) (howed := fun _ _ => rfl)
    (u₀ := u₀ tb) (hu₀ := .rfl)
    (V := V m)
    (hmain := Pipeline.hmainP_prefix (pcfgs (F := F)) (0 : Fin 1) defs₀ Variants.none m main hostOps0 hostOps0_sub hostOps0_fresh main_chain)
    (hsplit := fun c => Pipeline.arrays_split (pcs (F := F) tb) (dats tb m) 0 (launch0 (F := F)).win.arr_inj c (launch0 (F := F)).arr_whole
      (share_eq tb m c) _ _ fun _ => rfl)
    (hpf := V_pre tb m hp)
    (X := fun _ => iprop(emp)) (Y := fun _ => iprop(emp))
    (Z := fun c => iprop((((c : Thread nD τ).loc main_arg5) ↦{fullShare} V m c main_arg5) ∗ (((c : Thread nD τ).loc main_arg6) ↦{fullShare} V m c main_arg6) ∗ (((c : Thread nD τ).loc main_arg10) ↦{fullShare} V m c main_arg10)))
    (hX := fun c => by rw [unscopedRestP0_eq]; iintro H; isplitr; · iempintro
                       iexact H)
    (hin := phi0_intro tb m)
    (hout := phiN_exit tb m)
    (QY := Kept m)
    (hY := fun c s' => by
      iintro ⟨-, ⟨H5, H6, H10⟩, HSI⟩
      icombine HSI H5 gives %h5
      icombine HSI H6 gives %h6
      icombine HSI H10 gives %h10
      imodintro
      isplitr
      · ipureintro
        exact ⟨(Buf.eq_of_forall_mem_univ h5).trans (V_of m c main_arg5 (by decide)), (Buf.eq_of_forall_mem_univ h6).trans (V_of m c main_arg6 (by decide)),
          (Buf.eq_of_forall_mem_univ h10).trans (V_of m c main_arg10 (by decide))⟩
      iexact HSI)
    (hQ := fun _ h hz => ⟨h, hz⟩)

/-- `run_main_quiescent` without the counters. -/
theorem run_main (hp : Pinned tb m) : θ_run (defs (F := F)) (onTc (τ := τ) (main (F := F))) (s₀ m ρ) (QC tb m) :=
  (θ_run defs _ _).mono (fun _ h => h.1) (run_main_quiescent tb m ρ hp)

end Cert.Kernel3Ideal.Up
end
-- ==== Proof.UpPre.lean ====
/- The up projection of the routed experts: what the precondition says of the tables. -/
module

public import proofs.«01_k».proof.Proof.UpTables
public import proofs.«01_k».proof.Proof.Gen.Pre_named3
public import Idealize.ShloMosaic.Lib.Pointwise
@[expose] public section
set_option maxRecDepth 16384
noncomputable section
namespace Cert.Kernel3Ideal.Up
open Cert.Kernel3Ideal Cert.Kernel3Ideal.Gen
open Idealize.ShloMosaic
variable {F : FTy → Type} [FloatOps F]
variable (m n w e v : S588.Idx → BitVec 32) (te : S42.Idx → BitVec 32) (nu : S1.Idx → BitVec 32)
  (xs : S43008x1024.Idx → BitVec 32) (wg wu : FVec F S8x2048x7168 .f32) (wd : FVec F S8x7168x2048 .f32)

/-! ## One-bit words as propositions -/

theorem andi_iff : ∀ a b : BitVec 1, IntOp.andi a b = 1#1 ↔ a = 1#1 ∧ b = 1#1 := by decide
theorem ori_iff : ∀ a b : BitVec 1, IntOp.ori a b = 1#1 ↔ a = 1#1 ∨ b = 1#1 := by decide
theorem not_iff' : ∀ a : BitVec 1, ~~~a = 1#1 ↔ ¬ a = 1#1 := by decide
theorem same_iff : ∀ a b : BitVec 1, IntOp.cmpi .eq a b = 1#1 ↔ (a = 1#1 ↔ b = 1#1) := by decide
theorem bit_iff : ∀ b : Bool, BitVec.ofBool b = 1#1 ↔ b = true := by decide

theorem eq_iff' (x y : BitVec 32) : IntOp.cmpi .eq x y = 1#1 ↔ x = y := by
  unfold IntOp.cmpi; rw [bit_iff]; simp
theorem ne_iff' (x y : BitVec 32) : IntOp.cmpi .ne x y = 1#1 ↔ x ≠ y := by
  unfold IntOp.cmpi; rw [bit_iff]; simp
theorem slt_iff (x y : BitVec 32) : IntOp.cmpi .slt x y = 1#1 ↔ x.toInt < y.toInt := by
  unfold IntOp.cmpi; rw [bit_iff]; simp [BitVec.slt]
theorem sgt_iff (x y : BitVec 32) : IntOp.cmpi .sgt x y = 1#1 ↔ y.toInt < x.toInt := by
  unfold IntOp.cmpi; rw [bit_iff]; simp [BitVec.slt]
theorem sge_iff (x y : BitVec 32) : IntOp.cmpi .sge x y = 1#1 ↔ y.toInt ≤ x.toInt := by
  unfold IntOp.cmpi; rw [bit_iff]; simp [BitVec.sle]
theorem sle_iff (x y : BitVec 32) : IntOp.cmpi .sle x y = 1#1 ↔ x.toInt ≤ y.toInt := by
  unfold IntOp.cmpi; rw [bit_iff]; simp [BitVec.sle]

theorem lt_of_range (x : BitVec 32) (k : ℕ) (h : 0 ≤ x.toInt) (h' : x.toInt < k) : x.toNat < k := by
  rw [BitVec.toInt_eq_toNat_cond] at h h'
  split at h <;> omega

theorem word_inj (a b : ℕ) (ha : a < 2 ^ 32) (hb : b < 2 ^ 32) (h : BitVec.ofNat 32 a = BitVec.ofNat 32 b) : a = b := by
  have := congrArg BitVec.toNat h
  rw [BitVec.toNat_ofNat, BitVec.toNat_ofNat] at this; omega

theorem word_of (x : BitVec 32) (k : ℕ) (h : x.toInt = k) (hk : k < 2 ^ 31) : x = BitVec.ofNat 32 k := by
  apply BitVec.eq_of_toInt_eq
  rw [h, BitVec.toInt_eq_toNat_cond, BitVec.toNat_ofNat]; omega

/-! ## The precondition's columns -/

section
variable (hp : Cert.Pre_named3.fn (F := F) m n w e v te nu xs wg wu wd = fun _ => 1#1)
include hp

/-- Its first column speaks of one item, -/
theorem own_at (i : Fin 588) :
    (m (ix1 i)).toNat < 42 ∧ (n (ix1 i)).toNat < 14 ∧ (w (ix1 i)).toNat < 14 ∧ (e (ix1 i)).toNat < 8
    ∧ (v (ix1 i) = 0#32 ∨ v (ix1 i) = 1#32 ∨ v (ix1 i) = 2#32) ∧ (0 < (v (ix1 i)).toInt ↔ (m (ix1 i)).toInt < (nu (ix1 0)).toInt)
    ∧ (0 < (v (ix1 i)).toInt → n (ix1 i) = w (ix1 i)) ∧ (v (ix1 i) = 1#32 → 0 < i.val) := by
  have h := congrFun hp (ix2 i (0 : Fin 631))
  pointwise [Cert.Pre_named3.fn, Cert.Pre_named3.fn_part1, Cert.Pre_named3.fn_part2, Cert.Pre_named3.fn_part3, Cert.Pre_named3.fn_part4, Cert.Pre_named3.fn_part5] at h
  try rw [dif_pos (show (0 : ℕ) < 1 by omega)] at h
  simp only [andi_iff, ori_iff, not_iff', same_iff, eq_iff', ne_iff', slt_iff, sgt_iff, sge_iff, sle_iff] at h
  obtain ⟨⟨⟨⟨⟨⟨⟨⟨⟨⟨⟨⟨m0, m1⟩, n0⟩, n1⟩, w0⟩, w1⟩, e0⟩, e1⟩, v0⟩, v1⟩, hu⟩, ho⟩, hf⟩ := h
  have z : (0#32 : BitVec 32).toInt = 0 := rfl
  rw [z] at m0 n0 w0 e0 v0 hu ho
  refine ⟨lt_of_range _ 42 m0 m1, lt_of_range _ 14 n0 n1, lt_of_range _ 14 w0 w1, lt_of_range _ 8 e0 e1, ?_, hu, fun h => ho.resolve_left (fun h' => h' h), fun h => ?_⟩
  · have v1' : (v (ix1 i)).toInt ≤ 2 := v1
    have : (v (ix1 i)).toInt = 0 ∨ (v (ix1 i)).toInt = 1 ∨ (v (ix1 i)).toInt = 2 := by omega
    exact this.imp (word_of _ 0 · (by omega)) (Or.imp (word_of _ 1 · (by omega)) (word_of _ 2 · (by omega)))
  · have h1 := hf.resolve_left (fun h' => h' h)
    rw [z, BitVec.toInt_eq_toNat_cond, BitVec.toNat_ofNat] at h1
    omega

/-- the next 588 of two items, -/
theorem two_at (i j : Fin 588) :
    (m (ix1 i) = m (ix1 j) → n (ix1 i) = n (ix1 j) → i = j)
    ∧ (i.val + 1 = j.val → v (ix1 j) = 1#32 → 0 < (v (ix1 i)).toInt ∧ e (ix1 i) = e (ix1 j) ∧ w (ix1 i) = w (ix1 j)) := by
  have h := congrFun hp (ix2 i (⟨j.val + 1, by omega⟩ : Fin 631))
  pointwise [Cert.Pre_named3.fn, Cert.Pre_named3.fn_part1, Cert.Pre_named3.fn_part2, Cert.Pre_named3.fn_part3, Cert.Pre_named3.fn_part4, Cert.Pre_named3.fn_part5] at h
  rw [dif_neg (show ¬ j.val + 1 < 1 by omega), dif_pos (show j.val + 1 - 1 < 588 by omega)] at h
  have hj : (⟨j.val + 1 - 1, by omega⟩ : Fin 588) = j := Fin.ext (Nat.add_sub_cancel ..)
  rw [hj] at h
  simp only [andi_iff, ori_iff, not_iff', same_iff, eq_iff', ne_iff', slt_iff, sgt_iff, sge_iff, sle_iff] at h
  obtain ⟨ha, hc⟩ := h
  refine ⟨fun hm hn => ?_, fun hij hv => ?_⟩
  · rcases ha with (ha | ha) | ha
    · exact Fin.ext (word_inj _ _ (by omega) (by omega) ha)
    · exact absurd hm ha
    · exact absurd hn ha
  · rcases hc with (hc | hc) | hc
    · refine absurd ?_ hc
      show BitVec.ofNat 32 i.val + 1#32 = _
      rw [show (1#32 : BitVec 32) = BitVec.ofNat 32 1 from rfl, ← BitVec.ofNat_add, hij]; rfl
    · exact absurd hv hc
    · exact ⟨hc.1.1, hc.1.2, hc.2⟩

/-- and the last 42 of an item and a tile. -/
theorem expert_at (i : Fin 588) (k : Fin 42) (hv : 0 < (v (ix1 i)).toInt) (hm : m (ix1 i) = BitVec.ofNat 32 k) : e (ix1 i) = te (ix1 k) := by
  have h := congrFun hp (ix2 i (⟨k.val + 589, by omega⟩ : Fin 631))
  pointwise [Cert.Pre_named3.fn, Cert.Pre_named3.fn_part1, Cert.Pre_named3.fn_part2, Cert.Pre_named3.fn_part3, Cert.Pre_named3.fn_part4, Cert.Pre_named3.fn_part5] at h
  rw [dif_neg (show ¬ k.val + 589 < 1 by omega), dif_neg (show ¬ k.val + 589 - 1 < 588 by omega)] at h
  have hk : (⟨k.val + 589 - 1 - 588, by omega⟩ : Fin 42) = k := Fin.ext (by show k.val + 589 - 1 - 588 = k.val; omega)
  have hk' : k.val + 589 - 1 - 588 = k.val := by omega
  rw [hk] at h
  simp only [hk', andi_iff, ori_iff, not_iff', same_iff, eq_iff', ne_iff', slt_iff, sgt_iff, sge_iff, sle_iff] at h
  rcases h with (h | h) | h
  · exact absurd hv h
  · exact absurd hm h
  · exact h

end

theorem pos_of (x : BitVec 32) (h : x = 0#32 ∨ x = 1#32 ∨ x = 2#32) : x ≠ 0#32 ↔ 0 < x.toInt := by
  rcases h with h | h | h <;> rw [h] <;> decide

/-- The tables of a memory that the precondition admits. -/
def ofPre (hp : Cert.Pre_named3.fn (F := F) m n w e v te nu xs wg wu wd = fun _ => 1#1) : Tables where
  m := m
  n := n
  w := w
  e := e
  v := v
  te := te
  nu := nu
  m_lt i := (own_at m n w e v te nu xs wg wu wd hp i).1
  n_lt i := (own_at m n w e v te nu xs wg wu wd hp i).2.1
  w_lt i := (own_at m n w e v te nu xs wg wu wd hp i).2.2.1
  e_lt i := (own_at m n w e v te nu xs wg wu wd hp i).2.2.2.1
  v_of i := (own_at m n w e v te nu xs wg wu wd hp i).2.2.2.2.1
  used i := by
    obtain ⟨hm, -, -, -, hv, hu, -⟩ := own_at m n w e v te nu xs wg wu wd hp i
    rw [pos_of _ hv, hu, show (m (ix1 i)).toInt = ((m (ix1 i)).toNat : Int) by rw [BitVec.toInt_eq_toNat_cond]; omega]
  own i h := (own_at m n w e v te nu xs wg wu wd hp i).2.2.2.2.2.2.1 ((pos_of _ (own_at m n w e v te nu xs wg wu wd hp i).2.2.2.2.1).1 h)
  first i := (own_at m n w e v te nu xs wg wu wd hp i).2.2.2.2.2.2.2
  apart i j := (two_at m n w e v te nu xs wg wu wd hp i j).1
  carried i j h h' := ((two_at m n w e v te nu xs wg wu wd hp i j).2 h h').imp_left (pos_of _ (own_at m n w e v te nu xs wg wu wd hp i).2.2.2.2.1).2
  expert i k h := expert_at m n w e v te nu xs wg wu wd hp i k ((pos_of _ (own_at m n w e v te nu xs wg wu wd hp i).2.2.2.2.1).1 h)

end Cert.Kernel3Ideal.Up
end
-- ==== Proof.UpFrame.lean ====
/- The up projection of the routed experts runs and leaves its arguments as they were: the printed program and the idealized one, by the one
   run. -/
module

public import proofs.«01_k».proof.Proof.UpRun
public import proofs.«01_k».proof.Proof.UpPre
public import proofs.«01_k».proof.Proof.Gen.Kernel3
@[expose] public section
set_option maxRecDepth 16384
noncomputable section
namespace Cert.Kernel3Ideal.Up
open Cert.Kernel3Ideal Cert.Kernel3Ideal.Gen
open Idealize.ShloMosaic Idealize.ShloMosaic.TcCoe Idealize.SL.Sem
variable {F : FTy → Type} [FloatOps F]
variable (tb : Tables) (m : (ℓ : Loc nD τ sig) → Buf (Elt F) ℓ) (ρ : Dev nD → PrngReg)

/-- The argument arrays end as they were launched. -/
def Unchanged (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)

theorem unchanged_of (hp : Pinned tb m) (r : PUnit × MemSt nD τ sig (Elt F)) (h : QC tb m r) : Unchanged m r := fun c =>
  ⟨((h c).2.1 0).trans (hp c).1.symm, ((h c).2.1 1).trans (hp c).2.1.symm, ((h c).2.1 2).trans (hp c).2.2.1.symm,
    ((h c).2.1 3).trans (hp c).2.2.2.1.symm, ((h c).2.1 4).trans (hp c).2.2.2.2.symm, (h c).2.2.1, (h c).2.2.2.1,
    (((h c).1 (0 : Fin 6)).trans ((dats tb m 0 c).arrAt_in (0 : Fin 6) rfl _)).trans (V_of m c main_arg7 (by decide)),
    (((h c).1 (1 : Fin 6)).trans ((dats tb m 0 c).arrAt_in (1 : Fin 6) rfl _)).trans (V_of m c main_arg8 (by decide)),
    (((h c).1 (2 : Fin 6)).trans ((dats tb m 0 c).arrAt_in (2 : Fin 6) rfl _)).trans (V_of m c main_arg9 (by decide)), (h c).2.2.2.2⟩

/-- Every run terminates without a fault, the argument arrays unchanged and every counter at zero. -/
theorem frame (hp : Pinned tb m) : θ_run (defs (F := F)) (onTc (τ := τ) (main (F := F))) ⟨m, fun _ => 0, ρ⟩ (fun r => Unchanged m r ∧ r.2.sem = fun _ => 0) :=
  (θ_run defs _ _).mono (fun r h => ⟨unchanged_of tb m hp r h.1, h.2⟩) (run_main_quiescent tb m ρ hp)

/-- The tables of a launch memory that the precondition admits; there is one device. -/
theorem pinned_of_pre
    (hp : ∀ c : Dev nD, Cert.Pre_named3.fn (F := F) (m ((c : Thread nD τ).loc main_arg0)) (m ((c : Thread nD τ).loc main_arg1))
      (m ((c : Thread nD τ).loc main_arg2)) (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) (m ((c : Thread nD τ).loc main_arg9))
      (m ((c : Thread nD τ).loc main_arg10)) = fun _ => 1#1) :
    Pinned (ofPre _ _ _ _ _ _ _ _ _ _ _ (hp 0)) m := fun c => by
  rw [show c = 0 from Subsingleton.elim (α := Fin 1) _ _]; exact ⟨rfl, rfl, rfl, rfl, rfl⟩

set_option maxHeartbeats 1000000 in
theorem quiescent_Kernel3Ideal : Cert.quiescent_Kernel3Ideal := fun m ρ hp => frame _ m ρ (pinned_of_pre m hp)

/-- The two programs have one body table, -/
theorem defs₀_eq : Cert.Kernel3.defs₀ (F := F) = Cert.Kernel3Ideal.defs₀ := by
  funext p l a
  cases p with
  | tc => match l, a with | ⟨0, _⟩, (_, _) => rfl
  | scScalar => rfl
  | scVector => rfl

/-- with the pipeline's labels too. -/
theorem defs_eq : Cert.Kernel3.defs (F := F) = Cert.Kernel3Ideal.defs := congrArg (Pipeline.defs Cert.Kernel3Ideal.pcfgs) defs₀_eq

set_option maxHeartbeats 1000000 in
theorem quiescent_Kernel3 : Cert.quiescent_Kernel3 := fun m ρ hp =>
  (congrArg (fun D => θ_run D (onTc (τ := τ) (main (F := Bits))) ⟨m, fun _ => 0, ρ⟩ (fun r => Unchanged m r ∧ r.2.sem = fun _ => 0)) (defs_eq (F := Bits))).mpr
    (frame (F := Bits) _ m ρ (pinned_of_pre (F := Bits) m hp))

end Cert.Kernel3Ideal.Up
end
-- ==== Proof.UpPay.lean ====
/- The up projection of the routed experts: the body's values, entry by entry. -/
module

public import proofs.«01_k».proof.Proof.UpTables
public import Idealize.ShloMosaic.Lib.BitcastConvert
@[expose] public section
set_option maxRecDepth 16384
noncomputable section
namespace Cert.Kernel3Ideal.Up
open Cert.Kernel3Ideal Cert.Kernel3Ideal.Gen
open Idealize.ShloMosaic

/-- The two numbers that a word of the packed rows holds. -/
def low (w : BitVec 32) : EReal := Ideal.ofBits .bf16 (w.extractLsb' 0 16)
def high (w : BitVec 32) : EReal := Ideal.ofBits .bf16 (w.extractLsb' 16 16)

/-- The product of a packed row and a column: the low numbers meet the column's first half, the high ones its second. -/
def rowDot (x : Fin 1024 → BitVec 32) (col : Fin 2048 → EReal) : EReal :=
  ∑ k : Fin 1024, low (x k) * col ⟨k, by omega⟩ + ∑ k : Fin 1024, high (x k) * col ⟨1024 + k, by omega⟩

/-- g / (1 + e^-g), times u. -/
def gated (g u : EReal) : EReal := g * Ideal.div 1 (1 + Ideal.exp (-g)) * u

/-- A word's low half as the upper half of a word: the same number in the wider format. -/
theorem low_eq (w : BitVec 32) : (Ideal.ofBits .f32 (w <<< 16) : EReal) = low w := by
  have h1 : (w <<< 16).extractLsb' (8 + 23) 1 = (w.extractLsb' 0 16).extractLsb' (8 + 7) 1 := by
    ext i hi
    obtain rfl : i = 0 := by omega
    simp
  have h2 : (w <<< 16).extractLsb' 23 8 = (w.extractLsb' 0 16).extractLsb' 7 8 := by
    ext i hi
    have ha : 23 + i < 32 := by omega
    have hb : ¬ 23 + i < 16 := by omega
    have hc : 23 + i - 16 = 7 + i := by omega
    have hd : 7 + i < 16 := by omega
    simp [ha, hb, hc, hd]
    exact (BitVec.getLsbD_eq_getElem _).symm
  have h3 : ((w <<< 16).extractLsb' 0 23).toNat = ((w.extractLsb' 0 16).extractLsb' 0 7).toNat * 2 ^ 16 := by
    simp only [BitVec.extractLsb'_toNat, BitVec.toNat_shiftLeft, Nat.shiftRight_zero, Nat.shiftLeft_eq]; omega
  unfold low Ideal.ofBits Ideal.ieee
  simp only [h1, h2, h3]
  generalize ((w.extractLsb' 0 16).extractLsb' 7 8).toNat = ex
  generalize ((w.extractLsb' 0 16).extractLsb' 0 7).toNat = fr
  generalize (if ((w.extractLsb' 0 16).extractLsb' (8 + 7) 1 == 1#1) = true then (-1 : ℝ) else 1) = sgn
  have h0 : (fr * 2 ^ 16 = 0) = (fr = 0) := by simp
  simp only [h0]
  have ha : sgn * ((fr * 2 ^ 16 : ℕ) : ℝ) * (2 : ℝ) ^ (1 - (2 ^ (8 - 1) - 1) - (23 : ℕ) : Int) = sgn * (fr : ℝ) * (2 : ℝ) ^ (1 - (2 ^ (8 - 1) - 1) - (7 : ℕ) : Int) := by
    rw [Nat.cast_mul, mul_assoc, mul_assoc, mul_assoc, Nat.cast_pow, Nat.cast_ofNat, ← zpow_natCast (2 : ℝ) 16, ← zpow_add₀ (by norm_num)]
    congr 3
  have hb : sgn * ((2 ^ 23 + fr * 2 ^ 16 : ℕ) : ℝ) * (2 : ℝ) ^ ((ex : Int) - (2 ^ (8 - 1) - 1) - (23 : ℕ) : Int)
      = sgn * ((2 ^ 7 + fr : ℕ) : ℝ) * (2 : ℝ) ^ ((ex : Int) - (2 ^ (8 - 1) - 1) - (7 : ℕ) : Int) := by
    rw [show (2 ^ 23 + fr * 2 ^ 16 : ℕ) = (2 ^ 7 + fr) * 2 ^ 16 by ring]
    rw [Nat.cast_mul, mul_assoc, mul_assoc, mul_assoc, Nat.cast_pow, Nat.cast_ofNat, ← zpow_natCast (2 : ℝ) 16, ← zpow_add₀ (by norm_num)]
    congr 3
    push_cast
    ring
  rw [ha, hb]

theorem mask_at : ∀ i : Fin 32, (4294901760#32)[i.val]'(i.isLt) = !decide (i.val < 16) := by decide

/-- A word's upper half alone: the high half's number in the wider format. -/
theorem high_eq (w : BitVec 32) : (Ideal.ofBits .f32 (w &&& 4294901760#32) : EReal) = high w := by
  rw [show w &&& 4294901760#32 = (w >>> 16) <<< 16 by
    ext i hi
    have h := mask_at ⟨i, hi⟩
    by_cases hc : i < 16
    · simp [h, hc]
    · have hd : 16 + (i - 16) = i := by omega
      simp [h, hc, hd]
      exact (BitVec.getLsbD_eq_getElem _).symm, low_eq]
  unfold low high
  congr 1

theorem shli_16 (w : BitVec 32) : IntOp.shli .vector w 16#32 = w <<< 16 := rfl
theorem andi_mask (w : BitVec 32) : IntOp.andi w 4294901760#32 = w &&& 4294901760#32 := rfl

theorem pay4_at (x0 : IVec S1024x1024 32) (a b : FVec Ideal S2048x512 .bf16) (r : Fin 1024) (l : Fin 512) :
    (k0_pay4 (F := Ideal) x0 a b (ix2 r l) : EReal)
      = gated (rowDot (fun k => x0 (ix2 r k)) fun j => a (ix2 j l)) (rowDot (fun k => x0 (ix2 r k)) fun j => b (ix2 j l)) := by
  pointwise [k0_pay4]
  simp only [shli_16, andi_mask, low_eq, high_eq]
  unfold gated rowDot
  rw [zero_sub]
theorem pay5_at (r : Fin 1024) (l : Fin 512) : (k0_pay5 (F := Ideal) (ix2 r l) : EReal) = 0 := by
  pointwise [k0_pay5]
theorem pay2_at (x : FVec Ideal S1x2048x512 .f32) (j : Fin 2048) (l : Fin 512) : (k0_pay2 (F := Ideal) x (ix2 j l) : EReal) = x (ix3 0 j l) := by
  pointwise [k0_pay2]
theorem pay3_at (x : FVec Ideal S1x2048x512 .f32) (j : Fin 2048) (l : Fin 512) : (k0_pay3 (F := Ideal) x (ix2 j l) : EReal) = x (ix3 0 j l) := by
  pointwise [k0_pay3]
theorem pay1_at (x : FVec Ideal S224x2048 .f32) (j : Fin 224) (l : Fin 2048) : (k0_pay1 (F := Ideal) x (ix2 j l) : EReal) = x (ix2 j l) := by
  pointwise [k0_pay1]

end Cert.Kernel3Ideal.Up
end
-- ==== Proof.UpVal.lean ====
/- The up projection of the routed experts: the two output arrays after the run, entry by entry. -/
module

public import proofs.«01_k».proof.Proof.UpFrame
public import proofs.«01_k».proof.Proof.UpPay
public import Idealize.ShloMosaic.Lib.Pipeline.ValueKit
@[expose] public section
set_option maxRecDepth 16384
noncomputable section
namespace Cert.Kernel3Ideal.Up
open Cert.Kernel3Ideal Cert.Kernel3Ideal.Gen
open Idealize.ShloMosaic Idealize.ShloMosaic.TcCoe
variable (tb : Tables)
variable (m : (ℓ : Loc nD τ sig) → Buf (Elt Ideal) ℓ) (c : Dev nD)

abbrev X : IVec S43008x1024 32 := m ((c.tc : Thread nD τ).loc main_arg7)
abbrev Wg : FVec Ideal S8x2048x7168 .f32 := m ((c.tc : Thread nD τ).loc main_arg8)
abbrev Wu : FVec Ideal S8x2048x7168 .f32 := m ((c.tc : Thread nD τ).loc main_arg9)
abbrev Wd : FVec Ideal S8x7168x2048 .f32 := m ((c.tc : Thread nD τ).loc main_arg10)

/-- Every tile and every block of columns is some item's: there are as many items as such pairs, and no two items share one. -/
theorem exists_item (a : Fin 42) (b : Fin 14) : ∃ i : Fin 588, (tb.m (ix1 i)).toNat = a.val ∧ (tb.n (ix1 i)).toNat = b.val := by
  have hf : Function.Bijective fun i : Fin 588 => ((⟨(tb.m (ix1 i)).toNat, tb.m_lt i⟩, ⟨(tb.n (ix1 i)).toNat, tb.n_lt i⟩) : Fin 42 × Fin 14) :=
    (Fintype.bijective_iff_injective_and_card _).2 ⟨fun i j h => tb.apart i j (BitVec.eq_of_toNat_eq (congrArg (fun p => p.1.val) h))
      (BitVec.eq_of_toNat_eq (congrArg (fun p => p.2.val) h)), by simp⟩
  obtain ⟨i, hi⟩ := hf.2 (a, b)
  exact ⟨i, congrArg (fun p => p.1.val) hi, congrArg (fun p => p.2.val) hi⟩

/-- A used item's expert is its tile's. -/
theorem expert_of (i : Fin 588) (hv : tb.v (ix1 i) ≠ 0#32) (k : Fin 42) (hk : (tb.m (ix1 i)).toNat = k.val) : tb.e (ix1 i) = tb.te (ix1 k) :=
  tb.expert i k hv (BitVec.eq_of_toNat_eq (by rw [BitVec.toNat_ofNat, hk]; omega))

/-- A tile in use has an expert that exists. -/
theorem te_lt (k : Fin 42) (hk : (k.val : Int) < (tb.nu (ix1 0)).toInt) : (tb.te (ix1 k)).toNat < 8 := by
  obtain ⟨i, hi, -⟩ := exists_item tb k 0
  rw [← expert_of tb i ((tb.used i).2 (by rw [hi]; exact hk)) k hi]
  exact tb.e_lt i

/-- The tile of a row, and its expert. -/
abbrev tileOf (r : Fin 43008) : Fin 42 := ⟨r.val / 1024, by omega⟩
def expOf (r : Fin 43008) : Fin 8 := ⟨(tb.te (ix1 (tileOf r))).toNat % 8, by omega⟩

/-- A row of a tile in use: its products with its expert's two weights, gated; zero in the other tiles. -/
def G4 : FVec Ideal S43008x7168 .bf16 := fun y =>
  if (((y 0 : Fin 43008).val / 1024 : ℕ) : Int) < (tb.nu (ix1 0)).toInt then
    gated (rowDot (fun k => X m c (ix2 (y 0) k)) fun j => Wg m c (ix3 (expOf tb (y 0)) j (y 1)))
      (rowDot (fun k => X m c (ix2 (y 0) k)) fun j => Wu m c (ix3 (expOf tb (y 0)) j (y 1)))
  else (0 : EReal)

/-- The weights of the third product, their first two axes as one. -/
def G5 : FVec Ideal S57344x2048 .bf16 := (shapeCast S57344x2048 (Wd m c) shapeCasts_S8x7168x2048_S57344x2048 : FVec Ideal S57344x2048 .f32)

theorem flush_4 (t : Fin (cfgA (F := Ideal) tb).N) : ((cfgA (F := Ideal) tb).win (4 : Fin 6)).flush t = true := by
  have ht : t.val < 588 := t.isLt
  unfold Pipeline.Window.flush
  rw [Bool.and_eq_true, Bool.or_eq_true, decide_eq_true_iff, decide_eq_true_iff]
  refine ⟨rfl, ?_⟩
  by_cases h : t.val + 1 = 588
  · exact .inl h
  · refine .inr ⟨show t.val + 1 < 588 by omega, fun hn => ?_⟩
    rw [idx4, idx4] at hn
    have h0 : (tb.m (ix1 _)).toNat = (tb.m (ix1 _)).toNat := congrFun hn 0
    have h1 : (tb.n (ix1 _)).toNat = (tb.n (ix1 _)).toNat := congrFun hn 1
    have := congrArg Fin.val (tb.apart _ _ (BitVec.eq_of_toNat_eq h0) (BitVec.eq_of_toNat_eq h1))
    change t.val + 1 = t.val at this
    omega

theorem covers4 : ((cfgA (F := Ideal) tb).win (4 : Fin 6)).Covers := by
  refine ⟨fun | ⟨0, _⟩ => (show 0 < 1024 by decide) | ⟨1, _⟩ => (show 0 < 512 by decide), fun β => ?_⟩
  have hb0 : (β 0).val < 42 := (show (β 0).val < (43008 + 1024 - 1) / 1024 from (β 0).isLt).trans_le (by decide)
  have hb1 : (β 1).val < 14 := (show (β 1).val < (7168 + 512 - 1) / 512 from (β 1).isLt).trans_le (by decide)
  obtain ⟨i, h0, h1⟩ := exists_item tb ⟨(β 0).val, hb0⟩ ⟨(β 1).val, hb1⟩
  obtain ⟨t, rfl⟩ : ∃ t : Fin (cfgA (F := Ideal) tb).N, itm tb t = i := ⟨⟨i.val, i.isLt⟩, rfl⟩
  refine ⟨t, flush_4 tb t, fun a => ⟨(congrFun (idx4 tb t) a).trans ?_, .inl rfl⟩⟩
  match a with
  | ⟨0, _⟩ => exact h0
  | ⟨1, _⟩ => exact h1

theorem covers5 : ((cfgA (F := Ideal) tb).win (5 : Fin 6)).Covers := by
  refine ⟨fun | ⟨0, _⟩ => (show 0 < 224 by decide) | ⟨1, _⟩ => (show 0 < 2048 by decide), fun β => ?_⟩
  have hb0 : (β 0).val < 256 := (show (β 0).val < (57344 + 224 - 1) / 224 from (β 0).isLt).trans_le (by decide)
  have hb1 : (β 1).val < 1 := (show (β 1).val < (2048 + 2048 - 1) / 2048 from (β 1).isLt).trans_le (by decide)
  obtain ⟨t, ht, hm⟩ : ∃ t : Fin (cfgA (F := Ideal) tb).N, (t.val < 255 ∨ t.val = 587) ∧ min t.val 255 = (β 0).val := by
    by_cases h : (β 0).val < 255
    · exact ⟨⟨(β 0).val, show (β 0).val < 588 by omega⟩, .inl h, by show min (β 0).val 255 = (β 0).val; omega⟩
    · exact ⟨⟨587, show 587 < 588 by omega⟩, .inr rfl, by show min 587 255 = (β 0).val; omega⟩
  refine ⟨t, (flush_5 tb t).trans (decide_eq_true ht), fun a => ⟨(congrFun (idx5 tb t) a).trans ?_, .inl rfl⟩⟩
  match a with
  | ⟨0, _⟩ => exact hm
  | ⟨1, _⟩ => show 0 = (β 1).val; omega

theorem final5 : (dats (F := Ideal) tb m 0 c).arrAt (5 : Fin 6) (cfgA (F := Ideal) tb).N = G5 m c := by
  refine (dats tb m 0 c).arrAt_eq_of_covers (5 : Fin 6) (G5 m c) (covers5 tb) fun t hf y => ?_
  blk_simp [idx5 tb t]
  rw [after0_5]
  idx_vars y
  refine Eq.trans (b := G5 m c (show S57344x2048.Idx from ix2 ⟨min t.val 255 * 224 + y0, by omega⟩ y1)) ?_ (by blk_ext [idx5 tb t])
  unfold cast
  rw [pay1_at, blk3_at]
  exact congrFun (V_v0 m c) _

theorem final4 : (dats (F := Ideal) tb m 0 c).arrAt (4 : Fin 6) (cfgA (F := Ideal) tb).N = G4 tb m c := by
  refine (dats tb m 0 c).arrAt_eq_of_covers (4 : Fin 6) (G4 tb m c) (covers4 tb) fun t hf y => ?_
  blk_simp [idx4 tb t]
  rw [after0_4]
  idx_vars y
  have hm := tb.m_lt (itm tb t)
  have hn := tb.n_lt (itm tb t)
  refine Eq.trans (b := G4 tb m c (show S43008x7168.Idx from ix2 ⟨(tb.m (ix1 (itm tb t))).toNat * 1024 + y0, by omega⟩ ⟨(tb.n (ix1 (itm tb t))).toNat * 512 + y1, by omega⟩)) ?_
    (by blk_ext [idx4 tb t])
  have hq : ((tb.m (ix1 (itm tb t))).toNat * 1024 + y0.val) / 1024 = (tb.m (ix1 (itm tb t))).toNat := by omega
  unfold left
  by_cases hv : tb.v (ix1 (itm tb t)) = 0#32
  · rw [if_pos hv, pay5_at]
    have hl : ¬ ((((tb.m (ix1 (itm tb t))).toNat * 1024 + y0.val) / 1024 : ℕ) : Int) < (tb.nu (ix1 0)).toInt := by
      rw [hq]; exact fun h => (tb.used _).2 h hv
    exact (if_neg hl).symm
  · rw [if_neg hv, pay4_at]
    have hl : ((((tb.m (ix1 (itm tb t))).toNat * 1024 + y0.val) / 1024 : ℕ) : Int) < (tb.nu (ix1 0)).toInt := by
      rw [hq]; exact (tb.used _).1 hv
    refine Eq.trans ?_ (if_pos hl).symm
    have he : (⟨(tb.e (ix1 (itm tb t))).toNat, tb.e_lt _⟩ : Fin 8) = expOf tb ⟨(tb.m (ix1 (itm tb t))).toNat * 1024 + y0, by omega⟩ := by
      refine Fin.ext ?_
      have := expert_of tb (itm tb t) hv (tileOf ⟨(tb.m (ix1 (itm tb t))).toNat * 1024 + y0, by omega⟩) hq.symm
      show _ = (tb.te _).toNat % 8
      rw [← this, Nat.mod_eq_of_lt (tb.e_lt _)]
    have hw := tb.own _ hv
    have hx : (fun k => (iblk tb m c (0 : Fin 6) t : S1024x1024.Idx → BitVec 32) (ix2 y0 k))
        = fun k => X m c (ix2 ⟨(tb.m (ix1 (itm tb t))).toNat * 1024 + y0, by omega⟩ k) := funext fun k =>
      (blk0_at tb m c t y0 k).trans (congrFun (V_of m c main_arg7 (by decide)) _)
    have hg : (fun j => (k0_pay2 (F := Ideal) (iblk tb m c (1 : Fin 6) t) (ix2 j y1) : EReal))
        = fun j => Wg m c (ix3 (expOf tb ⟨(tb.m (ix1 (itm tb t))).toNat * 1024 + y0, by omega⟩) j ⟨(tb.n (ix1 (itm tb t))).toNat * 512 + y1, by omega⟩) := funext fun j => by
      rw [pay2_at, blk1_at, he]
      refine (congrFun (V_of m c main_arg8 (by decide)) _).trans ?_
      simp only [hw]
    have hu : (fun j => (k0_pay3 (F := Ideal) (iblk tb m c (2 : Fin 6) t) (ix2 j y1) : EReal))
        = fun j => Wu m c (ix3 (expOf tb ⟨(tb.m (ix1 (itm tb t))).toNat * 1024 + y0, by omega⟩) j ⟨(tb.n (ix1 (itm tb t))).toNat * 512 + y1, by omega⟩) := funext fun j => by
      rw [pay3_at, blk2_at, he]
      refine (congrFun (V_of m c main_arg9 (by decide)) _).trans ?_
      simp only [hw]
    exact congrArg₂ gated (congrArg₂ rowDot hx hg) (congrArg₂ rowDot hx hu)

end Cert.Kernel3Ideal.Up
end
-- ==== Proof.UpRef.lean ====
/- The up projection of the routed experts: the reference, entry by entry. -/
module

public import proofs.«01_k».proof.Proof.UpPay
public import proofs.«01_k».proof.Proof.DownRef
public import proofs.«01_k».proof.Proof.Gen.Reference3Ideal.Run
public import Idealize.ShloMosaic.Lib.Pointwise
public import Idealize.ShloMosaic.Lib.BitcastConvert
@[expose] public section
set_option maxRecDepth 16384
noncomputable section
namespace Cert.Reference3Ideal.Up
open Cert.Reference3Ideal Cert.Reference3Ideal.Gen Cert.Reference3Ideal.Value
open Idealize.ShloMosaic Idealize.ShloMosaic.TcCoe
open Cert.Kernel3Ideal.Up (low high rowDot gated)
variable (m : (ℓ : Loc nD τ sig) → Buf (Elt Ideal) ℓ) (c : Dev nD)
variable (te : S42.Idx → BitVec 32) (nu : S1.Idx → BitVec 32) (X : IVec S43008x1024 32) (Wg Wu : FVec Ideal S8x2048x7168 .f32) (Wd : FVec Ideal S8x7168x2048 .f32)

/-- The numbers that the packed rows hold, word by word, -/
def pairs : FVec Ideal S43008x1024x2 .f32 :=
  extf .f32 (bitcastToFloat (F := Ideal) .bf16 (Host.bitcastConvertNarrow S43008x1024x2 16 X splits_S43008x1024_w32_S43008x1024x2_w16)) bitsLt_bf16_f32

/-- and as rows: the low ones, then the high ones. -/
def rows : FVec Ideal S43008x2048 .f32 :=
  concatenate S43008x2048 1 [⟨S43008x1024, (shapeCast _ (extractStridedSlice S43008x1024x1 ![0, 0, 0] (pairs X) slices_S43008x1024x2_S43008x1024x1_0_0_0) shapeCasts_S43008x1024x1_S43008x1024)⟩, ⟨S43008x1024, (shapeCast _ (extractStridedSlice S43008x1024x1 ![0, 0, 1] (pairs X) slices_S43008x1024x2_S43008x1024x1_0_0_1) shapeCasts_S43008x1024x1_S43008x1024)⟩] concatenates_S43008x1024_S43008x1024_S43008x2048_d1

/-- The rows' products with one expert's weights. -/
def prod (W : FVec Ideal S8x2048x7168 .f32) (o : ℕ) (h : Shape.Slices S8x2048x7168 ![o, 0, 0] S1x2048x7168) : FVec Ideal S43008x7168 .f32 :=
  Host.dotGeneral dot_S43008x2048_S2048x7168_S43008x7168_1_0_0_1_n_n none (rows X) (shapeCast _ (extractStridedSlice S1x2048x7168 ![o, 0, 0] W h) shapeCasts_S1x2048x7168_S2048x7168)

/-- One expert's term of the reference's sum: its rows' two products, gated, the other rows' taken to zero. -/
def part (k : BitVec 32) (o : ℕ) (h : Shape.Slices S8x2048x7168 ![o, 0, 0] S1x2048x7168) : FVec Ideal S43008x7168 .f32 :=
  mulf (broadcastInDim S43008x7168 ![0, 1] bcast_S43008x1_S43008x7168_0_1 (uitofp .f32 (broadcastInDim S43008x1 ![0] bcast_S43008_S43008x1_0 (cmpi .eq (Cert.Reference2Ideal.Down.rowV te nu) (broadcastInDim S43008 ![] bcast_S_S43008 (constantI S_ 32 k))))))
    (mulf (mulf (prod X Wg o h) (Host.divf (broadcastInDim S43008x7168 ![] bcast_S_S43008x7168 (constant S_ .f32 0x3F800000#32)) (addf (broadcastInDim S43008x7168 ![] bcast_S_S43008x7168 (constant S_ .f32 0x3F800000#32)) (Host.exp (Host.negf (prod X Wg o h)))))) (prod X Wu o h))

/-- The reference's sum over the experts. -/
def total : FVec Ideal S43008x7168 .bf16 :=
  truncf .bf16 (addf (addf (addf (addf (addf (addf (addf (addf (broadcastInDim S43008x7168 ![] bcast_S_S43008x7168 (constant S_ .f32 0x00000000#32)) (part te nu X Wg Wu 0#32 0 slices_S8x2048x7168_S1x2048x7168_0_0_0)) (part te nu X Wg Wu 1#32 1 slices_S8x2048x7168_S1x2048x7168_1_0_0)) (part te nu X Wg Wu 2#32 2 slices_S8x2048x7168_S1x2048x7168_2_0_0)) (part te nu X Wg Wu 3#32 3 slices_S8x2048x7168_S1x2048x7168_3_0_0)) (part te nu X Wg Wu 4#32 4 slices_S8x2048x7168_S1x2048x7168_4_0_0)) (part te nu X Wg Wu 5#32 5 slices_S8x2048x7168_S1x2048x7168_5_0_0)) (part te nu X Wg Wu 6#32 6 slices_S8x2048x7168_S1x2048x7168_6_0_0)) (part te nu X Wg Wu 7#32 7 slices_S8x2048x7168_S1x2048x7168_7_0_0)) bitsLt_bf16_f32

/-- The weights of the third product, their first two axes as one. -/
def flat : FVec Ideal S57344x2048 .bf16 :=
  truncf .bf16 (shapeCast S57344x2048 Wd shapeCasts_S8x7168x2048_S57344x2048) bitsLt_bf16_f32

theorem drop_at (r : Fin 43008) (k : Fin 1024) (b : Fin 2) : splits_S43008x1024_w32_S43008x1024x2_w16.drop (ix3 r k b) = ix2 r k :=
  funext fun | ⟨0, _⟩ => rfl | ⟨1, _⟩ => rfl

theorem prod_at (W : FVec Ideal S8x2048x7168 .f32) (o : ℕ) (ho : o < 8) (h) (r : Fin 43008) (l : Fin 7168) :
    (prod X W o h (ix2 r l) : EReal) = rowDot (fun k => X (ix2 r k)) fun j => W (ix3 ⟨o, ho⟩ j l) := by
  pointwise [prod, rows, pairs]
  simp only [drop_at]
  rfl

theorem part_at (k : BitVec 32) (o : ℕ) (ho : o < 8) (h) (r : Fin 43008) (l : Fin 7168) :
    (part te nu X Wg Wu k o h (ix2 r l) : EReal) = (if Cert.Reference2Ideal.Down.rowV te nu (ix1 r) = k then (1 : EReal) else 0)
      * gated (rowDot (fun k => X (ix2 r k)) fun j => Wg (ix3 ⟨o, ho⟩ j l)) (rowDot (fun k => X (ix2 r k)) fun j => Wu (ix3 ⟨o, ho⟩ j l)) := by
  rw [← prod_at X Wg o ho h, ← prod_at X Wu o ho h]
  pointwise [part]
  generalize Cert.Reference2Ideal.Down.rowV te nu (ix1 r) = v
  unfold gated
  congr 1
  by_cases hv : v = k
  · rw [if_pos hv, show IntOp.cmpi .eq v k = 1#1 by unfold IntOp.cmpi; simp [hv]]
    show (((1#1).toNat : ℝ) : EReal) = 1
    simp
  · rw [if_neg hv, show IntOp.cmpi .eq v k = 0#1 by unfold IntOp.cmpi; rw [show (v == k) = false from beq_false_of_ne hv]; rfl]
    show (((0#1).toNat : ℝ) : EReal) = 0
    simp

theorem total_at (r : Fin 43008) (l : Fin 7168) : (total te nu X Wg Wu (ix2 r l) : EReal)
    = if ((r.val / 1024 : ℕ) : Int) < (nu (ix1 0)).toInt then
        if h : (te (ix1 ⟨r / 1024, by omega⟩)).toNat < 8 then
          gated (rowDot (fun k => X (ix2 r k)) fun j => Wg (ix3 ⟨(te (ix1 ⟨r / 1024, by omega⟩)).toNat, h⟩ j l))
            (rowDot (fun k => X (ix2 r k)) fun j => Wu (ix3 ⟨(te (ix1 ⟨r / 1024, by omega⟩)).toNat, h⟩ j l))
        else 0
      else (0 : EReal) := by
  pointwise [total]
  rw [part_at _ _ _ _ _ _ 0 (by omega), part_at _ _ _ _ _ _ 1 (by omega), part_at _ _ _ _ _ _ 2 (by omega), part_at _ _ _ _ _ _ 3 (by omega),
    part_at _ _ _ _ _ _ 4 (by omega), part_at _ _ _ _ _ _ 5 (by omega), part_at _ _ _ _ _ _ 6 (by omega), part_at _ _ _ _ _ _ 7 (by omega)]
  refine (Cert.Reference2Ideal.Down.sum_pick _ fun k => gated (rowDot (fun i => X (ix2 r i)) fun j => Wg (ix3 k j l)) (rowDot (fun i => X (ix2 r i)) fun j => Wu (ix3 k j l))).trans ?_
  rw [Cert.Reference2Ideal.Down.row_at]
  by_cases hl : ((r.val / 1024 : ℕ) : Int) < (nu (ix1 0)).toInt
  · simp only [if_pos hl]
  · simp only [if_neg hl]; rw [dif_neg (by decide)]

end Cert.Reference3Ideal.Up
end
-- ==== Proof.Up.lean ====
/- The up projection of the routed experts beside its reference: the reference runs and leaves its arguments and the counters as they were, and
   both programs end at the same two arrays. -/
module

public import proofs.«01_k».proof.Proof.UpVal
public import proofs.«01_k».proof.Proof.UpRef
@[expose] public section
set_option maxRecDepth 16384
noncomputable section
namespace Cert.Up
open Idealize.ShloMosaic Idealize.ShloMosaic.TcCoe Idealize.SL.Sem Idealize.ShloMosaic.StableHlo
open Cert.Kernel3Ideal.Up

theorem quiescent_Reference3Ideal : Cert.quiescent_Reference3Ideal := fun m g _ =>
  (θ_run _ _ _).mono (fun _ h => ⟨fun c => (h c).2.2, sem_eq_zero_of_no_sems rfl _⟩) (Cert.Reference3Ideal.Value.run m g)

theorem quiescent_Reference3Ideal_pre_named3 : Cert.quiescent_Reference3Ideal_pre_named3 := fun m g _ => quiescent_Reference3Ideal m g trivial

/-- The reference's sum at the tables and arrays of a launch memory is what the kernel leaves. -/
theorem total_eq (tb : Tables) (m : (ℓ : Loc Cert.Kernel3Ideal.nD Cert.Kernel3Ideal.τ Cert.Kernel3Ideal.sig) → Buf (Elt Ideal) ℓ) (c : Dev Cert.Kernel3Ideal.nD) :
    Cert.Reference3Ideal.Up.total tb.te tb.nu (X m c) (Wg m c) (Wu m c) = G4 tb m c := funext fun y => by
  refine (congrArg _ (eq_ix2 y)).trans ((Cert.Reference3Ideal.Up.total_at tb.te tb.nu (X m c) (Wg m c) (Wu m c) (y 0) (y 1)).trans ?_)
  unfold G4
  by_cases hl : (((y 0 : Fin 43008).val / 1024 : ℕ) : Int) < (tb.nu (ix1 0)).toInt
  · have he := te_lt tb (tileOf (y 0)) hl
    have hx : expOf tb (y 0) = ⟨(tb.te (ix1 (tileOf (y 0)))).toNat, he⟩ := Fin.ext (Nat.mod_eq_of_lt he)
    rw [if_pos hl, dif_pos he, if_pos hl, hx]
  · rw [if_neg hl, if_neg hl]

/-- Its other result is the weights of the third product, as the kernel leaves them. -/
theorem flat_eq (m : (ℓ : Loc Cert.Kernel3Ideal.nD Cert.Kernel3Ideal.τ Cert.Kernel3Ideal.sig) → Buf (Elt Ideal) ℓ) (c : Dev Cert.Kernel3Ideal.nD) :
    Cert.Reference3Ideal.Up.flat (Wd m c) = G5 m c := rfl

open Cert.Kernel3Ideal in
set_option maxHeartbeats 1000000 in
theorem algebraic : Cert.algebraic_Kernel3Ideal_Reference3Ideal := by
  intro m g m' g' hp hag
  have hpin := pinned_of_pre m hp
  refine ⟨fun c => G4 (ofPre _ _ _ _ _ _ _ _ _ _ _ (hp 0)) m c, fun c => G5 m c, ?_, ?_⟩
  · refine (θ_run _ _ _).mono (fun r h c => ?_) (run_main _ m g hpin)
    exact ⟨((h c).1 (4 : Fin 6)).trans (final4 _ m c), ((h c).1 (5 : Fin 6)).trans (final5 _ m c), unchanged_of _ m hpin r h c⟩
  · refine (θ_run _ _ _).mono (fun r h c => ?_) (Cert.Reference3Ideal.Value.run m' g')
    obtain ⟨-, -, -, -, -, h5, h6, h7, h8, h9, h10⟩ := hag c
    obtain rfl : c = 0 := Subsingleton.elim (α := Fin 1) _ _
    refine ⟨(h 0).1.trans ?_, (h 0).2.1.trans ?_, (h 0).2.2⟩
    · refine Eq.trans (b := Cert.Reference3Ideal.Up.total (m' (((0 : Dev Cert.Reference3Ideal.nD).tc : Thread Cert.Reference3Ideal.nD Cert.Reference3Ideal.τ).loc Cert.Reference3Ideal.main_arg5))
        (m' (((0 : Dev Cert.Reference3Ideal.nD).tc : Thread Cert.Reference3Ideal.nD Cert.Reference3Ideal.τ).loc Cert.Reference3Ideal.main_arg6))
        (m' (((0 : Dev Cert.Reference3Ideal.nD).tc : Thread Cert.Reference3Ideal.nD Cert.Reference3Ideal.τ).loc Cert.Reference3Ideal.main_arg7))
        (m' (((0 : Dev Cert.Reference3Ideal.nD).tc : Thread Cert.Reference3Ideal.nD Cert.Reference3Ideal.τ).loc Cert.Reference3Ideal.main_arg8))
        (m' (((0 : Dev Cert.Reference3Ideal.nD).tc : Thread Cert.Reference3Ideal.nD Cert.Reference3Ideal.τ).loc Cert.Reference3Ideal.main_arg9))) rfl ?_
      rw [h5, h6, h7, h8, h9]
      exact total_eq (ofPre _ _ _ _ _ _ _ _ _ _ _ (hp 0)) m 0
    · refine Eq.trans (b := Cert.Reference3Ideal.Up.flat (m' (((0 : Dev Cert.Reference3Ideal.nD).tc : Thread Cert.Reference3Ideal.nD Cert.Reference3Ideal.τ).loc Cert.Reference3Ideal.main_arg10))) rfl ?_
      rw [h10]
      exact flat_eq m 0

end Cert.Up
end
-- ==== Proof.Dense.lean ====
/- The dense layer's up projection: the array after the run, entry by entry, and its reference beside it. -/
module

public import proofs.«01_k».proof.Defs
public import proofs.«01_k».proof.Proof.UpPay
public import proofs.«01_k».proof.Proof.Gen.Kernel4.Frame
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
@[expose] public section
set_option maxRecDepth 16384
noncomputable section
namespace Cert.Kernel4Ideal.Dense
open Cert.Kernel4Ideal Cert.Kernel4Ideal.Gen
open Idealize.ShloMosaic Idealize.ShloMosaic.TcCoe
open Cert.Kernel3Ideal.Up (gated)
variable (m : (ℓ : Loc nD τ sig) → Buf (Elt Ideal) ℓ) (c : Dev nD)

/-- A row's two products, gated. -/
def G (H : FVec Ideal S17408x2048 .bf16) (Wg Wu : FVec Ideal S2048x5632 .f32) : FVec Ideal S17408x5632 .bf16 := fun y =>
  gated (∑ k : Fin 2048, H (ix2 (y 0) k) * Wg (ix2 k (y 1))) (∑ k : Fin 2048, H (ix2 (y 0) k) * Wu (ix2 k (y 1)))

theorem pay1_at (x : FVec Ideal S1088x2048 .bf16) (a b : FVec Ideal S2048x512 .bf16) (r : Fin 1088) (l : Fin 512) :
    (k0_pay1 (F := Ideal) x a b (ix2 r l) : EReal)
      = gated (∑ k : Fin 2048, x (ix2 r k) * a (ix2 k l)) (∑ k : Fin 2048, x (ix2 r k) * b (ix2 k l)) := by
  pointwise [k0_pay1]
  unfold gated
  rw [zero_sub]

theorem idx0 : ∀ t : Fin cfg0.N, (cfg0.win 0).index t = ![t.val / 11, 0] := by decide +kernel
theorem idx1 : ∀ t : Fin cfg0.N, (cfg0.win 1).index t = ![0, t.val % 11] := by decide +kernel
theorem idx2 : ∀ t : Fin cfg0.N, (cfg0.win 2).index t = ![0, t.val % 11] := by decide +kernel
theorem idx3 : ∀ t : Fin cfg0.N, (cfg0.win 3).index t = ![t.val / 11, t.val % 11] := by decide +kernel

theorem V_v0_at (i : S2048x5632.Idx) : (V m c main_v0 : S2048x5632.Idx → EReal) i = (m ((c : Thread nD τ).loc main_arg1) : S2048x5632.Idx → EReal) i := rfl
theorem V_v1_at (i : S2048x5632.Idx) : (V m c main_v1 : S2048x5632.Idx → EReal) i = (m ((c : Thread nD τ).loc main_arg2) : S2048x5632.Idx → EReal) i := rfl

theorem blk0_at (t : Fin cfg0.N) (r : Fin 1088) (k : Fin 2048) :
    (iblk m c 0 t : S1088x2048.Idx → EReal) (ix2 r k)
      = (V m c main_arg0 : S17408x2048.Idx → EReal) (ix2 ⟨t.val / 11 * 1088 + r, by have : t.val < 176 := t.isLt; omega⟩ k) := by
  blk_ext [iblk, idx0 t]
theorem blk1_at (t : Fin cfg0.N) (k : Fin 2048) (l : Fin 512) :
    (iblk m c 1 t : S2048x512.Idx → EReal) (ix2 k l)
      = (V m c main_v0 : S2048x5632.Idx → EReal) (ix2 k ⟨t.val % 11 * 512 + l, by omega⟩) := by
  blk_ext [iblk, idx1 t]
theorem blk2_at (t : Fin cfg0.N) (k : Fin 2048) (l : Fin 512) :
    (iblk m c 2 t : S2048x512.Idx → EReal) (ix2 k l)
      = (V m c main_v1 : S2048x5632.Idx → EReal) (ix2 k ⟨t.val % 11 * 512 + l, by omega⟩) := by
  blk_ext [iblk, idx2 t]

theorem covers : (cfg0.win 3).Covers := by
  refine ⟨fun | ⟨0, _⟩ => (show 0 < 1088 by decide) | ⟨1, _⟩ => (show 0 < 512 by decide), fun β => ?_⟩
  have hb0 : (β 0).val < 16 := (show (β 0).val < (17408 + 1088 - 1) / 1088 from (β 0).isLt).trans_le (by decide)
  have hb1 : (β 1).val < 11 := (show (β 1).val < (5632 + 512 - 1) / 512 from (β 1).isLt).trans_le (by decide)
  refine ⟨⟨(β 0).val * 11 + (β 1).val, show _ < 176 by omega⟩, flush0_3 _, fun a => ⟨(congrFun (idx3 _) a).trans ?_, .inl rfl⟩⟩
  match a with
  | ⟨0, _⟩ => show ((β 0).val * 11 + (β 1).val) / 11 = (β 0).val; omega
  | ⟨1, _⟩ => show ((β 0).val * 11 + (β 1).val) % 11 = (β 1).val; omega

theorem out_eq (x : FVec Ideal S1088x2048 .bf16) (a b : FVec Ideal S2048x512 .bf16) : out0_3 (F := Ideal) x a b = (k0_pay1 (F := Ideal) x a b : S1088x512.Idx → EReal) := by
  unfold out0_3; frame_out

theorem final : (dats (F := Ideal) m 0 c).arrAt 3 cfg0.N
    = G (m ((c : Thread nD τ).loc main_arg0)) (m ((c : Thread nD τ).loc main_arg1)) (m ((c : Thread nD τ).loc main_arg2)) := by
  refine (dats m 0 c).arrAt_eq_of_covers 3 (G (m ((c : Thread nD τ).loc main_arg0)) (m ((c : Thread nD τ).loc main_arg1)) (m ((c : Thread nD τ).loc main_arg2))) covers fun t hf y => ?_
  blk_simp [idx3 t]
  rw [after0_3]
  idx_vars y
  have ht : t.val < 176 := t.isLt
  refine Eq.trans (b := G (m ((c : Thread nD τ).loc main_arg0)) (m ((c : Thread nD τ).loc main_arg1)) (m ((c : Thread nD τ).loc main_arg2))
    (show S17408x5632.Idx from ix2 ⟨t.val / 11 * 1088 + y0, by omega⟩ ⟨t.val % 11 * 512 + y1, by omega⟩)) ?_ (by blk_ext [idx3 t])
  rw [out_eq, pay1_at]
  unfold G
  simp only [blk0_at, blk1_at, blk2_at, V_main_arg0, V_v0_at, V_v1_at]
  rfl

end Cert.Kernel4Ideal.Dense

namespace Cert.Dense
open Idealize.ShloMosaic Idealize.ShloMosaic.TcCoe Idealize.SL.Sem Idealize.ShloMosaic.StableHlo
open Cert.Kernel3Ideal.Up (gated)

theorem quiescent_Reference4Ideal : Cert.quiescent_Reference4Ideal := fun m g _ =>
  (θ_run _ _ _).mono (fun _ h => ⟨fun c => (h c).2, sem_eq_zero_of_no_sems rfl _⟩) (Cert.Reference4Ideal.Value.run m g)

open Cert.Reference4Ideal Cert.Reference4Ideal.Gen in
/-- The reference's array. -/
def plain (H : FVec Ideal S17408x2048 .bf16) (Wg Wu : FVec Ideal S2048x5632 .f32) : FVec Ideal S17408x5632 .bf16 :=
  truncf .bf16 (mulf (mulf (Host.dotGeneral dot_S17408x2048_S2048x5632_S17408x5632_1_0_0_1_n_n none (extf .f32 H bitsLt_bf16_f32) Wg) (Host.divf (broadcastInDim S17408x5632 ![] bcast_S_S17408x5632 (constant S_ .f32 0x3F800000#32)) (addf (broadcastInDim S17408x5632 ![] bcast_S_S17408x5632 (constant S_ .f32 0x3F800000#32)) (Host.exp (Host.negf (Host.dotGeneral dot_S17408x2048_S2048x5632_S17408x5632_1_0_0_1_n_n none (extf .f32 H bitsLt_bf16_f32) Wg)))))) (Host.dotGeneral dot_S17408x2048_S2048x5632_S17408x5632_1_0_0_1_n_n none (extf .f32 H bitsLt_bf16_f32) Wu)) bitsLt_bf16_f32

open Cert.Reference4Ideal Cert.Reference4Ideal.Gen in
theorem plain_eq (H : FVec Ideal S17408x2048 .bf16) (Wg Wu : FVec Ideal S2048x5632 .f32) : plain H Wg Wu = Cert.Kernel4Ideal.Dense.G H Wg Wu := by
  funext y
  idx_vars y
  show _ = gated (∑ k : Fin 2048, H (ix2 y0 k) * Wg (ix2 k y1)) (∑ k : Fin 2048, H (ix2 y0 k) * Wu (ix2 k y1))
  pointwise [plain]
  rfl

theorem algebraic : Cert.algebraic_Kernel4Ideal_Reference4Ideal := by
  intro m g m' g' _ hag
  refine ⟨fun c => Cert.Kernel4Ideal.Dense.G (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)), ?_, ?_⟩
  rotate_left
  · refine (θ_run _ _ _).mono (fun r h c => ?_) (Cert.Reference4Ideal.Value.run m' g')
    obtain ⟨h0, h1, h2⟩ := hag c
    refine ⟨(h c).1.trans (Eq.trans (b := plain (m' ((c.tc : Thread Cert.Reference4Ideal.nD Cert.Reference4Ideal.τ).loc Cert.Reference4Ideal.main_arg0))
      (m' ((c.tc : Thread Cert.Reference4Ideal.nD Cert.Reference4Ideal.τ).loc Cert.Reference4Ideal.main_arg1))
      (m' ((c.tc : Thread Cert.Reference4Ideal.nD Cert.Reference4Ideal.τ).loc Cert.Reference4Ideal.main_arg2))) rfl ?_), (h c).2⟩
    rw [h0, h1, h2]
    exact plain_eq _ _ _
  · exact (θ_run _ _ _).mono (fun r h c => ⟨(h c).1.trans (Cert.Kernel4Ideal.Dense.final m c), (h c).2⟩) (Cert.Kernel4Ideal.Value.run_blocks m g)

end Cert.Dense
end
-- ==== Proof.NormRun.lean ====
/- The final norm: its body, what each window's staging buffer holds at each block of rows, and the launch, over any interpretation of the
   floats. The prompt's blocks are stored at the first 32 points, the samples' at the last two; the prompt's window stays on its last block
   and is written back once more at the end. -/
module

public import proofs.«01_k».proof.Defs
public import proofs.«01_k».proof.Proof.Gen.Kernel5Ideal.Frame
public import proofs.«01_k».proof.Proof.Gen.Kernel5Ideal.Skeleton
public import proofs.«01_k».proof.Proof.Gen.Kernel5
public import proofs.«01_k».proof.Proof.Gen.Reference5Ideal.Run
public import Idealize.ShloMosaic.Lib.Claim
public import Idealize.ShloMosaic.Lib.Pipeline.Frame
public import Idealize.ShloMosaic.Lib.Pipeline.Quiescent
public import Idealize.ShloMosaic.Lib.Pipeline.TableIdle
public import Idealize.ShloMosaic.Lib.Pipeline.ValueKit
@[expose] public section
set_option maxRecDepth 16384
set_option Elab.async false
noncomputable section
namespace Cert.Kernel5Ideal.Norm
open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

/-! ## The body -/

section Body
variable (c : Dev nD) (i : grid0.Coords)
  (arg1 : Memref sig .tc .vmem S512x2048 .f32) (harg1 : arg1.IsWhole) (arg2 : Memref sig .tc .vmem S1x2048 .f32) (harg2 : arg2.IsWhole)
  (arg3 : Memref sig .tc .vmem S512x2048 .f32) (harg3 : arg3.IsWhole) (arg4 : Memref sig .tc .vmem S512x2048 .f32) (harg4 : arg4.IsWhole)
  (x0 : S512x2048.Idx → Elt F .f32) (x1 : S1x2048.Idx → Elt F .f32) (d2 d3 : S512x2048.Idx → Elt F .f32)

/-- What the two outputs' buffers hold after the body. -/
def put2 : S512x2048.Idx → Elt F .f32 := if k0_cond1 i = 1#1 then k0_pay1 x0 x1 else d2
def put3 : S512x2048.Idx → Elt F .f32 := if k0_cond2 i = 1#1 then k0_pay1 x0 x1 else d3

set_option maxHeartbeats 2000000 in
theorem run (K : PUnit → sProp 𝕄) :
    iprop((arg1.view.loc (c : Thread nD τ) ↦[arg1.view.set]{fullShare} arg1.view.rep x0)
      ∗ (arg2.view.loc (c : Thread nD τ) ↦[arg2.view.set]{fullShare} arg2.view.rep x1)
      ∗ (arg3.view.loc (c : Thread nD τ) ↦[arg3.view.set]{fullShare} arg3.view.rep d2)
      ∗ (arg4.view.loc (c : Thread nD τ) ↦[arg4.view.set]{fullShare} arg4.view.rep d3)
      ∗ (iprop((arg1.view.loc (c : Thread nD τ) ↦[arg1.view.set]{fullShare} arg1.view.rep x0)
          ∗ (arg2.view.loc (c : Thread nD τ) ↦[arg2.view.set]{fullShare} arg2.view.rep x1)
          ∗ owns (c : Thread nD τ) arg3 fullShare (put2 i x0 x1 d2)
          ∗ owns (c : Thread nD τ) arg4 fullShare (put3 i x0 x1 d3)) -∗ K ⟨⟩))
      ⊢ wp frame (wpE (defs₀ (F := F)) Variants.none c none) Set.univ (cc0_final_norm i arg1 harg1 arg2 harg2 arg3 harg3 arg4 harg4) K := by
  rw [cc0_final_norm_eq_skeleton]; unfold cc0_final_norm_skel
  iintro ⟨H0, H1, H2, H3, Hk⟩
  unfold put2 put3
  by_cases h1 : k0_cond1 i = 1#1 <;> by_cases h2 : k0_cond2 i = 1#1
  all_goals
    first | rw [if_pos h1] | rw [if_neg h1]
    first | rw [if_pos h2] | rw [if_neg h2]
    sl_exec! (disch := first | exact h1 | exact h2)
    sl_step
    iapply Hk
    isplitl [H0]; · iexact H0
    isplitl [H1]; · iexact H1
    isplitl [H2]
    · unfold owns; iexists _; isplitr; swap
      · iexact H2
      · ipureintro; first | rw [View.read_rep] | (frame_out; try simp only [View.read_rep])
    · unfold owns; iexists _; isplitr; swap
      · iexact H3
      · ipureintro; first | rw [View.read_rep] | (frame_out; try simp only [View.read_rep])
end Body

/-! ## Blocks -/

variable (m : (ℓ : Loc nD τ sig) → Buf (Elt F) ℓ) (ρ : Dev nD → PrngReg)

theorem idx0 : ∀ t : Fin cfg0.N, (cfg0.win 0).index t = ![t.val, 0] := by decide +kernel
theorem idx1 : ∀ t : Fin cfg0.N, (cfg0.win 1).index t = ![0, 0] := by decide +kernel
theorem idx2 : ∀ t : Fin cfg0.N, (cfg0.win 2).index t = ![min t.val 31, 0] := by decide +kernel
theorem idx3 : ∀ t : Fin cfg0.N, (cfg0.win 3).index t = ![t.val - 32, 0] := by decide +kernel

theorem idle_0 (t : Fin cfg0.N) : cfg0.idle 0 (cfg0.grid.coords t) = false := rfl
theorem idle_1 (t : Fin cfg0.N) : cfg0.idle 1 (cfg0.grid.coords t) = false := rfl
theorem idle_2 : ∀ t : Fin cfg0.N, cfg0.idle 2 (cfg0.grid.coords t) = decide (32 ≤ t.val) :=
  (show ∀ t : Fin grid0.N, idle0 2 (grid0.coords t) = decide (32 ≤ t.val) by decide +kernel)
theorem idle_3 : ∀ t : Fin cfg0.N, cfg0.idle 3 (cfg0.grid.coords t) = decide (t.val < 32) :=
  (show ∀ t : Fin grid0.N, idle0 3 (grid0.coords t) = decide (t.val < 32) by decide +kernel)
theorem cond1_iff : ∀ t : Fin grid0.N, k0_cond1 (grid0.coords t) = 1#1 ↔ t.val < 32 := by decide +kernel
theorem cond2_iff : ∀ t : Fin grid0.N, k0_cond2 (grid0.coords t) = 1#1 ↔ 32 ≤ t.val := by decide +kernel
theorem flush_2 : ∀ t : Fin cfg0.N, (cfg0.win 2).flush t = decide (t.val < 31 ∨ t.val = 33) := by decide +kernel
theorem flush_3 : ∀ t : Fin cfg0.N, (cfg0.win 3).flush t = decide (32 ≤ t.val) := by decide +kernel

/-- The point's block, normed, and of the prompt's window the last one it stored. -/
def normed (c : Dev nD) (t : Fin cfg0.N) : S512x2048.Idx → Elt F .f32 := k0_pay1 (iblk m c 0 t) (iblk m c 1 t)
def last (t : Fin cfg0.N) : Fin cfg0.N := ⟨min t.val 31, show min t.val 31 < 34 by omega⟩

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => normed m c (last t)
    | ⟨3, _⟩ => normed m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = normed m c (last t) := rfl
theorem after0_3 (c : Dev nD) (t : Fin cfg0.N) : (dats m 0 c).after 3 t = normed m c t := rfl
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d

/-- At the samples' points the prompt's buffer still holds the prompt's last block. -/
theorem before0_2 (c : Dev nD) (d) : ∀ (k : ℕ) (t : Fin cfg0.N), t.val = 32 + k → (dats m 0 c).before 2 t d = normed m c (last t) := by
  intro k
  induction k with
  | zero =>
    intro t ht
    have hN : t.val < 34 := t.isLt
    rw [(dats m 0 c).before_of_pos 2 t (by omega) rfl, flush_2, if_neg (by rw [decide_eq_true_iff]; show ¬ (t.val - 1 < 31 ∨ t.val - 1 = 33); omega)]
    unfold Dat.left
    rw [idle_2, decide_eq_false (by show ¬ 32 ≤ t.val - 1; omega)]
    exact congrArg (normed m c) (Fin.ext (show min (t.val - 1) 31 = min t.val 31 by omega))
  | succ k ih =>
    intro t ht
    have hN : t.val < 34 := t.isLt
    rw [(dats m 0 c).before_of_pos 2 t (by omega) rfl, flush_2, if_neg (by rw [decide_eq_true_iff]; show ¬ (t.val - 1 < 31 ∨ t.val - 1 = 33); omega)]
    unfold Dat.left
    rw [idle_2, decide_eq_true (by show 32 ≤ t.val - 1; omega)]
    exact (ih _ (by show t.val - 1 = _; omega)).trans (congrArg (normed m c) (Fin.ext (show min (t.val - 1) 31 = min t.val 31 by omega)))

/-! ## The body obligation -/

/-- What a window's staging buffer must hold after the body. -/
abbrev leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_in (c : Dev nD) (w : Fin cfg0.W) (t : Fin cfg0.N) (h : cfg0.idle w (cfg0.grid.coords t) = false) :
    (leaves m c w t : sProp 𝕄) = owns (c : Thread nD τ) ((cfg0.win w).stage (cfg0.slots t w)) fullShare ((dats m 0 c).after w t) := by
  unfold leaves
  rw [h]

theorem leaves_2 (c : Dev nD) (t : Fin cfg0.N) (d) :
    (owns (c : Thread nD τ) (st0_2 t) fullShare (put2 (grid0.coords t) (iblk m c 0 t) (iblk m c 1 t) ((dats m 0 c).before 2 t d)) : sProp 𝕄)
      ⊢ leaves m c 2 t := by
  have hN : t.val < 34 := t.isLt
  unfold leaves put2
  rw [idle_2]
  by_cases h : t.val < 32
  · have hl : last t = t := Fin.ext (show min t.val 31 = t.val by omega)
    rw [if_pos ((cond1_iff t).2 h), decide_eq_false (by omega), after0_2, hl]
    exact .rfl
  · rw [if_neg (fun h' => h ((cond1_iff t).1 h')), decide_eq_true (by omega : 32 ≤ t.val), flush_2]
    by_cases h' : t.val = 33
    · rw [decide_eq_true (.inr h'), before0_2 m c d (t.val - 32) t (by omega)]
      exact .rfl
    · rw [decide_eq_false (by omega)]
      show _ ⊢ iprop(∃ d, _)
      iintro H; iexists d; iexact H

theorem leaves_3 (c : Dev nD) (t : Fin cfg0.N) (d) :
    (owns (c : Thread nD τ) (st0_3 t) fullShare (put3 (grid0.coords t) (iblk m c 0 t) (iblk m c 1 t) ((dats m 0 c).before 3 t d)) : sProp 𝕄)
      ⊢ leaves m c 3 t := by
  unfold leaves put3
  rw [idle_3]
  by_cases h : t.val < 32
  · rw [if_neg (fun h' => absurd ((cond2_iff t).1 h') (by omega)), decide_eq_true h, flush_3, decide_eq_false (by omega)]
    show _ ⊢ iprop(∃ d, _)
    iintro H; iexists d; iexact H
  · rw [if_pos ((cond2_iff t).2 (by omega)), decide_eq_false h]
    exact .rfl

set_option maxHeartbeats 2000000 in
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d)))
      ⊢ wp frame (wpE (defs₀ (F := F)) Variants.none c none) Set.univ (bodyAt0 t) fun _ =>
          iprop((dats m 0 c).Φ t.succ ∗ (dats m 0 c).owesAt () t.succ
            ∗ leaves m c 0 t ∗ leaves m c 1 t ∗ leaves m c 2 t ∗ leaves m c 3 t) := by
  have l2 := leaves_2 m c t
  have l3 := leaves_3 m c t
  generalize leaves m c 2 t = L2 at l2 ⊢
  generalize leaves m c 3 t = L3 at l3 ⊢
  rewrite [leaves_in m c 0 t (idle_0 t), leaves_in m c 1 t (idle_1 t)]
  simp only [before0_0, before0_1, after0_0, after0_1]
  rewrite [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  iapply (run c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (iblk m c 0 t) (iblk m c 1 t) ((dats m 0 c).before 2 t d2) ((dats m 0 c).before 3 t d3) _)
  isplitl [H0]; · iapply rep_of_owns; iexact H0
  isplitl [H1]; · iapply rep_of_owns; iexact H1
  isplitl [H2]; · iapply rep_of_owns; iexact H2
  isplitl [H3]; · iapply rep_of_owns; iexact H3
  iintro ⟨H0, H1, H2, H3⟩
  isplitl [HΦ]; · iexact HΦ
  isplitl [Ho]; · iexact Ho
  isplitl [H0]; · iapply owns_of_rep; iexact H0
  isplitl [H1]; · iapply owns_of_rep; iexact H1
  isplitl [H2]; · iapply (l2 d2); iexact H2
  iapply (l3 d3); iexact H3

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact sound_body m c t

/-! ## The run and the frames -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every argument as launched. -/
def Unchanged (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)

theorem unchanged : θ_run defs (onTc (τ := τ) (main (F := F))) ⟨m, fun _ => 0, ρ⟩ (Unchanged m) :=
  frame_of m ρ (dats m) (A_eq m) (run_main m ρ)

theorem frame : θ_run defs (onTc (τ := τ) (main (F := F))) ⟨m, fun _ => 0, ρ⟩ (fun r => Unchanged m r ∧ r.2.sem = fun _ => 0) :=
  θ_run_and (unchanged m ρ) ((θ_run defs _ _).mono (fun _ h => h.2) (run_main_quiescent m ρ))

theorem quiescent_Kernel5Ideal : Cert.quiescent_Kernel5Ideal := fun m ρ _ => frame (F := Ideal) m ρ

/-- The printed program's function table is the idealized one's, row by row, -/
theorem defs₀_eq : Cert.Kernel5.defs₀ (F := F) = Cert.Kernel5Ideal.defs₀ := by
  funext p l a
  cases p with
  | tc => match l, a with | ⟨0, _⟩, (_, _) => rfl
  | scScalar => rfl
  | scVector => rfl

/-- with the pipeline's labels too. -/
theorem defs_eq : Cert.Kernel5.defs (F := F) = Cert.Kernel5Ideal.defs := congrArg (Pipeline.defs Cert.Kernel5Ideal.pcfgs) defs₀_eq

theorem quiescent_Kernel5 : Cert.quiescent_Kernel5 := fun m ρ _ =>
  (congrArg (fun D => θ_run D (onTc (τ := τ) (main (F := Bits))) ⟨m, fun _ => 0, ρ⟩ (fun r => Unchanged m r ∧ r.2.sem = fun _ => 0)) (defs_eq (F := Bits))).mpr
    (frame (F := Bits) m ρ)

end Cert.Kernel5Ideal.Norm

namespace Cert.Norm
open Idealize.ShloMosaic Idealize.SL.Sem Idealize.ShloMosaic.StableHlo

theorem quiescent_Reference5Ideal : Cert.quiescent_Reference5Ideal := fun m g _ =>
  (θ_run _ _ _).mono (fun _ h => ⟨fun c => (h c).2.2, sem_eq_zero_of_no_sems rfl _⟩) (Cert.Reference5Ideal.Value.run m g)

end Cert.Norm
end
-- ==== Proof.Norm.lean ====
/- The final norm: its two arrays after the run, entry by entry, and the reference's beside them. -/
module

public import proofs.«01_k».proof.Proof.NormRun
public import Idealize.ShloMosaic.Lib.Pointwise
@[expose] public section
set_option maxRecDepth 16384
noncomputable section
namespace Cert.Kernel5Ideal.Norm
open Cert.Kernel5Ideal Cert.Kernel5Ideal.Gen
open Idealize.ShloMosaic Idealize.ShloMosaic.TcCoe Idealize.SL.Sem
open Idealize.ShloMosaic.Pipeline (Dat)
variable (m : (ℓ : Loc nD τ sig) → Buf (Elt Ideal) ℓ) (ρ : Dev nD → PrngReg) (c : Dev nD)

/-- An entry by the root of its row's mean square, times its column's weight. -/
def entry (x s w : EReal) : EReal :=
  x * Ideal.rsqrt (Ideal.div s (Ideal.ofBits FTy.f32 1157627904#32) + Ideal.ofBits FTy.f32 897988541#32) * w

/-- A row normed. -/
def row (X : FVec Ideal S17408x2048 .f32) (W : FVec Ideal S2048 .f32) (r : Fin 17408) (l : Fin 2048) : EReal :=
  entry (X (ix2 r l)) (∑ k : Fin 2048, X (ix2 r k) * X (ix2 r k)) (W (ix1 l))

/-- The prompt's rows normed, and the samples'. -/
def G2 (X : FVec Ideal S17408x2048 .f32) (W : FVec Ideal S2048 .f32) : FVec Ideal S16384x2048 .f32 := fun y =>
  row X W ⟨(y 0).val, (y 0).isLt.trans (by decide)⟩ (y 1)
def G3 (X : FVec Ideal S17408x2048 .f32) (W : FVec Ideal S2048 .f32) : FVec Ideal S1024x2048 .f32 := fun y =>
  row X W ⟨16384 + (y 0).val, Nat.add_lt_add_left (show (y 0).val < 1024 from (y 0).isLt) 16384⟩ (y 1)

theorem pay1_at (x : FVec Ideal S512x2048 .f32) (w : FVec Ideal S1x2048 .f32) (r : Fin 512) (l : Fin 2048) :
    (k0_pay1 (F := Ideal) x w (ix2 r l) : EReal) = entry (x (ix2 r l)) (∑ k : Fin 2048, x (ix2 r k) * x (ix2 r k)) (w (ix2 0 l)) := by
  pointwise [k0_pay1]
  rfl

theorem V_v0_at (l : Fin 2048) : (V m c main_v0 : S1x2048.Idx → EReal) (ix2 0 l) = (m ((c : Thread nD τ).loc main_arg1) : S2048.Idx → EReal) (ix1 l) := by
  show broadcastInDim S1x2048 ![1] bcast_S2048_S1x2048_1 (m ((c : Thread nD τ).loc main_arg1) : FVec Ideal S2048 .f32) (ix2 0 l) = _
  pointwise

theorem blk0_at (t : Fin cfg0.N) (r : Fin 512) (k : Fin 2048) :
    (iblk m c 0 t : S512x2048.Idx → EReal) (ix2 r k)
      = (V m c main_arg0 : S17408x2048.Idx → EReal) (ix2 ⟨t.val * 512 + r, by have : t.val < 34 := t.isLt; omega⟩ k) := by
  blk_ext [iblk, idx0 t]
theorem blk1_at (t : Fin cfg0.N) (k : Fin 2048) :
    (iblk m c 1 t : S1x2048.Idx → EReal) (ix2 0 k) = (V m c main_v0 : S1x2048.Idx → EReal) (ix2 0 k) := by
  blk_ext [iblk, idx1 t]

/-- A point's block of rows, normed. -/
theorem normed_at (t : Fin cfg0.N) (r : Fin 512) (l : Fin 2048) :
    (normed (F := Ideal) m c t (ix2 r l) : EReal)
      = row (m ((c : Thread nD τ).loc main_arg0)) (m ((c : Thread nD τ).loc main_arg1)) ⟨t.val * 512 + r, by have : t.val < 34 := t.isLt; omega⟩ l := by
  unfold normed
  rw [pay1_at]
  simp only [blk0_at, blk1_at]
  refine Eq.trans (congrArg (entry _ _) (V_v0_at m c l)) ?_
  rfl

theorem covers2 : (cfg0.win 2).Covers := by
  refine ⟨fun | ⟨0, _⟩ => (show 0 < 512 by decide) | ⟨1, _⟩ => (show 0 < 2048 by decide), fun β => ?_⟩
  have hb0 : (β 0).val < 32 := (show (β 0).val < (16384 + 512 - 1) / 512 from (β 0).isLt).trans_le (by decide)
  have hb1 : (β 1).val < 1 := (show (β 1).val < (2048 + 2048 - 1) / 2048 from (β 1).isLt).trans_le (by decide)
  refine ⟨⟨if (β 0).val < 31 then (β 0).val else 33, show _ < 34 by split <;> omega⟩, ?_, fun a => ⟨(congrFun (idx2 _) a).trans ?_, .inl rfl⟩⟩
  · rw [flush_2, decide_eq_true_iff]
    show (if (β 0).val < 31 then (β 0).val else 33) < 31 ∨ (if (β 0).val < 31 then (β 0).val else 33) = 33
    split <;> omega
  · match a with
    | ⟨0, _⟩ => show min (if (β 0).val < 31 then (β 0).val else 33) 31 = (β 0).val; split <;> omega
    | ⟨1, _⟩ => show 0 = (β 1).val; omega

theorem covers3 : (cfg0.win 3).Covers := by
  refine ⟨fun | ⟨0, _⟩ => (show 0 < 512 by decide) | ⟨1, _⟩ => (show 0 < 2048 by decide), fun β => ?_⟩
  have hb0 : (β 0).val < 2 := (show (β 0).val < (1024 + 512 - 1) / 512 from (β 0).isLt).trans_le (by decide)
  have hb1 : (β 1).val < 1 := (show (β 1).val < (2048 + 2048 - 1) / 2048 from (β 1).isLt).trans_le (by decide)
  refine ⟨⟨32 + (β 0).val, show _ < 34 by omega⟩, ?_, fun a => ⟨(congrFun (idx3 _) a).trans ?_, .inl rfl⟩⟩
  · rw [flush_3, decide_eq_true_iff]
    show 32 ≤ 32 + (β 0).val
    omega
  · match a with
    | ⟨0, _⟩ => show 32 + (β 0).val - 32 = (β 0).val; omega
    | ⟨1, _⟩ => show 0 = (β 1).val; omega

theorem final2 : (dats (F := Ideal) m 0 c).arrAt 2 cfg0.N = G2 (m ((c : Thread nD τ).loc main_arg0)) (m ((c : Thread nD τ).loc main_arg1)) := by
  refine (dats m 0 c).arrAt_eq_of_covers 2 (G2 (m ((c : Thread nD τ).loc main_arg0)) (m ((c : Thread nD τ).loc main_arg1))) covers2 fun t hf y => ?_
  blk_simp [idx2 t]
  rw [after0_2]
  idx_vars y
  have ht : t.val < 34 := t.isLt
  refine Eq.trans (b := G2 (m ((c : Thread nD τ).loc main_arg0)) (m ((c : Thread nD τ).loc main_arg1))
    (show S16384x2048.Idx from ix2 ⟨min t.val 31 * 512 + y0, by omega⟩ y1)) ?_ (by blk_ext [idx2 t])
  rw [normed_at]
  rfl

theorem final3 : (dats (F := Ideal) m 0 c).arrAt 3 cfg0.N = G3 (m ((c : Thread nD τ).loc main_arg0)) (m ((c : Thread nD τ).loc main_arg1)) := by
  refine (dats m 0 c).arrAt_eq_of_covers 3 (G3 (m ((c : Thread nD τ).loc main_arg0)) (m ((c : Thread nD τ).loc main_arg1))) covers3 fun t hf y => ?_
  rw [flush_3, decide_eq_true_iff] at hf
  blk_simp [idx3 t]
  rw [after0_3]
  idx_vars y
  have ht : t.val < 34 := t.isLt
  refine Eq.trans (b := G3 (m ((c : Thread nD τ).loc main_arg0)) (m ((c : Thread nD τ).loc main_arg1))
    (show S1024x2048.Idx from ix2 ⟨(t.val - 32) * 512 + y0, by omega⟩ y1)) ?_ (by blk_ext [idx3 t])
  rw [normed_at]
  have he : (⟨t.val * 512 + y0, by omega⟩ : Fin 17408) = ⟨16384 + ((t.val - 32) * 512 + y0), by omega⟩ := Fin.ext (by show t.val * 512 + y0.val = 16384 + ((t.val - 32) * 512 + y0.val); omega)
  rw [he]
  rfl

/-- The run with both arrays named. -/
theorem run_blocks : θ_run defs (onTc (τ := τ) (main (F := Ideal))) ⟨m, fun _ => 0, ρ⟩ fun r => ∀ c : Dev nD,
    r.2.mem ((c.tc : Thread nD τ).loc main_v1_0) = G2 (m ((c : Thread nD τ).loc main_arg0)) (m ((c : Thread nD τ).loc main_arg1))
    ∧ r.2.mem ((c.tc : Thread nD τ).loc main_v1_1) = G3 (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h.1 c).1 2).trans (final2 m c), ((h.1 c).1 3).trans (final3 m c), h.2 c⟩)
    (θ_run_and (run_main m ρ) (unchanged m ρ))

end Cert.Kernel5Ideal.Norm

namespace Cert.Norm
open Idealize.ShloMosaic Idealize.ShloMosaic.TcCoe Idealize.SL.Sem Idealize.ShloMosaic.StableHlo
open Cert.Kernel5Ideal.Norm (row)

section
open Cert.Reference5Ideal Cert.Reference5Ideal.Gen

/-- The reference's normed rows. -/
def plain (X : FVec Ideal S17408x2048 .f32) (W : FVec Ideal S2048 .f32) : FVec Ideal S17408x2048 .f32 :=
  mulf (mulf X (broadcastInDim S17408x2048 ![0, 1] bcast_S17408x1_S17408x2048_0_1 (Host.rsqrt (addf (Host.divf (broadcastInDim S17408x1 ![0] bcast_S17408_S17408x1_0 (Host.reduceAdd (mulf X X) (constant S_ .f32 0x00000000#32) reducesTo_S17408x2048_S17408_d1 h_S_)) (broadcastInDim S17408x1 ![] bcast_S_S17408x1 (constant S_ .f32 0x45000000#32))) (broadcastInDim S17408x1 ![] bcast_S_S17408x1 (constant S_ .f32 0x358637BD#32)))))) (broadcastInDim S17408x2048 ![0, 1] bcast_S1x2048_S17408x2048_0_1 (broadcastInDim S1x2048 ![1] bcast_S2048_S1x2048_1 W))

theorem plain_at (X : FVec Ideal S17408x2048 .f32) (W : FVec Ideal S2048 .f32) (r : Fin 17408) (l : Fin 2048) :
    (plain X W (ix2 r l) : EReal) = row X W r l := by
  pointwise [plain]
  rfl

theorem plain2_eq (X : FVec Ideal S17408x2048 .f32) (W : FVec Ideal S2048 .f32) :
    extractStridedSlice S16384x2048 ![0, 0] (plain X W) slices_S17408x2048_S16384x2048_0_0 = Cert.Kernel5Ideal.Norm.G2 X W := by
  funext y
  idx_vars y
  refine Eq.trans ?_ (plain_at X W ⟨y0.val, by omega⟩ y1)
  generalize plain X W = P
  pointwise

theorem plain3_eq (X : FVec Ideal S17408x2048 .f32) (W : FVec Ideal S2048 .f32) :
    extractStridedSlice S1024x2048 ![16384, 0] (plain X W) slices_S17408x2048_S1024x2048_16384_0 = Cert.Kernel5Ideal.Norm.G3 X W := by
  funext y
  idx_vars y
  refine Eq.trans ?_ (plain_at X W ⟨16384 + y0.val, by omega⟩ y1)
  generalize plain X W = P
  pointwise
end

theorem algebraic : Cert.algebraic_Kernel5Ideal_Reference5Ideal := by
  intro m g m' g' _ hag
  refine ⟨fun c => Cert.Kernel5Ideal.Norm.G2 (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)),
    fun c => Cert.Kernel5Ideal.Norm.G3 (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg1)), Cert.Kernel5Ideal.Norm.run_blocks m g, ?_⟩
  refine (θ_run _ _ _).mono (fun r h c => ?_) (Cert.Reference5Ideal.Value.run m' g')
  obtain ⟨h0, h1⟩ := hag c
  refine ⟨(h c).1.trans (Eq.trans (b := extractStridedSlice _ _ (plain (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))) Cert.Reference5Ideal.Gen.slices_S17408x2048_S16384x2048_0_0) rfl ?_),
    (h c).2.1.trans (Eq.trans (b := extractStridedSlice _ _ (plain (m' ((c.tc : Thread Cert.Reference5Ideal.nD Cert.Reference5Ideal.τ).loc Cert.Reference5Ideal.main_arg0))
      (m' ((c.tc : Thread Cert.Reference5Ideal.nD Cert.Reference5Ideal.τ).loc Cert.Reference5Ideal.main_arg1))) Cert.Reference5Ideal.Gen.slices_S17408x2048_S1024x2048_16384_0) rfl ?_), (h c).2.2⟩
  · rw [h0, h1]; exact plain2_eq _ _
  · rw [h0, h1]; exact plain3_eq _ _

end Cert.Norm
end
-- ==== Proof.InProjRun.lean ====
/- The projection of the normed tokens: its body, what each window's staging buffer holds at each block, and the launch, over any
   interpretation of the floats. A block of rows stores its gates' block at its first block of columns; the buffer holds it until it is
   written back after the last one. -/
module

public import proofs.«01_k».proof.Defs
public import proofs.«01_k».proof.Proof.Gen.Kernel6Ideal.Frame
public import proofs.«01_k».proof.Proof.Gen.Kernel6Ideal.Skeleton
public import proofs.«01_k».proof.Proof.Gen.Kernel6
public import proofs.«01_k».proof.Proof.Gen.Reference6Ideal.Run
public import Idealize.ShloMosaic.Lib.Claim
public import Idealize.ShloMosaic.Lib.Pipeline.Frame
public import Idealize.ShloMosaic.Lib.Pipeline.Quiescent
public import Idealize.ShloMosaic.Lib.Pipeline.TableIdle
public import Idealize.ShloMosaic.Lib.Pipeline.ValueKit
@[expose] public section
set_option maxRecDepth 16384
set_option Elab.async false
noncomputable section
namespace Cert.Kernel6Ideal.InProj
open Cert.Kernel6Ideal Cert.Kernel6Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
variable {F : FTy → Type} [FloatOps F]

local notation "𝕄" => MT nD τ sig Unit (Elt F) ℕ (UR sig nD τ) ℕ

/-! ## The body -/

section Body
variable (c : Dev nD) (i : grid0.Coords)
  (arg2 : Memref sig .tc .vmem S1088x2048 .bf16) (harg2 : arg2.IsWhole) (arg3 : Memref sig .tc .vmem S2048x1024 .bf16) (harg3 : arg3.IsWhole)
  (arg4 : Memref sig .tc .vmem S2048x128 .bf16) (harg4 : arg4.IsWhole) (arg5 : Memref sig .tc .vmem S1088x1024 .f32) (harg5 : arg5.IsWhole)
  (arg6 : Memref sig .tc .vmem S1088x128 .f32) (harg6 : arg6.IsWhole)
  (x0 : S1088x2048.Idx → Elt F .bf16) (x1 : S2048x1024.Idx → Elt F .bf16) (x2 : S2048x128.Idx → Elt F .bf16)
  (d3 : S1088x1024.Idx → Elt F .f32) (d4 : S1088x128.Idx → Elt F .f32)

/-- What the gates' buffer holds after the body. -/
def put4 : S1088x128.Idx → Elt F .f32 := if k0_cond1 i = 1#1 then k0_pay2 x0 x2 else d4

set_option maxHeartbeats 2000000 in
theorem run (K : PUnit → sProp 𝕄) :
    iprop((arg2.view.loc (c : Thread nD τ) ↦[arg2.view.set]{fullShare} arg2.view.rep x0)
      ∗ (arg3.view.loc (c : Thread nD τ) ↦[arg3.view.set]{fullShare} arg3.view.rep x1)
      ∗ (arg4.view.loc (c : Thread nD τ) ↦[arg4.view.set]{fullShare} arg4.view.rep x2)
      ∗ (arg5.view.loc (c : Thread nD τ) ↦[arg5.view.set]{fullShare} arg5.view.rep d3)
      ∗ (arg6.view.loc (c : Thread nD τ) ↦[arg6.view.set]{fullShare} arg6.view.rep d4)
      ∗ (iprop((arg2.view.loc (c : Thread nD τ) ↦[arg2.view.set]{fullShare} arg2.view.rep x0)
          ∗ (arg3.view.loc (c : Thread nD τ) ↦[arg3.view.set]{fullShare} arg3.view.rep x1)
          ∗ (arg4.view.loc (c : Thread nD τ) ↦[arg4.view.set]{fullShare} arg4.view.rep x2)
          ∗ owns (c : Thread nD τ) arg5 fullShare (k0_pay1 x0 x1)
          ∗ owns (c : Thread nD τ) arg6 fullShare (put4 i x0 x2 d4)) -∗ K ⟨⟩))
      ⊢ wp frame (wpE (defs₀ (F := F)) Variants.none c none) Set.univ (cc0_in_proj i arg2 harg2 arg3 harg3 arg4 harg4 arg5 harg5 arg6 harg6) K := by
  rw [cc0_in_proj_eq_skeleton]; unfold cc0_in_proj_skel
  iintro ⟨H0, H1, H2, H3, H4, Hk⟩
  unfold put4
  by_cases h1 : k0_cond1 i = 1#1
  all_goals
    first | rw [if_pos h1] | rw [if_neg h1]
    sl_exec! (disch := exact h1)
    sl_step
    iapply Hk
    isplitl [H0]; · iexact H0
    isplitl [H1]; · iexact H1
    isplitl [H2]; · iexact H2
    isplitl [H3]
    · unfold owns; iexists _; isplitr; swap
      · iexact H3
      · ipureintro; first | rw [View.read_rep] | (frame_out; try simp only [View.read_rep])
    · unfold owns; iexists _; isplitr; swap
      · iexact H4
      · ipureintro; first | rw [View.read_rep] | (frame_out; try simp only [View.read_rep])
end Body

/-! ## Blocks -/

variable (m : (ℓ : Loc nD τ sig) → Buf (Elt F) ℓ) (ρ : Dev nD → PrngReg)

theorem idx0 : ∀ t : Fin cfg0.N, (cfg0.win 0).index t = ![t.val / 6, 0] := by decide +kernel
theorem idx1 : ∀ t : Fin cfg0.N, (cfg0.win 1).index t = ![0, t.val % 6] := by decide +kernel
theorem idx2 : ∀ t : Fin cfg0.N, (cfg0.win 2).index t = ![0, 0] := by decide +kernel
theorem idx3 : ∀ t : Fin cfg0.N, (cfg0.win 3).index t = ![t.val / 6, t.val % 6] := by decide +kernel
theorem idx4 : ∀ t : Fin cfg0.N, (cfg0.win 4).index t = ![t.val / 6, 0] := by decide +kernel

theorem idle_0 (t : Fin cfg0.N) : cfg0.idle 0 (cfg0.grid.coords t) = false := rfl
theorem idle_1 (t : Fin cfg0.N) : cfg0.idle 1 (cfg0.grid.coords t) = false := rfl
theorem idle_2 (t : Fin cfg0.N) : cfg0.idle 2 (cfg0.grid.coords t) = false := rfl
theorem idle_3 (t : Fin cfg0.N) : cfg0.idle 3 (cfg0.grid.coords t) = false := rfl
theorem idle_4 : ∀ t : Fin cfg0.N, cfg0.idle 4 (cfg0.grid.coords t) = decide (t.val % 6 ≠ 0) :=
  (show ∀ t : Fin grid0.N, idle0 4 (grid0.coords t) = decide (t.val % 6 ≠ 0) by decide +kernel)
theorem cond1_iff : ∀ t : Fin grid0.N, k0_cond1 (grid0.coords t) = 1#1 ↔ t.val % 6 = 0 := by decide +kernel
theorem flush_4 : ∀ t : Fin cfg0.N, (cfg0.win 4).flush t = decide (t.val % 6 = 5) := by decide +kernel

/-- A block of rows' first point. -/
def first (t : Fin cfg0.N) : Fin cfg0.N := ⟨t.val / 6 * 6, show t.val / 6 * 6 < 96 by have : t.val < 96 := t.isLt; omega⟩
/-- The gates of the point's rows. -/
def gates (c : Dev nD) (t : Fin cfg0.N) : S1088x128.Idx → Elt F .f32 := k0_pay2 (iblk m c 0 t) (iblk m c 2 t)

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay1 (iblk m c 0 t) (iblk m c 1 t)
    | ⟨4, _⟩ => gates m c (first t)
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := rfl
theorem after0_1 (c : Dev nD) (t : Fin cfg0.N) : (dats m 0 c).after 1 t = iblk m c 1 t := rfl
theorem after0_2 (c : Dev nD) (t : Fin cfg0.N) : (dats m 0 c).after 2 t = iblk m c 2 t := rfl
theorem after0_3 (c : Dev nD) (t : Fin cfg0.N) : (dats m 0 c).after 3 t = k0_pay1 (iblk m c 0 t) (iblk m c 1 t) := rfl
theorem after0_4 (c : Dev nD) (t : Fin cfg0.N) : (dats m 0 c).after 4 t = gates m c (first t) := rfl
theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d

/-- After its first point a block of rows' buffer holds its gates. -/
theorem before0_4 (c : Dev nD) (d) : ∀ (k : ℕ) (t : Fin cfg0.N), t.val % 6 = k + 1 → (dats m 0 c).before 4 t d = gates m c (first t) := by
  intro k
  induction k with
  | zero =>
    intro t ht
    have hN : t.val < 96 := t.isLt
    rw [(dats m 0 c).before_of_pos 4 t (by omega) rfl, flush_4, if_neg (by rw [decide_eq_true_iff]; show ¬ ((t.val - 1) % 6 = 5); omega)]
    unfold Dat.left
    rw [idle_4, decide_eq_false (by show ¬ ((t.val - 1) % 6 ≠ 0); omega)]
    exact congrArg (gates m c) (Fin.ext (show (t.val - 1) / 6 * 6 = t.val / 6 * 6 by omega))
  | succ k ih =>
    intro t ht
    have hN : t.val < 96 := t.isLt
    rw [(dats m 0 c).before_of_pos 4 t (by omega) rfl, flush_4, if_neg (by rw [decide_eq_true_iff]; show ¬ ((t.val - 1) % 6 = 5); omega)]
    unfold Dat.left
    rw [idle_4, decide_eq_true (by show (t.val - 1) % 6 ≠ 0; omega)]
    exact (ih _ (by show (t.val - 1) % 6 = _; omega)).trans (congrArg (gates m c) (Fin.ext (show (t.val - 1) / 6 * 6 = t.val / 6 * 6 by omega)))

/-! ## The body obligation -/

/-- What a window's staging buffer must hold after the body. -/
abbrev leaves (c : Dev nD) (w : Fin cfg0.W) (t : Fin cfg0.N) : sProp 𝕄 :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leaves_in (c : Dev nD) (w : Fin cfg0.W) (t : Fin cfg0.N) (h : cfg0.idle w (cfg0.grid.coords t) = false) :
    (leaves m c w t : sProp 𝕄) = owns (c : Thread nD τ) ((cfg0.win w).stage (cfg0.slots t w)) fullShare ((dats m 0 c).after w t) := by
  unfold leaves
  rw [h]

theorem leaves_4 (c : Dev nD) (t : Fin cfg0.N) (d) :
    (owns (c : Thread nD τ) (st0_4 t) fullShare (put4 (grid0.coords t) (iblk m c 0 t) (iblk m c 2 t) ((dats m 0 c).before 4 t d)) : sProp 𝕄)
      ⊢ leaves m c 4 t := by
  have hN : t.val < 96 := t.isLt
  unfold leaves put4
  rw [idle_4]
  by_cases h : t.val % 6 = 0
  · have hl : first t = t := Fin.ext (show t.val / 6 * 6 = t.val by omega)
    rw [if_pos ((cond1_iff t).2 h), decide_eq_false (fun h' => h' h), after0_4, hl]
    exact .rfl
  · rw [if_neg (fun h' => h ((cond1_iff t).1 h')), decide_eq_true (show t.val % 6 ≠ 0 from h), flush_4]
    by_cases h' : t.val % 6 = 5
    · rw [decide_eq_true h', before0_4 m c d 4 t (by omega)]
      exact .rfl
    · rw [decide_eq_false h']
      show _ ⊢ iprop(∃ d, _)
      iintro H; iexists d; iexact H

set_option maxHeartbeats 2000000 in
theorem sound_body (c : Dev nD) (t : Fin cfg0.N) :
    iprop((dats m 0 c).Φ t.castSucc ∗ (dats m 0 c).owesAt () t.castSucc
        ∗ (∃ d, owns (c : Thread nD τ) (st0_0 t) fullShare ((dats m 0 c).before 0 t d))
        ∗ (∃ d, owns (c : Thread nD τ) (st0_1 t) fullShare ((dats m 0 c).before 1 t d))
        ∗ (∃ d, owns (c : Thread nD τ) (st0_2 t) fullShare ((dats m 0 c).before 2 t d))
        ∗ (∃ d, owns (c : Thread nD τ) (st0_3 t) fullShare ((dats m 0 c).before 3 t d))
        ∗ (∃ d, owns (c : Thread nD τ) (st0_4 t) fullShare ((dats m 0 c).before 4 t d)))
      ⊢ wp frame (wpE (defs₀ (F := F)) Variants.none c none) Set.univ (bodyAt0 t) fun _ =>
          iprop((dats m 0 c).Φ t.succ ∗ (dats m 0 c).owesAt () t.succ
            ∗ leaves m c 0 t ∗ leaves m c 1 t ∗ leaves m c 2 t ∗ leaves m c 3 t ∗ leaves m c 4 t) := by
  have l4 := leaves_4 m c t
  generalize leaves m c 4 t = L4 at l4 ⊢
  rewrite [leaves_in m c 0 t (idle_0 t), leaves_in m c 1 t (idle_1 t), leaves_in m c 2 t (idle_2 t), leaves_in m c 3 t (idle_3 t)]
  simp only [before0_0, before0_1, before0_2, after0_0, after0_1, after0_2, after0_3]
  rewrite [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩⟩
  iapply (run c (grid0.coords t) (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (win0_4.stage (cfg0.slots t 4)) (hstage0_4 ((cfg0.slots t 4).cast nbuf0_4))
    (iblk m c 0 t) (iblk m c 1 t) (iblk m c 2 t) ((dats m 0 c).before 3 t d3) ((dats m 0 c).before 4 t d4) _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  iintro ⟨H0, H1, H2, H3, H4⟩
  isplitl [HΦ]; · iexact HΦ
  isplitl [Ho]; · iexact Ho
  isplitl [H0]; · iapply owns_of_rep; iexact H0
  isplitl [H1]; · iapply owns_of_rep; iexact H1
  isplitl [H2]; · iapply owns_of_rep; iexact H2
  isplitl [H3]; · iexact H3
  iapply (l4 d4); iexact H4

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact sound_body m c t

/-! ## The run and the frames -/

set_option backward.isDefEq.respectTransparency.types false in
set_option maxHeartbeats 800000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every argument as launched. -/
def Unchanged (r : PUnit × MemSt nD τ sig (Elt F)) : Prop := ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)

theorem unchanged : θ_run defs (onTc (τ := τ) (main (F := F))) ⟨m, fun _ => 0, ρ⟩ (Unchanged m) :=
  frame_of m ρ (dats m) (A_eq m) (run_main m ρ)

theorem frame : θ_run defs (onTc (τ := τ) (main (F := F))) ⟨m, fun _ => 0, ρ⟩ (fun r => Unchanged m r ∧ r.2.sem = fun _ => 0) :=
  θ_run_and (unchanged m ρ) ((θ_run defs _ _).mono (fun _ h => h.2) (run_main_quiescent m ρ))

theorem quiescent_Kernel6Ideal : Cert.quiescent_Kernel6Ideal := fun m ρ _ => frame (F := Ideal) m ρ

/-- The printed program's function table is the idealized one's, row by row, -/
theorem defs₀_eq : Cert.Kernel6.defs₀ (F := F) = Cert.Kernel6Ideal.defs₀ := by
  funext p l a
  cases p with
  | tc => match l, a with | ⟨0, _⟩, (_, _) => rfl
  | scScalar => rfl
  | scVector => rfl

/-- with the pipeline's labels too. -/
theorem defs_eq : Cert.Kernel6.defs (F := F) = Cert.Kernel6Ideal.defs := congrArg (Pipeline.defs Cert.Kernel6Ideal.pcfgs) defs₀_eq

theorem quiescent_Kernel6 : Cert.quiescent_Kernel6 := fun m ρ _ =>
  (congrArg (fun D => θ_run D (onTc (τ := τ) (main (F := Bits))) ⟨m, fun _ => 0, ρ⟩ (fun r => Unchanged m r ∧ r.2.sem = fun _ => 0)) (defs_eq (F := Bits))).mpr
    (frame (F := Bits) m ρ)

end Cert.Kernel6Ideal.InProj

namespace Cert.InProj
open Idealize.ShloMosaic Idealize.SL.Sem Idealize.ShloMosaic.StableHlo

theorem quiescent_Reference6Ideal : Cert.quiescent_Reference6Ideal := fun m g _ =>
  (θ_run _ _ _).mono (fun _ h => ⟨fun c => (h c).2.2, sem_eq_zero_of_no_sems rfl _⟩) (Cert.Reference6Ideal.Value.run m g)

end Cert.InProj
end
-- ==== Proof.InProj.lean ====
/- The projection of the normed tokens: its two arrays after the run, entry by entry, and the reference's beside them. -/
module

public import proofs.«01_k».proof.Proof.InProjRun
public import Idealize.ShloMosaic.Lib.Pointwise
@[expose] public section
set_option maxRecDepth 16384
noncomputable section
namespace Cert.Kernel6Ideal.InProj
open Cert.Kernel6Ideal Cert.Kernel6Ideal.Gen
open Idealize.ShloMosaic Idealize.ShloMosaic.TcCoe Idealize.SL.Sem
open Idealize.ShloMosaic.Pipeline (Dat)
variable (m : (ℓ : Loc nD τ sig) → Buf (Elt Ideal) ℓ) (ρ : Dev nD → PrngReg) (c : Dev nD)

/-- An entry of the product of the tokens with the unpacked weights. -/
def prod (X : FVec Ideal S17408x2048 .bf16) (W : FVec Ideal S2048x6152 .f32) (r : Fin 17408) (l : Fin 6152) : EReal :=
  ∑ k : Fin 2048, X (ix2 r k) * W (ix2 k l)

/-- The column of the weights that a column of the projection reads: the gates' eight are left out. -/
def col (l : Fin 6144) : Fin 6152 := if h : l.val < 5120 then ⟨l.val, by omega⟩ else ⟨l.val + 8, by omega⟩

/-- The projection without the gates, and the gates followed by zeros. -/
def G3 (X : FVec Ideal S17408x2048 .bf16) (W : FVec Ideal S2048x6152 .f32) : FVec Ideal S17408x6144 .f32 := fun y => prod X W (y 0) (col (y 1))
def G4 (X : FVec Ideal S17408x2048 .bf16) (W : FVec Ideal S2048x6152 .f32) : FVec Ideal S17408x128 .f32 := fun y =>
  if h : (y 1).val < 8 then prod X W (y 0) ⟨5120 + (y 1).val, by omega⟩ else 0

theorem pay1_at (x : FVec Ideal S1088x2048 .bf16) (w : FVec Ideal S2048x1024 .bf16) (r : Fin 1088) (l : Fin 1024) :
    (k0_pay1 (F := Ideal) x w (ix2 r l) : EReal) = ∑ k : Fin 2048, x (ix2 r k) * w (ix2 k l) := by
  pointwise [k0_pay1]
theorem pay2_at (x : FVec Ideal S1088x2048 .bf16) (w : FVec Ideal S2048x128 .bf16) (r : Fin 1088) (l : Fin 128) :
    (k0_pay2 (F := Ideal) x w (ix2 r l) : EReal) = ∑ k : Fin 2048, x (ix2 r k) * w (ix2 k l) := by
  pointwise [k0_pay2]

theorem V_v3_at (k : Fin 2048) (l : Fin 6144) :
    (V m c main_v3 : S2048x6144.Idx → EReal) (ix2 k l) = (m ((c : Thread nD τ).loc main_arg1) : S2048x6152.Idx → EReal) (ix2 k (col l)) := by
  show truncf (F := Ideal) .bf16 (concatenate S2048x6144 1 [⟨S2048x5120, extractStridedSlice S2048x5120 ![0, 0] (m ((c : Thread nD τ).loc main_arg1) : FVec Ideal S2048x6152 .f32) slices_S2048x6152_S2048x5120_0_0⟩,
    ⟨S2048x1024, extractStridedSlice S2048x1024 ![0, 5128] (m ((c : Thread nD τ).loc main_arg1) : FVec Ideal S2048x6152 .f32) slices_S2048x6152_S2048x1024_0_5128⟩] concatenates_S2048x5120_S2048x1024_S2048x6144_d1 : FVec Ideal S2048x6144 .f32) bitsLt_bf16_f32 (ix2 k l) = _
  generalize (m ((c : Thread nD τ).loc main_arg1) : FVec Ideal S2048x6152 .f32) = W
  unfold col
  pointwise
  by_cases h : l.val < 5120
  · rw [dif_pos h, dif_pos h]
  · rw [dif_neg h, dif_neg h]
    exact congrArg (fun j => W (ix2 k j)) (Fin.ext (by show 5128 + (l.val - 5120) = l.val + 8; omega))

theorem V_v7_at (k : Fin 2048) (l : Fin 128) :
    (V m c main_v7 : S2048x128.Idx → EReal) (ix2 k l)
      = if h : l.val < 8 then ((m ((c : Thread nD τ).loc main_arg1) : S2048x6152.Idx → EReal) (ix2 k ⟨5120 + l.val, by omega⟩) : EReal) else (0 : EReal) := by
  show truncf (F := Ideal) .bf16 (concatenate S2048x128 1 [⟨S2048x8, extractStridedSlice S2048x8 ![0, 5120] (m ((c : Thread nD τ).loc main_arg1) : FVec Ideal S2048x6152 .f32) slices_S2048x6152_S2048x8_0_5120⟩,
    ⟨S2048x120, broadcastInDim S2048x120 ![] bcast_S_S2048x120 (constant S_ .f32 0x00000000#32 : FVec Ideal S_ .f32)⟩] concatenates_S2048x8_S2048x120_S2048x128_d1 : FVec Ideal S2048x128 .f32) bitsLt_bf16_f32 (ix2 k l) = _
  generalize (m ((c : Thread nD τ).loc main_arg1) : FVec Ideal S2048x6152 .f32) = W
  pointwise

theorem blk0_at (t : Fin cfg0.N) (r : Fin 1088) (k : Fin 2048) :
    (iblk m c 0 t : S1088x2048.Idx → EReal) (ix2 r k)
      = (V m c main_arg0 : S17408x2048.Idx → EReal) (ix2 ⟨t.val / 6 * 1088 + r, by have : t.val < 96 := t.isLt; omega⟩ k) := by
  blk_ext [iblk, idx0 t]
theorem blk1_at (t : Fin cfg0.N) (k : Fin 2048) (l : Fin 1024) :
    (iblk m c 1 t : S2048x1024.Idx → EReal) (ix2 k l)
      = (V m c main_v3 : S2048x6144.Idx → EReal) (ix2 k ⟨t.val % 6 * 1024 + l, by omega⟩) := by
  blk_ext [iblk, idx1 t]
theorem blk2_at (t : Fin cfg0.N) (k : Fin 2048) (l : Fin 128) :
    (iblk m c 2 t : S2048x128.Idx → EReal) (ix2 k l) = (V m c main_v7 : S2048x128.Idx → EReal) (ix2 k l) := by
  blk_ext [iblk, idx2 t]

theorem left_at (t : Fin cfg0.N) (r : Fin 1088) (l : Fin 1024) :
    (k0_pay1 (F := Ideal) (iblk m c 0 t) (iblk m c 1 t) (ix2 r l) : EReal)
      = prod (m ((c : Thread nD τ).loc main_arg0)) (m ((c : Thread nD τ).loc main_arg1)) ⟨t.val / 6 * 1088 + r, by have : t.val < 96 := t.isLt; omega⟩
          (col ⟨t.val % 6 * 1024 + l, by omega⟩) := by
  refine (pay1_at _ _ _ _).trans ?_
  unfold prod
  refine Finset.sum_congr rfl fun k _ => ?_
  exact congrArg₂ (fun a b : EReal => a * b) (blk0_at m c t r k) ((blk1_at m c t k l).trans (V_v3_at m c k _))

theorem gates_at (t : Fin cfg0.N) (r : Fin 1088) (l : Fin 128) :
    (gates (F := Ideal) m c t (ix2 r l) : EReal)
      = G4 (m ((c : Thread nD τ).loc main_arg0)) (m ((c : Thread nD τ).loc main_arg1)) (ix2 ⟨t.val / 6 * 1088 + r, by have : t.val < 96 := t.isLt; omega⟩ l) := by
  refine (pay2_at _ _ _ _).trans ?_
  show _ = if h : l.val < 8 then prod (m ((c : Thread nD τ).loc main_arg0)) (m ((c : Thread nD τ).loc main_arg1)) ⟨t.val / 6 * 1088 + r, _⟩ ⟨5120 + l.val, _⟩ else 0
  by_cases h : l.val < 8
  · rw [dif_pos h]
    unfold prod
    refine Finset.sum_congr rfl fun k _ => ?_
    exact congrArg₂ (fun a b : EReal => a * b) (blk0_at m c t r k) ((blk2_at m c t k l).trans ((V_v7_at m c k l).trans (dif_pos h)))
  · rw [dif_neg h]
    refine Finset.sum_eq_zero fun k _ => ?_
    exact (congrArg₂ (fun a b : EReal => a * b) (blk0_at m c t r k) ((blk2_at m c t k l).trans ((V_v7_at m c k l).trans (dif_neg h)))).trans (mul_zero _)

theorem covers3 : (cfg0.win 3).Covers := by
  refine ⟨fun | ⟨0, _⟩ => (show 0 < 1088 by decide) | ⟨1, _⟩ => (show 0 < 1024 by decide), fun β => ?_⟩
  have hb0 : (β 0).val < 16 := (show (β 0).val < (17408 + 1088 - 1) / 1088 from (β 0).isLt).trans_le (by decide)
  have hb1 : (β 1).val < 6 := (show (β 1).val < (6144 + 1024 - 1) / 1024 from (β 1).isLt).trans_le (by decide)
  refine ⟨⟨(β 0).val * 6 + (β 1).val, show _ < 96 by omega⟩, flush0_3 _, fun a => ⟨(congrFun (idx3 _) a).trans ?_, .inl rfl⟩⟩
  match a with
  | ⟨0, _⟩ => show ((β 0).val * 6 + (β 1).val) / 6 = (β 0).val; omega
  | ⟨1, _⟩ => show ((β 0).val * 6 + (β 1).val) % 6 = (β 1).val; omega

theorem covers4 : (cfg0.win 4).Covers := by
  refine ⟨fun | ⟨0, _⟩ => (show 0 < 1088 by decide) | ⟨1, _⟩ => (show 0 < 128 by decide), fun β => ?_⟩
  have hb0 : (β 0).val < 16 := (show (β 0).val < (17408 + 1088 - 1) / 1088 from (β 0).isLt).trans_le (by decide)
  have hb1 : (β 1).val < 1 := (show (β 1).val < (128 + 128 - 1) / 128 from (β 1).isLt).trans_le (by decide)
  refine ⟨⟨(β 0).val * 6 + 5, show _ < 96 by omega⟩, (flush0_4 _).mpr (show ((β 0).val * 6 + 5) % 6 = 5 by omega), fun a => ⟨(congrFun (idx4 _) a).trans ?_, .inl rfl⟩⟩
  match a with
  | ⟨0, _⟩ => show ((β 0).val * 6 + 5) / 6 = (β 0).val; omega
  | ⟨1, _⟩ => show 0 = (β 1).val; omega

theorem final3 : (dats (F := Ideal) m 0 c).arrAt 3 cfg0.N = G3 (m ((c : Thread nD τ).loc main_arg0)) (m ((c : Thread nD τ).loc main_arg1)) := by
  refine (dats m 0 c).arrAt_eq_of_covers 3 (G3 (m ((c : Thread nD τ).loc main_arg0)) (m ((c : Thread nD τ).loc main_arg1))) covers3 fun t hf y => ?_
  blk_simp [idx3 t]
  rw [after0_3]
  idx_vars y
  have ht : t.val < 96 := t.isLt
  refine Eq.trans (b := G3 (m ((c : Thread nD τ).loc main_arg0)) (m ((c : Thread nD τ).loc main_arg1))
    (show S17408x6144.Idx from ix2 ⟨t.val / 6 * 1088 + y0, by omega⟩ ⟨t.val % 6 * 1024 + y1, by omega⟩)) ?_ (by blk_ext [idx3 t])
  exact left_at m c t y0 y1

theorem final4 : (dats (F := Ideal) m 0 c).arrAt 4 cfg0.N = G4 (m ((c : Thread nD τ).loc main_arg0)) (m ((c : Thread nD τ).loc main_arg1)) := by
  refine (dats m 0 c).arrAt_eq_of_covers 4 (G4 (m ((c : Thread nD τ).loc main_arg0)) (m ((c : Thread nD τ).loc main_arg1))) covers4 fun t hf y => ?_
  blk_simp [idx4 t]
  rw [after0_4]
  idx_vars y
  have ht : t.val < 96 := t.isLt
  refine Eq.trans (b := G4 (m ((c : Thread nD τ).loc main_arg0)) (m ((c : Thread nD τ).loc main_arg1))
    (show S17408x128.Idx from ix2 ⟨t.val / 6 * 1088 + y0, by omega⟩ y1)) ?_ (by blk_ext [idx4 t])
  have he : (⟨(first t).val / 6 * 1088 + y0.val, by show t.val / 6 * 6 / 6 * 1088 + y0.val < 17408; omega⟩ : Fin 17408) = ⟨t.val / 6 * 1088 + y0, by omega⟩ :=
    Fin.ext (by show t.val / 6 * 6 / 6 * 1088 + y0.val = t.val / 6 * 1088 + y0.val; omega)
  exact (gates_at m c (first t) y0 y1).trans (congrArg (fun r => G4 (m ((c : Thread nD τ).loc main_arg0)) (m ((c : Thread nD τ).loc main_arg1)) (ix2 r y1)) he)

/-- The run with both arrays named. -/
theorem run_blocks : θ_run defs (onTc (τ := τ) (main (F := Ideal))) ⟨m, fun _ => 0, ρ⟩ fun r => ∀ c : Dev nD,
    r.2.mem ((c.tc : Thread nD τ).loc main_v8_0) = G3 (m ((c : Thread nD τ).loc main_arg0)) (m ((c : Thread nD τ).loc main_arg1))
    ∧ r.2.mem ((c.tc : Thread nD τ).loc main_v8_1) = G4 (m ((c : Thread nD τ).loc main_arg0)) (m ((c : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun r h c => ⟨((h.1 c).1 3).trans (final3 m c), ((h.1 c).1 4).trans (final4 m c), h.2 c⟩)
    (θ_run_and (run_main m ρ) (unchanged m ρ))

end Cert.Kernel6Ideal.InProj

namespace Cert.InProj
open Idealize.ShloMosaic Idealize.ShloMosaic.TcCoe Idealize.SL.Sem Idealize.ShloMosaic.StableHlo
open Cert.Kernel6Ideal.InProj (prod col)

section
open Cert.Reference6Ideal Cert.Reference6Ideal.Gen

/-- The reference's product. -/
def plain (X : FVec Ideal S17408x2048 .bf16) (W : FVec Ideal S2048x6152 .f32) : FVec Ideal S17408x6152 .f32 :=
  Host.dotGeneral dot_S17408x2048_S2048x6152_S17408x6152_1_0_0_1_n_n none (extf .f32 X bitsLt_bf16_f32) W
def plain3 (P : FVec Ideal S17408x6152 .f32) : FVec Ideal S17408x6144 .f32 :=
  concatenate S17408x6144 1 [⟨S17408x5120, extractStridedSlice S17408x5120 ![0, 0] P slices_S17408x6152_S17408x5120_0_0⟩, ⟨S17408x1024, extractStridedSlice S17408x1024 ![0, 5128] P slices_S17408x6152_S17408x1024_0_5128⟩] concatenates_S17408x5120_S17408x1024_S17408x6144_d1
def plain4 (P : FVec Ideal S17408x6152 .f32) : FVec Ideal S17408x128 .f32 :=
  concatenate S17408x128 1 [⟨S17408x8, extractStridedSlice S17408x8 ![0, 5120] P slices_S17408x6152_S17408x8_0_5120⟩, ⟨S17408x120, broadcastInDim S17408x120 ![] bcast_S_S17408x120 (constant S_ .f32 0x00000000#32)⟩] concatenates_S17408x8_S17408x120_S17408x128_d1

theorem plain_at (X : FVec Ideal S17408x2048 .bf16) (W : FVec Ideal S2048x6152 .f32) (r : Fin 17408) (l : Fin 6152) :
    (plain X W (ix2 r l) : EReal) = prod X W r l := by
  pointwise [plain]
  rfl

theorem plain3_at (P : FVec Ideal S17408x6152 .f32) (r : Fin 17408) (l : Fin 6144) : (plain3 P (ix2 r l) : EReal) = P (ix2 r (col l)) := by
  unfold col
  pointwise [plain3]
  by_cases h : l.val < 5120
  · rw [dif_pos h, dif_pos h]
  · rw [dif_neg h, dif_neg h]
    exact congrArg (fun j => P (ix2 r j)) (Fin.ext (by show 5128 + (l.val - 5120) = l.val + 8; omega))

theorem plain4_at (P : FVec Ideal S17408x6152 .f32) (r : Fin 17408) (l : Fin 128) :
    (plain4 P (ix2 r l) : EReal) = if h : l.val < 8 then P (ix2 r ⟨5120 + l.val, by omega⟩) else 0 := by
  pointwise [plain4]

theorem plain3_eq (X : FVec Ideal S17408x2048 .bf16) (W : FVec Ideal S2048x6152 .f32) : plain3 (plain X W) = Cert.Kernel6Ideal.InProj.G3 X W := by
  funext y
  idx_vars y
  exact (plain3_at _ _ _).trans (plain_at X W y0 (col y1))

theorem plain4_eq (X : FVec Ideal S17408x2048 .bf16) (W : FVec Ideal S2048x6152 .f32) : plain4 (plain X W) = Cert.Kernel6Ideal.InProj.G4 X W := by
  funext y
  idx_vars y
  refine (plain4_at _ _ _).trans ?_
  simp only [plain_at]
  rfl
end

theorem algebraic : Cert.algebraic_Kernel6Ideal_Reference6Ideal := by
  intro m g m' g' _ hag
  refine ⟨fun c => Cert.Kernel6Ideal.InProj.G3 (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)),
    fun c => Cert.Kernel6Ideal.InProj.G4 (m ((c.tc : Thread Cert.Kernel6Ideal.nD Cert.Kernel6Ideal.τ).loc Cert.Kernel6Ideal.main_arg0))
      (m ((c.tc : Thread Cert.Kernel6Ideal.nD Cert.Kernel6Ideal.τ).loc Cert.Kernel6Ideal.main_arg1)), Cert.Kernel6Ideal.InProj.run_blocks m g, ?_⟩
  refine (θ_run _ _ _).mono (fun r h c => ?_) (Cert.Reference6Ideal.Value.run m' g')
  obtain ⟨h0, h1⟩ := hag c
  refine ⟨(h c).1.trans (Eq.trans (b := plain3 (plain (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)))) rfl ?_),
    (h c).2.1.trans (Eq.trans (b := plain4 (plain (m' ((c.tc : Thread Cert.Reference6Ideal.nD Cert.Reference6Ideal.τ).loc Cert.Reference6Ideal.main_arg0))
      (m' ((c.tc : Thread Cert.Reference6Ideal.nD Cert.Reference6Ideal.τ).loc Cert.Reference6Ideal.main_arg1)))) rfl ?_), (h c).2.2⟩
  · rw [h0, h1]; exact plain3_eq _ _
  · rw [h0, h1]; exact plain4_eq _ _

end Cert.InProj
end
-- ==== Proof.DenseDown.lean ====
/- The dense layer's down projection with the gated residual: the array after the run, entry by entry, and its reference beside it. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
@[expose] public section
set_option maxRecDepth 16384
noncomputable section
namespace Cert.Kernel7Ideal.DenseDown
open Cert.Kernel7Ideal Cert.Kernel7Ideal.Gen
open Idealize.ShloMosaic Idealize.ShloMosaic.TcCoe
variable (m : (ℓ : Loc nD τ sig) → Buf (Elt Ideal) ℓ) (c : Dev nD)

/-- An entry of the product of the hidden rows with the weights. -/
def prod (H : FVec Ideal S17408x5632 .bf16) (W : FVec Ideal S5632x2048 .f32) (r : Fin 17408) (l : Fin 2048) : EReal :=
  ∑ k : Fin 5632, H (ix2 r k) * W (ix2 k l)

/-- The row of the modulation that a token reads: its prompt's among the first eight, its sample's after them. -/
def grow (r : Fin 17408) : Fin 136 := if h : r.val < 16384 then ⟨r.val / 2048, by omega⟩ else ⟨8 + (r.val - 16384) / 8, by omega⟩

/-- The residual stream and the product under the last gate. -/
def gatedAdd (x p g : EReal) : EReal := x + p * g

def G (H : FVec Ideal S17408x5632 .bf16) (W : FVec Ideal S5632x2048 .f32) (X : FVec Ideal S17408x2048 .f32) (M : FVec Ideal S136x12288 .f32) :
    FVec Ideal S17408x2048 .f32 := fun y =>
  gatedAdd (X y) (prod H W (y 0) (y 1)) (M (ix2 (grow (y 0)) ⟨10240 + (y 1).val, by have : (y 1).val < 2048 := (y 1).isLt; omega⟩))

theorem pay2_at (h : FVec Ideal S1024x5632 .bf16) (w : FVec Ideal S5632x256 .bf16) (r : Fin 1024) (l : Fin 256) :
    (k0_pay2 (F := Ideal) h w (ix2 r l) : EReal) = ∑ k : Fin 5632, h (ix2 r k) * w (ix2 k l) := by
  pointwise [k0_pay2, k0_pay1]

theorem pay4_at (a x : FVec Ideal S1024x256 .f32) (g : FVec Ideal S1x1x1x256 .f32) (r : Fin 1024) (l : Fin 256) :
    (k0_pay4 (F := Ideal) a x g (ix2 r l) : EReal) = gatedAdd (x (ix2 r l)) (a (ix2 r l)) (g (ix4 0 0 0 l)) := by
  unfold gatedAdd
  pointwise [k0_pay4]

theorem pay5_at (a x : FVec Ideal S1024x256 .f32) (g : FVec Ideal S1x128x256 .f32) (r : Fin 1024) (l : Fin 256) :
    (k0_pay5 (F := Ideal) a g x (ix2 r l) : EReal) = gatedAdd (x (ix2 r l)) (a (ix2 r l)) (g (ix3 0 ⟨r.val / 8, by omega⟩ l)) := by
  unfold gatedAdd
  pointwise [k0_pay5]

theorem idx0 : ∀ t : Fin cfg0.N, (cfg0.win 0).index t = ![t.val / 8, 0] := by decide +kernel
theorem idx1 : ∀ t : Fin cfg0.N, (cfg0.win 1).index t = ![0, t.val % 8] := by decide +kernel
theorem idx2 : ∀ t : Fin cfg0.N, (cfg0.win 2).index t = ![min (t.val / 8) 15, t.val % 8] := by decide +kernel
theorem idx3 : ∀ t : Fin cfg0.N, (cfg0.win 3).index t = ![max (t.val / 8) 16, t.val % 8] := by decide +kernel
theorem idx4 : ∀ t : Fin cfg0.N, (cfg0.win 4).index t = ![5, min (t.val / 16) 7, 0, t.val % 8] := by decide +kernel
theorem idx5 : ∀ t : Fin cfg0.N, (cfg0.win 5).index t = ![5, 0, t.val % 8] := by decide +kernel
theorem idx6 : ∀ t : Fin cfg0.N, (cfg0.win 6).index t = ![t.val / 8, t.val % 8] := by decide +kernel

theorem V_v7_at (i : S5632x2048.Idx) : (V m c main_v7 : S5632x2048.Idx → EReal) i = (m ((c : Thread nD τ).loc main_arg1) : S5632x2048.Idx → EReal) i := rfl
theorem V_v3_at (b : Fin 8) (l : Fin 2048) :
    (V m c main_v3 : S6x8x1x2048.Idx → EReal) (ix4 5 b 0 l)
      = (m ((c : Thread nD τ).loc main_arg3) : S136x12288.Idx → EReal) (ix2 ⟨b.val, by omega⟩ ⟨10240 + l.val, by omega⟩) := by
  show broadcastInDim S6x8x1x2048 ![0, 1, 3] bcast_S6x8x2048_S6x8x1x2048_0_1_3 (transpose S6x8x2048 [1, 0, 2] (shapeCast S8x6x2048
    (extractStridedSlice S8x12288 ![0, 0] (m ((c : Thread nD τ).loc main_arg3) : FVec Ideal S136x12288 .f32) slices_S136x12288_S8x12288_0_0)
    shapeCasts_S8x12288_S8x6x2048) transposes_S8x6x2048_S6x8x2048_1_0_2 : FVec Ideal S6x8x2048 .f32) (ix4 5 b 0 l) = _
  generalize (m ((c : Thread nD τ).loc main_arg3) : FVec Ideal S136x12288 .f32) = M
  pointwise
theorem V_v6_at (b : Fin 128) (l : Fin 2048) :
    (V m c main_v6 : S6x128x2048.Idx → EReal) (ix3 5 b l)
      = (m ((c : Thread nD τ).loc main_arg3) : S136x12288.Idx → EReal) (ix2 ⟨8 + b.val, by omega⟩ ⟨10240 + l.val, by omega⟩) := by
  show transpose S6x128x2048 [1, 0, 2] (shapeCast S128x6x2048
    (extractStridedSlice S128x12288 ![8, 0] (m ((c : Thread nD τ).loc main_arg3) : FVec Ideal S136x12288 .f32) slices_S136x12288_S128x12288_8_0)
    shapeCasts_S128x12288_S128x6x2048) transposes_S128x6x2048_S6x128x2048_1_0_2 (ix3 5 b l) = _
  generalize (m ((c : Thread nD τ).loc main_arg3) : FVec Ideal S136x12288 .f32) = M
  pointwise

theorem blk0_at (t : Fin cfg0.N) (r : Fin 1024) (k : Fin 5632) :
    (iblk m c 0 t : S1024x5632.Idx → EReal) (ix2 r k)
      = (V m c main_arg0 : S17408x5632.Idx → EReal) (ix2 ⟨t.val / 8 * 1024 + r, by have : t.val < 136 := t.isLt; omega⟩ k) := by
  blk_ext [iblk, idx0 t]
theorem blk1_at (t : Fin cfg0.N) (k : Fin 5632) (l : Fin 256) :
    (iblk m c 1 t : S5632x256.Idx → EReal) (ix2 k l)
      = (V m c main_v7 : S5632x2048.Idx → EReal) (ix2 k ⟨t.val % 8 * 256 + l, by omega⟩) := by
  blk_ext [iblk, idx1 t]
theorem blk2_at (t : Fin cfg0.N) (ht : t.val < 128) (r : Fin 1024) (l : Fin 256) :
    (iblk m c 2 t : S1024x256.Idx → EReal) (ix2 r l)
      = (V m c main_arg2 : S17408x2048.Idx → EReal) (ix2 ⟨t.val / 8 * 1024 + r, by omega⟩ ⟨t.val % 8 * 256 + l, by omega⟩) := by
  have h := idx2 t
  rw [show min (t.val / 8) 15 = t.val / 8 by omega] at h
  blk_ext [iblk, h]
theorem blk3_at (t : Fin cfg0.N) (ht : 128 ≤ t.val) (r : Fin 1024) (l : Fin 256) :
    (iblk m c 3 t : S1024x256.Idx → EReal) (ix2 r l)
      = (V m c main_arg2 : S17408x2048.Idx → EReal) (ix2 ⟨t.val / 8 * 1024 + r, by have : t.val < 136 := t.isLt; omega⟩ ⟨t.val % 8 * 256 + l, by omega⟩) := by
  have h := idx3 t
  rw [show max (t.val / 8) 16 = t.val / 8 by omega] at h
  blk_ext [iblk, h]
theorem blk4_at (t : Fin cfg0.N) (ht : t.val < 128) (l : Fin 256) :
    (iblk m c 4 t : S1x1x1x256.Idx → EReal) (ix4 0 0 0 l)
      = (V m c main_v3 : S6x8x1x2048.Idx → EReal) (ix4 5 ⟨t.val / 16, by omega⟩ 0 ⟨t.val % 8 * 256 + l, by omega⟩) := by
  have h := idx4 t
  rw [show min (t.val / 16) 7 = t.val / 16 by omega] at h
  blk_ext [iblk, h]
theorem blk5_at (t : Fin cfg0.N) (b : Fin 128) (l : Fin 256) :
    (iblk m c 5 t : S1x128x256.Idx → EReal) (ix3 0 b l)
      = (V m c main_v6 : S6x128x2048.Idx → EReal) (ix3 5 b ⟨t.val % 8 * 256 + l, by omega⟩) := by
  blk_ext [iblk, idx5 t]

theorem covers : (cfg0.win 6).Covers := by
  refine ⟨fun | ⟨0, _⟩ => (show 0 < 1024 by decide) | ⟨1, _⟩ => (show 0 < 256 by decide), fun β => ?_⟩
  have hb0 : (β 0).val < 17 := (show (β 0).val < (17408 + 1024 - 1) / 1024 from (β 0).isLt).trans_le (by decide)
  have hb1 : (β 1).val < 8 := (show (β 1).val < (2048 + 256 - 1) / 256 from (β 1).isLt).trans_le (by decide)
  refine ⟨⟨(β 0).val * 8 + (β 1).val, show _ < 136 by omega⟩, flush0_6 _, fun a => ⟨(congrFun (idx6 _) a).trans ?_, .inl rfl⟩⟩
  match a with
  | ⟨0, _⟩ => show ((β 0).val * 8 + (β 1).val) / 8 = (β 0).val; omega
  | ⟨1, _⟩ => show ((β 0).val * 8 + (β 1).val) % 8 = (β 1).val; omega

theorem outs_A (t : Fin cfg0.N) (h : t.val < 128) :
    outsAt0 (F := Ideal) m c t.val t.isLt = (k0_pay4 (F := Ideal) (k0_pay2 (F := Ideal) (iblk m c 0 t) (iblk m c 1 t)) (iblk m c 2 t) (iblk m c 4 t) : S1024x256.Idx → EReal) := by
  rw [outsAt0_A m c t h (by omega)]
  unfold out0_A_6
  frame_out

theorem outs_B (t : Fin cfg0.N) (h : 128 ≤ t.val) :
    outsAt0 (F := Ideal) m c t.val t.isLt = (k0_pay5 (F := Ideal) (k0_pay2 (F := Ideal) (iblk m c 0 t) (iblk m c 1 t)) (iblk m c 5 t) (iblk m c 3 t) : S1024x256.Idx → EReal) := by
  rw [outsAt0_B m c t (by omega) h]
  unfold out0_B_6
  frame_out

theorem prod_at (t : Fin cfg0.N) (r : Fin 1024) (l : Fin 256) :
    (k0_pay2 (F := Ideal) (iblk m c 0 t) (iblk m c 1 t) (ix2 r l) : EReal)
      = prod (m ((c : Thread nD τ).loc main_arg0)) (m ((c : Thread nD τ).loc main_arg1)) ⟨t.val / 8 * 1024 + r, by have : t.val < 136 := t.isLt; omega⟩
          ⟨t.val % 8 * 256 + l, by omega⟩ := by
  refine (pay2_at _ _ _ _).trans ?_
  unfold prod
  refine Finset.sum_congr rfl fun k _ => ?_
  exact congrArg₂ (fun a b : EReal => a * b) ((blk0_at m c t r k).trans (congrFun (V_main_arg0 m c) _)) ((blk1_at m c t k l).trans (V_v7_at m c _))

theorem outs_at (t : Fin cfg0.N) (r : Fin 1024) (l : Fin 256) :
    (outsAt0 (F := Ideal) m c t.val t.isLt (ix2 r l) : EReal)
      = G (m ((c : Thread nD τ).loc main_arg0)) (m ((c : Thread nD τ).loc main_arg1)) (m ((c : Thread nD τ).loc main_arg2)) (m ((c : Thread nD τ).loc main_arg3))
          (ix2 ⟨t.val / 8 * 1024 + r, by have : t.val < 136 := t.isLt; omega⟩ ⟨t.val % 8 * 256 + l, by omega⟩) := by
  have ht : t.val < 136 := t.isLt
  unfold G
  by_cases h : t.val < 128
  · have hg : grow ⟨t.val / 8 * 1024 + r, by omega⟩ = ⟨t.val / 16, by omega⟩ := by
      unfold grow
      rw [dif_pos (show t.val / 8 * 1024 + r.val < 16384 by omega)]
      exact Fin.ext (show (t.val / 8 * 1024 + r.val) / 2048 = t.val / 16 by omega)
    refine (congrFun (outs_A m c t h) _).trans ((pay4_at _ _ _ _ _).trans ?_)
    refine congr (congrArg₂ gatedAdd ((blk2_at m c t h r l).trans (congrFun (V_main_arg2 m c) _)) (prod_at m c t r l)) ?_
    refine ((blk4_at m c t h l).trans (V_v3_at m c _ _)).trans ?_
    exact congrArg (fun b => (m ((c : Thread nD τ).loc main_arg3) : S136x12288.Idx → EReal) (ix2 b _)) hg.symm
  · have h' : 128 ≤ t.val := by omega
    have hg : grow ⟨t.val / 8 * 1024 + r, by omega⟩ = ⟨8 + r.val / 8, by omega⟩ := by
      unfold grow
      rw [dif_neg (show ¬ t.val / 8 * 1024 + r.val < 16384 by omega)]
      exact Fin.ext (show 8 + (t.val / 8 * 1024 + r.val - 16384) / 8 = 8 + r.val / 8 by omega)
    refine (congrFun (outs_B m c t h') _).trans ((pay5_at _ _ _ _ _).trans ?_)
    refine congr (congrArg₂ gatedAdd ((blk3_at m c t h' r l).trans (congrFun (V_main_arg2 m c) _)) (prod_at m c t r l)) ?_
    refine ((blk5_at m c t _ l).trans (V_v6_at m c _ _)).trans ?_
    exact congrArg (fun b => (m ((c : Thread nD τ).loc main_arg3) : S136x12288.Idx → EReal) (ix2 b _)) hg.symm

theorem final : (dats (F := Ideal) m 0 c).arrAt 6 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_covers 6 (G (m ((c : Thread nD τ).loc main_arg0)) (m ((c : Thread nD τ).loc main_arg1)) (m ((c : Thread nD τ).loc main_arg2)) (m ((c : Thread nD τ).loc main_arg3))) covers fun t hf y => ?_
  blk_simp [idx6 t]
  rw [after0_6]
  idx_vars y
  have ht : t.val < 136 := t.isLt
  refine Eq.trans (b := G (m ((c : Thread nD τ).loc main_arg0)) (m ((c : Thread nD τ).loc main_arg1)) (m ((c : Thread nD τ).loc main_arg2)) (m ((c : Thread nD τ).loc main_arg3))
    (show S17408x2048.Idx from ix2 ⟨t.val / 8 * 1024 + y0, by omega⟩ ⟨t.val % 8 * 256 + y1, by omega⟩)) ?_ (by blk_ext [idx6 t])
  exact outs_at m c t y0 y1

end Cert.Kernel7Ideal.DenseDown

namespace Cert.DenseDown
open Idealize.ShloMosaic Idealize.ShloMosaic.TcCoe Idealize.SL.Sem Idealize.ShloMosaic.StableHlo
open Cert.Kernel7Ideal.DenseDown (prod grow gatedAdd)

theorem quiescent_Reference7Ideal : Cert.quiescent_Reference7Ideal := fun m g _ =>
  (θ_run _ _ _).mono (fun _ h => ⟨fun c => (h c).2, sem_eq_zero_of_no_sems rfl _⟩) (Cert.Reference7Ideal.Value.run m g)

section
open Cert.Reference7Ideal Cert.Reference7Ideal.Gen

/-- The reference's gate of every token. -/
def gate (M : FVec Ideal S136x12288 .f32) : FVec Ideal S17408x2048 .f32 :=
  concatenate S17408x2048 0 [⟨S16384x2048, (shapeCast _ (broadcastInDim S8x2048x2048 ![0, 2] bcast_S8x2048_S8x2048x2048_0_2 (extractStridedSlice S8x2048 ![0, 0] (extractStridedSlice S136x2048 ![0, 10240] M slices_S136x12288_S136x2048_0_10240) slices_S136x2048_S8x2048_0_0)) shapeCasts_S8x2048x2048_S16384x2048)⟩, ⟨S1024x2048, (shapeCast _ (broadcastInDim S128x8x2048 ![0, 2] bcast_S128x2048_S128x8x2048_0_2 (extractStridedSlice S128x2048 ![8, 0] (extractStridedSlice S136x2048 ![0, 10240] M slices_S136x12288_S136x2048_0_10240) slices_S136x2048_S128x2048_8_0)) shapeCasts_S128x8x2048_S1024x2048)⟩] concatenates_S16384x2048_S1024x2048_S17408x2048_d0

/-- The reference's product. -/
def product (H : FVec Ideal S17408x5632 .bf16) (W : FVec Ideal S5632x2048 .f32) : FVec Ideal S17408x2048 .f32 :=
  Host.dotGeneral dot_S17408x5632_S5632x2048_S17408x2048_1_0_0_1_n_n none (extf .f32 H bitsLt_bf16_f32) W

def plain (H : FVec Ideal S17408x5632 .bf16) (W : FVec Ideal S5632x2048 .f32) (X : FVec Ideal S17408x2048 .f32) (M : FVec Ideal S136x12288 .f32) :
    FVec Ideal S17408x2048 .f32 := addf X (mulf (gate M) (product H W))

theorem gate_at (M : FVec Ideal S136x12288 .f32) (r : Fin 17408) (l : Fin 2048) :
    (gate M (ix2 r l) : EReal) = M (ix2 (grow r) ⟨10240 + l.val, by omega⟩) := by
  unfold grow
  pointwise [gate]
  by_cases h : r.val < 16384
  · rw [dif_pos h, dif_pos h]
  · rw [dif_neg h, dif_neg h]

theorem product_at (H : FVec Ideal S17408x5632 .bf16) (W : FVec Ideal S5632x2048 .f32) (r : Fin 17408) (l : Fin 2048) :
    (product H W (ix2 r l) : EReal) = prod H W r l := by
  pointwise [product]
  rfl

theorem plain_eq (H : FVec Ideal S17408x5632 .bf16) (W : FVec Ideal S5632x2048 .f32) (X : FVec Ideal S17408x2048 .f32) (M : FVec Ideal S136x12288 .f32) :
    plain H W X M = Cert.Kernel7Ideal.DenseDown.G H W X M := by
  funext y
  idx_vars y
  show (X (ix2 y0 y1) : EReal) + (gate M (ix2 y0 y1) : EReal) * (product H W (ix2 y0 y1) : EReal)
    = (X (ix2 y0 y1) : EReal) + prod H W y0 y1 * (M (ix2 (grow y0) ⟨10240 + y1.val, _⟩) : EReal)
  exact congrArg (fun a : EReal => (X (ix2 y0 y1) : EReal) + a) ((mul_comm _ _).trans (congrArg₂ (fun a b : EReal => a * b) (product_at H W y0 y1) (gate_at M y0 y1)))
end

theorem algebraic : Cert.algebraic_Kernel7Ideal_Reference7Ideal := by
  intro m g m' g' _ hag
  refine ⟨fun c => Cert.Kernel7Ideal.DenseDown.G (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))
    (m ((c.tc : Thread Cert.Kernel7Ideal.nD Cert.Kernel7Ideal.τ).loc Cert.Kernel7Ideal.main_arg3)), ?_, ?_⟩
  rotate_left
  · refine (θ_run _ _ _).mono (fun r h c => ?_) (Cert.Reference7Ideal.Value.run m' g')
    obtain ⟨h0, h1, h2, h3⟩ := hag c
    refine ⟨(h c).1.trans (Eq.trans (b := plain (m' ((c.tc : Thread Cert.Reference7Ideal.nD Cert.Reference7Ideal.τ).loc Cert.Reference7Ideal.main_arg0))
      (m' ((c.tc : Thread Cert.Reference7Ideal.nD Cert.Reference7Ideal.τ).loc Cert.Reference7Ideal.main_arg1))
      (m' ((c.tc : Thread Cert.Reference7Ideal.nD Cert.Reference7Ideal.τ).loc Cert.Reference7Ideal.main_arg2))
      (m' ((c.tc : Thread Cert.Reference7Ideal.nD Cert.Reference7Ideal.τ).loc Cert.Reference7Ideal.main_arg3))) rfl ?_), (h c).2⟩
    rw [h0, h1, h2, h3]
    exact plain_eq _ _ _ _
  · exact (θ_run _ _ _).mono (fun r h c => ⟨(h c).1.trans (Cert.Kernel7Ideal.DenseDown.final m c), (h c).2⟩) (Cert.Kernel7Ideal.Value.run_blocks m g)

end Cert.DenseDown
end
-- ==== Proof.MixOut.lean ====
/- The projection out of the mixers with the gated residual: the array after the run, entry by entry, and its reference beside it. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit
@[expose] public section
set_option maxRecDepth 16384
noncomputable section
namespace Cert.Kernel8Ideal.MixOut
open Cert.Kernel8Ideal Cert.Kernel8Ideal.Gen
open Idealize.ShloMosaic Idealize.ShloMosaic.TcCoe
variable (m : (ℓ : Loc nD τ sig) → Buf (Elt Ideal) ℓ) (c : Dev nD)

/-- A mixer's entry: its prompts' rows, then its samples'. -/
def tok (P : FVec Ideal S16384x512 .bf16) (S : FVec Ideal S1024x512 .bf16) (r : Fin 17408) (k : Fin 512) : EReal :=
  if h : r.val < 16384 then P (ix2 ⟨r.val, h⟩ k) else S (ix2 ⟨r.val - 16384, by omega⟩ k)

/-- The residual stream's entry: the prompts' rows, then the samples'. -/
def stream (P : FVec Ideal S16384x2048 .f32) (S : FVec Ideal S1024x2048 .f32) (r : Fin 17408) (l : Fin 2048) : EReal :=
  if h : r.val < 16384 then P (ix2 ⟨r.val, h⟩ l) else S (ix2 ⟨r.val - 16384, by omega⟩ l)

/-- The row of the modulation that a token reads: its prompt's among the first eight, its sample's after them. -/
def grow (r : Fin 17408) : Fin 136 := if h : r.val < 16384 then ⟨r.val / 2048, by omega⟩ else ⟨8 + (r.val - 16384) / 8, by omega⟩

/-- The four mixers' rows against the four parts of a column of the weights. -/
def quad (a b c d u v w z : Fin 512 → EReal) : EReal := (∑ k, a k * u k) + (∑ k, b k * v k) + (∑ k, c k * w k) + ∑ k, d k * z k

/-- A part of a column of the weights. -/
def part (W : FVec Ideal S2048x2048 .f32) (o : Fin 4) (l : Fin 2048) (k : Fin 512) : EReal := W (ix2 ⟨o.val * 512 + k.val, by omega⟩ l)

def gatedAdd (x p g : EReal) : EReal := x + p * g

def G (AP : FVec Ideal S16384x512 .bf16) (AS : FVec Ideal S1024x512 .bf16) (BP : FVec Ideal S16384x512 .bf16) (BS : FVec Ideal S1024x512 .bf16)
    (CP : FVec Ideal S16384x512 .bf16) (CS : FVec Ideal S1024x512 .bf16) (DP : FVec Ideal S16384x512 .bf16) (DS : FVec Ideal S1024x512 .bf16)
    (W : FVec Ideal S2048x2048 .f32) (XP : FVec Ideal S16384x2048 .f32) (XS : FVec Ideal S1024x2048 .f32) (M : FVec Ideal S136x12288 .f32) :
    FVec Ideal S17408x2048 .f32 := fun y =>
  gatedAdd (stream XP XS (y 0) (y 1))
    (quad (tok AP AS (y 0)) (tok BP BS (y 0)) (tok CP CS (y 0)) (tok DP DS (y 0)) (part W 0 (y 1)) (part W 1 (y 1)) (part W 2 (y 1)) (part W 3 (y 1)))
    (M (ix2 (grow (y 0)) ⟨4096 + (y 1).val, by have : (y 1).val < 2048 := (y 1).isLt; omega⟩))

theorem idx0 : ∀ t : Fin cfg0.N, (cfg0.win 0).index t = ![min (t.val / 2) 15, 0] := by decide +kernel
theorem idx1 : ∀ t : Fin cfg0.N, (cfg0.win 1).index t = ![t.val / 2 - 16, 0] := by decide +kernel
theorem idx2 : ∀ t : Fin cfg0.N, (cfg0.win 2).index t = ![min (t.val / 2) 15, 0] := by decide +kernel
theorem idx3 : ∀ t : Fin cfg0.N, (cfg0.win 3).index t = ![t.val / 2 - 16, 0] := by decide +kernel
theorem idx4 : ∀ t : Fin cfg0.N, (cfg0.win 4).index t = ![min (t.val / 2) 15, 0] := by decide +kernel
theorem idx5 : ∀ t : Fin cfg0.N, (cfg0.win 5).index t = ![t.val / 2 - 16, 0] := by decide +kernel
theorem idx6 : ∀ t : Fin cfg0.N, (cfg0.win 6).index t = ![min (t.val / 2) 15, 0] := by decide +kernel
theorem idx7 : ∀ t : Fin cfg0.N, (cfg0.win 7).index t = ![t.val / 2 - 16, 0] := by decide +kernel
theorem idx8 : ∀ t : Fin cfg0.N, (cfg0.win 8).index t = ![0, t.val % 2] := by decide +kernel
theorem idx9 : ∀ t : Fin cfg0.N, (cfg0.win 9).index t = ![min (t.val / 2) 15, t.val % 2] := by decide +kernel
theorem idx10 : ∀ t : Fin cfg0.N, (cfg0.win 10).index t = ![t.val / 2 - 16, t.val % 2] := by decide +kernel
theorem idx11 : ∀ t : Fin cfg0.N, (cfg0.win 11).index t = ![2, min (t.val / 4) 7, 0, t.val % 2] := by decide +kernel
theorem idx12 : ∀ t : Fin cfg0.N, (cfg0.win 12).index t = ![2, 0, t.val % 2] := by decide +kernel
theorem idx13 : ∀ t : Fin cfg0.N, (cfg0.win 13).index t = ![t.val / 2, t.val % 2] := by decide +kernel

theorem V_v7_at (i : S2048x2048.Idx) : (V m c main_v7 : S2048x2048.Idx → EReal) i = (m ((c : Thread nD τ).loc main_arg8) : S2048x2048.Idx → EReal) i := rfl
theorem V_v3_at (b : Fin 8) (l : Fin 2048) :
    (V m c main_v3 : S6x8x1x2048.Idx → EReal) (ix4 2 b 0 l)
      = (m ((c : Thread nD τ).loc main_arg11) : S136x12288.Idx → EReal) (ix2 ⟨b.val, by omega⟩ ⟨4096 + l.val, by omega⟩) := by
  show broadcastInDim S6x8x1x2048 ![0, 1, 3] bcast_S6x8x2048_S6x8x1x2048_0_1_3 (transpose S6x8x2048 [1, 0, 2] (shapeCast S8x6x2048
    (extractStridedSlice S8x12288 ![0, 0] (m ((c : Thread nD τ).loc main_arg11) : FVec Ideal S136x12288 .f32) slices_S136x12288_S8x12288_0_0)
    shapeCasts_S8x12288_S8x6x2048) transposes_S8x6x2048_S6x8x2048_1_0_2 : FVec Ideal S6x8x2048 .f32) (ix4 2 b 0 l) = _
  generalize (m ((c : Thread nD τ).loc main_arg11) : FVec Ideal S136x12288 .f32) = M
  pointwise
theorem V_v6_at (b : Fin 128) (l : Fin 2048) :
    (V m c main_v6 : S6x128x2048.Idx → EReal) (ix3 2 b l)
      = (m ((c : Thread nD τ).loc main_arg11) : S136x12288.Idx → EReal) (ix2 ⟨8 + b.val, by omega⟩ ⟨4096 + l.val, by omega⟩) := by
  show transpose S6x128x2048 [1, 0, 2] (shapeCast S128x6x2048
    (extractStridedSlice S128x12288 ![8, 0] (m ((c : Thread nD τ).loc main_arg11) : FVec Ideal S136x12288 .f32) slices_S136x12288_S128x12288_8_0)
    shapeCasts_S128x12288_S128x6x2048) transposes_S128x6x2048_S6x128x2048_1_0_2 (ix3 2 b l) = _
  generalize (m ((c : Thread nD τ).loc main_arg11) : FVec Ideal S136x12288 .f32) = M
  pointwise

/-! ## The prompts' points -/

section
variable (t : Fin cfg0.N) (ht : t.val < 32)
include ht

theorem clip : min (t.val / 2) 15 = t.val / 2 := by omega

theorem blk0_at (r : Fin 1024) (k : Fin 512) :
    (iblk m c 0 t : S1024x512.Idx → EReal) (ix2 r k) = (V m c main_arg0 : S16384x512.Idx → EReal) (ix2 ⟨t.val / 2 * 1024 + r, by omega⟩ k) := by
  have h := idx0 t
  rw [clip t ht] at h
  blk_ext [iblk, h]
theorem blk2_at (r : Fin 1024) (k : Fin 512) :
    (iblk m c 2 t : S1024x512.Idx → EReal) (ix2 r k) = (V m c main_arg2 : S16384x512.Idx → EReal) (ix2 ⟨t.val / 2 * 1024 + r, by omega⟩ k) := by
  have h := idx2 t
  rw [clip t ht] at h
  blk_ext [iblk, h]
theorem blk4_at (r : Fin 1024) (k : Fin 512) :
    (iblk m c 4 t : S1024x512.Idx → EReal) (ix2 r k) = (V m c main_arg4 : S16384x512.Idx → EReal) (ix2 ⟨t.val / 2 * 1024 + r, by omega⟩ k) := by
  have h := idx4 t
  rw [clip t ht] at h
  blk_ext [iblk, h]
theorem blk6_at (r : Fin 1024) (k : Fin 512) :
    (iblk m c 6 t : S1024x512.Idx → EReal) (ix2 r k) = (V m c main_arg6 : S16384x512.Idx → EReal) (ix2 ⟨t.val / 2 * 1024 + r, by omega⟩ k) := by
  have h := idx6 t
  rw [clip t ht] at h
  blk_ext [iblk, h]
theorem blk9_at (r : Fin 1024) (l : Fin 1024) :
    (iblk m c 9 t : S1024x1024.Idx → EReal) (ix2 r l)
      = (V m c main_arg9 : S16384x2048.Idx → EReal) (ix2 ⟨t.val / 2 * 1024 + r, by omega⟩ ⟨t.val % 2 * 1024 + l, by omega⟩) := by
  have h := idx9 t
  rw [clip t ht] at h
  blk_ext [iblk, h]
theorem blk11_at (l : Fin 1024) :
    (iblk m c 11 t : S1x1x1x1024.Idx → EReal) (ix4 0 0 0 l)
      = (V m c main_v3 : S6x8x1x2048.Idx → EReal) (ix4 2 ⟨t.val / 4, by omega⟩ 0 ⟨t.val % 2 * 1024 + l, by omega⟩) := by
  have h := idx11 t
  rw [show min (t.val / 4) 7 = t.val / 4 by omega] at h
  blk_ext [iblk, h]
end

/-! ## The samples' points -/

section
variable (t : Fin cfg0.N) (ht : 32 ≤ t.val)
include ht

theorem first : t.val / 2 - 16 = 0 := by have : t.val < 34 := t.isLt; omega

theorem blk1_at (r : Fin 1024) (k : Fin 512) : (iblk m c 1 t : S1024x512.Idx → EReal) (ix2 r k) = (V m c main_arg1 : S1024x512.Idx → EReal) (ix2 r k) := by
  have h := idx1 t
  rw [first t ht] at h
  blk_ext [iblk, h]
theorem blk3_at (r : Fin 1024) (k : Fin 512) : (iblk m c 3 t : S1024x512.Idx → EReal) (ix2 r k) = (V m c main_arg3 : S1024x512.Idx → EReal) (ix2 r k) := by
  have h := idx3 t
  rw [first t ht] at h
  blk_ext [iblk, h]
theorem blk5_at (r : Fin 1024) (k : Fin 512) : (iblk m c 5 t : S1024x512.Idx → EReal) (ix2 r k) = (V m c main_arg5 : S1024x512.Idx → EReal) (ix2 r k) := by
  have h := idx5 t
  rw [first t ht] at h
  blk_ext [iblk, h]
theorem blk7_at (r : Fin 1024) (k : Fin 512) : (iblk m c 7 t : S1024x512.Idx → EReal) (ix2 r k) = (V m c main_arg7 : S1024x512.Idx → EReal) (ix2 r k) := by
  have h := idx7 t
  rw [first t ht] at h
  blk_ext [iblk, h]
theorem blk10_at (r : Fin 1024) (l : Fin 1024) :
    (iblk m c 10 t : S1024x1024.Idx → EReal) (ix2 r l) = (V m c main_arg10 : S1024x2048.Idx → EReal) (ix2 r ⟨t.val % 2 * 1024 + l, by omega⟩) := by
  have h := idx10 t
  rw [first t ht] at h
  blk_ext [iblk, h]
end

theorem blk8_at (t : Fin cfg0.N) (k : Fin 2048) (l : Fin 1024) :
    (iblk m c 8 t : S2048x1024.Idx → EReal) (ix2 k l) = (V m c main_v7 : S2048x2048.Idx → EReal) (ix2 k ⟨t.val % 2 * 1024 + l, by omega⟩) := by
  blk_ext [iblk, idx8 t]
theorem blk12_at (t : Fin cfg0.N) (b : Fin 128) (l : Fin 1024) :
    (iblk m c 12 t : S1x128x1024.Idx → EReal) (ix3 0 b l) = (V m c main_v6 : S6x128x2048.Idx → EReal) (ix3 2 b ⟨t.val % 2 * 1024 + l, by omega⟩) := by
  blk_ext [iblk, idx12 t]

theorem covers : (cfg0.win 13).Covers := by
  refine ⟨fun | ⟨0, _⟩ => (show 0 < 1024 by decide) | ⟨1, _⟩ => (show 0 < 1024 by decide), fun β => ?_⟩
  have hb0 : (β 0).val < 17 := (show (β 0).val < (17408 + 1024 - 1) / 1024 from (β 0).isLt).trans_le (by decide)
  have hb1 : (β 1).val < 2 := (show (β 1).val < (2048 + 1024 - 1) / 1024 from (β 1).isLt).trans_le (by decide)
  refine ⟨⟨(β 0).val * 2 + (β 1).val, show _ < 34 by omega⟩, flush0_13 _, fun a => ⟨(congrFun (idx13 _) a).trans ?_, .inl rfl⟩⟩
  match a with
  | ⟨0, _⟩ => show ((β 0).val * 2 + (β 1).val) / 2 = (β 0).val; omega
  | ⟨1, _⟩ => show ((β 0).val * 2 + (β 1).val) % 2 = (β 1).val; omega

/-- A part of a column of the staged weights. -/
def cut (w : FVec Ideal S2048x1024 .bf16) (o : Fin 4) (l : Fin 1024) (k : Fin 512) : EReal := w (ix2 ⟨o.val * 512 + k.val, by omega⟩ l)

theorem pay1_at (x : FVec Ideal S1024x1024 .f32) (a b c d : FVec Ideal S1024x512 .bf16) (u v w z : FVec Ideal S512x1024 .bf16) (g : FVec Ideal S1x1x1x1024 .f32)
    (r l : Fin 1024) :
    (k0_pay1 (F := Ideal) x a u b v c w d z g (ix2 r l) : EReal)
      = gatedAdd (x (ix2 r l)) (quad (fun k => a (ix2 r k)) (fun k => b (ix2 r k)) (fun k => c (ix2 r k)) (fun k => d (ix2 r k))
          (fun k => u (ix2 k l)) (fun k => v (ix2 k l)) (fun k => w (ix2 k l)) (fun k => z (ix2 k l))) (g (ix4 0 0 0 l)) := by
  unfold gatedAdd quad
  pointwise [k0_pay1]

theorem pay2_at (x : FVec Ideal S1024x1024 .f32) (a b c d : FVec Ideal S1024x512 .bf16) (u v w z : FVec Ideal S512x1024 .bf16) (g : FVec Ideal S1x128x1024 .f32)
    (r l : Fin 1024) :
    (k0_pay2 (F := Ideal) a u b v c w d z g x (ix2 r l) : EReal)
      = gatedAdd (x (ix2 r l)) (quad (fun k => a (ix2 r k)) (fun k => b (ix2 r k)) (fun k => c (ix2 r k)) (fun k => d (ix2 r k))
          (fun k => u (ix2 k l)) (fun k => v (ix2 k l)) (fun k => w (ix2 k l)) (fun k => z (ix2 k l))) (g (ix3 0 ⟨r.val / 8, by omega⟩ l)) := by
  unfold gatedAdd quad
  pointwise [k0_pay2]

theorem outs_A (t : Fin cfg0.N) (h : t.val < 32) (r l : Fin 1024) :
    (outsAt0 (F := Ideal) m c t.val t.isLt (ix2 r l) : EReal)
      = gatedAdd (iblk m c 9 t (ix2 r l)) (quad (fun k => iblk m c 0 t (ix2 r k)) (fun k => iblk m c 2 t (ix2 r k)) (fun k => iblk m c 4 t (ix2 r k)) (fun k => iblk m c 6 t (ix2 r k))
          (cut (iblk m c 8 t) 0 l) (cut (iblk m c 8 t) 1 l) (cut (iblk m c 8 t) 2 l) (cut (iblk m c 8 t) 3 l)) (iblk m c 11 t (ix4 0 0 0 l)) := by
  rw [outsAt0_A m c t h (by omega)]
  unfold out0_A_13
  frame_out
  refine (pay1_at _ _ _ _ _ _ _ _ _ _ _ _).trans ?_
  unfold cut
  pointwise

theorem outs_B (t : Fin cfg0.N) (h : 32 ≤ t.val) (r l : Fin 1024) :
    (outsAt0 (F := Ideal) m c t.val t.isLt (ix2 r l) : EReal)
      = gatedAdd (iblk m c 10 t (ix2 r l)) (quad (fun k => iblk m c 1 t (ix2 r k)) (fun k => iblk m c 3 t (ix2 r k)) (fun k => iblk m c 5 t (ix2 r k)) (fun k => iblk m c 7 t (ix2 r k))
          (cut (iblk m c 8 t) 0 l) (cut (iblk m c 8 t) 1 l) (cut (iblk m c 8 t) 2 l) (cut (iblk m c 8 t) 3 l)) (iblk m c 12 t (ix3 0 ⟨r.val / 8, by omega⟩ l)) := by
  rw [outsAt0_B m c t (by omega) h]
  unfold out0_B_13
  frame_out
  refine (pay2_at _ _ _ _ _ _ _ _ _ _ _ _).trans ?_
  unfold cut
  pointwise

/-- The kernel's array at an entry. -/
abbrev arr : FVec Ideal S17408x2048 .f32 := G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

theorem quad_congr {a b c d u v w z a' b' c' d' u' v' w' z' : Fin 512 → EReal} (ha : a = a') (hb : b = b') (hc : c = c') (hd : d = d')
    (hu : u = u') (hv : v = v') (hw : w = w') (hz : z = z') : quad a b c d u v w z = quad a' b' c' d' u' v' w' z' := by
  rw [ha, hb, hc, hd, hu, hv, hw, hz]

theorem cut_at (t : Fin cfg0.N) (o : Fin 4) (l : Fin 1024) :
    cut (iblk m c 8 t) o l = part (m ((c : Thread nD τ).loc main_arg8)) o ⟨t.val % 2 * 1024 + l, by omega⟩ := by
  funext k
  exact (blk8_at m c t _ l).trans (V_v7_at m c _)

theorem tok_lt (r : Fin 17408) (q : Fin 16384) (h : r.val = q.val) (P : FVec Ideal S16384x512 .bf16) (S : FVec Ideal S1024x512 .bf16) (k : Fin 512) :
    tok P S r k = P (ix2 q k) := by
  unfold tok
  rw [dif_pos (show r.val < 16384 by omega)]
  exact congrArg (fun j => P (ix2 j k)) (Fin.ext h)
theorem tok_ge (r : Fin 17408) (q : Fin 1024) (h : r.val = 16384 + q.val) (P : FVec Ideal S16384x512 .bf16) (S : FVec Ideal S1024x512 .bf16) (k : Fin 512) :
    tok P S r k = S (ix2 q k) := by
  unfold tok
  rw [dif_neg (show ¬ r.val < 16384 by omega)]
  exact congrArg (fun j => S (ix2 j k)) (Fin.ext (by show r.val - 16384 = q.val; omega))
theorem stream_lt (r : Fin 17408) (q : Fin 16384) (h : r.val = q.val) (P : FVec Ideal S16384x2048 .f32) (S : FVec Ideal S1024x2048 .f32) (l : Fin 2048) :
    stream P S r l = P (ix2 q l) := by
  unfold stream
  rw [dif_pos (show r.val < 16384 by omega)]
  exact congrArg (fun j => P (ix2 j l)) (Fin.ext h)
theorem stream_ge (r : Fin 17408) (q : Fin 1024) (h : r.val = 16384 + q.val) (P : FVec Ideal S16384x2048 .f32) (S : FVec Ideal S1024x2048 .f32) (l : Fin 2048) :
    stream P S r l = S (ix2 q l) := by
  unfold stream
  rw [dif_neg (show ¬ r.val < 16384 by omega)]
  exact congrArg (fun j => S (ix2 j l)) (Fin.ext (by show r.val - 16384 = q.val; omega))

theorem outs_at (t : Fin cfg0.N) (r l : Fin 1024) :
    (outsAt0 (F := Ideal) m c t.val t.isLt (ix2 r l) : EReal)
      = arr m c (ix2 ⟨t.val / 2 * 1024 + r, by have : t.val < 34 := t.isLt; omega⟩ ⟨t.val % 2 * 1024 + l, by omega⟩) := by
  have ht : t.val < 34 := t.isLt
  unfold arr G
  by_cases h : t.val < 32
  · have hg : grow ⟨t.val / 2 * 1024 + r, by omega⟩ = ⟨t.val / 4, by omega⟩ := by
      unfold grow
      rw [dif_pos (show t.val / 2 * 1024 + r.val < 16384 by omega)]
      exact Fin.ext (show (t.val / 2 * 1024 + r.val) / 2048 = t.val / 4 by omega)
    have hk := tok_lt ⟨t.val / 2 * 1024 + r, by omega⟩ ⟨t.val / 2 * 1024 + r, by omega⟩ rfl
    have hs := stream_lt ⟨t.val / 2 * 1024 + r, by omega⟩ ⟨t.val / 2 * 1024 + r, by omega⟩ rfl
    refine (outs_A m c t h r l).trans ?_
    refine congr (congrArg₂ gatedAdd (((blk9_at m c t h r l).trans (congrFun (V_main_arg9 m c) _)).trans (hs (m ((c : Thread nD τ).loc main_arg9)) (m ((c : Thread nD τ).loc main_arg10)) _).symm) (quad_congr
      (funext fun k => ((blk0_at m c t h r k).trans (congrFun (V_main_arg0 m c) _)).trans (hk (m ((c : Thread nD τ).loc main_arg0)) (m ((c : Thread nD τ).loc main_arg1)) k).symm)
      (funext fun k => ((blk2_at m c t h r k).trans (congrFun (V_main_arg2 m c) _)).trans (hk (m ((c : Thread nD τ).loc main_arg2)) (m ((c : Thread nD τ).loc main_arg3)) k).symm)
      (funext fun k => ((blk4_at m c t h r k).trans (congrFun (V_main_arg4 m c) _)).trans (hk (m ((c : Thread nD τ).loc main_arg4)) (m ((c : Thread nD τ).loc main_arg5)) k).symm)
      (funext fun k => ((blk6_at m c t h r k).trans (congrFun (V_main_arg6 m c) _)).trans (hk (m ((c : Thread nD τ).loc main_arg6)) (m ((c : Thread nD τ).loc main_arg7)) k).symm)
      (cut_at m c t 0 l) (cut_at m c t 1 l) (cut_at m c t 2 l) (cut_at m c t 3 l))) ?_
    refine ((blk11_at m c t h l).trans (V_v3_at m c _ _)).trans ?_
    exact congrArg (fun b => ((m ((c : Thread nD τ).loc main_arg11)) : S136x12288.Idx → EReal) (ix2 b _)) hg.symm
  · have h' : 32 ≤ t.val := by omega
    have hg : grow ⟨t.val / 2 * 1024 + r, by omega⟩ = ⟨8 + r.val / 8, by omega⟩ := by
      unfold grow
      rw [dif_neg (show ¬ t.val / 2 * 1024 + r.val < 16384 by omega)]
      exact Fin.ext (show 8 + (t.val / 2 * 1024 + r.val - 16384) / 8 = 8 + r.val / 8 by omega)
    have hk := tok_ge ⟨t.val / 2 * 1024 + r, by omega⟩ r (by show t.val / 2 * 1024 + r.val = 16384 + r.val; omega)
    have hs := stream_ge ⟨t.val / 2 * 1024 + r, by omega⟩ r (by show t.val / 2 * 1024 + r.val = 16384 + r.val; omega)
    refine (outs_B m c t h' r l).trans ?_
    refine congr (congrArg₂ gatedAdd (((blk10_at m c t h' r l).trans (congrFun (V_main_arg10 m c) _)).trans (hs (m ((c : Thread nD τ).loc main_arg9)) (m ((c : Thread nD τ).loc main_arg10)) _).symm) (quad_congr
      (funext fun k => ((blk1_at m c t h' r k).trans (congrFun (V_main_arg1 m c) _)).trans (hk (m ((c : Thread nD τ).loc main_arg0)) (m ((c : Thread nD τ).loc main_arg1)) k).symm)
      (funext fun k => ((blk3_at m c t h' r k).trans (congrFun (V_main_arg3 m c) _)).trans (hk (m ((c : Thread nD τ).loc main_arg2)) (m ((c : Thread nD τ).loc main_arg3)) k).symm)
      (funext fun k => ((blk5_at m c t h' r k).trans (congrFun (V_main_arg5 m c) _)).trans (hk (m ((c : Thread nD τ).loc main_arg4)) (m ((c : Thread nD τ).loc main_arg5)) k).symm)
      (funext fun k => ((blk7_at m c t h' r k).trans (congrFun (V_main_arg7 m c) _)).trans (hk (m ((c : Thread nD τ).loc main_arg6)) (m ((c : Thread nD τ).loc main_arg7)) k).symm)
      (cut_at m c t 0 l) (cut_at m c t 1 l) (cut_at m c t 2 l) (cut_at m c t 3 l))) ?_
    refine ((blk12_at m c t _ l).trans (V_v6_at m c _ _)).trans ?_
    exact congrArg (fun b => ((m ((c : Thread nD τ).loc main_arg11)) : S136x12288.Idx → EReal) (ix2 b _)) hg.symm

theorem final : (dats (F := Ideal) m 0 c).arrAt 13 cfg0.N = arr m c := by
  refine (dats m 0 c).arrAt_eq_of_covers 13 (arr m c) covers fun t hf y => ?_
  blk_simp [idx13 t]
  rw [after0_13]
  idx_vars y
  have ht : t.val < 34 := t.isLt
  refine Eq.trans (b := arr m c (show S17408x2048.Idx from ix2 ⟨t.val / 2 * 1024 + y0, by omega⟩ ⟨t.val % 2 * 1024 + y1, by omega⟩)) ?_ (by blk_ext [idx13 t])
  exact outs_at m c t y0 y1

end Cert.Kernel8Ideal.MixOut

namespace Cert.MixOut
open Idealize.ShloMosaic Idealize.ShloMosaic.TcCoe Idealize.SL.Sem Idealize.ShloMosaic.StableHlo
open Cert.Kernel8Ideal.MixOut (tok stream grow quad part gatedAdd)

theorem quiescent_Reference8Ideal : Cert.quiescent_Reference8Ideal := fun m g _ =>
  (θ_run _ _ _).mono (fun _ h => ⟨fun c => (h c).2, sem_eq_zero_of_no_sems rfl _⟩) (Cert.Reference8Ideal.Value.run m g)

section
open Cert.Reference8Ideal Cert.Reference8Ideal.Gen

/-- The reference's gate of every token. -/
def gate (M : FVec Ideal S136x12288 .f32) : FVec Ideal S17408x2048 .f32 :=
  concatenate S17408x2048 0 [⟨S16384x2048, (shapeCast _ (broadcastInDim S8x2048x2048 ![0, 2] bcast_S8x2048_S8x2048x2048_0_2 (extractStridedSlice S8x2048 ![0, 0] (extractStridedSlice S136x2048 ![0, 4096] M slices_S136x12288_S136x2048_0_4096) slices_S136x2048_S8x2048_0_0)) shapeCasts_S8x2048x2048_S16384x2048)⟩, ⟨S1024x2048, (shapeCast _ (broadcastInDim S128x8x2048 ![0, 2] bcast_S128x2048_S128x8x2048_0_2 (extractStridedSlice S128x2048 ![8, 0] (extractStridedSlice S136x2048 ![0, 4096] M slices_S136x12288_S136x2048_0_4096) slices_S136x2048_S128x2048_8_0)) shapeCasts_S128x8x2048_S1024x2048)⟩] concatenates_S16384x2048_S1024x2048_S17408x2048_d0

/-- The reference's residual stream. -/
def residual (XP : FVec Ideal S16384x2048 .f32) (XS : FVec Ideal S1024x2048 .f32) : FVec Ideal S17408x2048 .f32 :=
  concatenate S17408x2048 0 [⟨S16384x2048, XP⟩, ⟨S1024x2048, XS⟩] concatenates_S16384x2048_S1024x2048_S17408x2048_d0

/-- The reference's mixers side by side: the prompts' rows, and the samples'. -/
def besideP (a b c d : FVec Ideal S16384x512 .bf16) : FVec Ideal S16384x2048 .bf16 :=
  concatenate S16384x2048 1 [⟨S16384x512, a⟩, ⟨S16384x512, b⟩, ⟨S16384x512, c⟩, ⟨S16384x512, d⟩] concatenates_S16384x512_S16384x512_S16384x512_S16384x512_S16384x2048_d1
def besideS (a b c d : FVec Ideal S1024x512 .bf16) : FVec Ideal S1024x2048 .bf16 :=
  concatenate S1024x2048 1 [⟨S1024x512, a⟩, ⟨S1024x512, b⟩, ⟨S1024x512, c⟩, ⟨S1024x512, d⟩] concatenates_S1024x512_S1024x512_S1024x512_S1024x512_S1024x2048_d1

/-- The reference's product. -/
def product (P : FVec Ideal S16384x2048 .bf16) (S : FVec Ideal S1024x2048 .bf16) (W : FVec Ideal S2048x2048 .f32) : FVec Ideal S17408x2048 .f32 :=
  Host.dotGeneral dot_S17408x2048_S2048x2048_S17408x2048_1_0_0_1_n_n none
    (extf .f32 (concatenate S17408x2048 0 [⟨S16384x2048, P⟩, ⟨S1024x2048, S⟩] concatenates_S16384x2048_S1024x2048_S17408x2048_d0) bitsLt_bf16_f32) W

def plain (AP : FVec Ideal S16384x512 .bf16) (AS : FVec Ideal S1024x512 .bf16) (BP : FVec Ideal S16384x512 .bf16) (BS : FVec Ideal S1024x512 .bf16)
    (CP : FVec Ideal S16384x512 .bf16) (CS : FVec Ideal S1024x512 .bf16) (DP : FVec Ideal S16384x512 .bf16) (DS : FVec Ideal S1024x512 .bf16)
    (W : FVec Ideal S2048x2048 .f32) (XP : FVec Ideal S16384x2048 .f32) (XS : FVec Ideal S1024x2048 .f32) (M : FVec Ideal S136x12288 .f32) :
    FVec Ideal S17408x2048 .f32 := addf (residual XP XS) (mulf (gate M) (product (besideP AP BP CP DP) (besideS AS BS CS DS) W))

theorem gate_at (M : FVec Ideal S136x12288 .f32) (r : Fin 17408) (l : Fin 2048) :
    (gate M (ix2 r l) : EReal) = M (ix2 (grow r) ⟨4096 + l.val, by omega⟩) := by
  unfold grow
  pointwise [gate]
  by_cases h : r.val < 16384
  · rw [dif_pos h, dif_pos h]
  · rw [dif_neg h, dif_neg h]

theorem residual_at (XP : FVec Ideal S16384x2048 .f32) (XS : FVec Ideal S1024x2048 .f32) (r : Fin 17408) (l : Fin 2048) :
    (residual XP XS (ix2 r l) : EReal) = stream XP XS r l := by
  unfold stream
  pointwise [residual]

/-- A row over the four mixers' columns. -/
def side (a b c d : Fin 512 → EReal) (k : Fin 2048) : EReal :=
  if h : k.val < 512 then a ⟨k.val, h⟩ else if h : k.val - 512 < 512 then b ⟨k.val - 512, h⟩
    else if h : k.val - 512 - 512 < 512 then c ⟨k.val - 512 - 512, h⟩ else d ⟨k.val - 512 - 512 - 512, by omega⟩

theorem besideP_at (a b c d : FVec Ideal S16384x512 .bf16) (r : Fin 16384) (k : Fin 2048) :
    (besideP a b c d (ix2 r k) : EReal) = side (fun k => a (ix2 r k)) (fun k => b (ix2 r k)) (fun k => c (ix2 r k)) (fun k => d (ix2 r k)) k := by
  unfold side
  pointwise [besideP]

theorem besideS_at (a b c d : FVec Ideal S1024x512 .bf16) (r : Fin 1024) (k : Fin 2048) :
    (besideS a b c d (ix2 r k) : EReal) = side (fun k => a (ix2 r k)) (fun k => b (ix2 r k)) (fun k => c (ix2 r k)) (fun k => d (ix2 r k)) k := by
  unfold side
  pointwise [besideS]

theorem product_at (P : FVec Ideal S16384x2048 .bf16) (S : FVec Ideal S1024x2048 .bf16) (W : FVec Ideal S2048x2048 .f32) (r : Fin 17408) (l : Fin 2048) :
    (product P S W (ix2 r l) : EReal)
      = ∑ k : Fin 2048, (if h : r.val < 16384 then (P (ix2 ⟨r.val, h⟩ k) : EReal) else (S (ix2 ⟨r.val - 16384, by omega⟩ k) : EReal)) * (W (ix2 k l) : EReal) := by
  pointwise [product]

theorem side0 (a b c d : Fin 512 → EReal) (q : Fin 2048) (k : Fin 512) (e : q.val = k.val) : side a b c d q = a k := by
  unfold side
  rw [dif_pos (show q.val < 512 by omega)]
  exact congrArg a (Fin.ext e)
theorem side1 (a b c d : Fin 512 → EReal) (q : Fin 2048) (k : Fin 512) (e : q.val = 512 + k.val) : side a b c d q = b k := by
  unfold side
  rw [dif_neg (show ¬ q.val < 512 by omega), dif_pos (show q.val - 512 < 512 by omega)]
  exact congrArg b (Fin.ext (by show q.val - 512 = k.val; omega))
theorem side2 (a b c d : Fin 512 → EReal) (q : Fin 2048) (k : Fin 512) (e : q.val = 1024 + k.val) : side a b c d q = c k := by
  unfold side
  rw [dif_neg (show ¬ q.val < 512 by omega), dif_neg (show ¬ q.val - 512 < 512 by omega), dif_pos (show q.val - 512 - 512 < 512 by omega)]
  exact congrArg c (Fin.ext (by show q.val - 512 - 512 = k.val; omega))
theorem side3 (a b c d : Fin 512 → EReal) (q : Fin 2048) (k : Fin 512) (e : q.val = 1536 + k.val) : side a b c d q = d k := by
  unfold side
  rw [dif_neg (show ¬ q.val < 512 by omega), dif_neg (show ¬ q.val - 512 < 512 by omega), dif_neg (show ¬ q.val - 512 - 512 < 512 by omega)]
  exact congrArg d (Fin.ext (by show q.val - 512 - 512 - 512 = k.val; omega))

/-- The product along the four mixers' columns, part by part. -/
theorem side_sum (a b c d : Fin 512 → EReal) (W : FVec Ideal S2048x2048 .f32) (l : Fin 2048) :
    (∑ k : Fin 2048, side a b c d k * (W (ix2 k l) : EReal)) = quad a b c d (part W 0 l) (part W 1 l) (part W 2 l) (part W 3 l) := by
  unfold quad
  have e1 : (∑ k : Fin 2048, side a b c d k * (W (ix2 k l) : EReal)) = ∑ k : Fin (512 + 512 + 512 + 512), side a b c d k * (W (ix2 (k : Fin 2048) l) : EReal) := rfl
  rw [e1, Fin.sum_univ_add, Fin.sum_univ_add, Fin.sum_univ_add]
  refine congrArg₂ (fun x y : EReal => x + y) (congrArg₂ (fun x y : EReal => x + y) (congrArg₂ (fun x y : EReal => x + y) ?_ ?_) ?_) ?_
  · refine Finset.sum_congr rfl fun k _ => ?_
    exact congrArg₂ (fun x y : EReal => x * y) (side0 a b c d _ k (by show k.val = k.val; omega))
      (congrArg (fun j => (W (ix2 j l) : EReal)) (Fin.ext (by show k.val = 0 * 512 + k.val; omega)))
  · refine Finset.sum_congr rfl fun k _ => ?_
    exact congrArg₂ (fun x y : EReal => x * y) (side1 a b c d _ k (by show 512 + k.val = 512 + k.val; omega))
      (congrArg (fun j => (W (ix2 j l) : EReal)) (Fin.ext (by show 512 + k.val = 1 * 512 + k.val; omega)))
  · refine Finset.sum_congr rfl fun k _ => ?_
    exact congrArg₂ (fun x y : EReal => x * y) (side2 a b c d _ k (by show 512 + 512 + k.val = 1024 + k.val; omega))
      (congrArg (fun j => (W (ix2 j l) : EReal)) (Fin.ext (by show 512 + 512 + k.val = 2 * 512 + k.val; omega)))
  · refine Finset.sum_congr rfl fun k _ => ?_
    exact congrArg₂ (fun x y : EReal => x * y) (side3 a b c d _ k (by show 512 + 512 + 512 + k.val = 1536 + k.val; omega))
      (congrArg (fun j => (W (ix2 j l) : EReal)) (Fin.ext (by show 512 + 512 + 512 + k.val = 3 * 512 + k.val; omega)))

theorem beside_product_at (AP : FVec Ideal S16384x512 .bf16) (AS : FVec Ideal S1024x512 .bf16) (BP : FVec Ideal S16384x512 .bf16) (BS : FVec Ideal S1024x512 .bf16)
    (CP : FVec Ideal S16384x512 .bf16) (CS : FVec Ideal S1024x512 .bf16) (DP : FVec Ideal S16384x512 .bf16) (DS : FVec Ideal S1024x512 .bf16)
    (W : FVec Ideal S2048x2048 .f32) (r : Fin 17408) (l : Fin 2048) :
    (product (besideP AP BP CP DP) (besideS AS BS CS DS) W (ix2 r l) : EReal)
      = quad (tok AP AS r) (tok BP BS r) (tok CP CS r) (tok DP DS r) (part W 0 l) (part W 1 l) (part W 2 l) (part W 3 l) := by
  refine (product_at _ _ _ _ _).trans ((Finset.sum_congr rfl fun k _ => congrArg (fun x : EReal => x * (W (ix2 k l) : EReal)) ?_).trans (side_sum _ _ _ _ W l))
  by_cases h : r.val < 16384
  · rw [dif_pos h, besideP_at]
    unfold tok
    simp only [dif_pos h]
  · rw [dif_neg h, besideS_at]
    unfold tok
    simp only [dif_neg h]

theorem plain_eq (AP : FVec Ideal S16384x512 .bf16) (AS : FVec Ideal S1024x512 .bf16) (BP : FVec Ideal S16384x512 .bf16) (BS : FVec Ideal S1024x512 .bf16)
    (CP : FVec Ideal S16384x512 .bf16) (CS : FVec Ideal S1024x512 .bf16) (DP : FVec Ideal S16384x512 .bf16) (DS : FVec Ideal S1024x512 .bf16)
    (W : FVec Ideal S2048x2048 .f32) (XP : FVec Ideal S16384x2048 .f32) (XS : FVec Ideal S1024x2048 .f32) (M : FVec Ideal S136x12288 .f32) :
    plain AP AS BP BS CP CS DP DS W XP XS M = Cert.Kernel8Ideal.MixOut.G AP AS BP BS CP CS DP DS W XP XS M := by
  funext y
  idx_vars y
  show (residual XP XS (ix2 y0 y1) : EReal) + (gate M (ix2 y0 y1) : EReal) * (product (besideP AP BP CP DP) (besideS AS BS CS DS) W (ix2 y0 y1) : EReal)
    = stream XP XS y0 y1 + quad (tok AP AS y0) (tok BP BS y0) (tok CP CS y0) (tok DP DS y0) (part W 0 y1) (part W 1 y1) (part W 2 y1) (part W 3 y1)
      * (M (ix2 (grow y0) ⟨4096 + y1.val, _⟩) : EReal)
  exact congrArg₂ (fun a b : EReal => a + b) (residual_at XP XS y0 y1)
    ((mul_comm _ _).trans (congrArg₂ (fun a b : EReal => a * b) (beside_product_at AP AS BP BS CP CS DP DS W y0 y1) (gate_at M y0 y1)))
end

theorem algebraic : Cert.algebraic_Kernel8Ideal_Reference8Ideal := by
  intro m g m' g' _ hag
  refine ⟨fun c => Cert.Kernel8Ideal.MixOut.G (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)) (m ((c.tc : Thread Cert.Kernel8Ideal.nD Cert.Kernel8Ideal.τ).loc Cert.Kernel8Ideal.main_arg10)) (m ((c.tc : Thread Cert.Kernel8Ideal.nD Cert.Kernel8Ideal.τ).loc Cert.Kernel8Ideal.main_arg11)), ?_, ?_⟩
  rotate_left
  · refine (θ_run _ _ _).mono (fun r h c => ?_) (Cert.Reference8Ideal.Value.run m' g')
    obtain ⟨h0, h1, h2, h3, h4, h5, h6, h7, h8, h9, h10, h11⟩ := hag c
    refine ⟨(h c).1.trans (Eq.trans (b := plain (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4)) (m' ((c.tc : Thread Cert.Reference8Ideal.nD Cert.Reference8Ideal.τ).loc Cert.Reference8Ideal.main_arg5)) (m' ((c.tc : Thread Cert.Reference8Ideal.nD Cert.Reference8Ideal.τ).loc Cert.Reference8Ideal.main_arg6)) (m' ((c.tc : Thread Cert.Reference8Ideal.nD Cert.Reference8Ideal.τ).loc Cert.Reference8Ideal.main_arg7)) (m' ((c.tc : Thread Cert.Reference8Ideal.nD Cert.Reference8Ideal.τ).loc Cert.Reference8Ideal.main_arg8)) (m' ((c.tc : Thread Cert.Reference8Ideal.nD Cert.Reference8Ideal.τ).loc Cert.Reference8Ideal.main_arg9)) (m' ((c.tc : Thread Cert.Reference8Ideal.nD Cert.Reference8Ideal.τ).loc Cert.Reference8Ideal.main_arg10)) (m' ((c.tc : Thread Cert.Reference8Ideal.nD Cert.Reference8Ideal.τ).loc Cert.Reference8Ideal.main_arg11))) rfl ?_), (h c).2⟩
    rw [h0, h1, h2, h3, h4, h5, h6, h7, h8, h9, h10, h11]
    exact plain_eq _ _ _ _ _ _ _ _ _ _ _ _
  · exact (θ_run _ _ _).mono (fun r h c => ⟨(h c).1.trans (Cert.Kernel8Ideal.MixOut.final m c), (h c).2⟩) (Cert.Kernel8Ideal.Value.run_blocks m g)

end Cert.MixOut
end
-- ==== Proof.lean ====
/- The claims, of the sample group's recurrence, the experts' down and up projections, the dense up and down projections, the final norm and the
   projections into the mixers and out of them: each program runs and leaves its arguments and counters as
   they were, the idealized kernel is the printed one, and kernel and reference end at equal results. -/
module

public import proofs.«01_k».proof.Defs
public import proofs.«01_k».proof.Proof.Sample
public import proofs.«01_k».proof.Proof.Down
public import proofs.«01_k».proof.Proof.Up
public import proofs.«01_k».proof.Proof.Dense
public import proofs.«01_k».proof.Proof.Norm
public import proofs.«01_k».proof.Proof.InProj
public import proofs.«01_k».proof.Proof.DenseDown
public import proofs.«01_k».proof.Proof.MixOut
@[expose] public section
noncomputable section
namespace Cert.Proof
open Idealize.ShloMosaic Idealize.SL.Sem

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_named2.Gen.facts, Cert.Pre_named3.Gen.facts,
  fun m g _ => Cert.Kernel.Gen.frame m g, fun m g _ => Cert.KernelIdeal.Gen.frame m g, Cert.Sample.quiescent_ReferenceIdeal,
  Cert.Kernel2Ideal.Down.quiescent_Kernel2, Cert.Kernel2Ideal.Down.quiescent_Kernel2Ideal, Cert.Down.quiescent_Reference2Ideal,
  Cert.Down.quiescent_Reference2Ideal_pre_named2,
  Cert.Kernel3Ideal.Up.quiescent_Kernel3, Cert.Kernel3Ideal.Up.quiescent_Kernel3Ideal, Cert.Up.quiescent_Reference3Ideal,
  Cert.Up.quiescent_Reference3Ideal_pre_named3,
  fun m g _ => Cert.Kernel4.Gen.frame m g, fun m g _ => Cert.Kernel4Ideal.Gen.frame m g, Cert.Dense.quiescent_Reference4Ideal,
  Cert.Kernel5Ideal.Norm.quiescent_Kernel5, Cert.Kernel5Ideal.Norm.quiescent_Kernel5Ideal, Cert.Norm.quiescent_Reference5Ideal,
  Cert.Kernel6Ideal.InProj.quiescent_Kernel6, Cert.Kernel6Ideal.InProj.quiescent_Kernel6Ideal, Cert.InProj.quiescent_Reference6Ideal,
  fun m g _ => Cert.Kernel7.Gen.frame m g, fun m g _ => Cert.Kernel7Ideal.Gen.frame m g, Cert.DenseDown.quiescent_Reference7Ideal,
  fun m g _ => Cert.Kernel8.Gen.frame m g, fun m g _ => Cert.Kernel8Ideal.Gen.frame m g, Cert.MixOut.quiescent_Reference8Ideal,
  trivial, Cert.Sample.algebraic, trivial, Cert.Down.algebraic, trivial, Cert.Up.algebraic,
  trivial, Cert.Dense.algebraic, trivial, Cert.Norm.algebraic, trivial, Cert.InProj.algebraic,
  trivial, Cert.DenseDown.algebraic, trivial, Cert.MixOut.algebraic⟩

end Cert.Proof
end
